-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 1024, 128, 128]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 1024, 128, 128]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S1x1024x1024 : Shape := ⟨3, ![1, 1024, 1024]⟩
abbrev S1024x16384 : Shape := ⟨2, ![1024, 16384]⟩
abbrev S1x1024x8x128 : Shape := ⟨4, ![1, 1024, 8, 128]⟩
abbrev S16384x1024 : Shape := ⟨2, ![16384, 1024]⟩
abbrev S_ : Shape := ⟨0, ![]⟩

class Facts : Prop where
  bcast_S_S1x1024x1024 : S_.BroadcastsInDim S1x1024x1024 (![] : Fin 0 → Fin S1x1024x1024.rank)
  bcast_S_S1024x16384 : S_.BroadcastsInDim S1024x16384 (![] : Fin 0 → Fin S1024x16384.rank)
  bcast_S_S1x1024x8x128 : S_.BroadcastsInDim S1x1024x8x128 (![] : Fin 0 → Fin S1x1024x8x128.rank)

variable [Facts]

def fn {F : FTy → Type} [FloatOps F] (main_arg0 : FVec F S1x1024x1024 .f32) (main_arg1 : FVec F S1024x16384 .f32) (main_arg2 : FVec F S1x1024x8x128 .f32) (main_arg3 : FVec F S1x1024x8x128 .f32) (main_arg4 : FVec F S16384x1024 .f32) : IVec S1x1024x1024 1 × IVec S1024x16384 1 × IVec S1x1024x8x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x16384 .f32 := Host.absf main_arg1
  let main_cst_0 : FVec F S_ .f32 := constant S_ .f32 0x7F800000#32
  let main_v4 : FVec F S1024x16384 .f32 := broadcastInDim S1024x16384 ![] bcast_S_S1024x16384 main_cst_0
  let main_v5 : IVec S1024x16384 1 := cmpf .olt main_v3 main_v4
  let main_v6 : FVec F S1x1024x8x128 .f32 := Host.absf main_arg2
  let main_cst_1 : FVec F S_ .f32 := constant S_ .f32 0x7F800000#32
  let main_v7 : FVec F S1x1024x8x128 .f32 := broadcastInDim S1x1024x8x128 ![] bcast_S_S1x1024x8x128 main_cst_1
  let main_v8 : IVec S1x1024x8x128 1 := cmpf .olt main_v6 main_v7
  (main_v2, main_v5, main_v8)
-- ==== Pre_finite_inputs_ReferenceIdeal.lean ====
abbrev S1x1024x1024 : Shape := ⟨3, ![1, 1024, 1024]⟩
abbrev S1024x16384 : Shape := ⟨2, ![1024, 16384]⟩
abbrev S1x1024x128x128 : Shape := ⟨4, ![1, 1024, 128, 128]⟩
abbrev S16384x1024 : Shape := ⟨2, ![16384, 1024]⟩
abbrev S_ : Shape := ⟨0, ![]⟩

class Facts : Prop where
  bcast_S_S1x1024x1024 : S_.BroadcastsInDim S1x1024x1024 (![] : Fin 0 → Fin S1x1024x1024.rank)
  bcast_S_S1024x16384 : S_.BroadcastsInDim S1024x16384 (![] : Fin 0 → Fin S1024x16384.rank)
  bcast_S_S1x1024x128x128 : S_.BroadcastsInDim S1x1024x128x128 (![] : Fin 0 → Fin S1x1024x128x128.rank)

variable [Facts]

def fn {F : FTy → Type} [FloatOps F] (main_arg0 : FVec F S1x1024x1024 .f32) (main_arg1 : FVec F S1024x16384 .f32) (main_arg2 : FVec F S1x1024x128x128 .f32) (main_arg3 : FVec F S1x1024x128x128 .f32) (main_arg4 : FVec F S16384x1024 .f32) : IVec S1x1024x1024 1 × IVec S1024x16384 1 × IVec S1x1024x128x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x16384 .f32 := Host.absf main_arg1
  let main_cst_0 : FVec F S_ .f32 := constant S_ .f32 0x7F800000#32
  let main_v4 : FVec F S1024x16384 .f32 := broadcastInDim S1024x16384 ![] bcast_S_S1024x16384 main_cst_0
  let main_v5 : IVec S1024x16384 1 := cmpf .olt main_v3 main_v4
  let main_v6 : FVec F S1x1024x128x128 .f32 := Host.absf main_arg2
  let main_cst_1 : FVec F S_ .f32 := constant S_ .f32 0x7F800000#32
  let main_v7 : FVec F S1x1024x128x128 .f32 := broadcastInDim S1x1024x128x128 ![] bcast_S_S1x1024x128x128 main_cst_1
  let main_v8 : IVec S1x1024x128x128 1 := cmpf .olt main_v6 main_v7
  (main_v2, main_v5, main_v8)
-- ==== Kernel.lean ====
abbrev S1x1024x1024 : Shape := ⟨3, ![1, 1024, 1024]⟩
abbrev S1024x16384 : Shape := ⟨2, ![1024, 16384]⟩
abbrev S1x1024x8x128 : Shape := ⟨4, ![1, 1024, 8, 128]⟩
abbrev S16384x1024 : Shape := ⟨2, ![16384, 1024]⟩
abbrev S1024x1024 : Shape := ⟨2, ![1024, 1024]⟩
abbrev S16x4x16x1024 : Shape := ⟨4, ![16, 4, 16, 1024]⟩
abbrev S2 : Shape := ⟨1, ![2]⟩
abbrev S_ : Shape := ⟨0, ![]⟩
abbrev S1 : Shape := ⟨1, ![1]⟩
abbrev S1024x8x128 : Shape := ⟨3, ![1024, 8, 128]⟩
abbrev S256x256 : Shape := ⟨2, ![256, 256]⟩
abbrev S256x1024 : Shape := ⟨2, ![256, 1024]⟩
abbrev S256x128 : Shape := ⟨2, ![256, 128]⟩
abbrev S256x1x128 : Shape := ⟨3, ![256, 1, 128]⟩
abbrev S256 : Shape := ⟨1, ![256]⟩
abbrev S256x1 : Shape := ⟨2, ![256, 1]⟩
abbrev S16x1024 : Shape := ⟨2, ![16, 1024]⟩
abbrev S1x1x16x1024 : Shape := ⟨4, ![1, 1, 16, 1024]⟩
abbrev S256x512 : Shape := ⟨2, ![256, 512]⟩
abbrev S512x1x128 : Shape := ⟨3, ![512, 1, 128]⟩
abbrev S512x128 : Shape := ⟨2, ![512, 128]⟩
abbrev S256x768 : Shape := ⟨2, ![256, 768]⟩
abbrev S768x1x128 : Shape := ⟨3, ![768, 1, 128]⟩
abbrev S768x128 : Shape := ⟨2, ![768, 128]⟩
abbrev S1024x1x128 : Shape := ⟨3, ![1024, 1, 128]⟩
abbrev S1024x128 : Shape := ⟨2, ![1024, 128]⟩
abbrev S4x16x1024 : Shape := ⟨3, ![4, 16, 1024]⟩
abbrev S1x16x1024 : Shape := ⟨3, ![1, 16, 1024]⟩

abbrev nBuf : Space → Nat
  | .hbm => 6
  | .vmem => 9
  | .smem => 0
  | _ => 0

abbrev bufTy : (tb : Table) → Fin (tcTables nBuf tb) → BufTy
  | .hbm, ⟨0, _⟩ => ⟨S1x1024x1024, .f32⟩
  | .hbm, ⟨1, _⟩ => ⟨S1024x16384, .f32⟩
  | .hbm, ⟨2, _⟩ => ⟨S1x1024x8x128, .f32⟩
  | .hbm, ⟨3, _⟩ => ⟨S1x1024x8x128, .f32⟩
  | .hbm, ⟨4, _⟩ => ⟨S16384x1024, .f32⟩
  | .hbm, ⟨5, _⟩ => ⟨S1x1024x1024, .bf16⟩
  | .local _ .vmem, ⟨0, _⟩ => ⟨S1x1024x1024, .f32⟩
  | .local _ .vmem, ⟨1, _⟩ => ⟨S1x1024x8x128, .f32⟩
  | .local _ .vmem, ⟨2, _⟩ => ⟨S1x1024x8x128, .f32⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S16x4x16x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let c0_i32_0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1024_i32 : BitVec 32 := 1024#32
  let v3 : BitVec 32 := Scalar.muli v2 c1024_i32
  ![0, v3.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1024_i32_1 : BitVec 32 := 1024#32
  let v7 : BitVec 32 := Scalar.muli v2 c1024_i32_1
  let c0_i32_3 : BitVec 32 := 0#32
  ![v7.toNat, 0]
def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4 : BitVec 32 := 1#32
  let v12 : BitVec 32 := Scalar.addi v2 c1_i32_4
  let c16_i32_5 : BitVec 32 := 16#32
  let v13 : BitVec 32 := Scalar.remsi v12 c16_i32_5
  let c1_i32_7 : BitVec 32 := 1#32
  let v14 : BitVec 32 := Scalar.muli v13 c1_i32_7
  let v15 : BitVec 32 := Scalar.addi c0_i32_8 v14
  v15.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v16 : BitVec 32 := Scalar.addi v2 c2_i32
  let c16_i32_9 : BitVec 32 := 16#32
  let v17 : BitVec 32 := Scalar.remsi v16 c16_i32_9
  let c1_i32_11 : BitVec 32 := 1#32
  let v18 : BitVec 32 := Scalar.muli v17 c1_i32_11
  let v19 : BitVec 32 := Scalar.addi c0_i32_12 v18
  v19.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v20 : BitVec 32 := Scalar.addi v2 c3_i32
  let c16_i32_13 : BitVec 32 := 16#32
  let v21 : BitVec 32 := Scalar.remsi v20 c16_i32_13
  let c1_i32_15 : BitVec 32 := 1#32
  let v22 : BitVec 32 := Scalar.muli v21 c1_i32_15
  let v23 : BitVec 32 := Scalar.addi c0_i32_16 v22
  v23.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v24 : BitVec 32 := Scalar.addi v2 c4_i32
  let c16_i32_17 : BitVec 32 := 16#32
  let v25 : BitVec 32 := Scalar.remsi v24 c16_i32_17
  let c1_i32_19 : BitVec 32 := 1#32
  let v26 : BitVec 32 := Scalar.muli v25 c1_i32_19
  let v27 : BitVec 32 := Scalar.addi c0_i32_20 v26
  v27.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v28 : BitVec 32 := Scalar.addi v2 c5_i32
  let c16_i32_21 : BitVec 32 := 16#32
  let v29 : BitVec 32 := Scalar.remsi v28 c16_i32_21
  let c1_i32_23 : BitVec 32 := 1#32
  let v30 : BitVec 32 := Scalar.muli v29 c1_i32_23
  let v31 : BitVec 32 := Scalar.addi c0_i32_24 v30
  v31.toNat
def k0_dev6 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v32 : BitVec 32 := Scalar.addi v2 c6_i32
  let c16_i32_25 : BitVec 32 := 16#32
  let v33 : BitVec 32 := Scalar.remsi v32 c16_i32_25
  let c1_i32_27 : BitVec 32 := 1#32
  let v34 : BitVec 32 := Scalar.muli v33 c1_i32_27
  let v35 : BitVec 32 := Scalar.addi c0_i32_28 v34
  v35.toNat
def k0_dev7 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v36 : BitVec 32 := Scalar.addi v2 c7_i32
  let c16_i32_29 : BitVec 32 := 16#32
  let v37 : BitVec 32 := Scalar.remsi v36 c16_i32_29
  let c1_i32_31 : BitVec 32 := 1#32
  let v38 : BitVec 32 := Scalar.muli v37 c1_i32_31
  let v39 : BitVec 32 := Scalar.addi c0_i32_32 v38
  v39.toNat
def k0_dev8 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v40 : BitVec 32 := Scalar.addi v2 c8_i32
  let c16_i32_33 : BitVec 32 := 16#32
  let v41 : BitVec 32 := Scalar.remsi v40 c16_i32_33
  let c1_i32_35 : BitVec 32 := 1#32
  let v42 : BitVec 32 := Scalar.muli v41 c1_i32_35
  let v43 : BitVec 32 := Scalar.addi c0_i32_36 v42
  v43.toNat
def k0_dev9 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v44 : BitVec 32 := Scalar.addi v2 c9_i32
  let c16_i32_37 : BitVec 32 := 16#32
  let v45 : BitVec 32 := Scalar.remsi v44 c16_i32_37
  let c1_i32_39 : BitVec 32 := 1#32
  let v46 : BitVec 32 := Scalar.muli v45 c1_i32_39
  let v47 : BitVec 32 := Scalar.addi c0_i32_40 v46
  v47.toNat
def k0_dev10 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v48 : BitVec 32 := Scalar.addi v2 c10_i32
  let c16_i32_41 : BitVec 32 := 16#32
  let v49 : BitVec 32 := Scalar.remsi v48 c16_i32_41
  let c1_i32_43 : BitVec 32 := 1#32
  let v50 : BitVec 32 := Scalar.muli v49 c1_i32_43
  let v51 : BitVec 32 := Scalar.addi c0_i32_44 v50
  v51.toNat
def k0_dev11 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v52 : BitVec 32 := Scalar.addi v2 c11_i32
  let c16_i32_45 : BitVec 32 := 16#32
  let v53 : BitVec 32 := Scalar.remsi v52 c16_i32_45
  let c1_i32_47 : BitVec 32 := 1#32
  let v54 : BitVec 32 := Scalar.muli v53 c1_i32_47
  let v55 : BitVec 32 := Scalar.addi c0_i32_48 v54
  v55.toNat
def k0_dev12 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v56 : BitVec 32 := Scalar.addi v2 c12_i32
  let c16_i32_49 : BitVec 32 := 16#32
  let v57 : BitVec 32 := Scalar.remsi v56 c16_i32_49
  let c1_i32_51 : BitVec 32 := 1#32
  let v58 : BitVec 32 := Scalar.muli v57 c1_i32_51
  let v59 : BitVec 32 := Scalar.addi c0_i32_52 v58
  v59.toNat
def k0_dev13 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v60 : BitVec 32 := Scalar.addi v2 c13_i32
  let c16_i32_53 : BitVec 32 := 16#32
  let v61 : BitVec 32 := Scalar.remsi v60 c16_i32_53
  let c1_i32_55 : BitVec 32 := 1#32
  let v62 : BitVec 32 := Scalar.muli v61 c1_i32_55
  let v63 : BitVec 32 := Scalar.addi c0_i32_56 v62
  v63.toNat
def k0_dev14 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v64 : BitVec 32 := Scalar.addi v2 c14_i32
  let c16_i32_57 : BitVec 32 := 16#32
  let v65 : BitVec 32 := Scalar.remsi v64 c16_i32_57
  let c1_i32_59 : BitVec 32 := 1#32
  let v66 : BitVec 32 := Scalar.muli v65 c1_i32_59
  let v67 : BitVec 32 := Scalar.addi c0_i32_60 v66
  v67.toNat
def k0_dev15 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v68 : BitVec 32 := Scalar.addi v2 c15_i32
  let c16_i32_61 : BitVec 32 := 16#32
  let v69 : BitVec 32 := Scalar.remsi v68 c16_i32_61
  let c1_i32_63 : BitVec 32 := 1#32
  let v70 : BitVec 32 := Scalar.muli v69 c1_i32_63
  let v71 : BitVec 32 := Scalar.addi c0_i32_64 v70
  v71.toNat
def k0_off3 (d0 : Dev nD) (c0_i32_140 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_139 : BitVec 32 := 16#32
  let v288 : BitVec 32 := Scalar.muli v2 c16_i32_139
  let v289 : BitVec 32 := Scalar.addi c0_i32_140 v288
  let v290 : Index := Scalar.indexCast v289
  let c0_141 : Index := 0#32
  ![v290.toNat, 0]
def k0_off4 (d0 : Dev nD) (c0_i32_149 : BitVec 32) (c1_i32_146 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v295 : BitVec 32 := Scalar.addi v2 c1_i32_146
  let c16_i32_147 : BitVec 32 := 16#32
  let v296 : BitVec 32 := Scalar.remsi v295 c16_i32_147
  let c16_i32_148 : BitVec 32 := 16#32
  let v297 : BitVec 32 := Scalar.muli v296 c16_i32_148
  let v298 : BitVec 32 := Scalar.addi c0_i32_149 v297
  let c0_i32_156 : BitVec 32 := 0#32
  ![v298.toNat, 0]
def k0_dev16 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_146 : BitVec 32 := 1#32
  let v295 : BitVec 32 := Scalar.addi v2 c1_i32_146
  let c16_i32_147 : BitVec 32 := 16#32
  let v296 : BitVec 32 := Scalar.remsi v295 c16_i32_147
  let c1_i32_152 : BitVec 32 := 1#32
  let v299 : BitVec 32 := Scalar.muli v296 c1_i32_152
  let v300 : BitVec 32 := Scalar.addi c0_i32_153 v299
  v300.toNat
def k0_dev17 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_157 : BitVec 32 := 2#32
  let v304 : BitVec 32 := Scalar.addi v2 c2_i32_157
  let c16_i32_158 : BitVec 32 := 16#32
  let v305 : BitVec 32 := Scalar.remsi v304 c16_i32_158
  let c1_i32_163 : BitVec 32 := 1#32
  let v308 : BitVec 32 := Scalar.muli v305 c1_i32_163
  let v309 : BitVec 32 := Scalar.addi c0_i32_164 v308
  v309.toNat
def k0_dev18 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_168 : BitVec 32 := 3#32
  let v313 : BitVec 32 := Scalar.addi v2 c3_i32_168
  let c16_i32_169 : BitVec 32 := 16#32
  let v314 : BitVec 32 := Scalar.remsi v313 c16_i32_169
  let c1_i32_174 : BitVec 32 := 1#32
  let v317 : BitVec 32 := Scalar.muli v314 c1_i32_174
  let v318 : BitVec 32 := Scalar.addi c0_i32_175 v317
  v318.toNat
def k0_dev19 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_179 : BitVec 32 := 4#32
  let v322 : BitVec 32 := Scalar.addi v2 c4_i32_179
  let c16_i32_180 : BitVec 32 := 16#32
  let v323 : BitVec 32 := Scalar.remsi v322 c16_i32_180
  let c1_i32_185 : BitVec 32 := 1#32
  let v326 : BitVec 32 := Scalar.muli v323 c1_i32_185
  let v327 : BitVec 32 := Scalar.addi c0_i32_186 v326
  v327.toNat
def k0_dev20 (d0 : Dev nD) : Nat :=
  let c0_i32_197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_190 : BitVec 32 := 5#32
  let v331 : BitVec 32 := Scalar.addi v2 c5_i32_190
  let c16_i32_191 : BitVec 32 := 16#32
  let v332 : BitVec 32 := Scalar.remsi v331 c16_i32_191
  let c1_i32_196 : BitVec 32 := 1#32
  let v335 : BitVec 32 := Scalar.muli v332 c1_i32_196
  let v336 : BitVec 32 := Scalar.addi c0_i32_197 v335
  v336.toNat
def k0_dev21 (d0 : Dev nD) : Nat :=
  let c0_i32_208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_201 : BitVec 32 := 6#32
  let v340 : BitVec 32 := Scalar.addi v2 c6_i32_201
  let c16_i32_202 : BitVec 32 := 16#32
  let v341 : BitVec 32 := Scalar.remsi v340 c16_i32_202
  let c1_i32_207 : BitVec 32 := 1#32
  let v344 : BitVec 32 := Scalar.muli v341 c1_i32_207
  let v345 : BitVec 32 := Scalar.addi c0_i32_208 v344
  v345.toNat
def k0_dev22 (d0 : Dev nD) : Nat :=
  let c0_i32_219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_212 : BitVec 32 := 7#32
  let v349 : BitVec 32 := Scalar.addi v2 c7_i32_212
  let c16_i32_213 : BitVec 32 := 16#32
  let v350 : BitVec 32 := Scalar.remsi v349 c16_i32_213
  let c1_i32_218 : BitVec 32 := 1#32
  let v353 : BitVec 32 := Scalar.muli v350 c1_i32_218
  let v354 : BitVec 32 := Scalar.addi c0_i32_219 v353
  v354.toNat
def k0_dev23 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_223 : BitVec 32 := 8#32
  let v358 : BitVec 32 := Scalar.addi v2 c8_i32_223
  let c16_i32_224 : BitVec 32 := 16#32
  let v359 : BitVec 32 := Scalar.remsi v358 c16_i32_224
  let c1_i32_229 : BitVec 32 := 1#32
  let v362 : BitVec 32 := Scalar.muli v359 c1_i32_229
  let v363 : BitVec 32 := Scalar.addi c0_i32_230 v362
  v363.toNat
def k0_dev24 (d0 : Dev nD) : Nat :=
  let c0_i32_241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_234 : BitVec 32 := 9#32
  let v367 : BitVec 32 := Scalar.addi v2 c9_i32_234
  let c16_i32_235 : BitVec 32 := 16#32
  let v368 : BitVec 32 := Scalar.remsi v367 c16_i32_235
  let c1_i32_240 : BitVec 32 := 1#32
  let v371 : BitVec 32 := Scalar.muli v368 c1_i32_240
  let v372 : BitVec 32 := Scalar.addi c0_i32_241 v371
  v372.toNat
def k0_dev25 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_245 : BitVec 32 := 10#32
  let v376 : BitVec 32 := Scalar.addi v2 c10_i32_245
  let c16_i32_246 : BitVec 32 := 16#32
  let v377 : BitVec 32 := Scalar.remsi v376 c16_i32_246
  let c1_i32_251 : BitVec 32 := 1#32
  let v380 : BitVec 32 := Scalar.muli v377 c1_i32_251
  let v381 : BitVec 32 := Scalar.addi c0_i32_252 v380
  v381.toNat
def k0_dev26 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_256 : BitVec 32 := 11#32
  let v385 : BitVec 32 := Scalar.addi v2 c11_i32_256
  let c16_i32_257 : BitVec 32 := 16#32
  let v386 : BitVec 32 := Scalar.remsi v385 c16_i32_257
  let c1_i32_262 : BitVec 32 := 1#32
  let v389 : BitVec 32 := Scalar.muli v386 c1_i32_262
  let v390 : BitVec 32 := Scalar.addi c0_i32_263 v389
  v390.toNat
def k0_dev27 (d0 : Dev nD) : Nat :=
  let c0_i32_274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_267 : BitVec 32 := 12#32
  let v394 : BitVec 32 := Scalar.addi v2 c12_i32_267
  let c16_i32_268 : BitVec 32 := 16#32
  let v395 : BitVec 32 := Scalar.remsi v394 c16_i32_268
  let c1_i32_273 : BitVec 32 := 1#32
  let v398 : BitVec 32 := Scalar.muli v395 c1_i32_273
  let v399 : BitVec 32 := Scalar.addi c0_i32_274 v398
  v399.toNat
def k0_dev28 (d0 : Dev nD) : Nat :=
  let c0_i32_285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_278 : BitVec 32 := 13#32
  let v403 : BitVec 32 := Scalar.addi v2 c13_i32_278
  let c16_i32_279 : BitVec 32 := 16#32
  let v404 : BitVec 32 := Scalar.remsi v403 c16_i32_279
  let c1_i32_284 : BitVec 32 := 1#32
  let v407 : BitVec 32 := Scalar.muli v404 c1_i32_284
  let v408 : BitVec 32 := Scalar.addi c0_i32_285 v407
  v408.toNat
def k0_dev29 (d0 : Dev nD) : Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_289 : BitVec 32 := 14#32
  let v412 : BitVec 32 := Scalar.addi v2 c14_i32_289
  let c16_i32_290 : BitVec 32 := 16#32
  let v413 : BitVec 32 := Scalar.remsi v412 c16_i32_290
  let c1_i32_295 : BitVec 32 := 1#32
  let v416 : BitVec 32 := Scalar.muli v413 c1_i32_295
  let v417 : BitVec 32 := Scalar.addi c0_i32_296 v416
  v417.toNat
def k0_dev30 (d0 : Dev nD) : Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_300 : BitVec 32 := 15#32
  let v421 : BitVec 32 := Scalar.addi v2 c15_i32_300
  let c16_i32_301 : BitVec 32 := 16#32
  let v422 : BitVec 32 := Scalar.remsi v421 c16_i32_301
  let c1_i32_306 : BitVec 32 := 1#32
  let v425 : BitVec 32 := Scalar.muli v422 c1_i32_306
  let v426 : BitVec 32 := Scalar.addi c0_i32_307 v425
  v426.toNat
def k0_dev31 (d0 : Dev nD) : Nat :=
  let c0_i32_360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_353 : BitVec 32 := 1#32
  let v575 : BitVec 32 := Scalar.addi v2 c1_i32_353
  let c16_i32_354 : BitVec 32 := 16#32
  let v576 : BitVec 32 := Scalar.remsi v575 c16_i32_354
  let c1_i32_359 : BitVec 32 := 1#32
  let v579 : BitVec 32 := Scalar.muli v576 c1_i32_359
  let v580 : BitVec 32 := Scalar.addi c0_i32_360 v579
  v580.toNat
def k0_dev32 (d0 : Dev nD) : Nat :=
  let c0_i32_371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_364 : BitVec 32 := 2#32
  let v584 : BitVec 32 := Scalar.addi v2 c2_i32_364
  let c16_i32_365 : BitVec 32 := 16#32
  let v585 : BitVec 32 := Scalar.remsi v584 c16_i32_365
  let c1_i32_370 : BitVec 32 := 1#32
  let v588 : BitVec 32 := Scalar.muli v585 c1_i32_370
  let v589 : BitVec 32 := Scalar.addi c0_i32_371 v588
  v589.toNat
def k0_dev33 (d0 : Dev nD) : Nat :=
  let c0_i32_382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_375 : BitVec 32 := 3#32
  let v593 : BitVec 32 := Scalar.addi v2 c3_i32_375
  let c16_i32_376 : BitVec 32 := 16#32
  let v594 : BitVec 32 := Scalar.remsi v593 c16_i32_376
  let c1_i32_381 : BitVec 32 := 1#32
  let v597 : BitVec 32 := Scalar.muli v594 c1_i32_381
  let v598 : BitVec 32 := Scalar.addi c0_i32_382 v597
  v598.toNat
def k0_dev34 (d0 : Dev nD) : Nat :=
  let c0_i32_393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_386 : BitVec 32 := 4#32
  let v602 : BitVec 32 := Scalar.addi v2 c4_i32_386
  let c16_i32_387 : BitVec 32 := 16#32
  let v603 : BitVec 32 := Scalar.remsi v602 c16_i32_387
  let c1_i32_392 : BitVec 32 := 1#32
  let v606 : BitVec 32 := Scalar.muli v603 c1_i32_392
  let v607 : BitVec 32 := Scalar.addi c0_i32_393 v606
  v607.toNat
def k0_dev35 (d0 : Dev nD) : Nat :=
  let c0_i32_404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_397 : BitVec 32 := 5#32
  let v611 : BitVec 32 := Scalar.addi v2 c5_i32_397
  let c16_i32_398 : BitVec 32 := 16#32
  let v612 : BitVec 32 := Scalar.remsi v611 c16_i32_398
  let c1_i32_403 : BitVec 32 := 1#32
  let v615 : BitVec 32 := Scalar.muli v612 c1_i32_403
  let v616 : BitVec 32 := Scalar.addi c0_i32_404 v615
  v616.toNat
def k0_dev36 (d0 : Dev nD) : Nat :=
  let c0_i32_415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_408 : BitVec 32 := 6#32
  let v620 : BitVec 32 := Scalar.addi v2 c6_i32_408
  let c16_i32_409 : BitVec 32 := 16#32
  let v621 : BitVec 32 := Scalar.remsi v620 c16_i32_409
  let c1_i32_414 : BitVec 32 := 1#32
  let v624 : BitVec 32 := Scalar.muli v621 c1_i32_414
  let v625 : BitVec 32 := Scalar.addi c0_i32_415 v624
  v625.toNat
def k0_dev37 (d0 : Dev nD) : Nat :=
  let c0_i32_426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_419 : BitVec 32 := 7#32
  let v629 : BitVec 32 := Scalar.addi v2 c7_i32_419
  let c16_i32_420 : BitVec 32 := 16#32
  let v630 : BitVec 32 := Scalar.remsi v629 c16_i32_420
  let c1_i32_425 : BitVec 32 := 1#32
  let v633 : BitVec 32 := Scalar.muli v630 c1_i32_425
  let v634 : BitVec 32 := Scalar.addi c0_i32_426 v633
  v634.toNat
def k0_dev38 (d0 : Dev nD) : Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_430 : BitVec 32 := 8#32
  let v638 : BitVec 32 := Scalar.addi v2 c8_i32_430
  let c16_i32_431 : BitVec 32 := 16#32
  let v639 : BitVec 32 := Scalar.remsi v638 c16_i32_431
  let c1_i32_436 : BitVec 32 := 1#32
  let v642 : BitVec 32 := Scalar.muli v639 c1_i32_436
  let v643 : BitVec 32 := Scalar.addi c0_i32_437 v642
  v643.toNat
def k0_dev39 (d0 : Dev nD) : Nat :=
  let c0_i32_448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_441 : BitVec 32 := 9#32
  let v647 : BitVec 32 := Scalar.addi v2 c9_i32_441
  let c16_i32_442 : BitVec 32 := 16#32
  let v648 : BitVec 32 := Scalar.remsi v647 c16_i32_442
  let c1_i32_447 : BitVec 32 := 1#32
  let v651 : BitVec 32 := Scalar.muli v648 c1_i32_447
  let v652 : BitVec 32 := Scalar.addi c0_i32_448 v651
  v652.toNat
def k0_dev40 (d0 : Dev nD) : Nat :=
  let c0_i32_459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_452 : BitVec 32 := 10#32
  let v656 : BitVec 32 := Scalar.addi v2 c10_i32_452
  let c16_i32_453 : BitVec 32 := 16#32
  let v657 : BitVec 32 := Scalar.remsi v656 c16_i32_453
  let c1_i32_458 : BitVec 32 := 1#32
  let v660 : BitVec 32 := Scalar.muli v657 c1_i32_458
  let v661 : BitVec 32 := Scalar.addi c0_i32_459 v660
  v661.toNat
def k0_dev41 (d0 : Dev nD) : Nat :=
  let c0_i32_470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_463 : BitVec 32 := 11#32
  let v665 : BitVec 32 := Scalar.addi v2 c11_i32_463
  let c16_i32_464 : BitVec 32 := 16#32
  let v666 : BitVec 32 := Scalar.remsi v665 c16_i32_464
  let c1_i32_469 : BitVec 32 := 1#32
  let v669 : BitVec 32 := Scalar.muli v666 c1_i32_469
  let v670 : BitVec 32 := Scalar.addi c0_i32_470 v669
  v670.toNat
def k0_dev42 (d0 : Dev nD) : Nat :=
  let c0_i32_481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_474 : BitVec 32 := 12#32
  let v674 : BitVec 32 := Scalar.addi v2 c12_i32_474
  let c16_i32_475 : BitVec 32 := 16#32
  let v675 : BitVec 32 := Scalar.remsi v674 c16_i32_475
  let c1_i32_480 : BitVec 32 := 1#32
  let v678 : BitVec 32 := Scalar.muli v675 c1_i32_480
  let v679 : BitVec 32 := Scalar.addi c0_i32_481 v678
  v679.toNat
def k0_dev43 (d0 : Dev nD) : Nat :=
  let c0_i32_492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_485 : BitVec 32 := 13#32
  let v683 : BitVec 32 := Scalar.addi v2 c13_i32_485
  let c16_i32_486 : BitVec 32 := 16#32
  let v684 : BitVec 32 := Scalar.remsi v683 c16_i32_486
  let c1_i32_491 : BitVec 32 := 1#32
  let v687 : BitVec 32 := Scalar.muli v684 c1_i32_491
  let v688 : BitVec 32 := Scalar.addi c0_i32_492 v687
  v688.toNat
def k0_dev44 (d0 : Dev nD) : Nat :=
  let c0_i32_503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_496 : BitVec 32 := 14#32
  let v692 : BitVec 32 := Scalar.addi v2 c14_i32_496
  let c16_i32_497 : BitVec 32 := 16#32
  let v693 : BitVec 32 := Scalar.remsi v692 c16_i32_497
  let c1_i32_502 : BitVec 32 := 1#32
  let v696 : BitVec 32 := Scalar.muli v693 c1_i32_502
  let v697 : BitVec 32 := Scalar.addi c0_i32_503 v696
  v697.toNat
def k0_dev45 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_507 : BitVec 32 := 15#32
  let v701 : BitVec 32 := Scalar.addi v2 c15_i32_507
  let c16_i32_508 : BitVec 32 := 16#32
  let v702 : BitVec 32 := Scalar.remsi v701 c16_i32_508
  let c1_i32_513 : BitVec 32 := 1#32
  let v705 : BitVec 32 := Scalar.muli v702 c1_i32_513
  let v706 : BitVec 32 := Scalar.addi c0_i32_514 v705
  v706.toNat
def k0_dev46 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_560 : BitVec 32 := 1#32
  let v855 : BitVec 32 := Scalar.addi v2 c1_i32_560
  let c16_i32_561 : BitVec 32 := 16#32
  let v856 : BitVec 32 := Scalar.remsi v855 c16_i32_561
  let c1_i32_566 : BitVec 32 := 1#32
  let v859 : BitVec 32 := Scalar.muli v856 c1_i32_566
  let v860 : BitVec 32 := Scalar.addi c0_i32_567 v859
  v860.toNat
def k0_dev47 (d0 : Dev nD) : Nat :=
  let c0_i32_578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_571 : BitVec 32 := 2#32
  let v864 : BitVec 32 := Scalar.addi v2 c2_i32_571
  let c16_i32_572 : BitVec 32 := 16#32
  let v865 : BitVec 32 := Scalar.remsi v864 c16_i32_572
  let c1_i32_577 : BitVec 32 := 1#32
  let v868 : BitVec 32 := Scalar.muli v865 c1_i32_577
  let v869 : BitVec 32 := Scalar.addi c0_i32_578 v868
  v869.toNat
def k0_dev48 (d0 : Dev nD) : Nat :=
  let c0_i32_589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_582 : BitVec 32 := 3#32
  let v873 : BitVec 32 := Scalar.addi v2 c3_i32_582
  let c16_i32_583 : BitVec 32 := 16#32
  let v874 : BitVec 32 := Scalar.remsi v873 c16_i32_583
  let c1_i32_588 : BitVec 32 := 1#32
  let v877 : BitVec 32 := Scalar.muli v874 c1_i32_588
  let v878 : BitVec 32 := Scalar.addi c0_i32_589 v877
  v878.toNat
def k0_dev49 (d0 : Dev nD) : Nat :=
  let c0_i32_600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_593 : BitVec 32 := 4#32
  let v882 : BitVec 32 := Scalar.addi v2 c4_i32_593
  let c16_i32_594 : BitVec 32 := 16#32
  let v883 : BitVec 32 := Scalar.remsi v882 c16_i32_594
  let c1_i32_599 : BitVec 32 := 1#32
  let v886 : BitVec 32 := Scalar.muli v883 c1_i32_599
  let v887 : BitVec 32 := Scalar.addi c0_i32_600 v886
  v887.toNat
def k0_dev50 (d0 : Dev nD) : Nat :=
  let c0_i32_611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_604 : BitVec 32 := 5#32
  let v891 : BitVec 32 := Scalar.addi v2 c5_i32_604
  let c16_i32_605 : BitVec 32 := 16#32
  let v892 : BitVec 32 := Scalar.remsi v891 c16_i32_605
  let c1_i32_610 : BitVec 32 := 1#32
  let v895 : BitVec 32 := Scalar.muli v892 c1_i32_610
  let v896 : BitVec 32 := Scalar.addi c0_i32_611 v895
  v896.toNat
def k0_dev51 (d0 : Dev nD) : Nat :=
  let c0_i32_622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_615 : BitVec 32 := 6#32
  let v900 : BitVec 32 := Scalar.addi v2 c6_i32_615
  let c16_i32_616 : BitVec 32 := 16#32
  let v901 : BitVec 32 := Scalar.remsi v900 c16_i32_616
  let c1_i32_621 : BitVec 32 := 1#32
  let v904 : BitVec 32 := Scalar.muli v901 c1_i32_621
  let v905 : BitVec 32 := Scalar.addi c0_i32_622 v904
  v905.toNat
def k0_dev52 (d0 : Dev nD) : Nat :=
  let c0_i32_633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_626 : BitVec 32 := 7#32
  let v909 : BitVec 32 := Scalar.addi v2 c7_i32_626
  let c16_i32_627 : BitVec 32 := 16#32
  let v910 : BitVec 32 := Scalar.remsi v909 c16_i32_627
  let c1_i32_632 : BitVec 32 := 1#32
  let v913 : BitVec 32 := Scalar.muli v910 c1_i32_632
  let v914 : BitVec 32 := Scalar.addi c0_i32_633 v913
  v914.toNat
def k0_dev53 (d0 : Dev nD) : Nat :=
  let c0_i32_644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_637 : BitVec 32 := 8#32
  let v918 : BitVec 32 := Scalar.addi v2 c8_i32_637
  let c16_i32_638 : BitVec 32 := 16#32
  let v919 : BitVec 32 := Scalar.remsi v918 c16_i32_638
  let c1_i32_643 : BitVec 32 := 1#32
  let v922 : BitVec 32 := Scalar.muli v919 c1_i32_643
  let v923 : BitVec 32 := Scalar.addi c0_i32_644 v922
  v923.toNat
def k0_dev54 (d0 : Dev nD) : Nat :=
  let c0_i32_655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_648 : BitVec 32 := 9#32
  let v927 : BitVec 32 := Scalar.addi v2 c9_i32_648
  let c16_i32_649 : BitVec 32 := 16#32
  let v928 : BitVec 32 := Scalar.remsi v927 c16_i32_649
  let c1_i32_654 : BitVec 32 := 1#32
  let v931 : BitVec 32 := Scalar.muli v928 c1_i32_654
  let v932 : BitVec 32 := Scalar.addi c0_i32_655 v931
  v932.toNat
def k0_dev55 (d0 : Dev nD) : Nat :=
  let c0_i32_666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_659 : BitVec 32 := 10#32
  let v936 : BitVec 32 := Scalar.addi v2 c10_i32_659
  let c16_i32_660 : BitVec 32 := 16#32
  let v937 : BitVec 32 := Scalar.remsi v936 c16_i32_660
  let c1_i32_665 : BitVec 32 := 1#32
  let v940 : BitVec 32 := Scalar.muli v937 c1_i32_665
  let v941 : BitVec 32 := Scalar.addi c0_i32_666 v940
  v941.toNat
def k0_dev56 (d0 : Dev nD) : Nat :=
  let c0_i32_677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_670 : BitVec 32 := 11#32
  let v945 : BitVec 32 := Scalar.addi v2 c11_i32_670
  let c16_i32_671 : BitVec 32 := 16#32
  let v946 : BitVec 32 := Scalar.remsi v945 c16_i32_671
  let c1_i32_676 : BitVec 32 := 1#32
  let v949 : BitVec 32 := Scalar.muli v946 c1_i32_676
  let v950 : BitVec 32 := Scalar.addi c0_i32_677 v949
  v950.toNat
def k0_dev57 (d0 : Dev nD) : Nat :=
  let c0_i32_688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_681 : BitVec 32 := 12#32
  let v954 : BitVec 32 := Scalar.addi v2 c12_i32_681
  let c16_i32_682 : BitVec 32 := 16#32
  let v955 : BitVec 32 := Scalar.remsi v954 c16_i32_682
  let c1_i32_687 : BitVec 32 := 1#32
  let v958 : BitVec 32 := Scalar.muli v955 c1_i32_687
  let v959 : BitVec 32 := Scalar.addi c0_i32_688 v958
  v959.toNat
def k0_dev58 (d0 : Dev nD) : Nat :=
  let c0_i32_699 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_692 : BitVec 32 := 13#32
  let v963 : BitVec 32 := Scalar.addi v2 c13_i32_692
  let c16_i32_693 : BitVec 32 := 16#32
  let v964 : BitVec 32 := Scalar.remsi v963 c16_i32_693
  let c1_i32_698 : BitVec 32 := 1#32
  let v967 : BitVec 32 := Scalar.muli v964 c1_i32_698
  let v968 : BitVec 32 := Scalar.addi c0_i32_699 v967
  v968.toNat
def k0_dev59 (d0 : Dev nD) : Nat :=
  let c0_i32_710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_703 : BitVec 32 := 14#32
  let v972 : BitVec 32 := Scalar.addi v2 c14_i32_703
  let c16_i32_704 : BitVec 32 := 16#32
  let v973 : BitVec 32 := Scalar.remsi v972 c16_i32_704
  let c1_i32_709 : BitVec 32 := 1#32
  let v976 : BitVec 32 := Scalar.muli v973 c1_i32_709
  let v977 : BitVec 32 := Scalar.addi c0_i32_710 v976
  v977.toNat
def k0_dev60 (d0 : Dev nD) : Nat :=
  let c0_i32_721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_714 : BitVec 32 := 15#32
  let v981 : BitVec 32 := Scalar.addi v2 c15_i32_714
  let c16_i32_715 : BitVec 32 := 16#32
  let v982 : BitVec 32 := Scalar.remsi v981 c16_i32_715
  let c1_i32_720 : BitVec 32 := 1#32
  let v985 : BitVec 32 := Scalar.muli v982 c1_i32_720
  let v986 : BitVec 32 := Scalar.addi c0_i32_721 v985
  v986.toNat
def k0_dev61 (d0 : Dev nD) : Nat :=
  let c0_i32_774 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_767 : BitVec 32 := 1#32
  let v1135 : BitVec 32 := Scalar.addi v2 c1_i32_767
  let c16_i32_768 : BitVec 32 := 16#32
  let v1136 : BitVec 32 := Scalar.remsi v1135 c16_i32_768
  let c1_i32_773 : BitVec 32 := 1#32
  let v1139 : BitVec 32 := Scalar.muli v1136 c1_i32_773
  let v1140 : BitVec 32 := Scalar.addi c0_i32_774 v1139
  v1140.toNat
def k0_dev62 (d0 : Dev nD) : Nat :=
  let c0_i32_785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_778 : BitVec 32 := 2#32
  let v1144 : BitVec 32 := Scalar.addi v2 c2_i32_778
  let c16_i32_779 : BitVec 32 := 16#32
  let v1145 : BitVec 32 := Scalar.remsi v1144 c16_i32_779
  let c1_i32_784 : BitVec 32 := 1#32
  let v1148 : BitVec 32 := Scalar.muli v1145 c1_i32_784
  let v1149 : BitVec 32 := Scalar.addi c0_i32_785 v1148
  v1149.toNat
def k0_dev63 (d0 : Dev nD) : Nat :=
  let c0_i32_796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_789 : BitVec 32 := 3#32
  let v1153 : BitVec 32 := Scalar.addi v2 c3_i32_789
  let c16_i32_790 : BitVec 32 := 16#32
  let v1154 : BitVec 32 := Scalar.remsi v1153 c16_i32_790
  let c1_i32_795 : BitVec 32 := 1#32
  let v1157 : BitVec 32 := Scalar.muli v1154 c1_i32_795
  let v1158 : BitVec 32 := Scalar.addi c0_i32_796 v1157
  v1158.toNat
def k0_dev64 (d0 : Dev nD) : Nat :=
  let c0_i32_807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_800 : BitVec 32 := 4#32
  let v1162 : BitVec 32 := Scalar.addi v2 c4_i32_800
  let c16_i32_801 : BitVec 32 := 16#32
  let v1163 : BitVec 32 := Scalar.remsi v1162 c16_i32_801
  let c1_i32_806 : BitVec 32 := 1#32
  let v1166 : BitVec 32 := Scalar.muli v1163 c1_i32_806
  let v1167 : BitVec 32 := Scalar.addi c0_i32_807 v1166
  v1167.toNat
def k0_dev65 (d0 : Dev nD) : Nat :=
  let c0_i32_818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_811 : BitVec 32 := 5#32
  let v1171 : BitVec 32 := Scalar.addi v2 c5_i32_811
  let c16_i32_812 : BitVec 32 := 16#32
  let v1172 : BitVec 32 := Scalar.remsi v1171 c16_i32_812
  let c1_i32_817 : BitVec 32 := 1#32
  let v1175 : BitVec 32 := Scalar.muli v1172 c1_i32_817
  let v1176 : BitVec 32 := Scalar.addi c0_i32_818 v1175
  v1176.toNat
def k0_dev66 (d0 : Dev nD) : Nat :=
  let c0_i32_829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_822 : BitVec 32 := 6#32
  let v1180 : BitVec 32 := Scalar.addi v2 c6_i32_822
  let c16_i32_823 : BitVec 32 := 16#32
  let v1181 : BitVec 32 := Scalar.remsi v1180 c16_i32_823
  let c1_i32_828 : BitVec 32 := 1#32
  let v1184 : BitVec 32 := Scalar.muli v1181 c1_i32_828
  let v1185 : BitVec 32 := Scalar.addi c0_i32_829 v1184
  v1185.toNat
def k0_dev67 (d0 : Dev nD) : Nat :=
  let c0_i32_840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_833 : BitVec 32 := 7#32
  let v1189 : BitVec 32 := Scalar.addi v2 c7_i32_833
  let c16_i32_834 : BitVec 32 := 16#32
  let v1190 : BitVec 32 := Scalar.remsi v1189 c16_i32_834
  let c1_i32_839 : BitVec 32 := 1#32
  let v1193 : BitVec 32 := Scalar.muli v1190 c1_i32_839
  let v1194 : BitVec 32 := Scalar.addi c0_i32_840 v1193
  v1194.toNat
def k0_dev68 (d0 : Dev nD) : Nat :=
  let c0_i32_851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_844 : BitVec 32 := 8#32
  let v1198 : BitVec 32 := Scalar.addi v2 c8_i32_844
  let c16_i32_845 : BitVec 32 := 16#32
  let v1199 : BitVec 32 := Scalar.remsi v1198 c16_i32_845
  let c1_i32_850 : BitVec 32 := 1#32
  let v1202 : BitVec 32 := Scalar.muli v1199 c1_i32_850
  let v1203 : BitVec 32 := Scalar.addi c0_i32_851 v1202
  v1203.toNat
def k0_dev69 (d0 : Dev nD) : Nat :=
  let c0_i32_862 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_855 : BitVec 32 := 9#32
  let v1207 : BitVec 32 := Scalar.addi v2 c9_i32_855
  let c16_i32_856 : BitVec 32 := 16#32
  let v1208 : BitVec 32 := Scalar.remsi v1207 c16_i32_856
  let c1_i32_861 : BitVec 32 := 1#32
  let v1211 : BitVec 32 := Scalar.muli v1208 c1_i32_861
  let v1212 : BitVec 32 := Scalar.addi c0_i32_862 v1211
  v1212.toNat
def k0_dev70 (d0 : Dev nD) : Nat :=
  let c0_i32_873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_866 : BitVec 32 := 10#32
  let v1216 : BitVec 32 := Scalar.addi v2 c10_i32_866
  let c16_i32_867 : BitVec 32 := 16#32
  let v1217 : BitVec 32 := Scalar.remsi v1216 c16_i32_867
  let c1_i32_872 : BitVec 32 := 1#32
  let v1220 : BitVec 32 := Scalar.muli v1217 c1_i32_872
  let v1221 : BitVec 32 := Scalar.addi c0_i32_873 v1220
  v1221.toNat
def k0_dev71 (d0 : Dev nD) : Nat :=
  let c0_i32_884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_877 : BitVec 32 := 11#32
  let v1225 : BitVec 32 := Scalar.addi v2 c11_i32_877
  let c16_i32_878 : BitVec 32 := 16#32
  let v1226 : BitVec 32 := Scalar.remsi v1225 c16_i32_878
  let c1_i32_883 : BitVec 32 := 1#32
  let v1229 : BitVec 32 := Scalar.muli v1226 c1_i32_883
  let v1230 : BitVec 32 := Scalar.addi c0_i32_884 v1229
  v1230.toNat
def k0_dev72 (d0 : Dev nD) : Nat :=
  let c0_i32_895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_888 : BitVec 32 := 12#32
  let v1234 : BitVec 32 := Scalar.addi v2 c12_i32_888
  let c16_i32_889 : BitVec 32 := 16#32
  let v1235 : BitVec 32 := Scalar.remsi v1234 c16_i32_889
  let c1_i32_894 : BitVec 32 := 1#32
  let v1238 : BitVec 32 := Scalar.muli v1235 c1_i32_894
  let v1239 : BitVec 32 := Scalar.addi c0_i32_895 v1238
  v1239.toNat
def k0_dev73 (d0 : Dev nD) : Nat :=
  let c0_i32_906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_899 : BitVec 32 := 13#32
  let v1243 : BitVec 32 := Scalar.addi v2 c13_i32_899
  let c16_i32_900 : BitVec 32 := 16#32
  let v1244 : BitVec 32 := Scalar.remsi v1243 c16_i32_900
  let c1_i32_905 : BitVec 32 := 1#32
  let v1247 : BitVec 32 := Scalar.muli v1244 c1_i32_905
  let v1248 : BitVec 32 := Scalar.addi c0_i32_906 v1247
  v1248.toNat
def k0_dev74 (d0 : Dev nD) : Nat :=
  let c0_i32_917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_910 : BitVec 32 := 14#32
  let v1252 : BitVec 32 := Scalar.addi v2 c14_i32_910
  let c16_i32_911 : BitVec 32 := 16#32
  let v1253 : BitVec 32 := Scalar.remsi v1252 c16_i32_911
  let c1_i32_916 : BitVec 32 := 1#32
  let v1256 : BitVec 32 := Scalar.muli v1253 c1_i32_916
  let v1257 : BitVec 32 := Scalar.addi c0_i32_917 v1256
  v1257.toNat
def k0_dev75 (d0 : Dev nD) : Nat :=
  let c0_i32_928 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_921 : BitVec 32 := 15#32
  let v1261 : BitVec 32 := Scalar.addi v2 c15_i32_921
  let c16_i32_922 : BitVec 32 := 16#32
  let v1262 : BitVec 32 := Scalar.remsi v1261 c16_i32_922
  let c1_i32_927 : BitVec 32 := 1#32
  let v1265 : BitVec 32 := Scalar.muli v1262 c1_i32_927
  let v1266 : BitVec 32 := Scalar.addi c0_i32_928 v1265
  v1266.toNat
def k0_off5 (d0 : Dev nD) (c0_i32_1538 : BitVec 32) : Fin 3 → Nat :=
  let c0_1539 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_1537 : BitVec 32 := 16#32
  let v1636 : BitVec 32 := Scalar.muli v2 c16_i32_1537
  let v1637 : BitVec 32 := Scalar.addi c0_i32_1538 v1636
  let v1638 : Index := Scalar.indexCast v1637
  let c0_1540 : Index := 0#32
  ![0, v1638.toNat, 0]
def k0_off6 (d0 : Dev nD) (c0_i32_1558 : BitVec 32) : Fin 3 → Nat :=
  let c0_i32_1560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_1557 : BitVec 32 := 16#32
  let v1670 : BitVec 32 := Scalar.muli v2 c16_i32_1557
  let v1671 : BitVec 32 := Scalar.addi c0_i32_1558 v1670
  let c0_i32_1563 : BitVec 32 := 0#32
  ![0, v1671.toNat, 0]
def k0_dev76 (d0 : Dev nD) : Nat :=
  let c0_i32_1562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1553 : BitVec 32 := 1#32
  let v1666 : BitVec 32 := Scalar.addi v2 c1_i32_1553
  let c16_i32_1554 : BitVec 32 := 16#32
  let v1667 : BitVec 32 := Scalar.remsi v1666 c16_i32_1554
  let c1_i32_1561 : BitVec 32 := 1#32
  let v1672 : BitVec 32 := Scalar.muli v1667 c1_i32_1561
  let v1673 : BitVec 32 := Scalar.addi c0_i32_1562 v1672
  v1673.toNat
def k0_dev77 (d0 : Dev nD) : Nat :=
  let c0_i32_1572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1553 : BitVec 32 := 1#32
  let v1666 : BitVec 32 := Scalar.addi v2 c1_i32_1553
  let c16_i32_1554 : BitVec 32 := 16#32
  let v1667 : BitVec 32 := Scalar.remsi v1666 c16_i32_1554
  let c1_i32_1571 : BitVec 32 := 1#32
  let v1682 : BitVec 32 := Scalar.muli v1667 c1_i32_1571
  let v1683 : BitVec 32 := Scalar.addi c0_i32_1572 v1682
  v1683.toNat
def k0_dev78 (d0 : Dev nD) : Nat :=
  let c0_i32_1582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1553 : BitVec 32 := 1#32
  let v1666 : BitVec 32 := Scalar.addi v2 c1_i32_1553
  let c16_i32_1554 : BitVec 32 := 16#32
  let v1667 : BitVec 32 := Scalar.remsi v1666 c16_i32_1554
  let c1_i32_1581 : BitVec 32 := 1#32
  let v1692 : BitVec 32 := Scalar.muli v1667 c1_i32_1581
  let v1693 : BitVec 32 := Scalar.addi c0_i32_1582 v1692
  v1693.toNat
def k0_dev79 (d0 : Dev nD) : Nat :=
  let c0_i32_1592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1553 : BitVec 32 := 1#32
  let v1666 : BitVec 32 := Scalar.addi v2 c1_i32_1553
  let c16_i32_1554 : BitVec 32 := 16#32
  let v1667 : BitVec 32 := Scalar.remsi v1666 c16_i32_1554
  let c1_i32_1591 : BitVec 32 := 1#32
  let v1702 : BitVec 32 := Scalar.muli v1667 c1_i32_1591
  let v1703 : BitVec 32 := Scalar.addi c0_i32_1592 v1702
  v1703.toNat
def k0_dev80 (d0 : Dev nD) : Nat :=
  let c0_i32_1604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1595 : BitVec 32 := 2#32
  let v1708 : BitVec 32 := Scalar.addi v2 c2_i32_1595
  let c16_i32_1596 : BitVec 32 := 16#32
  let v1709 : BitVec 32 := Scalar.remsi v1708 c16_i32_1596
  let c1_i32_1603 : BitVec 32 := 1#32
  let v1714 : BitVec 32 := Scalar.muli v1709 c1_i32_1603
  let v1715 : BitVec 32 := Scalar.addi c0_i32_1604 v1714
  v1715.toNat
def k0_dev81 (d0 : Dev nD) : Nat :=
  let c0_i32_1614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1595 : BitVec 32 := 2#32
  let v1708 : BitVec 32 := Scalar.addi v2 c2_i32_1595
  let c16_i32_1596 : BitVec 32 := 16#32
  let v1709 : BitVec 32 := Scalar.remsi v1708 c16_i32_1596
  let c1_i32_1613 : BitVec 32 := 1#32
  let v1724 : BitVec 32 := Scalar.muli v1709 c1_i32_1613
  let v1725 : BitVec 32 := Scalar.addi c0_i32_1614 v1724
  v1725.toNat
def k0_dev82 (d0 : Dev nD) : Nat :=
  let c0_i32_1624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1595 : BitVec 32 := 2#32
  let v1708 : BitVec 32 := Scalar.addi v2 c2_i32_1595
  let c16_i32_1596 : BitVec 32 := 16#32
  let v1709 : BitVec 32 := Scalar.remsi v1708 c16_i32_1596
  let c1_i32_1623 : BitVec 32 := 1#32
  let v1734 : BitVec 32 := Scalar.muli v1709 c1_i32_1623
  let v1735 : BitVec 32 := Scalar.addi c0_i32_1624 v1734
  v1735.toNat
def k0_dev83 (d0 : Dev nD) : Nat :=
  let c0_i32_1634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1595 : BitVec 32 := 2#32
  let v1708 : BitVec 32 := Scalar.addi v2 c2_i32_1595
  let c16_i32_1596 : BitVec 32 := 16#32
  let v1709 : BitVec 32 := Scalar.remsi v1708 c16_i32_1596
  let c1_i32_1633 : BitVec 32 := 1#32
  let v1744 : BitVec 32 := Scalar.muli v1709 c1_i32_1633
  let v1745 : BitVec 32 := Scalar.addi c0_i32_1634 v1744
  v1745.toNat
def k0_dev84 (d0 : Dev nD) : Nat :=
  let c0_i32_1646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1637 : BitVec 32 := 3#32
  let v1750 : BitVec 32 := Scalar.addi v2 c3_i32_1637
  let c16_i32_1638 : BitVec 32 := 16#32
  let v1751 : BitVec 32 := Scalar.remsi v1750 c16_i32_1638
  let c1_i32_1645 : BitVec 32 := 1#32
  let v1756 : BitVec 32 := Scalar.muli v1751 c1_i32_1645
  let v1757 : BitVec 32 := Scalar.addi c0_i32_1646 v1756
  v1757.toNat
def k0_dev85 (d0 : Dev nD) : Nat :=
  let c0_i32_1656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1637 : BitVec 32 := 3#32
  let v1750 : BitVec 32 := Scalar.addi v2 c3_i32_1637
  let c16_i32_1638 : BitVec 32 := 16#32
  let v1751 : BitVec 32 := Scalar.remsi v1750 c16_i32_1638
  let c1_i32_1655 : BitVec 32 := 1#32
  let v1766 : BitVec 32 := Scalar.muli v1751 c1_i32_1655
  let v1767 : BitVec 32 := Scalar.addi c0_i32_1656 v1766
  v1767.toNat
def k0_dev86 (d0 : Dev nD) : Nat :=
  let c0_i32_1666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1637 : BitVec 32 := 3#32
  let v1750 : BitVec 32 := Scalar.addi v2 c3_i32_1637
  let c16_i32_1638 : BitVec 32 := 16#32
  let v1751 : BitVec 32 := Scalar.remsi v1750 c16_i32_1638
  let c1_i32_1665 : BitVec 32 := 1#32
  let v1776 : BitVec 32 := Scalar.muli v1751 c1_i32_1665
  let v1777 : BitVec 32 := Scalar.addi c0_i32_1666 v1776
  v1777.toNat
def k0_dev87 (d0 : Dev nD) : Nat :=
  let c0_i32_1676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1637 : BitVec 32 := 3#32
  let v1750 : BitVec 32 := Scalar.addi v2 c3_i32_1637
  let c16_i32_1638 : BitVec 32 := 16#32
  let v1751 : BitVec 32 := Scalar.remsi v1750 c16_i32_1638
  let c1_i32_1675 : BitVec 32 := 1#32
  let v1786 : BitVec 32 := Scalar.muli v1751 c1_i32_1675
  let v1787 : BitVec 32 := Scalar.addi c0_i32_1676 v1786
  v1787.toNat
def k0_dev88 (d0 : Dev nD) : Nat :=
  let c0_i32_1688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1679 : BitVec 32 := 4#32
  let v1792 : BitVec 32 := Scalar.addi v2 c4_i32_1679
  let c16_i32_1680 : BitVec 32 := 16#32
  let v1793 : BitVec 32 := Scalar.remsi v1792 c16_i32_1680
  let c1_i32_1687 : BitVec 32 := 1#32
  let v1798 : BitVec 32 := Scalar.muli v1793 c1_i32_1687
  let v1799 : BitVec 32 := Scalar.addi c0_i32_1688 v1798
  v1799.toNat
def k0_dev89 (d0 : Dev nD) : Nat :=
  let c0_i32_1698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1679 : BitVec 32 := 4#32
  let v1792 : BitVec 32 := Scalar.addi v2 c4_i32_1679
  let c16_i32_1680 : BitVec 32 := 16#32
  let v1793 : BitVec 32 := Scalar.remsi v1792 c16_i32_1680
  let c1_i32_1697 : BitVec 32 := 1#32
  let v1808 : BitVec 32 := Scalar.muli v1793 c1_i32_1697
  let v1809 : BitVec 32 := Scalar.addi c0_i32_1698 v1808
  v1809.toNat
def k0_dev90 (d0 : Dev nD) : Nat :=
  let c0_i32_1708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1679 : BitVec 32 := 4#32
  let v1792 : BitVec 32 := Scalar.addi v2 c4_i32_1679
  let c16_i32_1680 : BitVec 32 := 16#32
  let v1793 : BitVec 32 := Scalar.remsi v1792 c16_i32_1680
  let c1_i32_1707 : BitVec 32 := 1#32
  let v1818 : BitVec 32 := Scalar.muli v1793 c1_i32_1707
  let v1819 : BitVec 32 := Scalar.addi c0_i32_1708 v1818
  v1819.toNat
def k0_dev91 (d0 : Dev nD) : Nat :=
  let c0_i32_1718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1679 : BitVec 32 := 4#32
  let v1792 : BitVec 32 := Scalar.addi v2 c4_i32_1679
  let c16_i32_1680 : BitVec 32 := 16#32
  let v1793 : BitVec 32 := Scalar.remsi v1792 c16_i32_1680
  let c1_i32_1717 : BitVec 32 := 1#32
  let v1828 : BitVec 32 := Scalar.muli v1793 c1_i32_1717
  let v1829 : BitVec 32 := Scalar.addi c0_i32_1718 v1828
  v1829.toNat
def k0_dev92 (d0 : Dev nD) : Nat :=
  let c0_i32_1730 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1721 : BitVec 32 := 5#32
  let v1834 : BitVec 32 := Scalar.addi v2 c5_i32_1721
  let c16_i32_1722 : BitVec 32 := 16#32
  let v1835 : BitVec 32 := Scalar.remsi v1834 c16_i32_1722
  let c1_i32_1729 : BitVec 32 := 1#32
  let v1840 : BitVec 32 := Scalar.muli v1835 c1_i32_1729
  let v1841 : BitVec 32 := Scalar.addi c0_i32_1730 v1840
  v1841.toNat
def k0_dev93 (d0 : Dev nD) : Nat :=
  let c0_i32_1740 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1721 : BitVec 32 := 5#32
  let v1834 : BitVec 32 := Scalar.addi v2 c5_i32_1721
  let c16_i32_1722 : BitVec 32 := 16#32
  let v1835 : BitVec 32 := Scalar.remsi v1834 c16_i32_1722
  let c1_i32_1739 : BitVec 32 := 1#32
  let v1850 : BitVec 32 := Scalar.muli v1835 c1_i32_1739
  let v1851 : BitVec 32 := Scalar.addi c0_i32_1740 v1850
  v1851.toNat
def k0_dev94 (d0 : Dev nD) : Nat :=
  let c0_i32_1750 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1721 : BitVec 32 := 5#32
  let v1834 : BitVec 32 := Scalar.addi v2 c5_i32_1721
  let c16_i32_1722 : BitVec 32 := 16#32
  let v1835 : BitVec 32 := Scalar.remsi v1834 c16_i32_1722
  let c1_i32_1749 : BitVec 32 := 1#32
  let v1860 : BitVec 32 := Scalar.muli v1835 c1_i32_1749
  let v1861 : BitVec 32 := Scalar.addi c0_i32_1750 v1860
  v1861.toNat
def k0_dev95 (d0 : Dev nD) : Nat :=
  let c0_i32_1760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1721 : BitVec 32 := 5#32
  let v1834 : BitVec 32 := Scalar.addi v2 c5_i32_1721
  let c16_i32_1722 : BitVec 32 := 16#32
  let v1835 : BitVec 32 := Scalar.remsi v1834 c16_i32_1722
  let c1_i32_1759 : BitVec 32 := 1#32
  let v1870 : BitVec 32 := Scalar.muli v1835 c1_i32_1759
  let v1871 : BitVec 32 := Scalar.addi c0_i32_1760 v1870
  v1871.toNat
def k0_dev96 (d0 : Dev nD) : Nat :=
  let c0_i32_1772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1763 : BitVec 32 := 6#32
  let v1876 : BitVec 32 := Scalar.addi v2 c6_i32_1763
  let c16_i32_1764 : BitVec 32 := 16#32
  let v1877 : BitVec 32 := Scalar.remsi v1876 c16_i32_1764
  let c1_i32_1771 : BitVec 32 := 1#32
  let v1882 : BitVec 32 := Scalar.muli v1877 c1_i32_1771
  let v1883 : BitVec 32 := Scalar.addi c0_i32_1772 v1882
  v1883.toNat
def k0_dev97 (d0 : Dev nD) : Nat :=
  let c0_i32_1782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1763 : BitVec 32 := 6#32
  let v1876 : BitVec 32 := Scalar.addi v2 c6_i32_1763
  let c16_i32_1764 : BitVec 32 := 16#32
  let v1877 : BitVec 32 := Scalar.remsi v1876 c16_i32_1764
  let c1_i32_1781 : BitVec 32 := 1#32
  let v1892 : BitVec 32 := Scalar.muli v1877 c1_i32_1781
  let v1893 : BitVec 32 := Scalar.addi c0_i32_1782 v1892
  v1893.toNat
def k0_dev98 (d0 : Dev nD) : Nat :=
  let c0_i32_1792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1763 : BitVec 32 := 6#32
  let v1876 : BitVec 32 := Scalar.addi v2 c6_i32_1763
  let c16_i32_1764 : BitVec 32 := 16#32
  let v1877 : BitVec 32 := Scalar.remsi v1876 c16_i32_1764
  let c1_i32_1791 : BitVec 32 := 1#32
  let v1902 : BitVec 32 := Scalar.muli v1877 c1_i32_1791
  let v1903 : BitVec 32 := Scalar.addi c0_i32_1792 v1902
  v1903.toNat
def k0_dev99 (d0 : Dev nD) : Nat :=
  let c0_i32_1802 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1763 : BitVec 32 := 6#32
  let v1876 : BitVec 32 := Scalar.addi v2 c6_i32_1763
  let c16_i32_1764 : BitVec 32 := 16#32
  let v1877 : BitVec 32 := Scalar.remsi v1876 c16_i32_1764
  let c1_i32_1801 : BitVec 32 := 1#32
  let v1912 : BitVec 32 := Scalar.muli v1877 c1_i32_1801
  let v1913 : BitVec 32 := Scalar.addi c0_i32_1802 v1912
  v1913.toNat
def k0_dev100 (d0 : Dev nD) : Nat :=
  let c0_i32_1814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1805 : BitVec 32 := 7#32
  let v1918 : BitVec 32 := Scalar.addi v2 c7_i32_1805
  let c16_i32_1806 : BitVec 32 := 16#32
  let v1919 : BitVec 32 := Scalar.remsi v1918 c16_i32_1806
  let c1_i32_1813 : BitVec 32 := 1#32
  let v1924 : BitVec 32 := Scalar.muli v1919 c1_i32_1813
  let v1925 : BitVec 32 := Scalar.addi c0_i32_1814 v1924
  v1925.toNat
def k0_dev101 (d0 : Dev nD) : Nat :=
  let c0_i32_1824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1805 : BitVec 32 := 7#32
  let v1918 : BitVec 32 := Scalar.addi v2 c7_i32_1805
  let c16_i32_1806 : BitVec 32 := 16#32
  let v1919 : BitVec 32 := Scalar.remsi v1918 c16_i32_1806
  let c1_i32_1823 : BitVec 32 := 1#32
  let v1934 : BitVec 32 := Scalar.muli v1919 c1_i32_1823
  let v1935 : BitVec 32 := Scalar.addi c0_i32_1824 v1934
  v1935.toNat
def k0_dev102 (d0 : Dev nD) : Nat :=
  let c0_i32_1834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1805 : BitVec 32 := 7#32
  let v1918 : BitVec 32 := Scalar.addi v2 c7_i32_1805
  let c16_i32_1806 : BitVec 32 := 16#32
  let v1919 : BitVec 32 := Scalar.remsi v1918 c16_i32_1806
  let c1_i32_1833 : BitVec 32 := 1#32
  let v1944 : BitVec 32 := Scalar.muli v1919 c1_i32_1833
  let v1945 : BitVec 32 := Scalar.addi c0_i32_1834 v1944
  v1945.toNat
def k0_dev103 (d0 : Dev nD) : Nat :=
  let c0_i32_1844 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1805 : BitVec 32 := 7#32
  let v1918 : BitVec 32 := Scalar.addi v2 c7_i32_1805
  let c16_i32_1806 : BitVec 32 := 16#32
  let v1919 : BitVec 32 := Scalar.remsi v1918 c16_i32_1806
  let c1_i32_1843 : BitVec 32 := 1#32
  let v1954 : BitVec 32 := Scalar.muli v1919 c1_i32_1843
  let v1955 : BitVec 32 := Scalar.addi c0_i32_1844 v1954
  v1955.toNat
def k0_dev104 (d0 : Dev nD) : Nat :=
  let c0_i32_1856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1847 : BitVec 32 := 8#32
  let v1960 : BitVec 32 := Scalar.addi v2 c8_i32_1847
  let c16_i32_1848 : BitVec 32 := 16#32
  let v1961 : BitVec 32 := Scalar.remsi v1960 c16_i32_1848
  let c1_i32_1855 : BitVec 32 := 1#32
  let v1966 : BitVec 32 := Scalar.muli v1961 c1_i32_1855
  let v1967 : BitVec 32 := Scalar.addi c0_i32_1856 v1966
  v1967.toNat
def k0_dev105 (d0 : Dev nD) : Nat :=
  let c0_i32_1866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1847 : BitVec 32 := 8#32
  let v1960 : BitVec 32 := Scalar.addi v2 c8_i32_1847
  let c16_i32_1848 : BitVec 32 := 16#32
  let v1961 : BitVec 32 := Scalar.remsi v1960 c16_i32_1848
  let c1_i32_1865 : BitVec 32 := 1#32
  let v1976 : BitVec 32 := Scalar.muli v1961 c1_i32_1865
  let v1977 : BitVec 32 := Scalar.addi c0_i32_1866 v1976
  v1977.toNat
def k0_dev106 (d0 : Dev nD) : Nat :=
  let c0_i32_1876 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1847 : BitVec 32 := 8#32
  let v1960 : BitVec 32 := Scalar.addi v2 c8_i32_1847
  let c16_i32_1848 : BitVec 32 := 16#32
  let v1961 : BitVec 32 := Scalar.remsi v1960 c16_i32_1848
  let c1_i32_1875 : BitVec 32 := 1#32
  let v1986 : BitVec 32 := Scalar.muli v1961 c1_i32_1875
  let v1987 : BitVec 32 := Scalar.addi c0_i32_1876 v1986
  v1987.toNat
def k0_dev107 (d0 : Dev nD) : Nat :=
  let c0_i32_1886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1847 : BitVec 32 := 8#32
  let v1960 : BitVec 32 := Scalar.addi v2 c8_i32_1847
  let c16_i32_1848 : BitVec 32 := 16#32
  let v1961 : BitVec 32 := Scalar.remsi v1960 c16_i32_1848
  let c1_i32_1885 : BitVec 32 := 1#32
  let v1996 : BitVec 32 := Scalar.muli v1961 c1_i32_1885
  let v1997 : BitVec 32 := Scalar.addi c0_i32_1886 v1996
  v1997.toNat
def k0_dev108 (d0 : Dev nD) : Nat :=
  let c0_i32_1898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1889 : BitVec 32 := 9#32
  let v2002 : BitVec 32 := Scalar.addi v2 c9_i32_1889
  let c16_i32_1890 : BitVec 32 := 16#32
  let v2003 : BitVec 32 := Scalar.remsi v2002 c16_i32_1890
  let c1_i32_1897 : BitVec 32 := 1#32
  let v2008 : BitVec 32 := Scalar.muli v2003 c1_i32_1897
  let v2009 : BitVec 32 := Scalar.addi c0_i32_1898 v2008
  v2009.toNat
def k0_dev109 (d0 : Dev nD) : Nat :=
  let c0_i32_1908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1889 : BitVec 32 := 9#32
  let v2002 : BitVec 32 := Scalar.addi v2 c9_i32_1889
  let c16_i32_1890 : BitVec 32 := 16#32
  let v2003 : BitVec 32 := Scalar.remsi v2002 c16_i32_1890
  let c1_i32_1907 : BitVec 32 := 1#32
  let v2018 : BitVec 32 := Scalar.muli v2003 c1_i32_1907
  let v2019 : BitVec 32 := Scalar.addi c0_i32_1908 v2018
  v2019.toNat
def k0_dev110 (d0 : Dev nD) : Nat :=
  let c0_i32_1918 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1889 : BitVec 32 := 9#32
  let v2002 : BitVec 32 := Scalar.addi v2 c9_i32_1889
  let c16_i32_1890 : BitVec 32 := 16#32
  let v2003 : BitVec 32 := Scalar.remsi v2002 c16_i32_1890
  let c1_i32_1917 : BitVec 32 := 1#32
  let v2028 : BitVec 32 := Scalar.muli v2003 c1_i32_1917
  let v2029 : BitVec 32 := Scalar.addi c0_i32_1918 v2028
  v2029.toNat
def k0_dev111 (d0 : Dev nD) : Nat :=
  let c0_i32_1928 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1889 : BitVec 32 := 9#32
  let v2002 : BitVec 32 := Scalar.addi v2 c9_i32_1889
  let c16_i32_1890 : BitVec 32 := 16#32
  let v2003 : BitVec 32 := Scalar.remsi v2002 c16_i32_1890
  let c1_i32_1927 : BitVec 32 := 1#32
  let v2038 : BitVec 32 := Scalar.muli v2003 c1_i32_1927
  let v2039 : BitVec 32 := Scalar.addi c0_i32_1928 v2038
  v2039.toNat
def k0_dev112 (d0 : Dev nD) : Nat :=
  let c0_i32_1940 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1931 : BitVec 32 := 10#32
  let v2044 : BitVec 32 := Scalar.addi v2 c10_i32_1931
  let c16_i32_1932 : BitVec 32 := 16#32
  let v2045 : BitVec 32 := Scalar.remsi v2044 c16_i32_1932
  let c1_i32_1939 : BitVec 32 := 1#32
  let v2050 : BitVec 32 := Scalar.muli v2045 c1_i32_1939
  let v2051 : BitVec 32 := Scalar.addi c0_i32_1940 v2050
  v2051.toNat
def k0_dev113 (d0 : Dev nD) : Nat :=
  let c0_i32_1950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1931 : BitVec 32 := 10#32
  let v2044 : BitVec 32 := Scalar.addi v2 c10_i32_1931
  let c16_i32_1932 : BitVec 32 := 16#32
  let v2045 : BitVec 32 := Scalar.remsi v2044 c16_i32_1932
  let c1_i32_1949 : BitVec 32 := 1#32
  let v2060 : BitVec 32 := Scalar.muli v2045 c1_i32_1949
  let v2061 : BitVec 32 := Scalar.addi c0_i32_1950 v2060
  v2061.toNat
def k0_dev114 (d0 : Dev nD) : Nat :=
  let c0_i32_1960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1931 : BitVec 32 := 10#32
  let v2044 : BitVec 32 := Scalar.addi v2 c10_i32_1931
  let c16_i32_1932 : BitVec 32 := 16#32
  let v2045 : BitVec 32 := Scalar.remsi v2044 c16_i32_1932
  let c1_i32_1959 : BitVec 32 := 1#32
  let v2070 : BitVec 32 := Scalar.muli v2045 c1_i32_1959
  let v2071 : BitVec 32 := Scalar.addi c0_i32_1960 v2070
  v2071.toNat
def k0_dev115 (d0 : Dev nD) : Nat :=
  let c0_i32_1970 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1931 : BitVec 32 := 10#32
  let v2044 : BitVec 32 := Scalar.addi v2 c10_i32_1931
  let c16_i32_1932 : BitVec 32 := 16#32
  let v2045 : BitVec 32 := Scalar.remsi v2044 c16_i32_1932
  let c1_i32_1969 : BitVec 32 := 1#32
  let v2080 : BitVec 32 := Scalar.muli v2045 c1_i32_1969
  let v2081 : BitVec 32 := Scalar.addi c0_i32_1970 v2080
  v2081.toNat
def k0_dev116 (d0 : Dev nD) : Nat :=
  let c0_i32_1982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1973 : BitVec 32 := 11#32
  let v2086 : BitVec 32 := Scalar.addi v2 c11_i32_1973
  let c16_i32_1974 : BitVec 32 := 16#32
  let v2087 : BitVec 32 := Scalar.remsi v2086 c16_i32_1974
  let c1_i32_1981 : BitVec 32 := 1#32
  let v2092 : BitVec 32 := Scalar.muli v2087 c1_i32_1981
  let v2093 : BitVec 32 := Scalar.addi c0_i32_1982 v2092
  v2093.toNat
def k0_dev117 (d0 : Dev nD) : Nat :=
  let c0_i32_1992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1973 : BitVec 32 := 11#32
  let v2086 : BitVec 32 := Scalar.addi v2 c11_i32_1973
  let c16_i32_1974 : BitVec 32 := 16#32
  let v2087 : BitVec 32 := Scalar.remsi v2086 c16_i32_1974
  let c1_i32_1991 : BitVec 32 := 1#32
  let v2102 : BitVec 32 := Scalar.muli v2087 c1_i32_1991
  let v2103 : BitVec 32 := Scalar.addi c0_i32_1992 v2102
  v2103.toNat
def k0_dev118 (d0 : Dev nD) : Nat :=
  let c0_i32_2002 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1973 : BitVec 32 := 11#32
  let v2086 : BitVec 32 := Scalar.addi v2 c11_i32_1973
  let c16_i32_1974 : BitVec 32 := 16#32
  let v2087 : BitVec 32 := Scalar.remsi v2086 c16_i32_1974
  let c1_i32_2001 : BitVec 32 := 1#32
  let v2112 : BitVec 32 := Scalar.muli v2087 c1_i32_2001
  let v2113 : BitVec 32 := Scalar.addi c0_i32_2002 v2112
  v2113.toNat
def k0_dev119 (d0 : Dev nD) : Nat :=
  let c0_i32_2012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1973 : BitVec 32 := 11#32
  let v2086 : BitVec 32 := Scalar.addi v2 c11_i32_1973
  let c16_i32_1974 : BitVec 32 := 16#32
  let v2087 : BitVec 32 := Scalar.remsi v2086 c16_i32_1974
  let c1_i32_2011 : BitVec 32 := 1#32
  let v2122 : BitVec 32 := Scalar.muli v2087 c1_i32_2011
  let v2123 : BitVec 32 := Scalar.addi c0_i32_2012 v2122
  v2123.toNat
def k0_dev120 (d0 : Dev nD) : Nat :=
  let c0_i32_2024 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2015 : BitVec 32 := 12#32
  let v2128 : BitVec 32 := Scalar.addi v2 c12_i32_2015
  let c16_i32_2016 : BitVec 32 := 16#32
  let v2129 : BitVec 32 := Scalar.remsi v2128 c16_i32_2016
  let c1_i32_2023 : BitVec 32 := 1#32
  let v2134 : BitVec 32 := Scalar.muli v2129 c1_i32_2023
  let v2135 : BitVec 32 := Scalar.addi c0_i32_2024 v2134
  v2135.toNat
def k0_dev121 (d0 : Dev nD) : Nat :=
  let c0_i32_2034 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2015 : BitVec 32 := 12#32
  let v2128 : BitVec 32 := Scalar.addi v2 c12_i32_2015
  let c16_i32_2016 : BitVec 32 := 16#32
  let v2129 : BitVec 32 := Scalar.remsi v2128 c16_i32_2016
  let c1_i32_2033 : BitVec 32 := 1#32
  let v2144 : BitVec 32 := Scalar.muli v2129 c1_i32_2033
  let v2145 : BitVec 32 := Scalar.addi c0_i32_2034 v2144
  v2145.toNat
def k0_dev122 (d0 : Dev nD) : Nat :=
  let c0_i32_2044 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2015 : BitVec 32 := 12#32
  let v2128 : BitVec 32 := Scalar.addi v2 c12_i32_2015
  let c16_i32_2016 : BitVec 32 := 16#32
  let v2129 : BitVec 32 := Scalar.remsi v2128 c16_i32_2016
  let c1_i32_2043 : BitVec 32 := 1#32
  let v2154 : BitVec 32 := Scalar.muli v2129 c1_i32_2043
  let v2155 : BitVec 32 := Scalar.addi c0_i32_2044 v2154
  v2155.toNat
def k0_dev123 (d0 : Dev nD) : Nat :=
  let c0_i32_2054 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2015 : BitVec 32 := 12#32
  let v2128 : BitVec 32 := Scalar.addi v2 c12_i32_2015
  let c16_i32_2016 : BitVec 32 := 16#32
  let v2129 : BitVec 32 := Scalar.remsi v2128 c16_i32_2016
  let c1_i32_2053 : BitVec 32 := 1#32
  let v2164 : BitVec 32 := Scalar.muli v2129 c1_i32_2053
  let v2165 : BitVec 32 := Scalar.addi c0_i32_2054 v2164
  v2165.toNat
def k0_dev124 (d0 : Dev nD) : Nat :=
  let c0_i32_2066 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2057 : BitVec 32 := 13#32
  let v2170 : BitVec 32 := Scalar.addi v2 c13_i32_2057
  let c16_i32_2058 : BitVec 32 := 16#32
  let v2171 : BitVec 32 := Scalar.remsi v2170 c16_i32_2058
  let c1_i32_2065 : BitVec 32 := 1#32
  let v2176 : BitVec 32 := Scalar.muli v2171 c1_i32_2065
  let v2177 : BitVec 32 := Scalar.addi c0_i32_2066 v2176
  v2177.toNat
def k0_dev125 (d0 : Dev nD) : Nat :=
  let c0_i32_2076 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2057 : BitVec 32 := 13#32
  let v2170 : BitVec 32 := Scalar.addi v2 c13_i32_2057
  let c16_i32_2058 : BitVec 32 := 16#32
  let v2171 : BitVec 32 := Scalar.remsi v2170 c16_i32_2058
  let c1_i32_2075 : BitVec 32 := 1#32
  let v2186 : BitVec 32 := Scalar.muli v2171 c1_i32_2075
  let v2187 : BitVec 32 := Scalar.addi c0_i32_2076 v2186
  v2187.toNat
def k0_dev126 (d0 : Dev nD) : Nat :=
  let c0_i32_2086 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2057 : BitVec 32 := 13#32
  let v2170 : BitVec 32 := Scalar.addi v2 c13_i32_2057
  let c16_i32_2058 : BitVec 32 := 16#32
  let v2171 : BitVec 32 := Scalar.remsi v2170 c16_i32_2058
  let c1_i32_2085 : BitVec 32 := 1#32
  let v2196 : BitVec 32 := Scalar.muli v2171 c1_i32_2085
  let v2197 : BitVec 32 := Scalar.addi c0_i32_2086 v2196
  v2197.toNat
def k0_dev127 (d0 : Dev nD) : Nat :=
  let c0_i32_2096 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2057 : BitVec 32 := 13#32
  let v2170 : BitVec 32 := Scalar.addi v2 c13_i32_2057
  let c16_i32_2058 : BitVec 32 := 16#32
  let v2171 : BitVec 32 := Scalar.remsi v2170 c16_i32_2058
  let c1_i32_2095 : BitVec 32 := 1#32
  let v2206 : BitVec 32 := Scalar.muli v2171 c1_i32_2095
  let v2207 : BitVec 32 := Scalar.addi c0_i32_2096 v2206
  v2207.toNat
def k0_dev128 (d0 : Dev nD) : Nat :=
  let c0_i32_2108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2099 : BitVec 32 := 14#32
  let v2212 : BitVec 32 := Scalar.addi v2 c14_i32_2099
  let c16_i32_2100 : BitVec 32 := 16#32
  let v2213 : BitVec 32 := Scalar.remsi v2212 c16_i32_2100
  let c1_i32_2107 : BitVec 32 := 1#32
  let v2218 : BitVec 32 := Scalar.muli v2213 c1_i32_2107
  let v2219 : BitVec 32 := Scalar.addi c0_i32_2108 v2218
  v2219.toNat
def k0_dev129 (d0 : Dev nD) : Nat :=
  let c0_i32_2118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2099 : BitVec 32 := 14#32
  let v2212 : BitVec 32 := Scalar.addi v2 c14_i32_2099
  let c16_i32_2100 : BitVec 32 := 16#32
  let v2213 : BitVec 32 := Scalar.remsi v2212 c16_i32_2100
  let c1_i32_2117 : BitVec 32 := 1#32
  let v2228 : BitVec 32 := Scalar.muli v2213 c1_i32_2117
  let v2229 : BitVec 32 := Scalar.addi c0_i32_2118 v2228
  v2229.toNat
def k0_dev130 (d0 : Dev nD) : Nat :=
  let c0_i32_2128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2099 : BitVec 32 := 14#32
  let v2212 : BitVec 32 := Scalar.addi v2 c14_i32_2099
  let c16_i32_2100 : BitVec 32 := 16#32
  let v2213 : BitVec 32 := Scalar.remsi v2212 c16_i32_2100
  let c1_i32_2127 : BitVec 32 := 1#32
  let v2238 : BitVec 32 := Scalar.muli v2213 c1_i32_2127
  let v2239 : BitVec 32 := Scalar.addi c0_i32_2128 v2238
  v2239.toNat
def k0_dev131 (d0 : Dev nD) : Nat :=
  let c0_i32_2138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2099 : BitVec 32 := 14#32
  let v2212 : BitVec 32 := Scalar.addi v2 c14_i32_2099
  let c16_i32_2100 : BitVec 32 := 16#32
  let v2213 : BitVec 32 := Scalar.remsi v2212 c16_i32_2100
  let c1_i32_2137 : BitVec 32 := 1#32
  let v2248 : BitVec 32 := Scalar.muli v2213 c1_i32_2137
  let v2249 : BitVec 32 := Scalar.addi c0_i32_2138 v2248
  v2249.toNat
def k0_dev132 (d0 : Dev nD) : Nat :=
  let c0_i32_2150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2141 : BitVec 32 := 15#32
  let v2254 : BitVec 32 := Scalar.addi v2 c15_i32_2141
  let c16_i32_2142 : BitVec 32 := 16#32
  let v2255 : BitVec 32 := Scalar.remsi v2254 c16_i32_2142
  let c1_i32_2149 : BitVec 32 := 1#32
  let v2260 : BitVec 32 := Scalar.muli v2255 c1_i32_2149
  let v2261 : BitVec 32 := Scalar.addi c0_i32_2150 v2260
  v2261.toNat
def k0_dev133 (d0 : Dev nD) : Nat :=
  let c0_i32_2160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2141 : BitVec 32 := 15#32
  let v2254 : BitVec 32 := Scalar.addi v2 c15_i32_2141
  let c16_i32_2142 : BitVec 32 := 16#32
  let v2255 : BitVec 32 := Scalar.remsi v2254 c16_i32_2142
  let c1_i32_2159 : BitVec 32 := 1#32
  let v2270 : BitVec 32 := Scalar.muli v2255 c1_i32_2159
  let v2271 : BitVec 32 := Scalar.addi c0_i32_2160 v2270
  v2271.toNat
def k0_dev134 (d0 : Dev nD) : Nat :=
  let c0_i32_2170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2141 : BitVec 32 := 15#32
  let v2254 : BitVec 32 := Scalar.addi v2 c15_i32_2141
  let c16_i32_2142 : BitVec 32 := 16#32
  let v2255 : BitVec 32 := Scalar.remsi v2254 c16_i32_2142
  let c1_i32_2169 : BitVec 32 := 1#32
  let v2280 : BitVec 32 := Scalar.muli v2255 c1_i32_2169
  let v2281 : BitVec 32 := Scalar.addi c0_i32_2170 v2280
  v2281.toNat
def k0_dev135 (d0 : Dev nD) : Nat :=
  let c0_i32_2180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2141 : BitVec 32 := 15#32
  let v2254 : BitVec 32 := Scalar.addi v2 c15_i32_2141
  let c16_i32_2142 : BitVec 32 := 16#32
  let v2255 : BitVec 32 := Scalar.remsi v2254 c16_i32_2142
  let c1_i32_2179 : BitVec 32 := 1#32
  let v2290 : BitVec 32 := Scalar.muli v2255 c1_i32_2179
  let v2291 : BitVec 32 := Scalar.addi c0_i32_2180 v2290
  v2291.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x16384 : Shape := ⟨2, ![1024, 16384]⟩
abbrev S1x1024x128x128 : Shape := ⟨4, ![1, 1024, 128, 128]⟩
abbrev S16384x1024 : Shape := ⟨2, ![16384, 1024]⟩
abbrev S1x1024x16384 : Shape := ⟨3, ![1, 1024, 16384]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x128x1024x1024 : Shape := ⟨4, ![1, 128, 1024, 1024]⟩
abbrev S1x1x1024x1024 : Shape := ⟨4, ![1, 1, 1024, 1024]⟩
abbrev S1x128x1024 : Shape := ⟨3, ![1, 128, 1024]⟩
abbrev S1x128x1024x1 : Shape := ⟨4, ![1, 128, 1024, 1]⟩
abbrev S1x1x1024x1 : Shape := ⟨4, ![1, 1, 1024, 1]⟩
abbrev S1x128x128x1024 : Shape := ⟨4, ![1, 128, 128, 1024]⟩

abbrev nBuf : Space → Nat
  | .hbm => 90
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x16384, .f32⟩
  | .hbm, ⟨2, _⟩ => ⟨S1x1024x128x128, .f32⟩
  | .hbm, ⟨3, _⟩ => ⟨S1x1024x128x128, .f32⟩
  | .hbm, ⟨4, _⟩ => ⟨S16384x1024, .f32⟩
  | .hbm, ⟨5, _⟩ => ⟨S1x1024x16384, .f32⟩
  | .hbm, ⟨6, _⟩ => ⟨S1x1024x128x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S1x128x1024x1024, .f32⟩
  | .hbm, ⟨51, _⟩ => ⟨S_, .f32⟩
  | .hbm, ⟨52, _⟩ => ⟨S1x128x1024x1024, .f32⟩
  | .hbm, ⟨53, _⟩ => ⟨S1x128x1024x1024, .f32⟩
  | .hbm, ⟨54, _⟩ => ⟨S1x1x1024x1024, .i1⟩
  | .hbm, ⟨55, _⟩ => ⟨S_, .f32⟩
  | .hbm, ⟨56, _⟩ => ⟨S_, .f32⟩
  | .hbm, ⟨57, _⟩ => ⟨S1x128x1024x1024, .i1⟩
  | .hbm, ⟨58, _⟩ => ⟨S1x128x1024x1024, .f32⟩
  | .hbm, ⟨59, _⟩ => ⟨S1x128x1024x1024, .f32⟩
  | .hbm, ⟨60, _⟩ => ⟨S_, .f32⟩
  | .hbm, ⟨61, _⟩ => ⟨S1x128x1024, .f32⟩
  | .hbm, ⟨62, _⟩ => ⟨S1x128x1024x1, .f32⟩
  | .hbm, ⟨63, _⟩ => ⟨S1x128x1024x1024, .f32⟩
  | .hbm, ⟨64, _⟩ => ⟨S1x128x1024x1024, .f32⟩
  | .hbm, ⟨65, _⟩ => ⟨S1x128x1024x1024, .f32⟩
  | .hbm, ⟨66, _⟩ => ⟨S_, .i1⟩
  | .hbm, ⟨67, _⟩ => ⟨S1024, .i1⟩
  | .hbm, ⟨68, _⟩ => ⟨S1x1x1024x1, .i1⟩
  | .hbm, ⟨69, _⟩ => ⟨S_, .f32⟩
  | .hbm, ⟨70, _⟩ => ⟨S1x128x1024, .f32⟩
  | .hbm, ⟨71, _⟩ => ⟨S1x128x1024x1, .f32⟩
  | .hbm, ⟨72, _⟩ => ⟨S_, .f32⟩
  | .hbm, ⟨73, _⟩ => ⟨S_, .f32⟩
  | .hbm, ⟨74, _⟩ => ⟨S1x128x1024x1, .i1⟩
  | .hbm, ⟨75, _⟩ => ⟨S1x128x1024x1, .f32⟩
  | .hbm, ⟨76, _⟩ => ⟨S1x128x1024x1, .f32⟩
  | .hbm, ⟨77, _⟩ => ⟨S1x128x1024x1024, .f32⟩
  | .hbm, ⟨78, _⟩ => ⟨S1x128x1024x1024, .f32⟩
  | .hbm, ⟨79, _⟩ => ⟨S1x1x1024x1, .i1⟩
  | .hbm, ⟨80, _⟩ => ⟨S_, .f32⟩
  | .hbm, ⟨81, _⟩ => ⟨S_, .f32⟩
  | .hbm, ⟨82, _⟩ => ⟨S1x128x1024x1024, .i1⟩
  | .hbm, ⟨83, _⟩ => ⟨S1x128x1024x1024, .f32⟩
  | .hbm, ⟨84, _⟩ => ⟨S1x128x1024x1024, .f32⟩
  | .hbm, ⟨85, _⟩ => ⟨S1x128x128x1024, .f32⟩
  | .hbm, ⟨86, _⟩ => ⟨S1x1024x128x128, .f32⟩
  | .hbm, ⟨87, _⟩ => ⟨S1x1024x16384, .f32⟩
  | .hbm, ⟨88, _⟩ => ⟨S1x1024x1024, .f32⟩
  | .hbm, ⟨89, _⟩ => ⟨S1x1024x1024, .bf16⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩

abbrev nD : Nat := 1
abbrev τ : Topo := Topo.v7x

variable {F : FTy → Type} [FloatOps F]
-- ==== Proof.KI.Common.lean ====
/-
The protocol of the sixteen devices, written down once: who waits on which semaphore, who pays it, how much, and what
each payment hands over, contents included.

* the barrier: every device signals the fifteen others once and waits for fifteen. The signal of `q` to `p` hands `p` the
  four landing slots of `q` that `p` writes, and the four slivers of `q`'s result that `p` writes.
* the first exchange (`recv_a`, `send_a`): sixty copies out of the partial sums into the landing slots of the others.
* the second exchange (`recv_b`, `send_b`): sixty copies of the reduced slivers into the results of the others.
* the two weights are copied from main memory on two semaphores of their own.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline library's copy and the exchange's, its duties numbered -/

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The devices, counted around -/

set_option backward.proofsInPublic true in
/-- The device `k` places after `c`. -/
def pl (c : Dev nD) (k : ℕ) : Dev nD := ⟨(c.val + k) % 16, Nat.mod_lt _ (by decide)⟩

/-- Device `k` places after `c` is number `c + k` modulo sixteen. -/
theorem pl_val (c : Dev nD) (k : ℕ) : (pl c k).val = (c.val + k) % 16 := rfl
/-- Going `a` places on and then `b` is going `a + b`. -/
theorem pl_pl (c : Dev nD) (a b : ℕ) : pl (pl c a) b = pl c (a + b) := Fin.ext (by simp only [pl_val]; omega)
/-- Sixteen places on is the same device, -/
theorem pl_16 (c : Dev nD) : pl c 16 = c := Fin.ext (by simp only [pl_val]; have : c.val < 16 := c.isLt; omega)
/-- and so is no place on. -/
theorem pl_0 (c : Dev nD) : pl c 0 = c := Fin.ext (by simp only [pl_val]; have : c.val < 16 := c.isLt; omega)
/-- Going on and going the rest of the way round ends where it began. -/
theorem pl_back (c : Dev nD) (a b : ℕ) (h : a + b = 16) : pl (pl c a) b = c := by rw [pl_pl, h, pl_16]

/-! ## The cells -/

/-- The runtime's barrier semaphore. -/
abbrev barS : Sem sig := (SemArray.scalar (sig.barrier 0 rfl) : Sems sig S_).sem
abbrev ld0S : DmaSem sig := (((cc0_scratch5 : DmaSems sig S2).slice (Rect.unit (s := S2) ![0] S1.size inb_S2_S1_0)).squeeze S_ squeezes_S1_S_).sem
abbrev ld1S : DmaSem sig := (((cc0_scratch5 : DmaSems sig S2).slice (Rect.unit (s := S2) ![1] S1.size inb_S2_S1_1)).squeeze S_ squeezes_S1_S_).sem
abbrev saS : DmaSem sig := (cc0_scratch6 : DmaSems sig S_).sem
abbrev raS : DmaSem sig := (cc0_scratch7 : DmaSems sig S_).sem
abbrev sbS : DmaSem sig := (cc0_scratch8 : DmaSems sig S_).sem
abbrev rbS : DmaSem sig := (cc0_scratch9 : DmaSems sig S_).sem

/-- The kernel's own semaphores as the launch theorem indexes them, the barrier left out. -/
abbrev osem : Fin 6 → SemLoc sig := fun | 0 => .dma ld0S | 1 => .dma ld1S | 2 => .dma saS | 3 => .dma raS | 4 => .dma sbS | 5 => .dma rbS
/-- All seven, the barrier first. -/
abbrev csem : Fin 7 → SemLoc sig := fun | 0 => .reg barS | 1 => .dma ld0S | 2 => .dma ld1S | 3 => .dma saS | 4 => .dma raS | 5 => .dma sbS | 6 => .dma rbS
abbrev kcell (ck : Dev nD × Fin 7) : GSem nD τ sig := ((ck.1 : Thread nD τ), csem ck.2)

/-- The seven semaphores are distinct. -/
theorem csem_injective : Function.Injective csem := by decide

/-! ## The memrefs -/

abbrev M0 : Memref sig .tc .vmem S1x1024x1024 .f32 := Memref.whole cc0_stg0_0
abbrev M1 : Memref sig .tc .hbm S1024x16384 .f32 := Memref.whole main_arg1
abbrev M2 : Memref sig .tc .vmem S1x1024x8x128 .f32 := Memref.whole cc0_stg1_0
abbrev M3 : Memref sig .tc .vmem S1x1024x8x128 .f32 := Memref.whole cc0_stg2_0
abbrev M4 : Memref sig .tc .hbm S16384x1024 .f32 := Memref.whole main_arg4
abbrev M5 : Memref sig .tc .vmem S1x1024x1024 .bf16 := Memref.whole cc0_stg3_0
abbrev M6 : Memref sig .tc .vmem S1024x1024 .f32 := Memref.whole cc0_scratch0
abbrev M7 : Memref sig .tc .vmem S1024x1024 .f32 := Memref.whole cc0_scratch1
abbrev M8 : Memref sig .tc .vmem S1024x1024 .bf16 := Memref.whole cc0_scratch2
abbrev M9 : Memref sig .tc .vmem S1024x1024 .bf16 := Memref.whole cc0_scratch3
abbrev M10 : Memref sig .tc .vmem S16x4x16x1024 .bf16 := Memref.whole cc0_scratch4

/-! ## The regions of the buffers the exchange cuts up -/

/-- A device's sixteen rows of a block lie within the partial sums, -/
theorem rowsP_inb (g : Fin 4) (p : Dev nD) : ∀ a, (![256 * g.val + 16 * p.val, 0] : Fin 2 → ℕ) a + S16x1024.size a ≤ S1024x1024.size a := by
  revert g p; decide +kernel
/-- The sixteen rows of block `g` of the partial sums that device `p` reduces. -/
abbrev rowsP (g : Fin 4) (p : Dev nD) : Finset S1024x1024.Idx := (Rect.unit (s := S1024x1024) ![256 * g.val + 16 * p.val, 0] S16x1024.size (rowsP_inb g p)).set

/-- and within the result. -/
theorem rowsO_inb (g : Fin 4) (p : Dev nD) : ∀ a, (![0, 256 * g.val + 16 * p.val, 0] : Fin 3 → ℕ) a + S1x16x1024.size a ≤ S1x1024x1024.size a := by
  revert g p; decide +kernel
/-- The same rows of the result. -/
abbrev rowsO (g : Fin 4) (p : Dev nD) : Finset S1x1024x1024.Idx := (Rect.unit (s := S1x1024x1024) ![0, 256 * g.val + 16 * p.val, 0] S1x16x1024.size (rowsO_inb g p)).set

/-- A slot lies within the landing buffer. -/
theorem slotR_inb (j : Fin 16) (g : Fin 4) : ∀ a, (![j.val, g.val, 0, 0] : Fin 4 → ℕ) a + S1x1x16x1024.size a ≤ S16x4x16x1024.size a := by
  revert j g; decide +kernel
/-- Slot `(j, g)` of the landing buffer. -/
abbrev slotR (j : Fin 16) (g : Fin 4) : Finset S16x4x16x1024.Idx := (Rect.unit (s := S16x4x16x1024) ![j.val, g.val, 0, 0] S1x1x16x1024.size (slotR_inb j g)).set

/-- A block's 256 rows lie within the partial sums. -/
theorem rowsG_inb (g : Fin 4) : ∀ a, (![256 * g.val, 0] : Fin 2 → ℕ) a + S256x1024.size a ≤ S1024x1024.size a := by
  revert g; decide +kernel
/-- The 256 rows of block `g`. -/
abbrev rowsG (g : Fin 4) : Finset S1024x1024.Idx := (Rect.unit (s := S1024x1024) ![256 * g.val, 0] S256x1024.size (rowsG_inb g)).set

/-- Which elements a device's sixteen rows of a block are: by the row number. -/
theorem mem_rowsP {g : Fin 4} {p : Dev nD} {i : S1024x1024.Idx} : i ∈ rowsP g p ↔ 256 * g.val + 16 * p.val ≤ (i 0).val ∧ (i 0).val < 256 * g.val + 16 * p.val + 16 := by
  rw [Rect.mem_set_unit, Fin.forall_fin_two]
  exact ⟨fun h => h.1, fun h => ⟨h, Nat.zero_le _, by have := (i 1).isLt; simpa using this⟩⟩
/-- Which elements a block's 256 rows are: by the row number. -/
theorem mem_rowsG {g : Fin 4} {i : S1024x1024.Idx} : i ∈ rowsG g ↔ 256 * g.val ≤ (i 0).val ∧ (i 0).val < 256 * g.val + 256 := by
  rw [Rect.mem_set_unit, Fin.forall_fin_two]
  exact ⟨fun h => h.1, fun h => ⟨h, Nat.zero_le _, by have := (i 1).isLt; simpa using this⟩⟩
/-- Which elements of the result a device's sixteen rows of a block are: by the row number. -/
theorem mem_rowsO {g : Fin 4} {p : Dev nD} {i : S1x1024x1024.Idx} : i ∈ rowsO g p ↔ 256 * g.val + 16 * p.val ≤ (i 1).val ∧ (i 1).val < 256 * g.val + 16 * p.val + 16 := by
  rw [Rect.mem_set_unit]
  refine ⟨fun h => h 1, fun h a => ?_⟩
  fin_cases a
  · exact ⟨Nat.zero_le _, by have := (i 0).isLt; simpa using this⟩
  · exact h
  · exact ⟨Nat.zero_le _, by have := (i 2).isLt; simpa using this⟩
/-- Which elements a slot is: by its two leading coordinates. -/
theorem mem_slotR {j : Fin 16} {g : Fin 4} {i : S16x4x16x1024.Idx} : i ∈ slotR j g ↔ (i 0).val = j.val ∧ (i 1).val = g.val := by
  rw [Rect.mem_set_unit]
  refine ⟨fun h => ?_, fun h a => ?_⟩
  · have h0 : j.val ≤ (i 0).val ∧ (i 0).val < j.val + 1 := h 0
    have h1 : g.val ≤ (i 1).val ∧ (i 1).val < g.val + 1 := h 1
    omega
  · fin_cases a
    · show j.val ≤ (i 0).val ∧ (i 0).val < j.val + 1
      omega
    · show g.val ≤ (i 1).val ∧ (i 1).val < g.val + 1
      omega
    · exact ⟨Nat.zero_le _, by have := (i 2).isLt; simpa using this⟩
    · exact ⟨Nat.zero_le _, by have := (i 3).isLt; simpa using this⟩

/-! ## The numbering of the sixty copies of each exchange -/

set_option backward.proofsInPublic true in
/-- Copy `n` of the first exchange carries block `n / 15` to the device `n % 15 + 1` places on. -/
def gA (n : ℕ) : Fin 4 := ⟨n / 15 % 4, Nat.mod_lt _ (by decide)⟩
set_option backward.proofsInPublic true in
def rA (n : ℕ) : Fin 15 := ⟨n % 15, Nat.mod_lt _ (by decide)⟩
set_option backward.proofsInPublic true in
/-- The slot it lands in. -/
def jA (n : ℕ) : Fin 16 := ⟨15 - n % 15, by omega⟩
set_option backward.proofsInPublic true in
/-- Copy `n` of the second exchange carries block `n % 4` to the device `n / 4 + 1` places on. -/
def gB (n : ℕ) : Fin 4 := ⟨n % 4, Nat.mod_lt _ (by decide)⟩
set_option backward.proofsInPublic true in
def rB (n : ℕ) : Fin 15 := ⟨n / 4 % 15, Nat.mod_lt _ (by decide)⟩
set_option backward.proofsInPublic true in
/-- The landing slots of the device that is `r + 1` places on which this device writes. -/
def jS (r : ℕ) : Fin 16 := ⟨(15 - r) % 16, Nat.mod_lt _ (by decide)⟩

/-- The device copy `n` of the first exchange goes to. -/
abbrev pA (c : Dev nD) (n : ℕ) : Dev nD := pl c (n % 15 + 1)
/-- The device copy `n` of the second exchange goes to, -/
abbrev pB (c : Dev nD) (n : ℕ) : Dev nD := pl c (n / 4 % 15 + 1)
/-- and the one it comes from. -/
abbrev oB (c : Dev nD) (n : ℕ) : Dev nD := pl c (15 - n / 4 % 15)

/-- The device that copy `n` of the second exchange goes to has it from the device that sent it. -/
theorem oB_pB (c : Dev nD) (n : ℕ) : oB (pB c n) n = c := pl_back c _ _ (by omega)

/-- The views the copies go between, at a symbolic number. -/
abbrev srcA (c : Dev nD) (n : ℕ) : Memref sig .tc .vmem S16x1024 .bf16 :=
  M9.slice (Rect.unit (s := S1024x1024) (k0_off4 c (BitVec.ofNat 32 (256 * (gA n).val)) (BitVec.ofNat 32 (1 + (rA n).val))) S16x1024.size (k0_off4_inb c (gA n) (rA n))) (fun _ => rfl)
abbrev dstA (n : ℕ) : Memref sig .tc .vmem S16x1024 .bf16 :=
  (M10.slice (Rect.unit (s := S16x4x16x1024) ![(jA n).val, (gA n).val, 0, 0] S1x1x16x1024.size (slotR_inb (jA n) (gA n))) (fun _ => rfl)).squeeze S16x1024 squeezes_S1x1x16x1024_S16x1024
abbrev sdB (c : Dev nD) (n : ℕ) : Memref sig .tc .vmem S16x1024 .bf16 :=
  (M5.slice (Rect.unit (s := S1x1024x1024) (k0_off6 c (BitVec.ofNat 32 (256 * (gB n).val))) S1x16x1024.size (k0_off6_inb c (gB n))) (fun _ => rfl)).squeeze S16x1024 squeezes_S1x16x1024_S16x1024

/-- What copy `n` of the first exchange reads: the rows its receiver reduces. -/
theorem srcA_set (c : Dev nD) (n : ℕ) : (srcA c n).view.set = rowsP (gA n) (pA c n) := by
  refine (View.set_slice_whole _ _).trans ?_
  refine congrArg (fun r : Rect S1024x1024 => r.set) (Rect.unit_congr ?_ _ _)
  exact k0_off4_eq c (gA n) (rA n)
/-- Where it lands: one slot. -/
theorem dstA_set (n : ℕ) : (dstA n).view.set = slotR (jA n) (gA n) :=
  (View.set_reshape _ _).trans (View.set_slice_whole _ _)
/-- What copy `n` of the second exchange reads and, on its receiver, writes: the sender's rows of one block. -/
theorem sdB_set (c : Dev nD) (n : ℕ) : (sdB c n).view.set = rowsO (gB n) c := by
  refine (View.set_reshape _ _).trans ((View.set_slice_whole _ _).trans ?_)
  refine congrArg (fun r : Rect S1x1024x1024 => r.set) (Rect.unit_congr ?_ _ _)
  exact k0_off6_eq c (gB n)

/-- The credit of one copy of sixteen rows. -/
abbrev N : ℕ := (dstA 0).view.dmaCredit
/-- A copy of sixteen rows has a positive credit, -/
theorem N_pos : 0 < N := View.dmaCredit_pos _ (by decide)
/-- The credit of one copy of a weight. -/
abbrev NW : ℕ := M6.view.dmaCredit
/-- and so has a copy of a weight. -/
theorem NW_pos : 0 < NW := View.dmaCredit_pos _ (by decide)
/-- The copies of the two weights have the same credit. -/
theorem NW7 : M7.view.dmaCredit = NW := rfl
/-- Every copy of the first exchange has the credit `N`, -/
theorem N_dstA (n : ℕ) : (dstA n).view.dmaCredit = N := rfl
/-- and so has every copy of the second. -/
theorem N_sdB (c : Dev nD) (n : ℕ) : (sdB c n).view.dmaCredit = N := rfl

end Cert.KernelIdealProof

end
-- ==== Proof.KI.Sched.lean ====
/-
The schedule of the exchange: every semaphore's one round, its duties by number, what each is paid and what each payment
hands over, contents included; what a device owes at launch and the levels of the waits.
-/
module

public import proofs.«01_k».proof.Proof.KI.Common
public import Idealize.ShloMosaic.Lib.ValueIdxCore
public import Idealize.SL.BI.BigOpNat

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

/-! ## The contents -/

/-- What the sixteen devices' partial sums are: device by device, a whole buffer. -/
abbrev Parts (F : FTy → Type) : Type := Dev nD → S1024x1024.Idx → Elt F .bf16

variable (m : (ℓ : Loc nD τ sig) → Buf (Elt F) ℓ) (PT : Parts F)

set_option backward.proofsInPublic true in
/-- The landing buffer of device `p` when everything has landed: slot `(j, g)` holds the sixteen rows of block `g` that
    `p` reduces, of the partial sums of the device `j` places on. -/
def RS (p : Dev nD) : S16x4x16x1024.Idx → Elt F .bf16 := fun i =>
  PT (pl p (i 0).val) (ix2 (n0 := 1024) (n1 := 1024) ⟨256 * (i 1).val + 16 * p.val + (i 2).val, by
    have h1 : (i 1).val < 4 := (i 1).isLt
    have h2 : (i 2).val < 16 := (i 2).isLt
    have h3 : p.val < 16 := p.isLt
    omega⟩ (i 3))

/-- The sum of the sixteen, rounded. -/
def RED (p : Dev nD) : S4x16x1024.Idx → Elt F .bf16 := k0_pay72 (RS PT p)

set_option backward.proofsInPublic true in
/-- The result, the same on every device: row `256 g + 16 p + b` is row `b` of block `g` of what device `p` reduced. -/
def OUT : S1x1024x1024.Idx → Elt F .bf16 := fun i =>
  RED PT ⟨(i 1).val % 256 / 16, by show _ < 16; omega⟩
    (ix3 (n0 := 4) (n1 := 16) (n2 := 1024) ⟨(i 1).val / 256, by have h1 : (i 1).val < 1024 := (i 1).isLt; omega⟩ ⟨(i 1).val % 16, by omega⟩ (i 2))

/-- The shares the slivers of the result are read at while they are sent: piece `k` of the first fifteen, and what is left. -/
def restQ : ℕ → PosShare TreeShare
  | 0 => fullShare
  | k + 1 => (restQ k).right
def pieceQ (k : ℕ) : PosShare TreeShare := (restQ k).left

/-- The two weights' slices. -/
abbrev wqV (c : Dev nD) : Memref sig .tc .hbm S1024x1024 .f32 :=
  M1.slice (Rect.unit (s := S1024x16384) (k0_off1 c) S1024x1024.size (k0_off1_inb c)) (fun _ => rfl)
abbrev woV (c : Dev nD) : Memref sig .tc .hbm S1024x1024 .f32 :=
  M4.slice (Rect.unit (s := S16384x1024) (k0_off2 c) S1024x1024.size (k0_off2_inb c)) (fun _ => rfl)

/-- Device `c`'s columns of the first weight, -/
def WQ (c : Dev nD) : S1024x1024.Idx → Elt F .f32 := (wqV c).view.read (Elt F) (m ((c : Thread nD τ).loc main_arg1))
/-- and its rows of the second. -/
def WO (c : Dev nD) : S1024x1024.Idx → Elt F .f32 := (woV c).view.read (Elt F) (m ((c : Thread nD τ).loc main_arg4))

/-! ## The payloads -/

/-- Duty `r` of `p`'s barrier cell, paid by the device `q` that is `r + 1` places on: the four landing slots of `q` that `p`
    writes and the four slivers of `q`'s result that `p` writes. -/
def barPay (p : Dev nD) (r : ℕ) : sProp 𝕄 :=
  iprop((bigSep Finset.univ fun g : Fin 4 => iprop(∃ f, ((pl p (r + 1) : Thread nD τ).loc cc0_scratch4) ↦[slotR (jS r) g]{fullShare} f))
    ∗ (bigSep Finset.univ fun g : Fin 4 => iprop(∃ f, ((pl p (r + 1) : Thread nD τ).loc cc0_stg3_0) ↦[rowsO g p]{fullShare} f)))

def ld0Pay (p : Dev nD) : sProp 𝕄 :=
  iprop((((p : Thread nD τ).loc cc0_scratch0) ↦{fullShare} WQ m p) ∗ ((p : Thread nD τ).loc main_arg1) ↦[(wqV p).view.set]{fullShare} m ((p : Thread nD τ).loc main_arg1))
def ld1Pay (p : Dev nD) : sProp 𝕄 :=
  iprop((((p : Thread nD τ).loc cc0_scratch1) ↦{fullShare} WO m p) ∗ ((p : Thread nD τ).loc main_arg4) ↦[(woV p).view.set]{fullShare} m ((p : Thread nD τ).loc main_arg4))
def saPay (p : Dev nD) (n : ℕ) : sProp 𝕄 := iprop(((p : Thread nD τ).loc cc0_scratch3) ↦[rowsP (gA n) (pA p n)]{fullShare} PT p)
def raPay (p : Dev nD) (n : ℕ) : sProp 𝕄 := iprop(((p : Thread nD τ).loc cc0_scratch4) ↦[slotR (jA n) (gA n)]{fullShare} RS PT p)
def sbPay (p : Dev nD) (n : ℕ) : sProp 𝕄 := iprop(((p : Thread nD τ).loc cc0_stg3_0) ↦[rowsO (gB n) p]{pieceQ (n / 4 % 15)} OUT PT)
def rbPay (p : Dev nD) (n : ℕ) : sProp 𝕄 := iprop(((p : Thread nD τ).loc cc0_stg3_0) ↦[rowsO (gB n) (oB p n)]{fullShare} OUT PT)

instance barPay_storable (p : Dev nD) (r : ℕ) : BI.Storable (upEmb : UEmb _ 𝕄) (barPay (F := F) p r) := by unfold barPay; infer_instance
instance ld0Pay_storable (p : Dev nD) : BI.Storable (upEmb : UEmb _ 𝕄) (ld0Pay (F := F) m p) := by unfold ld0Pay; infer_instance
instance ld1Pay_storable (p : Dev nD) : BI.Storable (upEmb : UEmb _ 𝕄) (ld1Pay (F := F) m p) := by unfold ld1Pay; infer_instance
instance saPay_storable (p : Dev nD) (n : ℕ) : BI.Storable (upEmb : UEmb _ 𝕄) (saPay (F := F) PT p n) := by unfold saPay; infer_instance
instance raPay_storable (p : Dev nD) (n : ℕ) : BI.Storable (upEmb : UEmb _ 𝕄) (raPay (F := F) PT p n) := by unfold raPay; infer_instance
instance sbPay_storable (p : Dev nD) (n : ℕ) : BI.Storable (upEmb : UEmb _ 𝕄) (sbPay (F := F) PT p n) := by unfold sbPay; infer_instance
instance rbPay_storable (p : Dev nD) (n : ℕ) : BI.Storable (upEmb : UEmb _ 𝕄) (rbPay (F := F) PT p n) := by unfold rbPay; infer_instance

/-! ## The schedule -/

/-- Which of the seven a semaphore is. -/
def kidx (sm : SemLoc sig) : Option (Fin 7) :=
  if sm = csem 0 then some 0 else if sm = csem 1 then some 1 else if sm = csem 2 then some 2 else if sm = csem 3 then some 3
  else if sm = csem 4 then some 4 else if sm = csem 5 then some 5 else if sm = csem 6 then some 6 else none

/-- The seven semaphores, recognised. -/
theorem kidx_csem (k : Fin 7) : kidx (csem k) = some k := by revert k; decide

def dutN : Option (Fin 7) → ℕ
  | some 0 => 15 | some 1 => 1 | some 2 => 1 | some 3 => 60 | some 4 => 60 | some 5 => 60 | some 6 => 60 | none => 0
def amtN : Option (Fin 7) → ℕ
  | some 0 => 1 | some 1 => NW | some 2 => NW | _ => N
def payN (p : Dev nD) : Option (Fin 7) → ℕ → sProp 𝕄
  | some 0, d => barPay p d
  | some 1, _ => ld0Pay m p
  | some 2, _ => ld1Pay m p
  | some 3, d => saPay PT p d
  | some 4, d => raPay PT p d
  | some 5, d => sbPay PT p d
  | some 6, d => rbPay PT p d
  | none, _ => iprop(emp)

/-- Every duty has a positive amount. -/
theorem amtN_pos (o : Option (Fin 7)) : 0 < amtN o := by
  unfold amtN; split
  · exact Nat.one_pos
  · exact NW_pos
  · exact NW_pos
  · exact N_pos

instance payN_storable (p : Dev nD) (o : Option (Fin 7)) (d : ℕ) : BI.Storable (upEmb : UEmb _ 𝕄) (payN (F := F) m PT p o d) := by
  unfold payN; split <;> infer_instance

/-- One round, round 0, of each of the seven semaphores of each device. -/
def xRd : Rounds.Schedule (GSem nD τ sig) ℕ 𝕄 where
  duties g r := if r = 0 ∧ g.1.2 = .tc then Finset.range (dutN (kidx g.2)) else ∅
  unitless _ := False
  amount g _ _ := amtN (kidx g.2)
  payload g _ d := payN m PT g.1.1 (kidx g.2) d
  amount_pos g _ _ _ := amtN_pos _

instance xRd_payload_storable (g : GSem nD τ sig) (r : ℕ) (d : ℕ) :
    BI.Storable (upEmb : UEmb _ 𝕄) ((xRd (F := F) m PT).payload g r d) := payN_storable m PT _ _ _

/-- The duties of each of the seven cells in the only round. -/
theorem duties_k (c : Dev nD) (k : Fin 7) : (xRd (F := F) m PT).duties (kcell (c, k)) 0 = Finset.range (dutN (some k)) := by
  dsimp only [xRd]; rw [if_pos ⟨rfl, rfl⟩, kidx_csem]
/-- After it there are none. -/
theorem duties_later (g : GSem nD τ sig) : ∀ r, 1 ≤ r → (xRd (F := F) m PT).duties g r = ∅ :=
  fun r hr => by dsimp only [xRd]; rw [if_neg fun h => by omega]
/-- The amount of a duty -/
theorem amount_k (c : Dev nD) (k : Fin 7) (d : ℕ) : (xRd (F := F) m PT).amount (kcell (c, k)) 0 d = amtN (some k) := by
  dsimp only [xRd]; rw [kidx_csem]
/-- and what it hands over, cell by cell: -/
theorem payload_k (c : Dev nD) (k : Fin 7) (d : ℕ) : (xRd (F := F) m PT).payload (kcell (c, k)) 0 d = payN m PT c (some k) d := by
  dsimp only [xRd]; rw [kidx_csem]
/-- at the barrier, -/
theorem payload_0 (c : Dev nD) (d : ℕ) : (xRd (F := F) m PT).payload (kcell (c, 0)) 0 d = barPay c d := payload_k m PT c 0 d
/-- at the copy of the first weight, -/
theorem payload_1 (c : Dev nD) (d : ℕ) : (xRd (F := F) m PT).payload (kcell (c, 1)) 0 d = ld0Pay m c := payload_k m PT c 1 d
/-- at the copy of the second, -/
theorem payload_2 (c : Dev nD) (d : ℕ) : (xRd (F := F) m PT).payload (kcell (c, 2)) 0 d = ld1Pay m c := payload_k m PT c 2 d
/-- at the sends of the first exchange, -/
theorem payload_3 (c : Dev nD) (d : ℕ) : (xRd (F := F) m PT).payload (kcell (c, 3)) 0 d = saPay PT c d := payload_k m PT c 3 d
/-- at its receives, -/
theorem payload_4 (c : Dev nD) (d : ℕ) : (xRd (F := F) m PT).payload (kcell (c, 4)) 0 d = raPay PT c d := payload_k m PT c 4 d
/-- at the sends of the second exchange, -/
theorem payload_5 (c : Dev nD) (d : ℕ) : (xRd (F := F) m PT).payload (kcell (c, 5)) 0 d = sbPay PT c d := payload_k m PT c 5 d
/-- and at its receives. -/
theorem payload_6 (c : Dev nD) (d : ℕ) : (xRd (F := F) m PT).payload (kcell (c, 6)) 0 d = rbPay PT c d := payload_k m PT c 6 d
/-- What a cell expects in the round: the number of its duties times the amount of each. -/
theorem expect_k (c : Dev nD) (k : Fin 7) : (xRd (F := F) m PT).expect (kcell (c, k)) 0 = dutN (some k) * amtN (some k) := by
  unfold Schedule.expect Schedule.amountOf
  rw [duties_k, Finset.sum_congr rfl fun d _ => amount_k m PT c k d, Finset.sum_const, Finset.card_range, smul_eq_mul]

/-! ## What a device owes; the levels -/

/-- Still owed to the second exchange before its copy `k`, -/
def OB (c : Dev nD) (k : ℕ) : CellTallies nD τ sig Unit := ∑ i ∈ Finset.Ico k 60, tallyAt (kcell (pB c i, 6)) () N
/-- to both before copy `k` of the first, -/
def OA (c : Dev nD) (k : ℕ) : CellTallies nD τ sig Unit := OB c 0 + ∑ i ∈ Finset.Ico k 60, tallyAt (kcell (pA c i, 4)) () N
/-- and in all before signal `k`. -/
def OS (c : Dev nD) (k : ℕ) : CellTallies nD τ sig Unit := OA c 0 + ∑ i ∈ Finset.Ico k 15, tallyAt (kcell (pl c (i + 1), 0)) () 1

/-- Copy `k` of the second exchange pays one copy to the receive cell of its target, -/
theorem OB_succ (c : Dev nD) {k : ℕ} (h : k < 60) : OB c k = OB c (k + 1) + tallyAt (kcell (pB c k, 6)) () N := by
  unfold OB; rw [Finset.sum_eq_sum_Ico_succ_bot h, add_comm]
/-- so does copy `k` of the first, -/
theorem OA_succ (c : Dev nD) {k : ℕ} (h : k < 60) : OA c k = OA c (k + 1) + tallyAt (kcell (pA c k, 4)) () N := by
  unfold OA; rw [Finset.sum_eq_sum_Ico_succ_bot h, add_assoc, add_comm (tallyAt _ _ _)]
/-- and signal `k` pays one to the barrier of its target. -/
theorem OS_succ (c : Dev nD) {k : ℕ} (h : k < 15) : OS c k = OS c (k + 1) + tallyAt (kcell (pl c (k + 1), 0)) () 1 := by
  unfold OS; rw [Finset.sum_eq_sum_Ico_succ_bot h, add_assoc, add_comm (tallyAt _ _ _)]
/-- After the second exchange nothing is owed, -/
theorem OB_60 (c : Dev nD) : OB c 60 = 0 := by unfold OB; rw [Finset.Ico_self, Finset.sum_empty]
/-- after the first only the second, -/
theorem OA_60 (c : Dev nD) : OA c 60 = OB c 0 := by unfold OA; rw [Finset.Ico_self, Finset.sum_empty, add_zero]
/-- and after the signals both. -/
theorem OS_15 (c : Dev nD) : OS c 15 = OA c 0 := by unfold OS; rw [Finset.Ico_self, Finset.sum_empty, add_zero]

def L (g : GSem nD τ sig) : Finset Unit := if g.1.2 = .tc then {()} else ∅
def lvK : Option (Fin 7) → ℕ
  | some 0 => 1 | some 4 => 2 | some 6 => 3 | _ => 0
/-- Barrier cells at 1, the first exchange's receive cells at 2, the second's at 3, everything else at 0. -/
def lv (g : GSem nD τ sig) (_ : Unit) : ℕ := lvK (kidx g.2)

/-- The level of each of the seven. -/
theorem lv_k (k : Fin 7) : lvK (kidx (csem k)) = lvK (some k) := by rw [kidx_csem]

/-- Only tensor cores have cells with levels, -/
theorem L_of_ne (g : GSem nD τ sig) (h : g.1.2 ≠ .tc) : L g = ∅ := if_neg h
/-- and every one of theirs has. -/
theorem L_tc (c : Dev nD) (sm : SemLoc sig) : L ((c : Thread nD τ), sm) = {()} := if_pos rfl

/-- Everything owed lies above level `l`. -/
def Above (l : ℕ) (O : CellTallies nD τ sig Unit) : Prop := ∀ g u, 0 < O g u → g.1.2 = .tc ∧ l < lv g u

/-- Nothing owed lies above any level. -/
theorem above_zero (l : ℕ) : Above l 0 := fun g u h => absurd h (Nat.lt_irrefl 0)
/-- Two parts above a level are above it together. -/
theorem above_add {l : ℕ} {O O' : CellTallies nD τ sig Unit} (h : Above l O) (h' : Above l O') : Above l (O + O') := fun g u hg => by
  rw [Pi.add_apply, Finsupp.add_apply] at hg
  rcases Nat.eq_zero_or_pos (O g u) with h0 | h0
  · exact h' g u (by omega)
  · exact h g u h0
/-- What is owed to one cell lies above every lower level. -/
theorem above_tally {l : ℕ} (c : Dev nD) (k : Fin 7) (n : ℕ) (h : l < lvK (some k)) : Above l (tallyAt (kcell (c, k)) () n) := fun g u hg => by
  rw [tallyAt_apply] at hg
  by_cases h' : g = kcell (c, k) ∧ u = ()
  · rw [h'.1]; exact ⟨rfl, by unfold lv; rw [kidx_csem]; exact h⟩
  · rw [if_neg h'] at hg; exact absurd hg (Nat.lt_irrefl 0)
/-- A sum of parts above a level is above it. -/
theorem above_sum {l : ℕ} (s : Finset ℕ) (T : ℕ → CellTallies nD τ sig Unit) (h : ∀ i, Above l (T i)) : Above l (∑ i ∈ s, T i) := by
  induction s using Finset.induction_on with
  | empty => rw [Finset.sum_empty]; exact above_zero l
  | insert a s ha ih => rw [Finset.sum_insert ha]; exact above_add (h a) ih

/-- What the second exchange owes lies above level 2, -/
theorem above_OB (c : Dev nD) (k : ℕ) : Above 2 (OB c k) := above_sum _ _ fun i => above_tally _ _ _ (by decide)
/-- what lies above a level lies above a lower one, -/
theorem above_mono {l l' : ℕ} (h : l' ≤ l) {O : CellTallies nD τ sig Unit} (hO : Above l O) : Above l' O := fun g u hg => ⟨(hO g u hg).1, lt_of_le_of_lt h (hO g u hg).2⟩
/-- so what both exchanges owe lies above level 1, -/
theorem above_OA (c : Dev nD) (k : ℕ) : Above 1 (OA c k) := above_add (above_mono (by decide) (above_OB c 0)) (above_sum _ _ fun i => above_tally _ _ _ (by decide))
/-- and all that is owed above level 0. -/
theorem above_OS (c : Dev nD) (k : ℕ) : Above 0 (OS c k) := above_add (above_mono (by decide) (above_OA c 0)) (above_sum _ _ fun i => above_tally _ _ _ (by decide))

/-- A device may wait on a semaphore that lies at or below everything it owes. -/
theorem mayWait_of (c : Dev nD) (sm : SemLoc sig) (l : ℕ) (O : CellTallies nD τ sig Unit) (hl : lvK (kidx sm) ≤ l) (hO : Above l O) :
    (levAts L lv : sProp 𝕄) ⊢ MayWait (c : Thread nD τ) sm () O := by
  refine MayOwe.of_cut (L := L) (lev := lv) l (fun p hp => by rw [Finset.mem_singleton.mp hp, L_tc]; exact Finset.mem_singleton_self _)
    (fun g u hg => ?_) (fun p hp => by rw [Finset.mem_singleton.mp hp]; exact hl) (fun g u hg => (hO g u hg).2)
  unfold L; rw [if_pos (hO g u hg).1]; exact Finset.mem_singleton_self _

end Cert.KernelIdealProof

end
-- ==== Proof.KI.Steps.lean ====
/-
One rule per kind of step of the kernel's body, each from the state before to the state after with anything else kept
beside it: the signals and the barrier's wait, the copies of the two exchanges, the waits for what lands.
-/
module

public import proofs.«01_k».proof.Proof.KI.Sched
public import Idealize.ShloMosaic.Lib.ValueLayout

@[expose] public section

set_option maxRecDepth 10000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (PT : Parts F) (K : Dev nD × Fin 7 → ℕ)

abbrev 𝒱₀ : Variants := Variants.none

/-- The weakest precondition on device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A program and its continuation, in turn. -/
theorem WP_bind (c : Dev nD) {α β : Type} (p : Prog (TpuEff nD τ sig (Elt F) Λ₀ .tc) α) (k : α → Prog (TpuEff nD τ sig (Elt F) Λ₀ .tc) β) (Q : β → sProp 𝕄) :
    WP c (p >>= k) Q = WP c p (fun a => WP c (k a) Q) := wp_bind _ _ _ _ _ _

/-- A program that is over. -/
theorem WP_pure (c : Dev nD) {α : Type} (a : α) {Q : α → sProp 𝕄} {P : sProp 𝕄} (h : P ⊢ Q a) : P ⊢ WP c (pure a) Q := by
  refine h.trans ?_
  show Q a ⊢ wp frame _ Set.univ (Prog.ret a) Q
  rw [wp_ret]
  iintro H; imodintro; iexact H

/-! ## What is shared by all steps -/

/-- Every cell's invariant, and that its only round has begun. -/
def records : sProp 𝕄 := bigSep Finset.univ fun ck : Dev nD × Fin 7 => iprop(cellInv ER (xRd m PT) (K ck) (kcell ck) ∗ reached ER (kcell ck) 0)
instance records_persistent : BI.Persistent (records m PT K) := by unfold records; infer_instance

/-- Of the records, those of one cell. -/
theorem rec_at (ck : Dev nD × Fin 7) : records m PT K ⊢ iprop(cellInv ER (xRd m PT) (K ck) (kcell ck) ∗ reached ER (kcell ck) 0) := by
  unfold records
  exact bigSep_elim (Finset.mem_univ ck) (Φ := fun ck : Dev nD × Fin 7 => iprop(cellInv ER (xRd m PT) (K ck) (kcell ck) ∗ reached ER (kcell ck) 0))

/-- The invariants and the levels. -/
def GS : sProp 𝕄 := iprop(records m PT K ∗ levAts L lv)
instance GS_persistent : BI.Persistent (GS m PT K) := by unfold GS; infer_instance

/-- The invariant of one cell, -/
theorem gs_inv (ck : Dev nD × Fin 7) : GS m PT K ⊢ cellInv ER (xRd m PT) (K ck) (kcell ck) := by
  unfold GS; iintro ⟨H, -⟩; ihave H := (rec_at m PT K ck) $$ H; icases H with ⟨H, -⟩; iexact H
/-- that its round has begun, -/
theorem gs_reached (ck : Dev nD × Fin 7) : GS m PT K ⊢ reached ER (kcell ck) 0 := by
  unfold GS; iintro ⟨H, -⟩; ihave H := (rec_at m PT K ck) $$ H; icases H with ⟨-, H⟩; iexact H
/-- and the levels. -/
theorem gs_lev : GS m PT K ⊢ (levAts L lv : sProp 𝕄) := by unfold GS; iintro ⟨-, H⟩; iexact H

/-- A wait is allowed when everything owed lies above its cell's level. -/
theorem mayWait_k (c : Dev nD) (k : Fin 7) (l : ℕ) (O : CellTallies nD τ sig Unit) (hl : lvK (some k) ≤ l) (hO : Above l O) :
    GS m PT K ⊢ MayWait (c : Thread nD τ) (csem k) () O :=
  (gs_lev (F := F) m PT K).trans (mayWait_of c (csem k) l O ((lv_k k).le.trans hl) hO)

/-! ## The signals -/

/-- Before signal `k`: what is still owed, and for each signal to come its token and what it hands over. -/
def SigSt (c : Dev nD) (k : ℕ) : sProp 𝕄 :=
  iprop((∃ W, owes (c : Thread nD τ) (OS c k) W)
    ∗ bigSep (Finset.Ico k 15) fun i => iprop(dutyTok ER (kcell (pl c (i + 1), 0)) 0 (14 - i) ∗ barPay (F := F) (pl c (i + 1)) (14 - i)))

/-- Signal `k`, to the device `k + 1` places on. -/
theorem sig_step (c : Dev nD) (k : ℕ) (hk : k < 15) (n : Dev nD) (hn : n = pl c (k + 1)) {R : sProp 𝕄} {Q : PUnit → sProp 𝕄}
    (h : iprop(GS m PT K ∗ SigSt c (k + 1) ∗ R) ⊢ Q ⟨⟩) :
    iprop(GS m PT K ∗ SigSt c k ∗ R) ⊢ WP c (semSignalWord n barS 1#32) Q := by
  subst hn
  simp only [semSignalWord, Prog.lift, WP]
  iintro ⟨#HG, Hs, HR⟩
  unfold SigSt
  icases Hs with ⟨⟨%W, HO⟩, Hb⟩
  ihave Hb := (Entails.of_eq (bigSep_Ico_succ_bot hk fun i => iprop(dutyTok ER (kcell (pl c (i + 1), 0)) 0 (14 - i) ∗ barPay (F := F) (pl c (i + 1)) (14 - i)))) $$ Hb
  icases Hb with ⟨⟨Ht, Hp⟩, Hb⟩
  iapply (Rounds.wp_signal 𝒱₀ ER (xRd m PT) (c : Thread nD τ) none (dst := (pl c (k + 1) : Thread nD τ)) (κ := K (pl c (k + 1), 0)) (r := 0)
      (d := 14 - k) (by rw [duties_k m PT (pl c (k + 1)) 0]; exact Finset.mem_range.mpr (by show 14 - k < 15; omega)) ((amount_k m PT (pl c (k + 1)) 0 (14 - k)).trans (by decide)) () (OS c (k + 1)) (OS_succ c hk))
    $$ [HO Ht Hp]
  · isplitr; · iapply (gs_inv m PT K (pl c (k + 1), 0)); iexact HG
    isplitl [HO]; · iexact HO
    isplitl [Ht]; · iexact Ht
    isplitl [Hp]; · rw [payload_0]; iexact Hp
    iapply (gs_reached m PT K (pl c (k + 1), 0)); iexact HG
  iintro HO
  rw [wp_ret]; imodintro
  iapply h
  isplitr; · iexact HG
  isplitr [HR]
  · unfold SigSt
    isplitl [HO]
    · iexists W; iexact HO
    · iexact Hb
  iexact HR

/-- The wait for the fifteen: what each of the others handed over. -/
theorem bar_wait_step (c : Dev nD) {R : sProp 𝕄} {Q : PUnit → sProp 𝕄}
    (h : iprop(GS m PT K ∗ ((∃ W, owes (c : Thread nD τ) (OA c 0) W) ∗ atPos ER (kcell (c, 0)) (0 + 1) ∅ 0 ∗ bigSep (Finset.range 15) (barPay (F := F) c)) ∗ R) ⊢ Q ⟨⟩) :
    iprop(GS m PT K ∗ ((SigSt c 15 ∗ cred (tallyAt (kcell (c, 0)) () 15) ∗ atPos ER (kcell (c, 0)) 0 ∅ 0) ∗ R)) ⊢ WP c (semWaitWord barS 15#32) Q := by
  simp only [semWaitWord, Prog.lift, WP]
  iintro ⟨#HG, ⟨Hs, Hc, Hat⟩, HR⟩
  unfold SigSt
  icases Hs with ⟨⟨%W, HO⟩, -⟩
  rw [OS_15]
  iapply (Rounds.wp_wait_rest_token 𝒱₀ ER (xRd m PT) (c : Thread nD τ) none (κ := K (c, 0))
      (wpE_semWait_eq 𝒱₀ (c : Thread nD τ) none Set.univ) (Set.mem_univ _) () (O := OA c 0) (W := W) (R := 0) (m := 0) (T := ∅)
      (by rw [expect_k m PT c 0]; decide)) $$ [Hc HO Hat]
  · isplitr; · iapply (gs_inv m PT K (c, 0)); iexact HG
    isplitl [Hc]; · iexact Hc
    isplitl [HO]; · iexact HO
    isplitr; · iapply (mayWait_k m PT K c 0 1 (OA c 0) (Nat.le_refl 1) (above_OA c 0)); iexact HG
    iexact Hat
  iintro ⟨HO, Hat, -, Hpay⟩
  rw [wp_ret]; imodintro
  iapply h
  isplitr; · iexact HG
  isplitr [HR]
  · isplitl [HO]; · iexists _; iexact HO
    isplitl [Hat]; · iexact Hat
    iapply (Entails.of_eq (show bigSep ((xRd m PT).duties (kcell (c, 0)) 0 \ ∅) (fun d => (xRd m PT).payload (kcell (c, 0)) 0 d) = bigSep (Finset.range 15) (barPay (F := F) c) by
      rw [Finset.sdiff_empty, duties_k m PT c 0]; exact bigSep_congr fun d _ => payload_0 m PT c d))
    iexact Hpay
  iexact HR

/-! ## Where the copies' elements lie -/

/-- Where an element of a reshaped view lies. -/
theorem reshape_emb {s s' : Shape} {e : EltTy} (mr : Memref sig .tc .vmem s e) (h : s'.numel = s.numel) (x : s'.Idx) :
    (mr.view.reshape s' h).emb x = mr.view.emb (Shape.reshapeEquiv h x) := rfl

/-- Where an element of what copy `n` of the first exchange reads lies, -/
theorem srcA_emb (c : Dev nD) (n : ℕ) (a : Fin 16) (b : Fin 1024) :
    (srcA c n).view.emb (ix2 a b) = ix2 (n0 := 1024) (n1 := 1024) ⟨256 * (gA n).val + 16 * (pA c n).val + a.val, by
      have h1 := (gA n).isLt; have h2 : (pA c n).val < 16 := (pA c n).isLt; have h3 := a.isLt; omega⟩ b := by
  have e := k0_off4_eq c (gA n) (rA n)
  funext d
  refine Fin.ext ?_
  refine (Rect.emb_apply _ _ d).trans ?_
  fin_cases d
  · have := congrFun e 0
    refine (congrArg₂ (· + ·) this (one_mul a.val)).trans ?_
    show 256 * (gA n).val + 16 * ((c.val + (n % 15) + 1) % 16) + a.val = 256 * (gA n).val + 16 * ((c.val + (n % 15 + 1)) % 16) + a.val
    rw [add_assoc c.val]
  · have := congrFun e 1
    exact (congrArg₂ (· + ·) this (one_mul b.val)).trans (Nat.zero_add _)

/-- where it lands, -/
theorem dstA_emb (n : ℕ) (a : Fin 16) (b : Fin 1024) :
    (dstA n).view.emb (ix2 a b) = ix4 (n0 := 16) (n1 := 4) (n2 := 16) (n3 := 1024) (jA n) (gA n) a b := by
  have e := reshapeEquiv_ix2_11ab (a := 16) (b := 1024) squeezes_S1x1x16x1024_S16x1024.numel_eq a b
  show (Rect.unit (s := S16x4x16x1024) ![(jA n).val, (gA n).val, 0, 0] S1x1x16x1024.size (slotR_inb (jA n) (gA n))).emb (Shape.reshapeEquiv _ (ix2 a b)) = _
  rw [e]
  funext d
  refine Fin.ext ?_
  refine (Rect.emb_apply _ _ d).trans ?_
  fin_cases d
  · show (jA n).val + 1 * 0 = (jA n).val; omega
  · show (gA n).val + 1 * 0 = (gA n).val; omega
  · show 0 + 1 * a.val = a.val; omega
  · show 0 + 1 * b.val = b.val; omega

/-- and where an element of what copy `n` of the second exchange carries lies. -/
theorem sdB_emb (c : Dev nD) (n : ℕ) (a : Fin 16) (b : Fin 1024) :
    (sdB c n).view.emb (ix2 a b) = ix3 (n0 := 1) (n1 := 1024) (n2 := 1024) 0 ⟨256 * (gB n).val + 16 * c.val + a.val, by
      have h1 := (gB n).isLt; have h2 : c.val < 16 := c.isLt; have h3 := a.isLt; omega⟩ b := by
  have h := reshapeEquiv_ix2_1ab (a := 16) (b := 1024) squeezes_S1x16x1024_S16x1024.numel_eq a b
  have e := k0_off6_eq c (gB n)
  show (Rect.unit (s := S1x1024x1024) (k0_off6 c (BitVec.ofNat 32 (256 * (gB n).val))) S1x16x1024.size (k0_off6_inb c (gB n))).emb (Shape.reshapeEquiv _ (ix2 a b)) = _
  rw [h]
  funext d
  refine Fin.ext ?_
  refine (Rect.emb_apply _ _ d).trans ?_
  fin_cases d
  · have := congrFun e 0
    exact (congrArg₂ (· + ·) this (one_mul 0)).trans (Nat.zero_add _)
  · have := congrFun e 1
    exact congrArg₂ (· + ·) this (one_mul a.val)
  · have := congrFun e 2
    exact (congrArg₂ (· + ·) this (one_mul b.val)).trans (Nat.zero_add _)

/-- What copy `n` of the first exchange writes on the peer is its landing contents there. -/
theorem landA (c : Dev nD) (n : ℕ) (f : S16x4x16x1024.Idx → Elt F .bf16) (i : S16x4x16x1024.Idx) (hi : i ∈ slotR (jA n) (gA n)) :
    (dstA n).view.write (Elt F) f ((srcA c n).view.read (Elt F) (PT c)) Finset.univ i = RS PT (pA c n) i := by
  rw [← dstA_set] at hi
  obtain ⟨x, -, rfl⟩ := Finset.mem_map.mp hi
  rw [View.write_emb_of_mem _ _ (Finset.mem_univ _), View.read_apply]
  obtain ⟨a, b, rfl⟩ : ∃ a b, x = ix2 (n0 := 16) (n1 := 1024) a b := ⟨x 0, x 1, eq_ix2 x⟩
  rw [srcA_emb, dstA_emb]
  show PT c _ = PT (pl (pA c n) (15 - n % 15)) _
  rw [show pl (pA c n) (15 - n % 15) = c from pl_back c _ _ (by omega)]

/-- What copy `n` of the second exchange writes on the peer is the result there. -/
theorem landB (c : Dev nD) (n : ℕ) (f : S1x1024x1024.Idx → Elt F .bf16) (i : S1x1024x1024.Idx) (hi : i ∈ rowsO (gB n) c) :
    (sdB c n).view.write (Elt F) f ((sdB c n).view.read (Elt F) (OUT PT)) Finset.univ i = OUT PT i := by
  rw [← sdB_set] at hi
  obtain ⟨x, -, rfl⟩ := Finset.mem_map.mp hi
  rw [View.write_emb_of_mem _ _ (Finset.mem_univ _), View.read_apply]
  rfl

/-! ## The copies of the first exchange -/

/-- The library's rule for a copy at copy `n` of the first exchange. -/
theorem sendA_raw (c : Dev nD) (n : ℕ) (hn : n < 60) (p : Dev nD) (hp : p = pA c n)
    {hsc : (dstA n : Memref sig (Dev.tc p : Thread nD τ).2.kind .vmem S16x1024 .bf16).view.ref.isScScratch = false}
    {hsrc : (srcA c n).view.WordExact} {hdst : (dstA n).view.WordExact}
    {hsem : DmaTarget.Typed .vmem (.dma raS) (.remote (Dev.tc p : Thread nD τ) (dstA n) (.dma saS) hsc)}
    {α : Type} {Q : α → sProp 𝕄} {k : PUnit → Prog (TpuEff nD τ sig (Elt F) Λ₀ .tc) α}
    (f : Buf (Elt F) ((dstA n).view.loc (pA c n : Thread nD τ))) (W : Waits sig Unit) :
    iprop(cellInv ER (xRd m PT) (K (c, 3)) (kcell (c, 3)) ∗ cellInv ER (xRd m PT) (K (pA c n, 4)) (kcell (pA c n, 4))
        ∗ ((srcA c n).view.loc (c : Thread nD τ) ↦[(srcA c n).view.set]{fullShare} PT c)
        ∗ ((dstA n).view.loc (pA c n : Thread nD τ) ↦[(dstA n).view.set]{fullShare} f)
        ∗ owes (c : Thread nD τ) (OA c n) W
        ∗ dutyTok ER (kcell (c, 3)) 0 n ∗ reached ER (kcell (c, 3)) 0
        ∗ dutyTok ER (kcell (pA c n, 4)) 0 n ∗ reached ER (kcell (pA c n, 4)) 0)
      ⊢ iprop(((cred (tallyAt (kcell (c, 3)) () N) ∗ owes (c : Thread nD τ) (OA c (n + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcA c n) (.remote (Dev.tc p : Thread nD τ) (dstA n) (.dma saS) hsc) (.dma raS) hsrc hdst hsem) k) Q) := by
  subst hp
  exact Rounds.wp_send_pointsTo 𝒱₀ ER (xRd m PT) (c : Thread nD τ) none (κ₁ := K (c, 3)) (κ₂ := K (pA c n, 4))
    (r₁ := 0) (r₂ := 0) (d₁ := n) (d₂ := n) (fd := f)
    (by rw [duties_k m PT c 3]; exact Finset.mem_range.mpr hn) (by rw [duties_k m PT (pA c n) 4]; exact Finset.mem_range.mpr hn)
    () () N rfl (amount_k m PT c 3 n) (amount_k m PT (pA c n) 4 n) (OA c (n + 1)) (OA_succ c hn) (W := W)
    (by rw [payload_3]; unfold saPay; rw [srcA_set])
    (by rw [payload_4]; unfold raPay; rw [dstA_set]; exact Entails.of_eq (pointsTo_congr (landA PT c n f)))

/-- What copy `i` takes: its two tokens and the slot it lands in. -/
def TokA (c : Dev nD) (i : ℕ) : sProp 𝕄 :=
  iprop(dutyTok ER (kcell (c, 3)) 0 i ∗ dutyTok ER (kcell (pA c i, 4)) 0 i ∗ ∃ f : S16x4x16x1024.Idx → Elt F .bf16, ((pA c i : Thread nD τ).loc cc0_scratch4) ↦[slotR (jA i) (gA i)]{fullShare} f)

/-- Before copy `n`, the slivers up to number `k` computed. -/
def StA (c : Dev nD) (n k : ℕ) : sProp 𝕄 :=
  iprop((∃ W, owes (c : Thread nD τ) (OA c n) W) ∗ bigSep (Finset.Ico n 60) (TokA (F := F) c)
    ∗ bigSep (Finset.range n) (fun _ => cred (tallyAt (kcell (c, 3)) () N)) ∗ bigSep (Finset.Ico n k) (saPay PT c))

/-- Copy `n` of the first exchange. -/
theorem sendA_step (c : Dev nD) (n k : ℕ) (hn : n < 60) (hk : n < k) (p : Dev nD) (hp : p = pA c n)
    {hsc : (dstA n).view.ref.isScScratch = false}
    {hsrc : (srcA c n).view.WordExact} {hdst : (dstA n).view.WordExact}
    {hsem : DmaTarget.Typed .vmem (.dma raS) (.remote (Dev.tc p : Thread nD τ) (dstA n) (.dma saS) hsc)}
    {R : sProp 𝕄} {Q : PUnit → sProp 𝕄} (h : iprop(GS m PT K ∗ StA PT c (n + 1) k ∗ R) ⊢ Q ⟨⟩) :
    iprop(GS m PT K ∗ StA PT c n k ∗ R)
      ⊢ WP c (Prog.lift (.enqueueDma (srcA c n) (.remote (Dev.tc p : Thread nD τ) (dstA n) (.dma saS) hsc) (.dma raS) hsrc hdst hsem)) Q := by
  subst hp
  simp only [Prog.lift, WP]
  iintro ⟨#HG, Hs, HR⟩
  unfold StA
  icases Hs with ⟨⟨%W, HO⟩, Ht, Hc, Hp⟩
  ihave Ht := (Entails.of_eq (bigSep_Ico_succ_bot hn (TokA (F := F) c))) $$ Ht
  ihave Hp := (Entails.of_eq (bigSep_Ico_succ_bot hk (saPay PT c))) $$ Hp
  unfold TokA
  icases Ht with ⟨⟨Ht1, Ht2, ⟨%f, Hd⟩⟩, Ht⟩
  icases Hp with ⟨Hsrc, Hp⟩
  iapply (sendA_raw m PT K c n hn _ rfl f W) $$ [HO Ht1 Ht2 Hd Hsrc]
  · isplitr; · iapply (gs_inv m PT K (c, 3)); iexact HG
    isplitr; · iapply (gs_inv m PT K (pA c n, 4)); iexact HG
    isplitl [Hsrc]; · unfold saPay; rw [srcA_set]; iexact Hsrc
    isplitl [Hd]; · rw [dstA_set]; iexact Hd
    isplitl [HO]; · iexact HO
    isplitl [Ht1]; · iexact Ht1
    isplitr; · iapply (gs_reached m PT K (c, 3)); iexact HG
    isplitl [Ht2]; · iexact Ht2
    iapply (gs_reached m PT K (pA c n, 4)); iexact HG
  iintro ⟨Hcr, HO⟩
  rw [wp_ret]; imodintro
  iapply h
  isplitr; · iexact HG
  isplitr [HR]
  · unfold StA
    isplitl [HO]; · iexists W; iexact HO
    isplitl [Ht]; · iexact Ht
    isplitl [Hc Hcr]
    · rw [bigSep_range_succ]
      isplitl [Hcr]; · iexact Hcr
      iexact Hc
    iexact Hp
  iexact HR

/-! ## The copies of the second exchange -/

/-- The library's rule for a copy at copy `n` of the second exchange. -/
theorem sendB_raw (c : Dev nD) (n : ℕ) (hn : n < 60) (p : Dev nD) (hp : p = pB c n)
    {hsc : (sdB c n : Memref sig (Dev.tc p : Thread nD τ).2.kind .vmem S16x1024 .bf16).view.ref.isScScratch = false}
    {hsrc : (sdB c n).view.WordExact} {hdst : (sdB c n).view.WordExact}
    {hsem : DmaTarget.Typed .vmem (.dma rbS) (.remote (Dev.tc p : Thread nD τ) (sdB c n) (.dma sbS) hsc)}
    {α : Type} {Q : α → sProp 𝕄} {k : PUnit → Prog (TpuEff nD τ sig (Elt F) Λ₀ .tc) α}
    (f : Buf (Elt F) ((sdB c n).view.loc (pB c n : Thread nD τ))) (W : Waits sig Unit) :
    iprop(cellInv ER (xRd m PT) (K (c, 5)) (kcell (c, 5)) ∗ cellInv ER (xRd m PT) (K (pB c n, 6)) (kcell (pB c n, 6))
        ∗ ((sdB c n).view.loc (c : Thread nD τ) ↦[(sdB c n).view.set]{pieceQ (n / 4 % 15)} OUT PT)
        ∗ ((sdB c n).view.loc (pB c n : Thread nD τ) ↦[(sdB c n).view.set]{fullShare} f)
        ∗ owes (c : Thread nD τ) (OB c n) W
        ∗ dutyTok ER (kcell (c, 5)) 0 n ∗ reached ER (kcell (c, 5)) 0
        ∗ dutyTok ER (kcell (pB c n, 6)) 0 n ∗ reached ER (kcell (pB c n, 6)) 0)
      ⊢ iprop(((cred (tallyAt (kcell (c, 5)) () N) ∗ owes (c : Thread nD τ) (OB c (n + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sdB c n) (.remote (Dev.tc p : Thread nD τ) (sdB c n) (.dma sbS) hsc) (.dma rbS) hsrc hdst hsem) k) Q) := by
  subst hp
  exact Rounds.wp_send_pointsTo 𝒱₀ ER (xRd m PT) (c : Thread nD τ) none (κ₁ := K (c, 5)) (κ₂ := K (pB c n, 6))
    (r₁ := 0) (r₂ := 0) (d₁ := n) (d₂ := n) (fd := f)
    (by rw [duties_k m PT c 5]; exact Finset.mem_range.mpr hn) (by rw [duties_k m PT (pB c n) 6]; exact Finset.mem_range.mpr hn)
    () () N rfl (amount_k m PT c 5 n) (amount_k m PT (pB c n) 6 n) (OB c (n + 1)) (OB_succ c hn) (W := W)
    (by rw [payload_5]; unfold sbPay; rw [sdB_set])
    (by rw [payload_6]; unfold rbPay; rw [sdB_set, oB_pB]; exact Entails.of_eq (pointsTo_congr (landB PT c n f)))

/-- What copy `i` takes: its two tokens, its share of the sliver it sends, and where it lands. -/
def TokB (c : Dev nD) (i : ℕ) : sProp 𝕄 :=
  iprop(dutyTok ER (kcell (c, 5)) 0 i ∗ dutyTok ER (kcell (pB c i, 6)) 0 i ∗ sbPay PT c i
    ∗ ∃ f : S1x1024x1024.Idx → Elt F .bf16, ((pB c i : Thread nD τ).loc cc0_stg3_0) ↦[rowsO (gB i) c]{fullShare} f)

/-- Before copy `n`. -/
def StB (c : Dev nD) (n : ℕ) : sProp 𝕄 :=
  iprop((∃ W, owes (c : Thread nD τ) (OB c n) W) ∗ bigSep (Finset.Ico n 60) (TokB PT c)
    ∗ bigSep (Finset.range n) (fun _ => cred (tallyAt (kcell (c, 5)) () N)))

/-- Copy `n` of the second exchange. -/
theorem sendB_step (c : Dev nD) (n : ℕ) (hn : n < 60) (p : Dev nD) (hp : p = pB c n)
    {hsc : (sdB c n).view.ref.isScScratch = false}
    {hsrc : (sdB c n).view.WordExact} {hdst : (sdB c n).view.WordExact}
    {hsem : DmaTarget.Typed .vmem (.dma rbS) (.remote (Dev.tc p : Thread nD τ) (sdB c n) (.dma sbS) hsc)}
    {R : sProp 𝕄} {Q : PUnit → sProp 𝕄} (h : iprop(GS m PT K ∗ StB PT c (n + 1) ∗ R) ⊢ Q ⟨⟩) :
    iprop(GS m PT K ∗ StB PT c n ∗ R)
      ⊢ WP c (Prog.lift (.enqueueDma (sdB c n) (.remote (Dev.tc p : Thread nD τ) (sdB c n) (.dma sbS) hsc) (.dma rbS) hsrc hdst hsem)) Q := by
  subst hp
  simp only [Prog.lift, WP]
  iintro ⟨#HG, Hs, HR⟩
  unfold StB
  icases Hs with ⟨⟨%W, HO⟩, Ht, Hc⟩
  ihave Ht := (Entails.of_eq (bigSep_Ico_succ_bot hn (TokB PT c))) $$ Ht
  unfold TokB
  icases Ht with ⟨⟨Ht1, Ht2, Hsrc, ⟨%f, Hd⟩⟩, Ht⟩
  iapply (sendB_raw m PT K c n hn _ rfl f W) $$ [HO Ht1 Ht2 Hd Hsrc]
  · isplitr; · iapply (gs_inv m PT K (c, 5)); iexact HG
    isplitr; · iapply (gs_inv m PT K (pB c n, 6)); iexact HG
    isplitl [Hsrc]; · unfold sbPay; rw [sdB_set]; iexact Hsrc
    isplitl [Hd]; · rw [sdB_set]; iexact Hd
    isplitl [HO]; · iexact HO
    isplitl [Ht1]; · iexact Ht1
    isplitr; · iapply (gs_reached m PT K (c, 5)); iexact HG
    isplitl [Ht2]; · iexact Ht2
    iapply (gs_reached m PT K (pB c n, 6)); iexact HG
  iintro ⟨Hcr, HO⟩
  rw [wp_ret]; imodintro
  iapply h
  isplitr; · iexact HG
  isplitr [HR]
  · unfold StB
    isplitl [HO]; · iexists W; iexact HO
    isplitl [Ht]; · iexact Ht
    rw [bigSep_range_succ]
    isplitl [Hcr]; · iexact Hcr
    iexact Hc
  iexact HR

/-! ## The waits -/

/-- After `n` of the sixty waits on one semaphore, `O` still owed: the payloads come so far and the credit for the rest. -/
def WSt (c : Dev nD) (k : Fin 7) (O : CellTallies nD τ sig Unit) (n : ℕ) : sProp 𝕄 :=
  iprop((∃ W, owes (c : Thread nD τ) O W)
    ∗ (∃ S : Finset ℕ, ⌜S ⊆ Finset.range 60⌝ ∗ atPos ER (kcell (c, k)) 0 S (n * N) ∗ bigSep S (payN m PT c (some k)))
    ∗ bigSep (Finset.Ico n 60) (fun _ => cred (tallyAt (kcell (c, k)) () N)))

/-- After all sixty. -/
def WEnd (c : Dev nD) (k : Fin 7) (O : CellTallies nD τ sig Unit) : sProp 𝕄 :=
  iprop((∃ W, owes (c : Thread nD τ) O W) ∗ atPos ER (kcell (c, k)) (0 + 1) ∅ 0 ∗ bigSep (Finset.range 60) (payN m PT c (some k)))

/-- A family over a set from those over a part of it and over the rest. -/
theorem pay_join (Φ : ℕ → sProp 𝕄) {T S : Finset ℕ} (h : T ⊆ S) : iprop(bigSep T Φ ∗ bigSep (S \ T) Φ) ⊢ bigSep S Φ :=
  Entails.of_eq (bigSep_sdiff_split h (Φ := Φ)).symm

/-- One of the first fifty-nine waits. -/
theorem wait_step (c : Dev nD) (k : Fin 7) (hd : dutN (some k) = 60) (ha : amtN (some k) = N) (l : ℕ) (O : CellTallies nD τ sig Unit)
  (hl : lvK (some k) ≤ l) (hO : Above l O) (n : ℕ)
  {sem : DmaSem sig} (hs : SemLoc.dma sem = csem k)
  {sp sp' : Space} {s s' : Shape} {e e' : EltTy} {src : Memref sig .tc sp' s' e'} {dst : Memref sig .tc sp s e}
  {hsrc : src.view.WordExact} {hdst : dst.view.WordExact} (hcr : dst.view.dmaCredit = N)
  {R : sProp 𝕄} {Q : PUnit → sProp 𝕄}
    (hn : n < 59) (h : iprop(GS m PT K ∗ WSt m PT c k O (n + 1) ∗ R) ⊢ Q ⟨⟩) :
    iprop(GS m PT K ∗ WSt m PT c k O n ∗ R) ⊢ WP c (Prog.lift (.waitDma2 sem src dst hsrc hdst)) Q := by
  have ht : Util.total (Finsupp.single () N) = N := Util.total_single _ _
  have hi : (Finsupp.single () N).support.image (csem k, ·) ⊆ ({(csem k, ())} : Waits sig Unit) := image_single_subset (csem k) () N
  have hw : ∀ X : PUnit → sProp 𝕄, wpE (defs₀ (F := F)) 𝒱₀ (c : Thread nD τ) none Set.univ (.waitDma2 sem src dst hsrc hdst) X
      = waitSpec (c : Thread nD τ) Set.univ (csem k) N X := fun X => by
    rw [← hs, ← hcr]; exact wpE_waitDma2_eq 𝒱₀ (c : Thread nD τ) none Set.univ X
  simp only [Prog.lift, WP]
  iintro ⟨#HG, Hs, HR⟩
  unfold WSt
  icases Hs with ⟨⟨%W, HO⟩, ⟨%T, %hT, Hat, Hp⟩, Hc⟩
  ihave Hc := (Entails.of_eq (bigSep_Ico_succ_bot (show n < 60 by omega) (fun _ => (cred (tallyAt (kcell (c, k)) () N) : sProp 𝕄)))) $$ Hc
  icases Hc with ⟨Hc1, Hc⟩
  iapply (Rounds.wp_wait 𝒱₀ ER (xRd m PT) (c : Thread nD τ) none (κ := K (c, k)) (sm := csem k) (k' := N)
      hw (Set.mem_univ _)
      (cr := Finsupp.single () N) (O := O) (W := W) {(csem k, ())} (R := 0) (m := n * N) (T := T)
      ht hi) $$ [Hc1 HO Hat]
  · isplitr; · iapply (gs_inv m PT K (c, k)); iexact HG
    isplitl [Hc1]; · iexact Hc1
    isplitl [HO]; · iexact HO
    isplitr; · iapply (mayWait_k m PT K c k l O hl hO); iexact HG
    iexact Hat
  iintro %S ⟨%hS, HO, Hat, Hpay⟩
  rw [wp_ret]; imodintro
  iapply h
  isplitr; · iexact HG
  isplitr [HR]
  · unfold WSt
    isplitl [HO]; · iexists _; iexact HO
    isplitr [Hc]
    · iexists S
      isplitr
      · ipureintro
        have h2 := hS.2.1
        rw [duties_k m PT c k, hd] at h2
        exact h2
      isplitl [Hat]; · rw [Nat.succ_mul]; iexact Hat
      iapply (pay_join (payN m PT c (some k)) hS.1)
      isplitl [Hp]; · iexact Hp
      iapply (Entails.of_eq (bigSep_congr (s := S \ T) (fun d _ => payload_k m PT c k d)))
      iexact Hpay
    iexact Hc
  iexact HR

/-- The sixtieth wait. -/
theorem wait_last (c : Dev nD) (k : Fin 7) (hd : dutN (some k) = 60) (ha : amtN (some k) = N) (l : ℕ) (O : CellTallies nD τ sig Unit)
  (hl : lvK (some k) ≤ l) (hO : Above l O)
  {sem : DmaSem sig} (hs : SemLoc.dma sem = csem k)
  {sp sp' : Space} {s s' : Shape} {e e' : EltTy} {src : Memref sig .tc sp' s' e'} {dst : Memref sig .tc sp s e}
  {hsrc : src.view.WordExact} {hdst : dst.view.WordExact} (hcr : dst.view.dmaCredit = N)
  {R : sProp 𝕄} {Q : PUnit → sProp 𝕄}
    (h : iprop(GS m PT K ∗ WEnd m PT c k O ∗ R) ⊢ Q ⟨⟩) :
    iprop(GS m PT K ∗ WSt m PT c k O 59 ∗ R) ⊢ WP c (Prog.lift (.waitDma2 sem src dst hsrc hdst)) Q := by
  have ht : Util.total (Finsupp.single () N) = N := Util.total_single _ _
  have hi : (Finsupp.single () N).support.image (csem k, ·) ⊆ ({(csem k, ())} : Waits sig Unit) := image_single_subset (csem k) () N
  have hw : ∀ X : PUnit → sProp 𝕄, wpE (defs₀ (F := F)) 𝒱₀ (c : Thread nD τ) none Set.univ (.waitDma2 sem src dst hsrc hdst) X
      = waitSpec (c : Thread nD τ) Set.univ (csem k) N X := fun X => by
    rw [← hs, ← hcr]; exact wpE_waitDma2_eq 𝒱₀ (c : Thread nD τ) none Set.univ X
  simp only [Prog.lift, WP]
  iintro ⟨#HG, Hs, HR⟩
  unfold WSt
  icases Hs with ⟨⟨%W, HO⟩, ⟨%T, %hT, Hat, Hp⟩, Hc⟩
  ihave Hc := (Entails.of_eq (bigSep_Ico_succ_bot (show 59 < 60 by omega) (fun _ => (cred (tallyAt (kcell (c, k)) () N) : sProp 𝕄)))) $$ Hc
  icases Hc with ⟨Hc1, -⟩
  iapply (Rounds.wp_wait_rest_token 𝒱₀ ER (xRd m PT) (c : Thread nD τ) none (κ := K (c, k)) (sm := csem k) (k' := N)
      hw (Set.mem_univ _)
      () (O := O) (W := W) (R := 0) (m := 59 * N) (T := T)
      (by rw [expect_k m PT c k, hd, ha]; omega)) $$ [Hc1 HO Hat]
  · isplitr; · iapply (gs_inv m PT K (c, k)); iexact HG
    isplitl [Hc1]; · iexact Hc1
    isplitl [HO]; · iexact HO
    isplitr; · iapply (mayWait_k m PT K c k l O hl hO); iexact HG
    iexact Hat
  iintro ⟨HO, Hat, -, Hpay⟩
  rw [wp_ret]; imodintro
  iapply h
  isplitr; · iexact HG
  isplitr [HR]
  · unfold WEnd
    isplitl [HO]; · iexists _; iexact HO
    isplitl [Hat]; · iexact Hat
    iapply (pay_join (payN m PT c (some k)) hT)
    isplitl [Hp]; · iexact Hp
    iapply (Entails.of_eq (show bigSep ((xRd m PT).duties (kcell (c, k)) 0 \ T) (fun d => (xRd m PT).payload (kcell (c, k)) 0 d) = bigSep (Finset.range 60 \ T) (payN m PT c (some k)) by
      rw [duties_k m PT c k, hd]; exact bigSep_congr fun d _ => payload_k m PT c k d))
    iexact Hpay
  iexact HR

end Cert.KernelIdealProof

end
-- ==== Proof.KI.App.lean ====
/-
The kernel's parts at the buffers and semaphores the launch gives them.
-/
module

public import proofs.«01_k».proof.Proof.KI.Steps

@[expose] public section

set_option maxRecDepth 10000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

/-- A part of the kernel at the launch's buffers and semaphores. -/
abbrev app {β : Type 1} (f : (a0 : Memref sig .tc .vmem S1x1024x1024 .f32) → a0.IsWhole → (a1 : Memref sig .tc .hbm S1024x16384 .f32) → a1.IsWhole → (a2 : Memref sig .tc .vmem S1x1024x8x128 .f32) → a2.IsWhole → (a3 : Memref sig .tc .vmem S1x1024x8x128 .f32) → a3.IsWhole → (a4 : Memref sig .tc .hbm S16384x1024 .f32) → a4.IsWhole → (a5 : Memref sig .tc .vmem S1x1024x1024 .bf16) → a5.IsWhole → (a6 : Memref sig .tc .vmem S1024x1024 .f32) → a6.IsWhole → (a7 : Memref sig .tc .vmem S1024x1024 .f32) → a7.IsWhole → (a8 : Memref sig .tc .vmem S1024x1024 .bf16) → a8.IsWhole → (a9 : Memref sig .tc .vmem S1024x1024 .bf16) → a9.IsWhole → (a10 : Memref sig .tc .vmem S16x4x16x1024 .bf16) → a10.IsWhole → DmaSems sig S2 → DmaSems sig S_ → DmaSems sig S_ → DmaSems sig S_ → DmaSems sig S_ → β) : β :=
  f M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) cc0_scratch5 cc0_scratch6 cc0_scratch7 cc0_scratch8 cc0_scratch9

/-- A program after another: it is enough to run the first and, from what it leaves, the second. -/
theorem WP_seq (c : Dev nD) {α β : Type} {p : Prog (TpuEff nD τ sig (Elt F) Λ₀ .tc) α} {k : α → Prog (TpuEff nD τ sig (Elt F) Λ₀ .tc) β} {Q : β → sProp 𝕄}
    {P : sProp 𝕄} (h : P ⊢ WP c p (fun a => WP c (k a) Q)) : P ⊢ WP c (p >>= k) Q := h.trans (Entails.of_eq (WP_bind c p k Q).symm)

end Cert.KernelIdealProof

end
-- ==== Proof.KI.Mem.lean ====
/-
The loads and the stores, one rule each, in the form the other steps have, and families of resources renumbered.
-/
module

public import proofs.«01_k».proof.Proof.KI.App
public import Idealize.SL.BI.BigOpNat

@[expose] public section

set_option maxRecDepth 10000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (PT : Parts F) (K : Dev nD × Fin 7 → ℕ)

/-! ## Moving the acted-on resource to the front -/

/-- The second of the resources beside `P` moved to the front, -/
theorem rot1 {P X Y R G : sProp 𝕄} (h : iprop(P ∗ Y ∗ X ∗ R) ⊢ G) : iprop(P ∗ X ∗ Y ∗ R) ⊢ G := by
  refine BIBase.Entails.trans ?_ h
  iintro ⟨HP, HX, HY, HR⟩
  isplitl [HP]; · iexact HP
  isplitl [HY]; · iexact HY
  isplitl [HX]; · iexact HX
  iexact HR
/-- or the third, -/
theorem rot2 {P X Y Z R G : sProp 𝕄} (h : iprop(P ∗ Z ∗ X ∗ Y ∗ R) ⊢ G) : iprop(P ∗ X ∗ Y ∗ Z ∗ R) ⊢ G := by
  refine BIBase.Entails.trans ?_ h
  iintro ⟨HP, HX, HY, HZ, HR⟩
  isplitl [HP]; · iexact HP
  isplitl [HZ]; · iexact HZ
  isplitl [HX]; · iexact HX
  isplitl [HY]; · iexact HY
  iexact HR
/-- or the fourth. -/
theorem rot3 {P X Y Z U R G : sProp 𝕄} (h : iprop(P ∗ U ∗ X ∗ Y ∗ Z ∗ R) ⊢ G) : iprop(P ∗ X ∗ Y ∗ Z ∗ U ∗ R) ⊢ G := by
  refine BIBase.Entails.trans ?_ h
  iintro ⟨HP, HX, HY, HZ, HU, HR⟩
  isplitl [HP]; · iexact HP
  isplitl [HU]; · iexact HU
  isplitl [HX]; · iexact HX
  isplitl [HY]; · iexact HY
  isplitl [HZ]; · iexact HZ
  iexact HR
/-- Two of the resources taken as one, opened, -/
theorem asc {P X Y R G : sProp 𝕄} (h : iprop(P ∗ X ∗ Y ∗ R) ⊢ G) : iprop(P ∗ (X ∗ Y) ∗ R) ⊢ G := by
  refine BIBase.Entails.trans ?_ h
  iintro ⟨HP, ⟨HX, HY⟩, HR⟩
  isplitl [HP]; · iexact HP
  isplitl [HX]; · iexact HX
  isplitl [HY]; · iexact HY
  iexact HR
/-- and two taken as one. -/
theorem csa {P X Y R G : sProp 𝕄} (h : iprop(P ∗ (X ∗ Y) ∗ R) ⊢ G) : iprop(P ∗ X ∗ Y ∗ R) ⊢ G := by
  refine BIBase.Entails.trans ?_ h
  iintro ⟨HP, HX, HY, HR⟩
  isplitl [HP]; · iexact HP
  isplitl [HX HY]
  · isplitl [HX]; · iexact HX
    iexact HY
  iexact HR
/-- The front resource replaced by what it entails. -/
theorem conv {P X Y R G : sProp 𝕄} (e : X ⊢ Y) (h : iprop(P ∗ Y ∗ R) ⊢ G) : iprop(P ∗ X ∗ R) ⊢ G := by
  refine BIBase.Entails.trans ?_ h
  iintro ⟨HP, HX, HR⟩
  isplitl [HP]; · iexact HP
  isplitl [HX]; · iapply e; iexact HX
  iexact HR

/-! ## Loads and stores -/

/-- A load from a region that is held: it reads what the region holds. -/
theorem load_step (c : Dev nD) {cs : CoreSpace} {s : Shape} {e : EltTy} {mm : Memref sig .tc cs s e} {r : LoadRect s} {hl : mm.view.LoadsAt r}
    {S : Finset (Idx (mm.view.loc (c : Thread nD τ)))} {q : PosShare TreeShare} {f : Buf (Elt F) (mm.view.loc (c : Thread nD τ))}
    (hS : mm.view.setOn r.set ⊆ S) {P R : sProp 𝕄} {Q : (r.shape.Idx → Elt F e) → sProp 𝕄}
    (h : iprop(P ∗ (mm.view.loc (c : Thread nD τ) ↦[S]{q} f) ∗ R) ⊢ Q (mm.view.readAt (Elt F) r f)) :
    iprop(P ∗ (mm.view.loc (c : Thread nD τ) ↦[S]{q} f) ∗ R) ⊢ WP c (Prog.lift (.load mm r hl)) Q := by
  simp only [Prog.lift, WP]
  iintro ⟨HP, Hx, HR⟩
  iapply (wp_load 𝒱₀ (c : Thread nD τ) none Set.univ (m := mm) hS) $$ Hx
  iintro Hx
  rw [wp_ret]; imodintro
  iapply h
  isplitl [HP]; · iexact HP
  isplitl [Hx]; · iexact Hx
  iexact HR

/-- A store into a region held whole: it leaves the region written. -/
theorem store_step (c : Dev nD) {cs : CoreSpace} {s : Shape} {e : EltTy} {mm : Memref sig .tc cs s e} {r : Rect s} {w : r.shape.Idx → Elt F e}
    {hx : (mm.access r).Stores Finset.univ} {hm : Finset.univ = (Finset.univ : Finset r.shape.Idx) ∨ ∀ a, r.stride a = 1}
    {S : Finset (Idx ((mm.access r).loc (c : Thread nD τ)))} {f : Buf (Elt F) ((mm.access r).loc (c : Thread nD τ))}
    (hS : (mm.access r).setOn Finset.univ ⊆ S) {P R : sProp 𝕄} {Q : PUnit → sProp 𝕄}
    (h : iprop(P ∗ ((mm.access r).loc (c : Thread nD τ) ↦[S]{fullShare} ((mm.access r).write (Elt F) f w Finset.univ)) ∗ R) ⊢ Q ⟨⟩) :
    iprop(P ∗ ((mm.access r).loc (c : Thread nD τ) ↦[S]{fullShare} f) ∗ R) ⊢ WP c (Prog.lift (.store mm r w Finset.univ hx hm)) Q := by
  simp only [Prog.lift, WP]
  iintro ⟨HP, Hx, HR⟩
  iapply (wp_store 𝒱₀ (c : Thread nD τ) none Set.univ (m := mm) (r := r) (Mk := Finset.univ) hS) $$ Hx
  iintro Hx
  rw [wp_ret]; imodintro
  iapply h
  isplitl [HP]; · iexact HP
  isplitl [Hx]; · iexact Hx
  iexact HR

/-! ## Families of resources, renumbered -/

/-- A family over the numbers a function takes on a set is the family over the set. -/
theorem bigSep_image {I J : Type} [DecidableEq I] [DecidableEq J] {s : Finset I} (f : I → J) (hf : ∀ a ∈ s, ∀ b ∈ s, f a = f b → a = b) (Φ : J → sProp 𝕄) :
    bigSep (s.image f) Φ = bigSep s fun i => Φ (f i) := by
  induction s using Finset.induction_on with
  | empty => rw [Finset.image_empty, bigSep_empty, bigSep_empty]
  | insert a s ha ih =>
    rw [Finset.image_insert, bigSep_insert ha, bigSep_insert, ih fun x hx y hy => hf x (Finset.mem_insert_of_mem hx) y (Finset.mem_insert_of_mem hy)]
    intro h
    obtain ⟨x, hx, e⟩ := Finset.mem_image.mp h
    have := hf x (Finset.mem_insert_of_mem hx) a (Finset.mem_insert_self _ _) e
    exact ha (this ▸ hx)

/-- Zero to fifteen places on reaches every device, -/
theorem image_pl (c : Dev nD) : (Finset.range 16).image (pl c) = Finset.univ := by revert c; decide +kernel
/-- and none twice. -/
theorem pl_inj (c : Dev nD) : ∀ a ∈ Finset.range 16, ∀ b ∈ Finset.range 16, pl c a = pl c b → a = b := by revert c; decide +kernel

/-- A family over the devices, counted from one of them: its own member and the fifteen others'. -/
theorem bigSep_pl (c : Dev nD) (Φ : Dev nD → sProp 𝕄) :
    bigSep Finset.univ Φ = iprop(Φ c ∗ bigSep (Finset.range 15) fun r => Φ (pl c (r + 1))) := by
  have e : (Finset.Ico 1 16) = (Finset.range 15).image (· + 1) := by decide
  rw [← image_pl c, bigSep_image (pl c) (pl_inj c), show Finset.range 16 = Finset.Ico 0 16 from Finset.range_eq_Ico 16,
    bigSep_Ico_succ_bot (by decide : 0 < 16) (fun i => Φ (pl c i)), pl_0]
  refine congrArg (fun X : sProp 𝕄 => iprop(Φ c ∗ X)) ?_
  show bigSep (Finset.Ico 1 16) _ = _
  rw [e, bigSep_image (· + 1) (fun a _ b _ h => Nat.succ.inj h)]

/-- A run of numbers that begins at `a` is a run that begins at zero, `a` added. -/
theorem bigSep_shift (a n : ℕ) (Φ : ℕ → sProp 𝕄) : bigSep (Finset.Ico a (a + n)) Φ = bigSep (Finset.range n) fun r => Φ (a + r) := by
  have e : Finset.Ico a (a + n) = (Finset.range n).image (a + ·) := by
    ext x; simp only [Finset.mem_Ico, Finset.mem_image, Finset.mem_range]
    exact ⟨fun h => ⟨x - a, by omega, by omega⟩, fun ⟨y, hy, e⟩ => by omega⟩
  rw [e, bigSep_image (a + ·) (fun x _ y _ h => Nat.add_left_cancel h)]

/-- `a` times `b` numbers, block by block. -/
theorem bigSep_blocks (a b : ℕ) (Φ : ℕ → sProp 𝕄) :
    bigSep (Finset.range (a * b)) Φ = bigSep (Finset.range a) fun i => bigSep (Finset.range b) fun j => Φ (b * i + j) := by
  induction a with
  | zero => rw [Nat.zero_mul, Finset.range_zero, bigSep_empty, bigSep_empty]
  | succ a ih =>
    have e : Finset.range ((a + 1) * b) = Finset.Ico (b * a) (b * a + b) ∪ Finset.range (a * b) := by
      ext x; simp only [Finset.mem_union, Finset.mem_range, Finset.mem_Ico]
      have h1 : (a + 1) * b = b * a + b := by rw [Nat.add_mul, Nat.one_mul, Nat.mul_comm]
      have h2 : a * b = b * a := Nat.mul_comm _ _
      omega
    have hd : Disjoint (Finset.Ico (b * a) (b * a + b)) (Finset.range (a * b)) := by
      rw [Finset.disjoint_left]; intro x; simp only [Finset.mem_range, Finset.mem_Ico]
      have h2 : a * b = b * a := Nat.mul_comm _ _
      omega
    rw [e, bigSep_union hd, ih, bigSep_range_succ, bigSep_shift]
    rfl

/-- A family over a finite type is one over the numbers below its size. -/
theorem bigSep_fin (n : ℕ) (Φ : Fin n → sProp 𝕄) (Ψ : ℕ → sProp 𝕄) (h : ∀ i : Fin n, Φ i = Ψ i.val) :
    bigSep Finset.univ Φ = bigSep (Finset.range n) Ψ := by
  have e : Finset.range n = (Finset.univ : Finset (Fin n)).image (fun i : Fin n => i.val) := by
    ext x; simp only [Finset.mem_range, Finset.mem_image, Finset.mem_univ, true_and]
    exact ⟨fun h => ⟨⟨x, h⟩, rfl⟩, fun ⟨y, e⟩ => e ▸ y.isLt⟩
  rw [e, bigSep_image (fun i : Fin n => i.val) (fun a _ b _ h => Fin.ext h)]
  exact bigSep_congr fun i _ => h i

end Cert.KernelIdealProof

end
-- ==== Proof.KI.Local.lean ====
/-
The copies of the weights, and what a device does with the partial sums of one group: it stores them, and copies its own sliver into its own landing slot.
-/
module

public import proofs.«01_k».proof.Proof.KI.Mem

@[expose] public section

set_option maxRecDepth 10000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (PT : Parts F) (K : Dev nD × Fin 7 → ℕ)

/-! ## The two copies of the weights -/

/-- The library's rule for a copy at the copy of the first weight, -/
theorem ld0_raw (c : Dev nD) (fd : S1024x1024.Idx → Elt F .f32)
    {hsrc : (wqV c).view.WordExact} {hdst : M6.view.WordExact} {hsem : DmaTarget.Typed (nD := nD) .hbm (.dma ld0S) (.here (p := (c : Thread nD τ).2) M6)}
    {α : Type} {Q : α → sProp 𝕄} {k : PUnit → Prog (TpuEff nD τ sig (Elt F) Λ₀ .tc) α} :
    iprop(cellInv ER (xRd m PT) (K (c, 1)) (kcell (c, 1))
        ∗ ((wqV c).view.loc (c : Thread nD τ) ↦[(wqV c).view.set]{fullShare} m ((c : Thread nD τ).loc main_arg1))
        ∗ (M6.view.loc (c : Thread nD τ) ↦[M6.view.set]{fullShare} fd)
        ∗ dutyTok ER (kcell (c, 1)) 0 0 ∗ reached ER (kcell (c, 1)) 0)
      ⊢ iprop((cred (tallyAt (kcell (c, 1)) () NW) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (wqV c) (.here M6) (.dma ld0S) hsrc hdst hsem) k) Q) :=
  Rounds.wp_copy_pointsTo 𝒱₀ ER (xRd m PT) (c : Thread nD τ) none (κ := K (c, 1)) (r := 0) (d := 0)
    (by rw [duties_k m PT c 1]; exact Finset.mem_range.mpr (by decide)) () NW rfl (amount_k m PT c 1 0)
    (by rw [payload_1]; unfold ld0Pay
        iintro ⟨H, H'⟩
        isplitl [H]
        · ihave H := (Entails.of_eq (show (M6.view.loc (c : Thread nD τ) ↦[M6.view.set]{fullShare} (M6.view.write (Elt F) fd ((wqV c).view.read (Elt F) (m ((c : Thread nD τ).loc main_arg1))) Finset.univ) : sProp 𝕄)
              = (((c : Thread nD τ).loc cc0_scratch0) ↦{fullShare} WQ m c) by
            rw [View.set_whole]; exact congrArg (fun f => (((c : Thread nD τ).loc cc0_scratch0) ↦{fullShare} f : sProp 𝕄)) (View.write_whole_univ _ _ _))) $$ H
          iexact H
        iexact H')

/-- and at the copy of the second. -/
theorem ld1_raw (c : Dev nD) (fd : S1024x1024.Idx → Elt F .f32)
    {hsrc : (woV c).view.WordExact} {hdst : M7.view.WordExact} {hsem : DmaTarget.Typed (nD := nD) .hbm (.dma ld1S) (.here (p := (c : Thread nD τ).2) M7)}
    {α : Type} {Q : α → sProp 𝕄} {k : PUnit → Prog (TpuEff nD τ sig (Elt F) Λ₀ .tc) α} :
    iprop(cellInv ER (xRd m PT) (K (c, 2)) (kcell (c, 2))
        ∗ ((woV c).view.loc (c : Thread nD τ) ↦[(woV c).view.set]{fullShare} m ((c : Thread nD τ).loc main_arg4))
        ∗ (M7.view.loc (c : Thread nD τ) ↦[M7.view.set]{fullShare} fd)
        ∗ dutyTok ER (kcell (c, 2)) 0 0 ∗ reached ER (kcell (c, 2)) 0)
      ⊢ iprop((cred (tallyAt (kcell (c, 2)) () NW) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (woV c) (.here M7) (.dma ld1S) hsrc hdst hsem) k) Q) :=
  Rounds.wp_copy_pointsTo 𝒱₀ ER (xRd m PT) (c : Thread nD τ) none (κ := K (c, 2)) (r := 0) (d := 0)
    (by rw [duties_k m PT c 2]; exact Finset.mem_range.mpr (by decide)) () NW rfl (amount_k m PT c 2 0)
    (by rw [payload_2]; unfold ld1Pay
        iintro ⟨H, H'⟩
        isplitl [H]
        · ihave H := (Entails.of_eq (show (M7.view.loc (c : Thread nD τ) ↦[M7.view.set]{fullShare} (M7.view.write (Elt F) fd ((woV c).view.read (Elt F) (m ((c : Thread nD τ).loc main_arg4))) Finset.univ) : sProp 𝕄)
              = (((c : Thread nD τ).loc cc0_scratch1) ↦{fullShare} WO m c) by
            rw [View.set_whole]; exact congrArg (fun f => (((c : Thread nD τ).loc cc0_scratch1) ↦{fullShare} f : sProp 𝕄)) (View.write_whole_univ _ _ _))) $$ H
          iexact H
        iexact H')

/-- What the copy of the first weight takes, -/
def Ld0St (c : Dev nD) : sProp 𝕄 :=
  iprop((∃ f : S1024x1024.Idx → Elt F .f32, ((c : Thread nD τ).loc cc0_scratch0) ↦{fullShare} f)
    ∗ (((c : Thread nD τ).loc main_arg1) ↦[(wqV c).view.set]{fullShare} m ((c : Thread nD τ).loc main_arg1)) ∗ dutyTok ER (kcell (c, 1)) 0 0)
/-- and the copy of the second. -/
def Ld1St (c : Dev nD) : sProp 𝕄 :=
  iprop((∃ f : S1024x1024.Idx → Elt F .f32, ((c : Thread nD τ).loc cc0_scratch1) ↦{fullShare} f)
    ∗ (((c : Thread nD τ).loc main_arg4) ↦[(woV c).view.set]{fullShare} m ((c : Thread nD τ).loc main_arg4)) ∗ dutyTok ER (kcell (c, 2)) 0 0)

/-- The copy of the first weight starts, -/
theorem ld0_step (c : Dev nD)
    {hsrc : (wqV c).view.WordExact} {hdst : M6.view.WordExact} {hsem : DmaTarget.Typed (nD := nD) .hbm (.dma ld0S) (.here (p := (c : Thread nD τ).2) M6)}
    {R : sProp 𝕄} {Q : PUnit → sProp 𝕄} (h : iprop(GS m PT K ∗ cred (tallyAt (kcell (c, 1)) () NW) ∗ R) ⊢ Q ⟨⟩) :
    iprop(GS m PT K ∗ Ld0St m c ∗ R) ⊢ WP c (Prog.lift (.enqueueDma (wqV c) (.here M6) (.dma ld0S) hsrc hdst hsem)) Q := by
  simp only [Prog.lift, WP]
  iintro ⟨#HG, Hs, HR⟩
  unfold Ld0St
  icases Hs with ⟨⟨%f, Hd⟩, Hsrc, Ht⟩
  iapply (ld0_raw m PT K c f) $$ [Hd Hsrc Ht]
  · isplitr; · iapply (gs_inv m PT K (c, 1)); iexact HG
    isplitl [Hsrc]; · iexact Hsrc
    isplitl [Hd]; · rw [View.set_whole]; iexact Hd
    isplitl [Ht]; · iexact Ht
    iapply (gs_reached m PT K (c, 1)); iexact HG
  iintro Hc
  rw [wp_ret]; imodintro
  iapply h
  isplitr; · iexact HG
  isplitl [Hc]; · iexact Hc
  iexact HR

/-- and that of the second. -/
theorem ld1_step (c : Dev nD)
    {hsrc : (woV c).view.WordExact} {hdst : M7.view.WordExact} {hsem : DmaTarget.Typed (nD := nD) .hbm (.dma ld1S) (.here (p := (c : Thread nD τ).2) M7)}
    {R : sProp 𝕄} {Q : PUnit → sProp 𝕄} (h : iprop(GS m PT K ∗ cred (tallyAt (kcell (c, 2)) () NW) ∗ R) ⊢ Q ⟨⟩) :
    iprop(GS m PT K ∗ Ld1St m c ∗ R) ⊢ WP c (Prog.lift (.enqueueDma (woV c) (.here M7) (.dma ld1S) hsrc hdst hsem)) Q := by
  simp only [Prog.lift, WP]
  iintro ⟨#HG, Hs, HR⟩
  unfold Ld1St
  icases Hs with ⟨⟨%f, Hd⟩, Hsrc, Ht⟩
  iapply (ld1_raw m PT K c f) $$ [Hd Hsrc Ht]
  · isplitr; · iapply (gs_inv m PT K (c, 2)); iexact HG
    isplitl [Hsrc]; · iexact Hsrc
    isplitl [Hd]; · rw [View.set_whole]; iexact Hd
    isplitl [Ht]; · iexact Ht
    iapply (gs_reached m PT K (c, 2)); iexact HG
  iintro Hc
  rw [wp_ret]; imodintro
  iapply h
  isplitr; · iexact HG
  isplitl [Hc]; · iexact Hc
  iexact HR

/-- The only wait of a semaphore of one duty, the exchange's copies all still owed. -/
theorem one_wait (c : Dev nD) (k : Fin 7) (hd : dutN (some k) = 1) (ha : amtN (some k) = NW) (hl : lvK (some k) ≤ 1)
    {sem : DmaSem sig} (hs : SemLoc.dma sem = csem k)
    {sp sp' : Space} {s s' : Shape} {e e' : EltTy} {src : Memref sig .tc sp' s' e'} {dst : Memref sig .tc sp s e}
    {hsrc : src.view.WordExact} {hdst : dst.view.WordExact} (hcr : dst.view.dmaCredit = NW)
    {R : sProp 𝕄} {Q : PUnit → sProp 𝕄}
    (h : iprop(GS m PT K ∗ ((∃ W, owes (c : Thread nD τ) (OA c 0) W) ∗ atPos ER (kcell (c, k)) (0 + 1) ∅ 0 ∗ payN m PT c (some k) 0) ∗ R) ⊢ Q ⟨⟩) :
    iprop(GS m PT K ∗ ((∃ W, owes (c : Thread nD τ) (OA c 0) W) ∗ cred (tallyAt (kcell (c, k)) () NW) ∗ atPos ER (kcell (c, k)) 0 ∅ 0) ∗ R)
      ⊢ WP c (Prog.lift (.waitDma2 sem src dst hsrc hdst)) Q := by
  have hw : ∀ X : PUnit → sProp 𝕄, wpE (defs₀ (F := F)) 𝒱₀ (c : Thread nD τ) none Set.univ (.waitDma2 sem src dst hsrc hdst) X
      = waitSpec (c : Thread nD τ) Set.univ (csem k) NW X := fun X => by
    rw [← hs, ← hcr]; exact wpE_waitDma2_eq 𝒱₀ (c : Thread nD τ) none Set.univ X
  simp only [Prog.lift, WP]
  iintro ⟨#HG, ⟨⟨%W, HO⟩, Hc, Hat⟩, HR⟩
  iapply (Rounds.wp_wait_rest_token 𝒱₀ ER (xRd m PT) (c : Thread nD τ) none (κ := K (c, k)) (sm := csem k) (k' := NW)
      hw (Set.mem_univ _) () (O := OA c 0) (W := W) (R := 0) (m := 0) (T := ∅)
      (by rw [expect_k m PT c k, hd, ha]; omega)) $$ [Hc HO Hat]
  · isplitr; · iapply (gs_inv m PT K (c, k)); iexact HG
    isplitl [Hc]; · iexact Hc
    isplitl [HO]; · iexact HO
    isplitr; · iapply (mayWait_k m PT K c k 1 (OA c 0) hl (above_OA c 0)); iexact HG
    iexact Hat
  iintro ⟨HO, Hat, -, Hpay⟩
  rw [wp_ret]; imodintro
  iapply h
  isplitr; · iexact HG
  isplitr [HR]
  · isplitl [HO]; · iexists _; iexact HO
    isplitl [Hat]; · iexact Hat
    iapply (Entails.of_eq (show bigSep ((xRd m PT).duties (kcell (c, k)) 0 \ ∅) (fun d => (xRd m PT).payload (kcell (c, k)) 0 d) = payN m PT c (some k) 0 by
      rw [Finset.sdiff_empty, duties_k m PT c k, hd, Finset.range_one, bigSep_singleton]; exact payload_k m PT c k 0))
    iexact Hpay
  iexact HR

/-! ## The partial sums of one group -/

/-- The rows of group `g`, not yet computed, -/
def G3 (c : Dev nD) (g : Fin 4) : sProp 𝕄 := iprop(∃ f : S1024x1024.Idx → Elt F .bf16, ((c : Thread nD τ).loc cc0_scratch3) ↦[rowsG g]{fullShare} f)
/-- and computed; -/
def P3 (c : Dev nD) (g : Fin 4) : sProp 𝕄 := iprop(((c : Thread nD τ).loc cc0_scratch3) ↦[rowsG g]{fullShare} PT c)
/-- of these the rows the device reduces itself. -/
def Own3 (c : Dev nD) (g : Fin 4) : sProp 𝕄 := iprop(((c : Thread nD τ).loc cc0_scratch3) ↦[rowsP g c]{fullShare} PT c)
/-- The device's own slot of group `g`, before -/
def S4 (c : Dev nD) (g : Fin 4) : sProp 𝕄 := iprop(∃ f : S16x4x16x1024.Idx → Elt F .bf16, ((c : Thread nD τ).loc cc0_scratch4) ↦[slotR 0 g]{fullShare} f)
/-- and after. -/
def O4 (c : Dev nD) (g : Fin 4) : sProp 𝕄 := iprop(((c : Thread nD τ).loc cc0_scratch4) ↦[slotR 0 g]{fullShare} RS PT c)

/-- A block's rows are the sixteen devices' rows of it, -/
theorem rowsG_biUnion (g : Fin 4) : rowsG g = (Finset.univ : Finset (Dev nD)).biUnion (rowsP g) := by
  ext i
  rw [mem_rowsG, Finset.mem_biUnion]
  constructor
  · intro h
    exact ⟨⟨((i 0).val - 256 * g.val) / 16, by show _ < 16; omega⟩, Finset.mem_univ _, mem_rowsP.mpr (by show 256 * g.val + 16 * (((i 0).val - 256 * g.val) / 16) ≤ _ ∧ _ < 256 * g.val + 16 * (((i 0).val - 256 * g.val) / 16) + 16; omega)⟩
  · rintro ⟨p, -, hp⟩
    have := mem_rowsP.mp hp
    have hlt : p.val < 16 := p.isLt
    omega
/-- which do not meet. -/
theorem rowsP_disj (g : Fin 4) (p p' : Dev nD) (h : p ≠ p') : Disjoint (rowsP g p) (rowsP g p') := by
  rw [Finset.disjoint_left]
  intro i hi hi'
  have h1 := mem_rowsP.mp hi
  have h2 := mem_rowsP.mp hi'
  exact h (Fin.ext (by omega))

/-- Copy `r` of block `g` carries the rows that the device `r + 1` places on reduces. -/
theorem saPay_block (c : Dev nD) (g : Fin 4) (r : ℕ) (hr : r < 15) :
    saPay PT c (15 * g.val + r) = iprop(((c : Thread nD τ).loc cc0_scratch3) ↦[rowsP g (pl c (r + 1))]{fullShare} PT c) := by
  have h1 : gA (15 * g.val + r) = g := Fin.ext (by show (15 * g.val + r) / 15 % 4 = g.val; have := g.isLt; omega)
  have h2 : (15 * g.val + r) % 15 = r := by omega
  unfold saPay
  rw [h1]
  show iprop(((c : Thread nD τ).loc cc0_scratch3) ↦[rowsP g (pl c ((15 * g.val + r) % 15 + 1))]{fullShare} PT c) = _
  rw [h2]

/-- The computed rows of a group are the fifteen slivers to send and the device's own. -/
theorem P3_split (c : Dev nD) (g : Fin 4) : P3 PT c g = iprop(Own3 PT c g ∗ bigSep (Finset.Ico (15 * g.val) (15 * g.val + 15)) (saPay PT c)) := by
  unfold P3
  rw [rowsG_biUnion, pointsTo_biUnion _ _ (fun p _ p' _ h => rowsP_disj g p p' h),
    bigSep_pl c (fun p => iprop(((c : Thread nD τ).loc cc0_scratch3) ↦[rowsP g p]{fullShare} PT c)), bigSep_shift]
  exact congrArg (fun X : sProp 𝕄 => iprop(Own3 PT c g ∗ X)) (bigSep_congr fun r hr => (saPay_block PT c g r (Finset.mem_range.mp hr)).symm)

/-- Storing the group's values. -/
theorem rowsG_write (c : Dev nD) (g : Fin 4) (f : S1024x1024.Idx → Elt F .bf16) (w : S256x1024.Idx → Elt F .bf16)
    (hw : ∀ (a : Fin 256) (b : Fin 1024), w (ix2 a b) = PT c (ix2 (n0 := 1024) (n1 := 1024) ⟨256 * g.val + a.val, by have := g.isLt; have := a.isLt; omega⟩ b))
    (i : S1024x1024.Idx) (hi : i ∈ rowsG g) :
    (M9.access (Rect.unit (s := S1024x1024) ![256 * g.val, 0] S256x1024.size (rowsG_inb g)) : View sig .tc .vmem S256x1024 .bf16).write (Elt F) f w Finset.univ i = PT c i := by
  have hi' : i ∈ (M9.access (Rect.unit (s := S1024x1024) ![256 * g.val, 0] S256x1024.size (rowsG_inb g)) : View sig .tc .vmem S256x1024 .bf16).set := by
    rw [show (M9.access (Rect.unit (s := S1024x1024) ![256 * g.val, 0] S256x1024.size (rowsG_inb g)) : View sig .tc .vmem S256x1024 .bf16).set = rowsG g from View.set_slice_whole _ _]; exact hi
  obtain ⟨x, -, rfl⟩ := Finset.mem_map.mp hi'
  rw [View.write_emb_of_mem _ _ (Finset.mem_univ _)]
  obtain ⟨a, b, rfl⟩ : ∃ a b, x = ix2 (n0 := 256) (n1 := 1024) a b := ⟨x 0, x 1, eq_ix2 x⟩
  refine (hw a b).trans (congrArg (PT c) ?_)
  funext d
  refine Fin.ext ?_
  refine Eq.trans ?_ (Rect.emb_apply _ _ d).symm
  fin_cases d
  · show 256 * g.val + a.val = 256 * g.val + 1 * a.val; omega
  · show b.val = 0 + 1 * b.val; omega

/-- A store of the device's own rows of a block into its own slot leaves what the slot is to hold. -/
theorem slot_write (c : Dev nD) (g : Fin 4) (f : S16x4x16x1024.Idx → Elt F .bf16) (w : S1x1x16x1024.Idx → Elt F .bf16)
    (hw : ∀ (a : Fin 16) (b : Fin 1024), w (ix4 0 0 a b) = PT c (ix2 (n0 := 1024) (n1 := 1024) ⟨256 * g.val + 16 * c.val + a.val, by
      have := g.isLt; have := a.isLt; have : c.val < 16 := c.isLt; omega⟩ b))
    (i : S16x4x16x1024.Idx) (hi : i ∈ slotR 0 g) :
    (M10.access (Rect.unit (s := S16x4x16x1024) ![0, g.val, 0, 0] S1x1x16x1024.size (slotR_inb 0 g)) : View sig .tc .vmem S1x1x16x1024 .bf16).write (Elt F) f w Finset.univ i = RS PT c i := by
  have hi' : i ∈ (M10.access (Rect.unit (s := S16x4x16x1024) ![0, g.val, 0, 0] S1x1x16x1024.size (slotR_inb 0 g)) : View sig .tc .vmem S1x1x16x1024 .bf16).set := by
    rw [show (M10.access (Rect.unit (s := S16x4x16x1024) ![0, g.val, 0, 0] S1x1x16x1024.size (slotR_inb 0 g)) : View sig .tc .vmem S1x1x16x1024 .bf16).set = slotR 0 g from View.set_slice_whole _ _]; exact hi
  obtain ⟨x, -, rfl⟩ := Finset.mem_map.mp hi'
  rw [View.write_emb_of_mem _ _ (Finset.mem_univ _)]
  obtain ⟨z0, z1, a, b, rfl⟩ : ∃ z0 z1 a b, x = ix4 (n0 := 1) (n1 := 1) (n2 := 16) (n3 := 1024) z0 z1 a b := ⟨x 0, x 1, x 2, x 3, eq_ix4 x⟩
  obtain rfl : z0 = 0 := Subsingleton.elim _ _
  obtain rfl : z1 = 0 := Subsingleton.elim _ _
  have e : (M10.access (Rect.unit (s := S16x4x16x1024) ![0, g.val, 0, 0] S1x1x16x1024.size (slotR_inb 0 g)) : View sig .tc .vmem S1x1x16x1024 .bf16).emb (ix4 (n0 := 1) (n1 := 1) (n2 := 16) (n3 := 1024) 0 0 a b)
      = ix4 (n0 := 16) (n1 := 4) (n2 := 16) (n3 := 1024) 0 g a b := by
    funext d
    refine Fin.ext ?_
    refine (Rect.emb_apply _ _ d).trans ?_
    fin_cases d
    · show 0 + 1 * 0 = 0; omega
    · show g.val + 1 * 0 = g.val; omega
    · show 0 + 1 * a.val = a.val; omega
    · show 0 + 1 * b.val = b.val; omega
  rw [e]
  refine (hw a b).trans ?_
  show PT c _ = PT (pl c 0) _
  rw [pl_0]

/-- A load of one block's rows before they are computed. -/
theorem rows_load (c : Dev nD) (g : Fin 4) {hl : M9.view.LoadsAt (Rect.unit (s := S1024x1024) ![256 * g.val, 0] S256x1024.size (rowsG_inb g)).toLoadRect}
    {R : sProp 𝕄} {Q : (S256x1024.Idx → Elt F .bf16) → sProp 𝕄} (h : ∀ v, iprop(GS m PT K ∗ G3 c g ∗ R) ⊢ Q v) :
    iprop(GS m PT K ∗ G3 c g ∗ R) ⊢ WP c (Prog.lift (.load M9 (Rect.unit (s := S1024x1024) ![256 * g.val, 0] S256x1024.size (rowsG_inb g)).toLoadRect hl)) Q := by
  iintro ⟨HP, Hx, HR⟩
  unfold G3
  icases Hx with ⟨%f, Hx⟩
  iapply (load_step (P := GS m PT K) (R := R) c (mm := M9) (S := rowsG g) (f := f) (Finset.map_refl (s := _)).le ?_)
  · refine BIBase.Entails.trans ?_ (h _)
    iintro ⟨HP, Hx, HR⟩
    isplitl [HP]; · iexact HP
    isplitl [Hx]; · unfold G3; iexists f; iexact Hx
    iexact HR
  isplitl [HP]; · iexact HP
  isplitl [Hx]; · iexact Hx
  iexact HR

/-- The store of one block's rows, computed. -/
theorem rows_store (c : Dev nD) (g : Fin 4) {w : S256x1024.Idx → Elt F .bf16}
    {hx : (M9.access (Rect.unit (s := S1024x1024) ![256 * g.val, 0] S256x1024.size (rowsG_inb g))).Stores Finset.univ}
    {hm : Finset.univ = (Finset.univ : Finset (Rect.unit (s := S1024x1024) ![256 * g.val, 0] S256x1024.size (rowsG_inb g)).shape.Idx) ∨ ∀ a, (Rect.unit (s := S1024x1024) ![256 * g.val, 0] S256x1024.size (rowsG_inb g)).stride a = 1}
    (hw : ∀ (a : Fin 256) (b : Fin 1024), w (ix2 a b) = PT c (ix2 (n0 := 1024) (n1 := 1024) ⟨256 * g.val + a.val, by have := g.isLt; have := a.isLt; omega⟩ b))
    {R : sProp 𝕄} {Q : PUnit → sProp 𝕄} (h : iprop(GS m PT K ∗ P3 PT c g ∗ R) ⊢ Q ⟨⟩) :
    iprop(GS m PT K ∗ G3 c g ∗ R) ⊢ WP c (Prog.lift (.store M9 (Rect.unit (s := S1024x1024) ![256 * g.val, 0] S256x1024.size (rowsG_inb g)) w Finset.univ hx hm)) Q := by
  iintro ⟨HP, Hx, HR⟩
  unfold G3
  icases Hx with ⟨%f, Hx⟩
  iapply (store_step (P := GS m PT K) (R := R) c (mm := M9) (r := Rect.unit (s := S1024x1024) ![256 * g.val, 0] S256x1024.size (rowsG_inb g)) (S := rowsG g) (f := f) (View.set_slice_whole _ _).le ?_)
  · refine BIBase.Entails.trans ?_ h
    iintro ⟨HP, Hx, HR⟩
    isplitl [HP]; · iexact HP
    isplitl [Hx]
    · unfold P3
      iapply (Entails.of_eq (pointsTo_congr (rowsG_write PT c g f w hw)))
      iexact Hx
    iexact HR
  isplitl [HP]; · iexact HP
  isplitl [Hx]; · iexact Hx
  iexact HR

/-- The load of the rows the device reduces itself reads the partial sums. -/
theorem own_load (c : Dev nD) (g : Fin 4) {hl : M9.view.LoadsAt (Rect.unit (s := S1024x1024) (k0_off3 c (BitVec.ofNat 32 (256 * g.val))) S16x1024.size (k0_off3_inb c g)).toLoadRect}
    {R : sProp 𝕄} {Q : (S16x1024.Idx → Elt F .bf16) → sProp 𝕄}
    (h : ∀ v : S16x1024.Idx → Elt F .bf16, (∀ (a : Fin 16) (b : Fin 1024), v (ix2 a b) = PT c (ix2 (n0 := 1024) (n1 := 1024) ⟨256 * g.val + 16 * c.val + a.val, by
      have := g.isLt; have := a.isLt; have : c.val < 16 := c.isLt; omega⟩ b)) → iprop(GS m PT K ∗ P3 PT c g ∗ R) ⊢ Q v) :
    iprop(GS m PT K ∗ P3 PT c g ∗ R) ⊢ WP c (Prog.lift (.load M9 (Rect.unit (s := S1024x1024) (k0_off3 c (BitVec.ofNat 32 (256 * g.val))) S16x1024.size (k0_off3_inb c g)).toLoadRect hl)) Q := by
  have e := k0_off3_eq c g
  unfold P3
  refine load_step c (mm := M9) (S := rowsG g) (f := PT c) ?_ (h _ fun a b => ?_)
  · refine (Finset.map_refl (s := _)).le.trans ?_

    refine (congrArg (fun r : Rect S1024x1024 => r.set) (Rect.unit_congr e _ (rowsP_inb g c))).le.trans ?_
    intro i hi
    rw [rowsG_biUnion]
    exact Finset.mem_biUnion.mpr ⟨c, Finset.mem_univ _, hi⟩
  · refine congrArg (PT c) ?_
    funext d
    refine Fin.ext ?_
    refine (Rect.emb_apply _ _ d).trans ?_
    fin_cases d
    · exact congrArg₂ (· + ·) (congrFun e 0) (one_mul a.val)
    · exact (congrArg₂ (· + ·) (congrFun e 1) (one_mul b.val)).trans (Nat.zero_add _)

/-- A load of the device's own slot before it is filled. -/
theorem slot_load (c : Dev nD) (g : Fin 4) {hl : M10.view.LoadsAt (Rect.unit (s := S16x4x16x1024) ![0, g.val, 0, 0] S1x1x16x1024.size (slotR_inb 0 g)).toLoadRect}
    {R : sProp 𝕄} {Q : (S1x1x16x1024.Idx → Elt F .bf16) → sProp 𝕄} (h : ∀ v, iprop(GS m PT K ∗ S4 c g ∗ R) ⊢ Q v) :
    iprop(GS m PT K ∗ S4 c g ∗ R) ⊢ WP c (Prog.lift (.load M10 (Rect.unit (s := S16x4x16x1024) ![0, g.val, 0, 0] S1x1x16x1024.size (slotR_inb 0 g)).toLoadRect hl)) Q := by
  iintro ⟨HP, Hx, HR⟩
  unfold S4
  icases Hx with ⟨%f, Hx⟩
  iapply (load_step (P := GS m PT K) (R := R) c (mm := M10) (S := slotR 0 g) (f := f) (Finset.map_refl (s := _)).le ?_)
  · refine BIBase.Entails.trans ?_ (h _)
    iintro ⟨HP, Hx, HR⟩
    isplitl [HP]; · iexact HP
    isplitl [Hx]; · unfold S4; iexists f; iexact Hx
    iexact HR
  isplitl [HP]; · iexact HP
  isplitl [Hx]; · iexact Hx
  iexact HR

/-- The store that fills it. -/
theorem slot_store (c : Dev nD) (g : Fin 4) {w : S1x1x16x1024.Idx → Elt F .bf16}
    {hx : (M10.access (Rect.unit (s := S16x4x16x1024) ![0, g.val, 0, 0] S1x1x16x1024.size (slotR_inb 0 g))).Stores Finset.univ}
    {hm : Finset.univ = (Finset.univ : Finset (Rect.unit (s := S16x4x16x1024) ![0, g.val, 0, 0] S1x1x16x1024.size (slotR_inb 0 g)).shape.Idx) ∨ ∀ a, (Rect.unit (s := S16x4x16x1024) ![0, g.val, 0, 0] S1x1x16x1024.size (slotR_inb 0 g)).stride a = 1}
    (hw : ∀ (a : Fin 16) (b : Fin 1024), w (ix4 0 0 a b) = PT c (ix2 (n0 := 1024) (n1 := 1024) ⟨256 * g.val + 16 * c.val + a.val, by
      have := g.isLt; have := a.isLt; have : c.val < 16 := c.isLt; omega⟩ b))
    {R : sProp 𝕄} {Q : PUnit → sProp 𝕄} (h : iprop(GS m PT K ∗ O4 PT c g ∗ R) ⊢ Q ⟨⟩) :
    iprop(GS m PT K ∗ S4 c g ∗ R) ⊢ WP c (Prog.lift (.store M10 (Rect.unit (s := S16x4x16x1024) ![0, g.val, 0, 0] S1x1x16x1024.size (slotR_inb 0 g)) w Finset.univ hx hm)) Q := by
  iintro ⟨HP, Hx, HR⟩
  unfold S4
  icases Hx with ⟨%f, Hx⟩
  iapply (store_step (P := GS m PT K) (R := R) c (mm := M10) (r := Rect.unit (s := S16x4x16x1024) ![0, g.val, 0, 0] S1x1x16x1024.size (slotR_inb 0 g)) (S := slotR 0 g) (f := f) (View.set_slice_whole _ _).le ?_)
  · refine BIBase.Entails.trans ?_ h
    iintro ⟨HP, Hx, HR⟩
    isplitl [HP]; · iexact HP
    isplitl [Hx]
    · unfold O4
      iapply (Entails.of_eq (pointsTo_congr (slot_write PT c g f w hw)))
      iexact Hx
    iexact HR
  isplitl [HP]; · iexact HP
  isplitl [Hx]; · iexact Hx
  iexact HR

end Cert.KernelIdealProof

end
-- ==== Proof.KI.Vals.lean ====
/-
What one device computes, block of rows by block of rows.
-/
module

public import proofs.«01_k».proof.Proof.KI.Local
public import Idealize.ShloMosaic.Lib.ValueLayout

@[expose] public section

set_option maxRecDepth 10000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (PT : Parts F) (K : Dev nD × Fin 7 → ℕ)

/-! ## The values -/

/-- The 256 rows of block `g`. -/
def qRow (g : Fin 4) (q : S1024x1024.Idx → Elt F .bf16) : Vec F S256x1024 .bf16 := fun i =>
  q (ix2 (n0 := 1024) (n1 := 1024) ⟨256 * g.val + (i 0).val, by have h1 := g.isLt; have h2 : (i 0).val < 256 := (i 0).isLt; omega⟩ (i 1))

/-- The mask of one block of rows, as the kernel adds it: zero on the blocks of the diagonal and the mask's value off them. -/
def biasB : FVec F S256x256 .f32 :=
  k0_pay8 (F := F) (iota .tc S256x256 32 [0] iota_S256x256_d0_w32) 64#32 k0_pay5 k0_pay6 k0_pay7

variable (kv vv : FVec F S1024x8x128 .bf16) (wv : FVec F S1024x1024 .bf16) (B : FVec F S256x256 .f32) (q : Vec F S256x1024 .bf16)

/-- The partial sums of the first block of rows, -/
def ch0 : FVec F S256x1024 .bf16 :=
  k0_pay20 kv vv wv B q (k0_pay9 kv vv B q) (k0_pay10 kv vv B q) (k0_pay14 (k0_pay12 kv vv B q) (k0_pay13 kv B q)) (k0_pay15 kv vv B q) (k0_pay16 kv vv B q)
    (k0_pay18 kv vv B q) (k0_pay19 kv B q)
/-- of the second, -/
def ch1 : FVec F S256x1024 .bf16 :=
  k0_pay39 vv wv (k0_pay23 kv vv B q) (k0_pay27 vv (k0_pay24 kv B q) (k0_pay25 kv B q) (k0_pay26 (F := F))) (k0_pay28 kv vv q (k0_pay22 B)) (k0_pay29 kv vv q (k0_pay22 B))
    (k0_pay33 vv (k0_pay30 kv q (k0_pay22 B)) (k0_pay31 kv q (k0_pay22 B)) (k0_pay32 (F := F))) (k0_pay34 kv vv q (k0_pay22 B)) (k0_pay35 kv vv q (k0_pay22 B))
    (k0_pay36 kv q (k0_pay22 B)) (k0_pay37 kv q (k0_pay22 B)) (k0_pay38 (F := F))
/-- of the third, -/
def ch2 : FVec F S256x1024 .bf16 :=
  k0_pay51 kv vv wv q (k0_pay41 B) (k0_pay43 vv (k0_pay41 B) (k0_pay42 kv q)) (k0_pay44 kv vv q (k0_pay41 B)) (k0_pay45 kv vv q (k0_pay41 B))
    (k0_pay47 vv (k0_pay41 B) (k0_pay46 kv q)) (k0_pay48 kv vv q (k0_pay41 B)) (k0_pay49 kv vv q (k0_pay41 B)) (k0_pay50 kv q)
/-- and of the fourth. -/
def ch3 : FVec F S256x1024 .bf16 :=
  k0_pay70 wv (k0_pay54 kv vv B q) (k0_pay58 (k0_pay56 kv B q) (k0_pay57 kv vv B q)) (k0_pay59 kv vv q (k0_pay53 B)) (k0_pay60 kv vv q (k0_pay53 B))
    (k0_pay64 (k0_pay62 kv q (k0_pay53 B)) (k0_pay63 kv vv q (k0_pay53 B))) (k0_pay65 kv vv q (k0_pay53 B)) (k0_pay66 kv vv q (k0_pay53 B))
    (k0_pay68 kv q (k0_pay53 B)) (k0_pay69 kv vv q (k0_pay53 B))

/-- Block `g`'s. -/
def chG (g : Fin 4) (Q : S1024x1024.Idx → Elt F .bf16) : FVec F S256x1024 .bf16 :=
  match g with
  | 0 => ch0 kv vv wv biasB (qRow 0 Q)
  | 1 => ch1 kv vv wv biasB (qRow 1 Q)
  | 2 => ch2 kv vv wv biasB (qRow 2 Q)
  | 3 => ch3 kv vv wv biasB (qRow 3 Q)

/-- A device's partial sums: from its activations, its two slices of the weights, its keys and its values. -/
def partOf (xb : Vec F S1x1024x1024 .f32) (wq : Vec F S1024x1024 .f32) (kb vb : Vec F S1x1024x8x128 .f32) (wo : Vec F S1024x1024 .f32) : S1024x1024.Idx → Elt F .bf16 := fun i =>
  chG (k0_pay2 kb) (k0_pay3 vb) (k0_pay4 wo) ⟨(i 0).val / 256, by have h : (i 0).val < 1024 := (i 0).isLt; omega⟩ (k0_pay1 xb wq)
    (ix2 (n0 := 256) (n1 := 1024) ⟨(i 0).val % 256, by omega⟩ (i 1))

/-- Row `a` of block `g` of the partial sums is row `a` of what that block computes. -/
theorem partOf_block (xb : Vec F S1x1024x1024 .f32) (wq : Vec F S1024x1024 .f32) (kb vb : Vec F S1x1024x8x128 .f32) (wo : Vec F S1024x1024 .f32) (g : Fin 4) (a : Fin 256) (b : Fin 1024)
    (h : 256 * g.val + a.val < 1024) :
    partOf xb wq kb vb wo (ix2 (n0 := 1024) (n1 := 1024) ⟨256 * g.val + a.val, h⟩ b) = chG (k0_pay2 kb) (k0_pay3 vb) (k0_pay4 wo) g (k0_pay1 xb wq) (ix2 a b) := by
  unfold partOf
  have e1 : (⟨(256 * g.val + a.val) / 256, by omega⟩ : Fin 4) = g := Fin.ext (by show (256 * g.val + a.val) / 256 = g.val; have := a.isLt; omega)
  have e2 : (⟨(256 * g.val + a.val) % 256, by omega⟩ : Fin 256) = a := Fin.ext (by show (256 * g.val + a.val) % 256 = a.val; have := a.isLt; omega)
  show chG _ _ _ (⟨(256 * g.val + a.val) / 256, _⟩ : Fin 4) _ (ix2 (⟨(256 * g.val + a.val) % 256, _⟩ : Fin 256) b) = _
  rw [e1, e2]

/-- The sliver's rows laid into the slot's shape. -/
theorem slot_cast (v : S16x1024.Idx → Elt F .bf16) (h : S16x1024.ShapeCasts S1x1x16x1024) (a : Fin 16) (b : Fin 1024) : shapeCast S1x1x16x1024 v h (ix4 0 0 a b) = v (ix2 a b) :=
  shapeCast_apply v h _ _ (by
    rw [Shape.rowMajor_val_four, Shape.rowMajor_val_two]
    show a.val * 1024 + b.val = ((0 * 1 + 0) * 16 + a.val) * 1024 + b.val
    omega)

end Cert.KernelIdealProof

end
-- ==== Proof.KI.PartsG.lean ====
/-
The parts that compute: a block of queries read, a block of rows stored, the own slot filled, the first copies of the group out.
-/
module

public import proofs.«01_k».proof.Proof.KI.Vals

@[expose] public section

set_option maxRecDepth 10000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (PT : Parts F) (K : Dev nD × Fin 7 → ℕ)

/-- The scaled queries, at rest. -/
def QB (c : Dev nD) (Qf : S1024x1024.Idx → Elt F .bf16) : sProp 𝕄 := iprop(((c : Thread nD τ).loc cc0_scratch2) ↦{fullShare} Qf)

/-- The load of a block of rows of the scaled queries. -/
theorem q_load (c : Dev nD) (g : Fin 4) {Qf : S1024x1024.Idx → Elt F .bf16} {hl : M8.view.LoadsAt (Rect.unit (s := S1024x1024) ![256 * g.val, 0] S256x1024.size (rowsG_inb g)).toLoadRect}
    {R : sProp 𝕄} {Q : (S256x1024.Idx → Elt F .bf16) → sProp 𝕄} (h : iprop(GS m PT K ∗ QB c Qf ∗ R) ⊢ Q (qRow g Qf)) :
    iprop(GS m PT K ∗ QB c Qf ∗ R) ⊢ WP c (Prog.lift (.load M8 (Rect.unit (s := S1024x1024) ![256 * g.val, 0] S256x1024.size (rowsG_inb g)).toLoadRect hl)) Q := by
  have e : M8.view.readAt (Elt F) (Rect.unit (s := S1024x1024) ![256 * g.val, 0] S256x1024.size (rowsG_inb g)).toLoadRect Qf = qRow g Qf := by
    funext i
    have h1 : (i 0).val < 256 := (i 0).isLt
    have h2 := g.isLt
    show Qf _ = Qf _
    refine congrArg Qf ?_
    rw [eq_ix2 (n0 := 1024) (n1 := 1024) (Memref.view M8 |>.emb _)]
    refine congrArg₂ ix2 (Fin.ext ?_) (Fin.ext ?_)
    · show 256 * g.val + 1 * (i 0).val = 256 * g.val + (i 0).val
      omega
    · show 0 + 1 * (i 1).val = (i 1).val
      omega
  unfold QB at h ⊢
  refine load_step c (mm := M8) (S := Finset.univ) (f := Qf) (Finset.subset_univ _) ?_
  rw [e]
  exact h

/-- A group computed and the device's own slot filled: the slivers that go out are ready to be sent. -/
theorem group_open (c : Dev nD) (g : Fin 4) (n k : ℕ) (hn : n = 15 * g.val) (hk : k = 15 * g.val + 15) {R G : sProp 𝕄}
    (h : iprop(GS m PT K ∗ StA PT c n k ∗ (Own3 PT c g ∗ O4 PT c g) ∗ R) ⊢ G) : iprop(GS m PT K ∗ O4 PT c g ∗ P3 PT c g ∗ StA PT c n n ∗ R) ⊢ G := by
  subst hn hk
  refine BIBase.Entails.trans ?_ h
  iintro ⟨HG, HO, HP, HS, HR⟩
  ihave HP := (Entails.of_eq (P3_split PT c g)) $$ HP
  icases HP with ⟨Hown, Hsl⟩
  unfold StA
  icases HS with ⟨Ho, Ht, Hc, -⟩
  isplitl [HG]; · iexact HG
  isplitl [Ho Ht Hc Hsl]
  · isplitl [Ho]; · iexact Ho
    isplitl [Ht]; · iexact Ht
    isplitl [Hc]; · iexact Hc
    iexact Hsl
  isplitl [Hown HO]
  · isplitl [Hown]; · iexact Hown
    iexact HO
  iexact HR

/-- Part 5. Only arithmetic. -/
theorem part5 (c : Dev nD) (v98 : IVec S256x256 32) (c64_i32 : BitVec 32) (v100 : IVec S256x256 32) (v103 : IVec S256x256 32) (v106 : IVec S256x256 32) {P : sProp 𝕄} {Q : (FVec F S256x256 .f32) → sProp 𝕄}
    (h : P ⊢ Q ((k0_pay8 (F := F) v98 c64_i32 v100 v103 v106))) : P ⊢ WP c (app (k0_part5 (F := F)) v98 c64_i32 v100 v103 v106) Q := by
  unfold app
  rw [k0_part5_eq_skeleton]
  unfold k0_part5_skel
  exact WP_pure c _ h

/-- Part 7. Only arithmetic. -/
theorem part7 (c : Dev nD) (v89 : FVec F S1024x8x128 .bf16) (v92 : FVec F S1024x8x128 .bf16) (v151 : FVec F S256x256 .f32) (v152 : Vec F S256x1024 .bf16) (v198 : FVec F S256x128 .f32) (v199 : FVec F S256x128 .f32) {P : sProp 𝕄} {Q : (Σ' (v200 : FVec F S256x128 .f32) (v216 : FVec F S256x128 .f32) (v232 : FVec F S256x128 .f32) (v246 : FVec F S256x128 .f32), FVec F S256x128 .f32) → sProp 𝕄}
    (h : P ⊢ Q (⟨k0_pay14 v198 v199, k0_pay15 v89 v92 v151 v152, k0_pay16 v89 v92 v151 v152, k0_pay18 v89 v92 v151 v152, k0_pay19 v89 v151 v152⟩)) : P ⊢ WP c (app (k0_part7 (F := F)) v89 v92 v151 v152 v198 v199) Q := by
  unfold app
  rw [k0_part7_eq_skeleton]
  unfold k0_part7_skel
  exact WP_pure c _ h

/-- Part 15. Only arithmetic. -/
theorem part15 (c : Dev nD) (v89 : FVec F S1024x8x128 .bf16) (v92 : FVec F S1024x8x128 .bf16) (v430 : Vec F S256x1024 .bf16) (v432 : FVec F S256x512 .f32) (v454 : FVec F S256x512 .f32) (v456 : FVec F S256x1 .f32) (v457 : FVec F S256x1 .f32) {P : sProp 𝕄} {Q : (Σ' (v464 : FVec F S256x128 .f32) (v480 : FVec F S256x128 .f32) (v496 : FVec F S256x128 .f32) (v502 : FVec F S256x512 .f32) (v504 : FVec F S256x1 .f32), FVec F S256x1 .f32) → sProp 𝕄}
    (h : P ⊢ Q (⟨k0_pay27 v92 v454 v456 v457, k0_pay28 v89 v92 v430 v432, k0_pay29 v89 v92 v430 v432, k0_pay30 v89 v430 v432, k0_pay31 v89 v430 v432, k0_pay32 (F := F)⟩)) : P ⊢ WP c (app (k0_part15 (F := F)) v89 v92 v430 v432 v454 v456 v457) Q := by
  unfold app
  rw [k0_part15_eq_skeleton]
  unfold k0_part15_skel
  exact WP_pure c _ h

/-- Part 16. Only arithmetic. -/
theorem part16 (c : Dev nD) (v89 : FVec F S1024x8x128 .bf16) (v92 : FVec F S1024x8x128 .bf16) (v430 : Vec F S256x1024 .bf16) (v432 : FVec F S256x512 .f32) (v502 : FVec F S256x512 .f32) (v504 : FVec F S256x1 .f32) (v505 : FVec F S256x1 .f32) {P : sProp 𝕄} {Q : (Σ' (v512 : FVec F S256x128 .f32) (v528 : FVec F S256x128 .f32) (v544 : FVec F S256x128 .f32) (v550 : FVec F S256x512 .f32) (v552 : FVec F S256x1 .f32), FVec F S256x1 .f32) → sProp 𝕄}
    (h : P ⊢ Q (⟨k0_pay33 v92 v502 v504 v505, k0_pay34 v89 v92 v430 v432, k0_pay35 v89 v92 v430 v432, k0_pay36 v89 v430 v432, k0_pay37 v89 v430 v432, k0_pay38 (F := F)⟩)) : P ⊢ WP c (app (k0_part16 (F := F)) v89 v92 v430 v432 v502 v504 v505) Q := by
  unfold app
  rw [k0_part16_eq_skeleton]
  unfold k0_part16_skel
  exact WP_pure c _ h

/-- Part 23. Only arithmetic. -/
theorem part23 (c : Dev nD) (v89 : FVec F S1024x8x128 .bf16) (v92 : FVec F S1024x8x128 .bf16) (v710 : Vec F S256x1024 .bf16) (v712 : FVec F S256x768 .f32) (v716 : FVec F S256x768 .f32) {P : sProp 𝕄} {Q : (Σ' (v728 : FVec F S256x128 .f32) (v744 : FVec F S256x128 .f32) (v760 : FVec F S256x128 .f32), FVec F S256x768 .f32) → sProp 𝕄}
    (h : P ⊢ Q (⟨k0_pay43 v92 v712 v716, k0_pay44 v89 v92 v710 v712, k0_pay45 v89 v92 v710 v712, k0_pay46 v89 v710⟩)) : P ⊢ WP c (app (k0_part23 (F := F)) v89 v92 v710 v712 v716) Q := by
  unfold app
  rw [k0_part23_eq_skeleton]
  unfold k0_part23_skel
  exact WP_pure c _ h

/-- Part 24. Only arithmetic. -/
theorem part24 (c : Dev nD) (v89 : FVec F S1024x8x128 .bf16) (v92 : FVec F S1024x8x128 .bf16) (v710 : Vec F S256x1024 .bf16) (v712 : FVec F S256x768 .f32) (v764 : FVec F S256x768 .f32) {P : sProp 𝕄} {Q : (Σ' (v776 : FVec F S256x128 .f32) (v792 : FVec F S256x128 .f32) (v808 : FVec F S256x128 .f32), FVec F S256x768 .f32) → sProp 𝕄}
    (h : P ⊢ Q (⟨k0_pay47 v92 v712 v764, k0_pay48 v89 v92 v710 v712, k0_pay49 v89 v92 v710 v712, k0_pay50 v89 v710⟩)) : P ⊢ WP c (app (k0_part24 (F := F)) v89 v92 v710 v712 v764) Q := by
  unfold app
  rw [k0_part24_eq_skeleton]
  unfold k0_part24_skel
  exact WP_pure c _ h

/-- Part 32. Only arithmetic. -/
theorem part32 (c : Dev nD) (v89 : FVec F S1024x8x128 .bf16) (v92 : FVec F S1024x8x128 .bf16) (v990 : Vec F S256x1024 .bf16) (v992 : FVec F S256x1024 .f32) (v1018 : FVec F S256x1 .f32) (v1022 : FVec F S256x128 .f32) {P : sProp 𝕄} {Q : (Σ' (v1024 : FVec F S256x128 .f32) (v1040 : FVec F S256x128 .f32) (v1056 : FVec F S256x128 .f32) (v1066 : FVec F S256x1 .f32), FVec F S256x128 .f32) → sProp 𝕄}
    (h : P ⊢ Q (⟨k0_pay58 v1018 v1022, k0_pay59 v89 v92 v990 v992, k0_pay60 v89 v92 v990 v992, k0_pay62 v89 v990 v992, k0_pay63 v89 v92 v990 v992⟩)) : P ⊢ WP c (app (k0_part32 (F := F)) v89 v92 v990 v992 v1018 v1022) Q := by
  unfold app
  rw [k0_part32_eq_skeleton]
  unfold k0_part32_skel
  exact WP_pure c _ h

/-- Part 33. Only arithmetic. -/
theorem part33 (c : Dev nD) (v89 : FVec F S1024x8x128 .bf16) (v92 : FVec F S1024x8x128 .bf16) (v990 : Vec F S256x1024 .bf16) (v992 : FVec F S256x1024 .f32) (v1066 : FVec F S256x1 .f32) (v1070 : FVec F S256x128 .f32) {P : sProp 𝕄} {Q : (Σ' (v1072 : FVec F S256x128 .f32) (v1088 : FVec F S256x128 .f32) (v1104 : FVec F S256x128 .f32) (v1114 : FVec F S256x1 .f32), FVec F S256x128 .f32) → sProp 𝕄}
    (h : P ⊢ Q (⟨k0_pay64 v1066 v1070, k0_pay65 v89 v92 v990 v992, k0_pay66 v89 v92 v990 v992, k0_pay68 v89 v990 v992, k0_pay69 v89 v92 v990 v992⟩)) : P ⊢ WP c (app (k0_part33 (F := F)) v89 v92 v990 v992 v1066 v1070) Q := by
  unfold app
  rw [k0_part33_eq_skeleton]
  unfold k0_part33_skel
  exact WP_pure c _ h

/-- Part 6. The first block of queries is read. -/
theorem part6 (c : Dev nD) (v89 : FVec F S1024x8x128 .bf16) (v92 : FVec F S1024x8x128 .bf16) (v151 : FVec F S256x256 .f32) (Qf : S1024x1024.Idx → Elt F .bf16) {R : sProp 𝕄} {Q : (Σ' (v152 : Vec F S256x1024 .bf16) (v168 : FVec F S256x128 .f32) (v184 : FVec F S256x128 .f32) (v198 : FVec F S256x128 .f32), FVec F S256x128 .f32) → sProp 𝕄}
    (h : iprop(GS m PT K ∗ QB c Qf ∗ R) ⊢ Q ((fun v152 => (⟨v152, k0_pay9 v89 v92 v151 v152, k0_pay10 v89 v92 v151 v152, k0_pay12 v89 v92 v151 v152, k0_pay13 v89 v151 v152⟩ : Σ' (v152 : Vec F S256x1024 .bf16) (v168 : FVec F S256x128 .f32) (v184 : FVec F S256x128 .f32) (v198 : FVec F S256x128 .f32), FVec F S256x128 .f32)) (qRow 0 Qf))) :
    iprop(GS m PT K ∗ QB c Qf ∗ R) ⊢ WP c (app (k0_part6 (F := F)) v89 v92 v151) Q := by
  unfold app
  rw [k0_part6_eq_skeleton]
  unfold k0_part6_skel
  refine WP_seq c (q_load m PT K c 0 ?_)
  exact WP_pure c _ h

/-- Part 14. The last copies of a group, and the next block of queries. -/
theorem part14 (c : Dev nD) (v2 : BitVec 32) (v89 : FVec F S1024x8x128 .bf16) (v92 : FVec F S1024x8x128 .bf16) (v151 : FVec F S256x256 .f32) (Qf : S1024x1024.Idx → Elt F .bf16) {R : sProp 𝕄} {Q : (Σ' (v430 : Vec F S256x1024 .bf16) (v432 : FVec F S256x512 .f32) (v448 : FVec F S256x128 .f32) (v454 : FVec F S256x512 .f32) (v456 : FVec F S256x1 .f32), FVec F S256x1 .f32) → sProp 𝕄}
    (h : iprop(GS m PT K ∗ QB c Qf ∗ StA PT c 15 15 ∗ R) ⊢ Q ((fun v430 => (⟨v430, k0_pay22 v151, k0_pay23 v89 v92 v151 v430, k0_pay24 v89 v151 v430, k0_pay25 v89 v151 v430, k0_pay26 (F := F)⟩ : Σ' (v430 : Vec F S256x1024 .bf16) (v432 : FVec F S256x512 .f32) (v448 : FVec F S256x128 .f32) (v454 : FVec F S256x512 .f32) (v456 : FVec F S256x1 .f32), FVec F S256x1 .f32)) (qRow 1 Qf))) :
    iprop(GS m PT K ∗ StA PT c 13 15 ∗ QB c Qf ∗ R) ⊢ WP c (app (k0_part14 (F := F)) c v2 v89 v92 v151) Q := by
  unfold app
  rw [k0_part14_eq_skeleton]
  unfold k0_part14_skel
  refine WP_seq c (sendA_step m PT K c 13 15 (by decide) (by decide) _ (Fin.ext (k0_dev29_eq c)) ?_)
  refine WP_seq c (sendA_step m PT K c 14 15 (by decide) (by decide) _ (Fin.ext (k0_dev30_eq c)) ?_)
  refine rot1 ?_
  refine WP_seq c (q_load m PT K c 1 ?_)
  exact WP_pure c _ h

/-- Part 22. The last copies of a group, and the next block of queries. -/
theorem part22 (c : Dev nD) (v2 : BitVec 32) (v89 : FVec F S1024x8x128 .bf16) (v151 : FVec F S256x256 .f32) (Qf : S1024x1024.Idx → Elt F .bf16) {R : sProp 𝕄} {Q : (Σ' (v710 : Vec F S256x1024 .bf16) (v712 : FVec F S256x768 .f32), FVec F S256x768 .f32) → sProp 𝕄}
    (h : iprop(GS m PT K ∗ QB c Qf ∗ StA PT c 30 30 ∗ R) ⊢ Q ((fun v710 => (⟨v710, k0_pay41 v151, k0_pay42 v89 v710⟩ : Σ' (v710 : Vec F S256x1024 .bf16) (v712 : FVec F S256x768 .f32), FVec F S256x768 .f32)) (qRow 2 Qf))) :
    iprop(GS m PT K ∗ StA PT c 27 30 ∗ QB c Qf ∗ R) ⊢ WP c (app (k0_part22 (F := F)) c v2 v89 v151) Q := by
  unfold app
  rw [k0_part22_eq_skeleton]
  unfold k0_part22_skel
  refine WP_seq c (sendA_step m PT K c 27 30 (by decide) (by decide) _ (Fin.ext (k0_dev43_eq c)) ?_)
  refine WP_seq c (sendA_step m PT K c 28 30 (by decide) (by decide) _ (Fin.ext (k0_dev44_eq c)) ?_)
  refine WP_seq c (sendA_step m PT K c 29 30 (by decide) (by decide) _ (Fin.ext (k0_dev45_eq c)) ?_)
  refine rot1 ?_
  refine WP_seq c (q_load m PT K c 2 ?_)
  exact WP_pure c _ h

/-- Part 31. The last copies of a group, and the next block of queries. -/
theorem part31 (c : Dev nD) (v89 : FVec F S1024x8x128 .bf16) (v92 : FVec F S1024x8x128 .bf16) (v151 : FVec F S256x256 .f32) (v982 : BitVec 32) (c16_i32_716 : BitVec 32) (Qf : S1024x1024.Idx → Elt F .bf16) {R : sProp 𝕄} {Q : (Σ' (v990 : Vec F S256x1024 .bf16) (v992 : FVec F S256x1024 .f32) (v1008 : FVec F S256x128 .f32) (v1018 : FVec F S256x1 .f32), FVec F S256x128 .f32) → sProp 𝕄}
    (h : iprop(GS m PT K ∗ QB c Qf ∗ StA PT c 45 45 ∗ R) ⊢ Q ((fun v990 => (⟨v990, k0_pay53 v151, k0_pay54 v89 v92 v151 v990, k0_pay56 v89 v151 v990, k0_pay57 v89 v92 v151 v990⟩ : Σ' (v990 : Vec F S256x1024 .bf16) (v992 : FVec F S256x1024 .f32) (v1008 : FVec F S256x128 .f32) (v1018 : FVec F S256x1 .f32), FVec F S256x128 .f32)) (qRow 3 Qf))) :
    iprop(GS m PT K ∗ StA PT c 44 45 ∗ QB c Qf ∗ R) ⊢ WP c (app (k0_part31 (F := F)) c v89 v92 v151 v982 c16_i32_716) Q := by
  unfold app
  rw [k0_part31_eq_skeleton]
  unfold k0_part31_skel
  refine WP_seq c (sendA_step m PT K c 44 45 (by decide) (by decide) _ (Fin.ext (k0_dev60_eq c)) ?_)
  refine rot1 ?_
  refine WP_seq c (q_load m PT K c 3 ?_)
  exact WP_pure c _ h

/-- Part 8. The first block of rows is stored; the own rows are read back. -/
theorem part8 (c : Dev nD) (v2 : BitVec 32) (v89 : FVec F S1024x8x128 .bf16) (v92 : FVec F S1024x8x128 .bf16) (v97 : FVec F S1024x1024 .bf16) (v151 : FVec F S256x256 .f32) (v152 : Vec F S256x1024 .bf16) (v168 : FVec F S256x128 .f32) (v184 : FVec F S256x128 .f32) (v200 : FVec F S256x128 .f32) (v216 : FVec F S256x128 .f32) (v232 : FVec F S256x128 .f32) (v246 : FVec F S256x128 .f32) (v247 : FVec F S256x128 .f32) (hw : ∀ (a : Fin 256) (b : Fin 1024), (k0_pay20 v89 v92 v97 v151 v152 v168 v184 v200 v216 v232 v246 v247 : S256x1024.Idx → Elt F .bf16) (ix2 a b) = PT c (ix2 (n0 := 1024) (n1 := 1024) ⟨256 * ((0 : Fin 4) : ℕ) + a.val, by have := ((0 : Fin 4)).isLt; have := a.isLt; omega⟩ b)) {R : sProp 𝕄} {Q : (Vec F S16x1024 .bf16) → sProp 𝕄}
    (h : ∀ v : S16x1024.Idx → Elt F .bf16, (∀ (a : Fin 16) (b : Fin 1024), v (ix2 a b) = PT c (ix2 (n0 := 1024) (n1 := 1024) ⟨256 * ((0 : Fin 4) : ℕ) + 16 * c.val + a.val, by have := ((0 : Fin 4)).isLt; have := a.isLt; have : c.val < 16 := c.isLt; omega⟩ b)) → iprop(GS m PT K ∗ P3 PT c 0 ∗ R) ⊢ Q v) :
    iprop(GS m PT K ∗ G3 c 0 ∗ R) ⊢ WP c (app (k0_part8 (F := F)) c v2 v89 v92 v97 v151 v152 v168 v184 v200 v216 v232 v246 v247) Q := by
  unfold app
  rw [k0_part8_eq_skeleton]
  unfold k0_part8_skel
  refine WP_seq c (rows_load m PT K c 0 fun _ => ?_)
  refine WP_seq c (rows_store m PT K c 0 hw ?_)
  refine WP_seq c (own_load m PT K c 0 fun v hv => ?_)
  exact WP_pure c _ (h v hv)

/-- Part 9. The own slot of the first group is filled and the first copies go out. -/
theorem part9 (c : Dev nD) (v2 : BitVec 32) (v291 : Vec F S16x1024 .bf16) (hv : (∀ (a : Fin 16) (b : Fin 1024), v291 (ix2 a b) = PT c (ix2 (n0 := 1024) (n1 := 1024) ⟨256 * ((0 : Fin 4) : ℕ) + 16 * c.val + a.val, by have := ((0 : Fin 4)).isLt; have := a.isLt; have : c.val < 16 := c.isLt; omega⟩ b))) {R : sProp 𝕄} {Q : (Σ' (v314 : BitVec 32), BitVec 32) → sProp 𝕄}
    (h : ∀ a, iprop(GS m PT K ∗ StA PT c 2 15 ∗ (Own3 PT c 0 ∗ O4 PT c 0) ∗ R) ⊢ Q a) :
    iprop(GS m PT K ∗ S4 c 0 ∗ P3 PT c 0 ∗ StA PT c 0 0 ∗ R) ⊢ WP c (app (k0_part9 (F := F)) c v2 v291) Q := by
  unfold app
  rw [k0_part9_eq_skeleton]
  unfold k0_part9_skel
  refine WP_seq c (slot_load m PT K c 0 fun _ => ?_)
  refine WP_seq c (slot_store m PT K c 0 (fun a b => (slot_cast _ _ a b).trans (hv a b)) ?_)
  refine group_open m PT K c 0 0 15 (by decide) (by decide) ?_
  refine WP_seq c (sendA_step m PT K c 0 15 (by decide) (by decide) _ (Fin.ext (k0_dev16_eq c)) ?_)
  refine WP_seq c (sendA_step m PT K c 1 15 (by decide) (by decide) _ (Fin.ext (k0_dev17_eq c)) ?_)
  exact WP_pure c _ (h _)

/-- Part 17. A block of rows is stored, the own slot filled, and the first copy of the group goes out. -/
theorem part17 (c : Dev nD) (v2 : BitVec 32) (v92 : FVec F S1024x8x128 .bf16) (v97 : FVec F S1024x1024 .bf16) (v448 : FVec F S256x128 .f32) (v464 : FVec F S256x128 .f32) (v480 : FVec F S256x128 .f32) (v496 : FVec F S256x128 .f32) (v512 : FVec F S256x128 .f32) (v528 : FVec F S256x128 .f32) (v544 : FVec F S256x128 .f32) (v550 : FVec F S256x512 .f32) (v552 : FVec F S256x1 .f32) (v553 : FVec F S256x1 .f32) (hw : ∀ (a : Fin 256) (b : Fin 1024), (k0_pay39 v92 v97 v448 v464 v480 v496 v512 v528 v544 v550 v552 v553 : S256x1024.Idx → Elt F .bf16) (ix2 a b) = PT c (ix2 (n0 := 1024) (n1 := 1024) ⟨256 * ((1 : Fin 4) : ℕ) + a.val, by have := ((1 : Fin 4)).isLt; have := a.isLt; omega⟩ b)) {R : sProp 𝕄} {Q : (Σ' (v585 : BitVec 32), BitVec 32) → sProp 𝕄}
    (h : ∀ a, iprop(GS m PT K ∗ StA PT c 16 30 ∗ (Own3 PT c 1 ∗ O4 PT c 1) ∗ R) ⊢ Q a) :
    iprop(GS m PT K ∗ G3 c 1 ∗ S4 c 1 ∗ StA PT c 15 15 ∗ R) ⊢ WP c (app (k0_part17 (F := F)) c v2 v92 v97 v448 v464 v480 v496 v512 v528 v544 v550 v552 v553) Q := by
  unfold app
  rw [k0_part17_eq_skeleton]
  unfold k0_part17_skel
  refine WP_seq c (rows_load m PT K c 1 fun _ => ?_)
  refine WP_seq c (rows_store m PT K c 1 hw ?_)
  refine WP_seq c (own_load m PT K c 1 fun v hv => ?_)
  refine rot1 ?_
  refine WP_seq c (slot_load m PT K c 1 fun _ => ?_)
  refine WP_seq c (slot_store m PT K c 1 (fun a b => (slot_cast _ _ a b).trans (hv a b)) ?_)
  refine group_open m PT K c 1 15 30 (by decide) (by decide) ?_
  refine WP_seq c (sendA_step m PT K c 15 30 (by decide) (by decide) _ (Fin.ext (k0_dev31_eq c)) ?_)
  exact WP_pure c _ (h _)

/-- Part 34. A block of rows is stored, the own slot filled, and the first copy of the group goes out. -/
theorem part34 (c : Dev nD) (v2 : BitVec 32) (v97 : FVec F S1024x1024 .bf16) (v1008 : FVec F S256x128 .f32) (v1024 : FVec F S256x128 .f32) (v1040 : FVec F S256x128 .f32) (v1056 : FVec F S256x128 .f32) (v1072 : FVec F S256x128 .f32) (v1088 : FVec F S256x128 .f32) (v1104 : FVec F S256x128 .f32) (v1114 : FVec F S256x1 .f32) (v1118 : FVec F S256x128 .f32) (hw : ∀ (a : Fin 256) (b : Fin 1024), (k0_pay70 v97 v1008 v1024 v1040 v1056 v1072 v1088 v1104 v1114 v1118 : S256x1024.Idx → Elt F .bf16) (ix2 a b) = PT c (ix2 (n0 := 1024) (n1 := 1024) ⟨256 * ((3 : Fin 4) : ℕ) + a.val, by have := ((3 : Fin 4)).isLt; have := a.isLt; omega⟩ b)) {R : sProp 𝕄} {Q : (Σ' (v1145 : BitVec 32), BitVec 32) → sProp 𝕄}
    (h : ∀ a, iprop(GS m PT K ∗ StA PT c 46 60 ∗ (Own3 PT c 3 ∗ O4 PT c 3) ∗ R) ⊢ Q a) :
    iprop(GS m PT K ∗ G3 c 3 ∗ S4 c 3 ∗ StA PT c 45 45 ∗ R) ⊢ WP c (app (k0_part34 (F := F)) c v2 v97 v1008 v1024 v1040 v1056 v1072 v1088 v1104 v1114 v1118) Q := by
  unfold app
  rw [k0_part34_eq_skeleton]
  unfold k0_part34_skel
  refine WP_seq c (rows_load m PT K c 3 fun _ => ?_)
  refine WP_seq c (rows_store m PT K c 3 hw ?_)
  refine WP_seq c (own_load m PT K c 3 fun v hv => ?_)
  refine rot1 ?_
  refine WP_seq c (slot_load m PT K c 3 fun _ => ?_)
  refine WP_seq c (slot_store m PT K c 3 (fun a b => (slot_cast _ _ a b).trans (hv a b)) ?_)
  refine group_open m PT K c 3 45 60 (by decide) (by decide) ?_
  refine WP_seq c (sendA_step m PT K c 45 60 (by decide) (by decide) _ (Fin.ext (k0_dev61_eq c)) ?_)
  exact WP_pure c _ (h _)

/-- Part 25. The third block of rows is stored and the own rows read back. -/
theorem part25 (c : Dev nD) (v2 : BitVec 32) (v89 : FVec F S1024x8x128 .bf16) (v92 : FVec F S1024x8x128 .bf16) (v97 : FVec F S1024x1024 .bf16) (v710 : Vec F S256x1024 .bf16) (v712 : FVec F S256x768 .f32) (v728 : FVec F S256x128 .f32) (v744 : FVec F S256x128 .f32) (v760 : FVec F S256x128 .f32) (v776 : FVec F S256x128 .f32) (v792 : FVec F S256x128 .f32) (v808 : FVec F S256x128 .f32) (v812 : FVec F S256x768 .f32) (hw : ∀ (a : Fin 256) (b : Fin 1024), (k0_pay51 v89 v92 v97 v710 v712 v728 v744 v760 v776 v792 v808 v812 : S256x1024.Idx → Elt F .bf16) (ix2 a b) = PT c (ix2 (n0 := 1024) (n1 := 1024) ⟨256 * ((2 : Fin 4) : ℕ) + a.val, by have := ((2 : Fin 4)).isLt; have := a.isLt; omega⟩ b)) {R : sProp 𝕄} {Q : (FVec F S1x1x16x1024 .bf16) → sProp 𝕄}
    (h : ∀ w : S1x1x16x1024.Idx → Elt F .bf16, (∀ (a : Fin 16) (b : Fin 1024), w (ix4 0 0 a b) = PT c (ix2 (n0 := 1024) (n1 := 1024) ⟨256 * ((2 : Fin 4) : ℕ) + 16 * c.val + a.val, by have := ((2 : Fin 4)).isLt; have := a.isLt; have : c.val < 16 := c.isLt; omega⟩ b)) → iprop(GS m PT K ∗ S4 c 2 ∗ P3 PT c 2 ∗ R) ⊢ Q w) :
    iprop(GS m PT K ∗ G3 c 2 ∗ S4 c 2 ∗ R) ⊢ WP c (app (k0_part25 (F := F)) c v2 v89 v92 v97 v710 v712 v728 v744 v760 v776 v792 v808 v812) Q := by
  unfold app
  rw [k0_part25_eq_skeleton]
  unfold k0_part25_skel
  refine WP_seq c (rows_load m PT K c 2 fun _ => ?_)
  refine WP_seq c (rows_store m PT K c 2 hw ?_)
  refine WP_seq c (own_load m PT K c 2 fun v hv => ?_)
  refine rot1 ?_
  refine WP_seq c (slot_load m PT K c 2 fun _ => ?_)
  exact WP_pure c _ (h _ fun a b => (slot_cast _ _ a b).trans (hv a b))

/-- Part 26. The own slot of the third group is filled and the first copies go out. -/
theorem part26 (c : Dev nD) (v2 : BitVec 32) (v854 : FVec F S1x1x16x1024 .bf16) (hv : (∀ (a : Fin 16) (b : Fin 1024), v854 (ix4 0 0 a b) = PT c (ix2 (n0 := 1024) (n1 := 1024) ⟨256 * ((2 : Fin 4) : ℕ) + 16 * c.val + a.val, by have := ((2 : Fin 4)).isLt; have := a.isLt; have : c.val < 16 := c.isLt; omega⟩ b))) {R : sProp 𝕄} {Q : PUnit → sProp 𝕄}
    (h : iprop(GS m PT K ∗ StA PT c 32 45 ∗ (Own3 PT c 2 ∗ O4 PT c 2) ∗ R) ⊢ Q ⟨⟩) :
    iprop(GS m PT K ∗ S4 c 2 ∗ P3 PT c 2 ∗ StA PT c 30 30 ∗ R) ⊢ WP c (app (k0_part26 (F := F)) c v2 v854) Q := by
  unfold app
  rw [k0_part26_eq_skeleton]
  unfold k0_part26_skel
  refine WP_seq c (slot_store m PT K c 2 hv ?_)
  refine group_open m PT K c 2 30 45 (by decide) (by decide) ?_
  refine WP_seq c (sendA_step m PT K c 30 45 (by decide) (by decide) _ (Fin.ext (k0_dev46_eq c)) ?_)
  refine WP_seq c (sendA_step m PT K c 31 45 (by decide) (by decide) _ (Fin.ext (k0_dev47_eq c)) ?_)
  exact WP_pure c _ h

end Cert.KernelIdealProof

end
-- ==== Proof.KI.PartsS.lean ====
/-
The start: weights on their way, every device ready, queries scaled, keys and values read.
-/
module

public import proofs.«01_k».proof.Proof.KI.PartsG

@[expose] public section

set_option maxRecDepth 10000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (PT : Parts F) (K : Dev nD × Fin 7 → ℕ)

/-- Asking for the device's number gives it. -/
theorem WP_dev (c : Dev nD) {P : sProp 𝕄} {Q : Dev nD → sProp 𝕄} (h : P ⊢ Q c) : P ⊢ WP c (Prog.lift .deviceId) Q := by
  simp only [Prog.lift, WP, wp_deviceId]
  rw [wp_ret]
  exact h.trans fupd_intro

/-- A load from a whole buffer, its value named. -/
theorem load_is (c : Dev nD) {cs : CoreSpace} {s : Shape} {e : EltTy} {mm : Memref sig .tc cs s e} {r : LoadRect s} {hl : mm.view.LoadsAt r}
    {f : Buf (Elt F) (mm.view.loc (c : Thread nD τ))} (v : r.shape.Idx → Elt F e) (ev : mm.view.readAt (Elt F) r f = v) {P R : sProp 𝕄} {Q : (r.shape.Idx → Elt F e) → sProp 𝕄}
    (h : iprop(P ∗ (mm.view.loc (c : Thread nD τ) ↦{fullShare} f) ∗ R) ⊢ Q v) :
    iprop(P ∗ (mm.view.loc (c : Thread nD τ) ↦{fullShare} f) ∗ R) ⊢ WP c (Prog.lift (.load mm r hl)) Q := by
  subst ev
  exact load_step c (Finset.subset_univ _) h

/-- A store into a whole buffer, what it leaves named. -/
theorem store_is (c : Dev nD) {cs : CoreSpace} {s : Shape} {e : EltTy} {mm : Memref sig .tc cs s e} {r : Rect s} {w : r.shape.Idx → Elt F e}
    {hx : (mm.access r).Stores Finset.univ} {hm : Finset.univ = (Finset.univ : Finset r.shape.Idx) ∨ ∀ a, r.stride a = 1}
    {f : Buf (Elt F) ((mm.access r).loc (c : Thread nD τ))} (v : Buf (Elt F) ((mm.access r).loc (c : Thread nD τ))) (ev : (mm.access r).write (Elt F) f w Finset.univ = v)
    {P R : sProp 𝕄} {Q : PUnit → sProp 𝕄} (h : iprop(P ∗ ((mm.access r).loc (c : Thread nD τ) ↦{fullShare} v) ∗ R) ⊢ Q ⟨⟩) :
    iprop(P ∗ ((mm.access r).loc (c : Thread nD τ) ↦{fullShare} f) ∗ R) ⊢ WP c (Prog.lift (.store mm r w Finset.univ hx hm)) Q := by
  subst ev
  exact store_step c (Finset.subset_univ _) h

/-- What a wait of the first kind needs: its credit and the place of its cell. -/
def Bar0 (c : Dev nD) : sProp 𝕄 := iprop(cred (tallyAt (kcell (c, 0)) () 15) ∗ atPos ER (kcell (c, 0)) 0 ∅ 0)
def Ow0 (c : Dev nD) : sProp 𝕄 := iprop(∃ W, owes (c : Thread nD τ) (OA c 0) W)
def Bar1 (c : Dev nD) : sProp 𝕄 := iprop(atPos ER (kcell (c, 0)) (0 + 1) ∅ 0 ∗ bigSep (Finset.range 15) (barPay (F := F) c))
def Cr1 (c : Dev nD) (k : Fin 7) : sProp 𝕄 := iprop(cred (tallyAt (kcell (c, k)) () NW))
def At0 (c : Dev nD) (k : Fin 7) : sProp 𝕄 := iprop(atPos ER (kcell (c, k)) 0 ∅ 0)
def At1 (c : Dev nD) (k : Fin 7) : sProp 𝕄 := iprop(atPos ER (kcell (c, k)) (0 + 1) ∅ 0)
/-- The three blocks the launch has fetched. -/
def X0 (c : Dev nD) (xb : S1x1024x1024.Idx → Elt F .f32) : sProp 𝕄 := iprop(((c : Thread nD τ).loc cc0_stg0_0) ↦{fullShare} xb)
def X2 (c : Dev nD) (kb : S1x1024x8x128.Idx → Elt F .f32) : sProp 𝕄 := iprop(((c : Thread nD τ).loc cc0_stg1_0) ↦{fullShare} kb)
def X3 (c : Dev nD) (vb : S1x1024x8x128.Idx → Elt F .f32) : sProp 𝕄 := iprop(((c : Thread nD τ).loc cc0_stg2_0) ↦{fullShare} vb)
/-- The scratch for the scaled queries, before. -/
def X8 (c : Dev nD) : sProp 𝕄 := iprop(∃ f : S1024x1024.Idx → Elt F .bf16, ((c : Thread nD τ).loc cc0_scratch2) ↦{fullShare} f)

/-- Part 1. The two copies of the weights are started; the first signals. -/
theorem part1 (c : Dev nD) {R : sProp 𝕄} {Q : (Σ' (d0 : Dev nD) (v2 : BitVec 32) (v11 : Sems sig S_), BitVec 32) → sProp 𝕄}
    (h : ∀ a b, iprop(GS m PT K ∗ SigSt c 3 ∗ Cr1 c 2 ∗ Cr1 c 1 ∗ R) ⊢ Q ⟨c, a, SemArray.scalar (sig.barrier 0 rfl), b⟩) :
    iprop(GS m PT K ∗ Ld0St m c ∗ Ld1St m c ∗ SigSt c 0 ∗ R) ⊢ WP c (app (k0_part1 (F := F))) Q := by
  unfold app
  rw [k0_part1_eq_skeleton]
  unfold k0_part1_skel
  refine WP_seq c (WP_dev c ?_)
  refine WP_seq c (ld0_step m PT K c ?_)
  refine rot1 ?_
  refine WP_seq c (ld1_step m PT K c ?_)
  refine rot2 ?_
  refine WP_seq c (sig_step m PT K c 0 (by decide) _ (Fin.ext (k0_dev1_eq c)) ?_)
  refine WP_seq c (sig_step m PT K c 1 (by decide) _ (Fin.ext (k0_dev2_eq c)) ?_)
  refine WP_seq c (sig_step m PT K c 2 (by decide) _ (Fin.ext (k0_dev3_eq c)) ?_)
  exact WP_pure c _ (h _ _)

/-- Part 2. More signals. -/
theorem part2 (c : Dev nD) (v2 : BitVec 32) (v26 : BitVec 32) {R : sProp 𝕄} {Q : (BitVec 32) → sProp 𝕄}
    (h : ∀ a, iprop(GS m PT K ∗ SigSt c 9 ∗ R) ⊢ Q a) :
    iprop(GS m PT K ∗ SigSt c 3 ∗ R) ⊢ WP c (app (k0_part2 (F := F)) c v2 (SemArray.scalar (sig.barrier 0 rfl)) v26) Q := by
  unfold app
  rw [k0_part2_eq_skeleton]
  unfold k0_part2_skel
  refine WP_seq c (sig_step m PT K c 3 (by decide) _ (Fin.ext (k0_dev4_eq c)) ?_)
  refine WP_seq c (sig_step m PT K c 4 (by decide) _ (Fin.ext (k0_dev5_eq c)) ?_)
  refine WP_seq c (sig_step m PT K c 5 (by decide) _ (Fin.ext (k0_dev6_eq c)) ?_)
  refine WP_seq c (sig_step m PT K c 6 (by decide) _ (Fin.ext (k0_dev7_eq c)) ?_)
  refine WP_seq c (sig_step m PT K c 7 (by decide) _ (Fin.ext (k0_dev8_eq c)) ?_)
  refine WP_seq c (sig_step m PT K c 8 (by decide) _ (Fin.ext (k0_dev9_eq c)) ?_)
  exact WP_pure c _ (h _)

/-- Part 3. The last signals, the wait for the other devices, and the activations read. -/
theorem part3 (c : Dev nD) (v2 : BitVec 32) (v50 : BitVec 32) (xb : S1x1024x1024.Idx → Elt F .f32) {R : sProp 𝕄} {Q : (Vec F S1x1024x1024 .f32) → sProp 𝕄}
    (h : iprop(GS m PT K ∗ X0 c xb ∗ Ow0 c ∗ Bar1 c ∗ R) ⊢ Q xb) :
    iprop(GS m PT K ∗ SigSt c 9 ∗ Bar0 c ∗ X0 c xb ∗ R) ⊢ WP c (app (k0_part3 (F := F)) c v2 (SemArray.scalar (sig.barrier 0 rfl)) v50) Q := by
  unfold app
  rw [k0_part3_eq_skeleton]
  unfold k0_part3_skel
  refine WP_seq c (sig_step m PT K c 9 (by decide) _ (Fin.ext (k0_dev10_eq c)) ?_)
  refine WP_seq c (sig_step m PT K c 10 (by decide) _ (Fin.ext (k0_dev11_eq c)) ?_)
  refine WP_seq c (sig_step m PT K c 11 (by decide) _ (Fin.ext (k0_dev12_eq c)) ?_)
  refine WP_seq c (sig_step m PT K c 12 (by decide) _ (Fin.ext (k0_dev13_eq c)) ?_)
  refine WP_seq c (sig_step m PT K c 13 (by decide) _ (Fin.ext (k0_dev14_eq c)) ?_)
  refine WP_seq c (sig_step m PT K c 14 (by decide) _ (Fin.ext (k0_dev15_eq c)) ?_)
  refine csa ?_
  refine WP_seq c (bar_wait_step m PT K c ?_)
  refine asc (rot2 ?_)
  unfold X0 at h ⊢
  refine WP_seq c (load_is c (mm := M0) (f := xb) _ (Memref.readAt_unit_zero (Elt F) cc0_stg0_0 (by decide) _ xb) ?_)
  exact WP_pure c _ h

/-- Part 4. The weights have come; the queries are scaled and kept; keys, values and the second weights are read. -/
theorem part4 (c : Dev nD) (v72 : Vec F S1x1024x1024 .f32) (kb vb : S1x1024x8x128.Idx → Elt F .f32) {R : sProp 𝕄} {Q : (Σ' (v89 : FVec F S1024x8x128 .bf16) (v92 : FVec F S1024x8x128 .bf16) (v97 : FVec F S1024x1024 .bf16) (v98 : IVec S256x256 32) (c64_i32 : BitVec 32) (v100 : IVec S256x256 32) (v103 : IVec S256x256 32), IVec S256x256 32) → sProp 𝕄}
    (h : iprop(GS m PT K ∗ Ow0 c ∗ At1 c 1 ∗ ld0Pay m c ∗ At1 c 2 ∗ ld1Pay m c ∗ QB c (k0_pay1 v72 (WQ m c)) ∗ X2 c kb ∗ X3 c vb ∗ R) ⊢ Q ⟨k0_pay2 kb, k0_pay3 vb, k0_pay4 (WO m c), iota .tc S256x256 32 [0] iota_S256x256_d0_w32, 64#32, k0_pay5, k0_pay6, k0_pay7⟩) :
    iprop(GS m PT K ∗ Ow0 c ∗ Cr1 c 1 ∗ At0 c 1 ∗ Cr1 c 2 ∗ At0 c 2 ∗ X8 c ∗ X2 c kb ∗ X3 c vb ∗ R) ⊢ WP c (app (k0_part4 (F := F)) c v72) Q := by
  unfold app
  rw [k0_part4_eq_skeleton]
  unfold k0_part4_skel
  refine BIBase.Entails.trans (Q := iprop(GS m PT K ∗ (Ow0 c ∗ Cr1 c 1 ∗ At0 c 1) ∗ (Cr1 c 2 ∗ At0 c 2) ∗ X8 c ∗ X2 c kb ∗ X3 c vb ∗ R)) ?_ ?_
  · iintro ⟨HG, H1, H2, H3, H4, H5, H6, H7, H8, HR⟩
    isplitl [HG]; · iexact HG
    isplitl [H1 H2 H3]
    · isplitl [H1]; · iexact H1
      isplitl [H2]; · iexact H2
      iexact H3
    isplitl [H4 H5]
    · isplitl [H4]; · iexact H4
      iexact H5
    isplitl [H6]; · iexact H6
    isplitl [H7]; · iexact H7
    isplitl [H8]; · iexact H8
    iexact HR
  refine WP_seq c (one_wait m PT K c 1 rfl rfl (by decide) (by exact rfl) (by exact rfl) ?_)
  refine BIBase.Entails.trans (Q := iprop(GS m PT K ∗ (((c : Thread nD τ).loc cc0_scratch0) ↦{fullShare} WQ m c) ∗ (((c : Thread nD τ).loc main_arg1) ↦[(wqV c).view.set]{fullShare} m ((c : Thread nD τ).loc main_arg1)) ∗ (Ow0 c ∗ Cr1 c 2 ∗ At0 c 2) ∗ At1 c 1 ∗ X8 c ∗ X2 c kb ∗ X3 c vb ∗ R)) ?_ ?_
  · unfold Ow0 At1 Cr1 At0
    iintro ⟨HG, ⟨H1, H2, H3⟩, ⟨H4, H5⟩, H6, H7, H8, HR⟩
    ihave H3 := (show payN m PT c (some 1) 0 ⊢ iprop((((c : Thread nD τ).loc cc0_scratch0) ↦{fullShare} WQ m c) ∗ ((c : Thread nD τ).loc main_arg1) ↦[(wqV c).view.set]{fullShare} m ((c : Thread nD τ).loc main_arg1)) from Entails.rfl) $$ H3
    icases H3 with ⟨H3, H9⟩
    isplitl [HG]; · iexact HG
    isplitl [H3]; · iexact H3
    isplitl [H9]; · iexact H9
    isplitl [H1 H4 H5]
    · isplitl [H1]; · iexact H1
      isplitl [H4]; · iexact H4
      iexact H5
    isplitl [H2]; · iexact H2
    isplitl [H6]; · iexact H6
    isplitl [H7]; · iexact H7
    isplitl [H8]; · iexact H8
    iexact HR
  refine WP_seq c (load_is c (mm := M6) (f := WQ m c) _ (Memref.readAt_unit_zero (Elt F) cc0_scratch0 (by decide) _ (WQ m c)) ?_)
  -- the scratch of the queries
  refine BIBase.Entails.trans (Q := iprop(∃ f : S1024x1024.Idx → Elt F .bf16, GS m PT K ∗ (((c : Thread nD τ).loc cc0_scratch2) ↦{fullShare} f) ∗ ((((c : Thread nD τ).loc cc0_scratch0) ↦{fullShare} WQ m c) ∗ (((c : Thread nD τ).loc main_arg1) ↦[(wqV c).view.set]{fullShare} m ((c : Thread nD τ).loc main_arg1)) ∗ (Ow0 c ∗ Cr1 c 2 ∗ At0 c 2) ∗ At1 c 1) ∗ X2 c kb ∗ X3 c vb ∗ R)) ?_ ?_
  · unfold X8
    iintro ⟨HG, H1, H2, H3, H4, ⟨%f, H5⟩, HR⟩
    iexists f
    isplitl [HG]; · iexact HG
    isplitl [H5]; · iexact H5
    isplitl [H1 H2 H3 H4]
    · isplitl [H1]; · iexact H1
      isplitl [H2]; · iexact H2
      isplitl [H3]; · iexact H3
      iexact H4
    iexact HR
  refine exists_elim fun f => ?_
  refine WP_seq c (load_step c (mm := M8) (S := Finset.univ) (f := f) (Finset.subset_univ _) ?_)
  refine WP_seq c (store_is c (mm := M8) (r := Rect.unit (s := S1024x1024) ![0, 0] S1024x1024.size inb_S1024x1024_S1024x1024_0_0) (f := f) _ (Memref.write_access_unit_zero_univ (Elt F) cc0_scratch2 (by decide) _ f (k0_pay1 v72 (WQ m c))) ?_)
  refine rot2 ?_
  unfold X2
  refine WP_seq c (load_is c (mm := M2) (f := kb) _ (Memref.readAt_unit_zero (Elt F) cc0_stg1_0 (by decide) _ kb) ?_)
  refine rot3 ?_
  unfold X3
  refine WP_seq c (load_is c (mm := M3) (f := vb) _ (Memref.readAt_unit_zero (Elt F) cc0_stg2_0 (by decide) _ vb) ?_)
  refine BIBase.Entails.trans (Q := iprop(GS m PT K ∗ (Ow0 c ∗ Cr1 c 2 ∗ At0 c 2) ∗ ((((c : Thread nD τ).loc cc0_scratch0) ↦{fullShare} WQ m c) ∗ (((c : Thread nD τ).loc main_arg1) ↦[(wqV c).view.set]{fullShare} m ((c : Thread nD τ).loc main_arg1)) ∗ At1 c 1 ∗ QB c (k0_pay1 v72 (WQ m c)) ∗ X2 c kb ∗ X3 c vb) ∗ R)) ?_ ?_
  · unfold QB X2 X3
    iintro ⟨HG, H1, H2, H3, ⟨H4, H5, H6, H7⟩, HR⟩
    isplitl [HG]; · iexact HG
    isplitl [H6]; · iexact H6
    isplitl [H1 H2 H3 H4 H5 H7]
    · isplitl [H4]; · iexact H4
      isplitl [H5]; · iexact H5
      isplitl [H7]; · iexact H7
      isplitl [H3]; · iexact H3
      isplitl [H2]; · iexact H2
      iexact H1
    iexact HR
  refine WP_seq c (one_wait m PT K c 2 rfl rfl (by decide) (by exact rfl) (by exact rfl) ?_)
  refine BIBase.Entails.trans (Q := iprop(GS m PT K ∗ (((c : Thread nD τ).loc cc0_scratch1) ↦{fullShare} WO m c) ∗ ((((c : Thread nD τ).loc main_arg4) ↦[(woV c).view.set]{fullShare} m ((c : Thread nD τ).loc main_arg4)) ∗ Ow0 c ∗ At1 c 2 ∗ ((((c : Thread nD τ).loc cc0_scratch0) ↦{fullShare} WQ m c) ∗ (((c : Thread nD τ).loc main_arg1) ↦[(wqV c).view.set]{fullShare} m ((c : Thread nD τ).loc main_arg1)) ∗ At1 c 1 ∗ QB c (k0_pay1 v72 (WQ m c)) ∗ X2 c kb ∗ X3 c vb)) ∗ R)) ?_ ?_
  · unfold Ow0 At1
    iintro ⟨HG, ⟨H1, H2, H3⟩, H4, HR⟩
    ihave H3 := (show payN m PT c (some 2) 0 ⊢ iprop((((c : Thread nD τ).loc cc0_scratch1) ↦{fullShare} WO m c) ∗ ((c : Thread nD τ).loc main_arg4) ↦[(woV c).view.set]{fullShare} m ((c : Thread nD τ).loc main_arg4)) from Entails.rfl) $$ H3
    icases H3 with ⟨H3, H9⟩
    isplitl [HG]; · iexact HG
    isplitl [H3]; · iexact H3
    isplitl [H1 H2 H4 H9]
    · isplitl [H9]; · iexact H9
      isplitl [H1]; · iexact H1
      isplitl [H2]; · iexact H2
      iexact H4
    iexact HR
  refine WP_seq c (load_is c (mm := M7) (f := WO m c) _ (Memref.readAt_unit_zero (Elt F) cc0_scratch1 (by decide) _ (WO m c)) ?_)
  refine WP_pure c _ (BIBase.Entails.trans ?_ h)
  unfold ld0Pay ld1Pay
  iintro ⟨HG, H1, ⟨H2, H3, H4, ⟨H5, H6, H7, H8, H9, H10⟩⟩, HR⟩
  isplitl [HG]; · iexact HG
  isplitl [H3]; · iexact H3
  isplitl [H7]; · iexact H7
  isplitl [H5 H6]
  · isplitl [H5]; · iexact H5
    iexact H6
  isplitl [H4]; · iexact H4
  isplitl [H1 H2]
  · isplitl [H1]; · iexact H1
    iexact H2
  isplitl [H8]; · iexact H8
  isplitl [H9]; · iexact H9
  isplitl [H10]; · iexact H10
  iexact HR

end Cert.KernelIdealProof

end
-- ==== Proof.KI.Join.lean ====
/-
The slots and the slivers of the result, counted and joined; from one stretch of the body to the next.
-/
module

public import proofs.«01_k».proof.Proof.KI.Vals
public import Idealize.SL.BI.BigOpNat

@[expose] public section

set_option maxRecDepth 10000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (PT : Parts F) (K : Dev nD × Fin 7 → ℕ)

/-- Two assertions that entail one another are equal. -/
theorem eq_of_bi {P Q : sProp 𝕄} (h : P ⊣⊢ Q) : P = Q := equiv_iff.mp ⟨h.1, h.2⟩

/-! ## Sixty numbers as fifteen by four -/

/-- Sixty members, counted block by block in runs of fifteen, are fifteen times four, -/
theorem blocksA (Φ : ℕ → sProp 𝕄) (Ψ : ℕ → Fin 4 → sProp 𝕄) (h : ∀ r < 15, ∀ g : Fin 4, Φ (15 * g.val + r) = Ψ r g) :
    bigSep (Finset.range 60) Φ = bigSep (Finset.range 15) fun r => bigSep Finset.univ fun g => Ψ r g := by
  rw [show Finset.range 60 = Finset.range (4 * 15) from rfl, bigSep_blocks 4 15,
    ← bigSep_fin 4 (fun g => bigSep (Finset.range 15) fun r => Φ (15 * g.val + r)) _ (fun _ => rfl),
    ← bigSep_fin 15 (fun r => bigSep Finset.univ fun g => Ψ r.val g) _ (fun _ => rfl), bigSep_univ_comm]
  refine bigSep_congr fun g _ => ?_
  rw [← bigSep_fin 15 (fun r => Φ (15 * g.val + r.val)) _ (fun _ => rfl)]
  exact bigSep_congr fun r _ => h r.val r.isLt g

/-- and so are sixty counted in runs of four. -/
theorem blocksB (Φ : ℕ → sProp 𝕄) (Ψ : ℕ → Fin 4 → sProp 𝕄) (h : ∀ r < 15, ∀ g : Fin 4, Φ (4 * r + g.val) = Ψ r g) :
    bigSep (Finset.range 60) Φ = bigSep (Finset.range 15) fun r => bigSep Finset.univ fun g => Ψ r g := by
  rw [show Finset.range 60 = Finset.range (15 * 4) from rfl, bigSep_blocks 15 4]
  refine bigSep_congr fun r hr => ?_
  rw [← bigSep_fin 4 (fun g => Φ (4 * r + g.val)) _ (fun _ => rfl)]
  exact bigSep_congr fun g _ => h r (Finset.mem_range.mp hr) g

/-- Fifteen members may be counted from the end. -/
theorem range_rev (Φ : ℕ → sProp 𝕄) : bigSep (Finset.range 15) Φ = bigSep (Finset.range 15) fun r => Φ (14 - r) := by
  have e : Finset.range 15 = (Finset.range 15).image (14 - ·) := by decide
  conv_lhs => rw [e]
  exact bigSep_image (14 - ·) (by decide) Φ

/-! ## The landing slots -/

/-- The sixteen slots of a device, one for each place, each of four blocks. -/
theorem slots_split (c : Dev nD) (f : S16x4x16x1024.Idx → Elt F .bf16) :
    (iprop(((c : Thread nD τ).loc cc0_scratch4) ↦{fullShare} f) : sProp 𝕄)
      = iprop((bigSep Finset.univ fun g : Fin 4 => iprop(((c : Thread nD τ).loc cc0_scratch4) ↦[slotR 0 g]{fullShare} f))
        ∗ bigSep (Finset.range 15) fun r => bigSep Finset.univ fun g : Fin 4 => iprop(((c : Thread nD τ).loc cc0_scratch4) ↦[slotR (jS (14 - r)) g]{fullShare} f)) := by
  have e : (Finset.univ : Finset (Idx ((c : Thread nD τ).loc cc0_scratch4))) = (Finset.univ : Finset (Fin 16 × Fin 4)).biUnion fun x => slotR x.1 x.2 := by
    ext i
    simp only [Finset.mem_univ, Finset.mem_biUnion, true_and, true_iff]
    exact ⟨(i 0, i 1), mem_slotR.mpr ⟨rfl, rfl⟩⟩
  rw [e, pointsTo_biUnion _ _ (fun x _ y _ h => by
    rw [Finset.disjoint_left]
    intro i hi hi'
    have h1 := mem_slotR.mp hi
    have h2 := mem_slotR.mp hi'
    exact h (Prod.ext (Fin.ext (by omega)) (Fin.ext (by omega)))),
    bigSep_univ_prod, bigSep_pl (0 : Dev nD) (fun j => bigSep Finset.univ fun g : Fin 4 => iprop(((c : Thread nD τ).loc cc0_scratch4) ↦[slotR j g]{fullShare} f))]
  refine congrArg (fun X : sProp 𝕄 => iprop((bigSep Finset.univ fun g : Fin 4 => iprop(((c : Thread nD τ).loc cc0_scratch4) ↦[slotR 0 g]{fullShare} f)) ∗ X)) (bigSep_congr fun r hr => ?_)
  have hj : pl (0 : Dev nD) (r + 1) = jS (14 - r) := by
    have := Finset.mem_range.mp hr
    exact Fin.ext (by show (0 + (r + 1)) % 16 = (15 - (14 - r)) % 16; omega)
  rw [hj]

/-- Every slot filled: the whole buffer. -/
theorem slots_join (c : Dev nD) : iprop(bigSep (Finset.range 60) (raPay PT c) ∗ bigSep Finset.univ (O4 PT c))
    ⊢ (iprop(((c : Thread nD τ).loc cc0_scratch4) ↦{fullShare} RS PT c) : sProp 𝕄) := by
  rw [slots_split c (RS PT c), blocksA (raPay PT c) (fun r g => iprop(((c : Thread nD τ).loc cc0_scratch4) ↦[slotR (jS r) g]{fullShare} RS PT c)) (fun r hr g => by
    have h1 : gA (15 * g.val + r) = g := Fin.ext (by show (15 * g.val + r) / 15 % 4 = g.val; have := g.isLt; omega)
    have h2 : jA (15 * g.val + r) = jS r := Fin.ext (by show 15 - (15 * g.val + r) % 15 = (15 - r) % 16; omega)
    unfold raPay
    rw [h1, h2]), range_rev (fun r => bigSep Finset.univ fun g : Fin 4 => iprop(((c : Thread nD τ).loc cc0_scratch4) ↦[slotR (jS r) g]{fullShare} RS PT c))]
  iintro ⟨H1, H2⟩
  isplitl [H2]
  · iexact H2
  iexact H1

/-! ## The slivers of the result -/

/-- The result's buffer: the device's own rows of the four blocks and those of the fifteen others. -/
theorem rows_split (c : Dev nD) (f : S1x1024x1024.Idx → Elt F .bf16) :
    (iprop(((c : Thread nD τ).loc cc0_stg3_0) ↦{fullShare} f) : sProp 𝕄)
      = iprop((bigSep Finset.univ fun g : Fin 4 => iprop(((c : Thread nD τ).loc cc0_stg3_0) ↦[rowsO g c]{fullShare} f))
        ∗ bigSep (Finset.range 15) fun r => bigSep Finset.univ fun g : Fin 4 => iprop(((c : Thread nD τ).loc cc0_stg3_0) ↦[rowsO g (pl c (r + 1))]{fullShare} f)) := by
  have e : (Finset.univ : Finset (Idx ((c : Thread nD τ).loc cc0_stg3_0))) = (Finset.univ : Finset (Dev nD × Fin 4)).biUnion fun x => rowsO x.2 x.1 := by
    ext i
    simp only [Finset.mem_univ, Finset.mem_biUnion, true_and, true_iff]
    have hi : (i 1).val < 1024 := (i 1).isLt
    refine ⟨(⟨(i 1).val % 256 / 16, by show _ < 16; omega⟩, ⟨(i 1).val / 256, by omega⟩), mem_rowsO.mpr ?_⟩
    show 256 * ((i 1).val / 256) + 16 * ((i 1).val % 256 / 16) ≤ (i 1).val ∧ (i 1).val < 256 * ((i 1).val / 256) + 16 * ((i 1).val % 256 / 16) + 16
    omega
  rw [e, pointsTo_biUnion _ _ (fun x _ y _ h => by
    rw [Finset.disjoint_left]
    intro i hi hi'
    have h1 := mem_rowsO.mp hi
    have h2 := mem_rowsO.mp hi'
    have h3 : x.1.val < 16 := x.1.isLt
    have h4 : y.1.val < 16 := y.1.isLt
    exact h (Prod.ext (Fin.ext (by omega)) (Fin.ext (by omega)))),
    bigSep_univ_prod, bigSep_pl c (fun p => bigSep Finset.univ fun g : Fin 4 => iprop(((c : Thread nD τ).loc cc0_stg3_0) ↦[rowsO g p]{fullShare} f))]

/-- What is read of a sliver while it goes out, piece by piece. -/
theorem pieces (c : Dev nD) (I : Finset (Idx ((c : Thread nD τ).loc cc0_stg3_0))) (f : S1x1024x1024.Idx → Elt F .bf16) (k : ℕ) :
    (iprop(((c : Thread nD τ).loc cc0_stg3_0) ↦[I]{fullShare} f) : sProp 𝕄)
      = iprop((bigSep (Finset.range k) fun r => iprop(((c : Thread nD τ).loc cc0_stg3_0) ↦[I]{pieceQ r} f)) ∗ ((c : Thread nD τ).loc cc0_stg3_0) ↦[I]{restQ k} f) := by
  induction k with
  | zero =>
    rw [Finset.range_zero, bigSep_empty]
    exact (equiv_iff.mp emp_sep).symm
  | succ k ih =>
    rw [ih, bigSep_range_succ, show (iprop(((c : Thread nD τ).loc cc0_stg3_0) ↦[I]{restQ k} f) : sProp 𝕄) = iprop((((c : Thread nD τ).loc cc0_stg3_0) ↦[I]{pieceQ k} f) ∗ ((c : Thread nD τ).loc cc0_stg3_0) ↦[I]{restQ (k + 1)} f) from eq_of_bi (pointsTo_share (PosShare.mem_left_op_right (restQ k)))]
    refine eq_of_bi ⟨?_, ?_⟩
    · iintro ⟨H1, H2, H3⟩
      isplitl [H1 H2]
      · isplitl [H2]; · iexact H2
        iexact H1
      iexact H3
    · iintro ⟨⟨H2, H1⟩, H3⟩
      isplitl [H1]; · iexact H1
      isplitl [H2]; · iexact H2
      iexact H3

/-- What is left of the own slivers while they are out. -/
def Rest (c : Dev nD) : sProp 𝕄 := iprop(bigSep Finset.univ fun g : Fin 4 => iprop(((c : Thread nD τ).loc cc0_stg3_0) ↦[rowsO g c]{restQ 15} OUT PT))
/-- The own slivers of the result, reduced. -/
def OwnO (c : Dev nD) : sProp 𝕄 := iprop(bigSep Finset.univ fun g : Fin 4 => iprop(((c : Thread nD τ).loc cc0_stg3_0) ↦[rowsO g c]{fullShare} OUT PT))

/-- The reduced rows, cut into a share for every copy of the second exchange and a share that stays. -/
theorem own_pieces (c : Dev nD) : OwnO PT c = iprop(bigSep (Finset.range 60) (sbPay PT c) ∗ Rest PT c) := by
  unfold OwnO Rest
  rw [bigSep_congr (fun g _ => pieces c (rowsO g c) (OUT PT) 15), bigSep_sep',
    blocksB (sbPay PT c) (fun r g => iprop(((c : Thread nD τ).loc cc0_stg3_0) ↦[rowsO g c]{pieceQ r} OUT PT)) (fun r hr g => by
      have h1 : gB (4 * r + g.val) = g := Fin.ext (by show (4 * r + g.val) % 4 = g.val; have := g.isLt; omega)
      have h2 : (4 * r + g.val) / 4 % 15 = r := by have := g.isLt; omega
      unfold sbPay
      rw [h1, h2]),
    ← bigSep_fin 15 (fun r => bigSep Finset.univ fun g : Fin 4 => iprop(((c : Thread nD τ).loc cc0_stg3_0) ↦[rowsO g c]{pieceQ r.val} OUT PT)) _ (fun _ => rfl), bigSep_univ_comm]
  refine congrArg (fun X : sProp 𝕄 => iprop(X ∗ bigSep Finset.univ fun g : Fin 4 => iprop(((c : Thread nD τ).loc cc0_stg3_0) ↦[rowsO g c]{restQ 15} OUT PT))) (bigSep_congr fun g _ => ?_)
  exact (bigSep_fin 15 (fun r => iprop(((c : Thread nD τ).loc cc0_stg3_0) ↦[rowsO g c]{pieceQ r.val} OUT PT)) _ (fun _ => rfl)).symm

/-- Everybody's slivers: the whole result. -/
theorem rows_join (c : Dev nD) : iprop(bigSep (Finset.range 60) (rbPay PT c) ∗ bigSep (Finset.range 60) (sbPay PT c) ∗ Rest PT c)
    ⊢ (iprop(((c : Thread nD τ).loc cc0_stg3_0) ↦{fullShare} OUT PT) : sProp 𝕄) := by
  rw [rows_split c (OUT PT), blocksB (rbPay PT c) (fun r g => iprop(((c : Thread nD τ).loc cc0_stg3_0) ↦[rowsO g (pl c (14 - r + 1))]{fullShare} OUT PT)) (fun r hr g => by
    have h1 : gB (4 * r + g.val) = g := Fin.ext (by show (4 * r + g.val) % 4 = g.val; have := g.isLt; omega)
    have h2 : (4 * r + g.val) / 4 % 15 = r := by have := g.isLt; omega
    have h3 : oB c (4 * r + g.val) = pl c (14 - r + 1) := by
      refine Fin.ext ?_
      show (c.val + (15 - (4 * r + g.val) / 4 % 15)) % 16 = (c.val + (14 - r + 1)) % 16
      rw [h2, show 15 - r = 14 - r + 1 by omega]
    unfold rbPay
    rw [h1, h3]), range_rev (fun r => bigSep Finset.univ fun g : Fin 4 => iprop(((c : Thread nD τ).loc cc0_stg3_0) ↦[rowsO g (pl c (r + 1))]{fullShare} OUT PT))]
  iintro ⟨H1, H2⟩
  isplitl [H2]
  · ihave H2 := (Entails.of_eq (own_pieces PT c).symm) $$ H2
    unfold OwnO
    iexact H2
  iexact H1

/-! ## What the first signal brings -/

def DstA (c : Dev nD) (i : ℕ) : sProp 𝕄 := iprop(∃ f : S16x4x16x1024.Idx → Elt F .bf16, ((pA c i : Thread nD τ).loc cc0_scratch4) ↦[slotR (jA i) (gA i)]{fullShare} f)
def DstB (c : Dev nD) (i : ℕ) : sProp 𝕄 := iprop(∃ f : S1x1024x1024.Idx → Elt F .bf16, ((pB c i : Thread nD τ).loc cc0_stg3_0) ↦[rowsO (gB i) c]{fullShare} f)

/-- What the fifteen signals hand over: a landing place for each copy of the first exchange and for each of the second. -/
theorem bar_split (c : Dev nD) : bigSep (Finset.range 15) (barPay (F := F) c) = iprop(bigSep (Finset.range 60) (DstA c) ∗ bigSep (Finset.range 60) (DstB (F := F) c)) := by
  rw [blocksA (DstA c) (fun r g => iprop(∃ f : S16x4x16x1024.Idx → Elt F .bf16, ((pl c (r + 1) : Thread nD τ).loc cc0_scratch4) ↦[slotR (jS r) g]{fullShare} f)) (fun r hr g => by
      have h1 : gA (15 * g.val + r) = g := Fin.ext (by show (15 * g.val + r) / 15 % 4 = g.val; have := g.isLt; omega)
      have h2 : jA (15 * g.val + r) = jS r := Fin.ext (by show 15 - (15 * g.val + r) % 15 = (15 - r) % 16; omega)
      have h3 : pA c (15 * g.val + r) = pl c (r + 1) := Fin.ext (by show (c.val + ((15 * g.val + r) % 15 + 1)) % 16 = (c.val + (r + 1)) % 16; rw [show (15 * g.val + r) % 15 = r by omega])
      unfold DstA
      rw [h1, h2, h3]),
    blocksB (DstB c) (fun r g => iprop(∃ f : S1x1024x1024.Idx → Elt F .bf16, ((pl c (r + 1) : Thread nD τ).loc cc0_stg3_0) ↦[rowsO g c]{fullShare} f)) (fun r hr g => by
      have h1 : gB (4 * r + g.val) = g := Fin.ext (by show (4 * r + g.val) % 4 = g.val; have := g.isLt; omega)
      have h3 : pB c (4 * r + g.val) = pl c (r + 1) := Fin.ext (by show (c.val + ((4 * r + g.val) / 4 % 15 + 1)) % 16 = (c.val + (r + 1)) % 16; rw [show (4 * r + g.val) / 4 % 15 = r by have := g.isLt; omega])
      unfold DstB
      rw [h1, h3]), ← bigSep_sep']
  rfl

/-- What the launch gives a device for its copies: both tokens of each. -/
def TokA0 (c : Dev nD) (i : ℕ) : sProp 𝕄 := iprop(dutyTok ER (kcell (c, 3)) 0 i ∗ dutyTok ER (kcell (pA c i, 4)) 0 i)
def TokB0 (c : Dev nD) (i : ℕ) : sProp 𝕄 := iprop(dutyTok ER (kcell (c, 5)) 0 i ∗ dutyTok ER (kcell (pB c i, 6)) 0 i)

/-- What copy `i` of the first exchange takes: its tokens and its landing place. -/
theorem tokA_eq (c : Dev nD) (i : ℕ) : TokA (F := F) c i ⊣⊢ iprop(TokA0 c i ∗ DstA c i) := by
  unfold TokA TokA0 DstA
  refine ⟨?_, ?_⟩
  · iintro ⟨H1, H2, H3⟩
    isplitl [H1 H2]
    · isplitl [H1]; · iexact H1
      iexact H2
    iexact H3
  · iintro ⟨⟨H1, H2⟩, H3⟩
    isplitl [H1]; · iexact H1
    isplitl [H2]; · iexact H2
    iexact H3
/-- What copy `i` of the second exchange takes: its tokens, its share of the rows sent and its landing place. -/
theorem tokB_eq (c : Dev nD) (i : ℕ) : TokB PT c i ⊣⊢ iprop((TokB0 c i ∗ sbPay PT c i) ∗ DstB c i) := by
  unfold TokB TokB0 DstB
  refine ⟨?_, ?_⟩
  · iintro ⟨H1, H2, H3, H4⟩
    isplitl [H1 H2 H3]
    · isplitl [H1 H2]
      · isplitl [H1]; · iexact H1
        iexact H2
      iexact H3
    iexact H4
  · iintro ⟨⟨⟨H1, H2⟩, H3⟩, H4⟩
    isplitl [H1]; · iexact H1
    isplitl [H2]; · iexact H2
    isplitl [H3]; · iexact H3
    iexact H4

/-- Ready for the first exchange. -/
theorem toStA (c : Dev nD) : iprop((∃ W, owes (c : Thread nD τ) (OA c 0) W) ∗ bigSep (Finset.range 60) (TokA0 (F := F) c) ∗ bigSep (Finset.range 60) (DstA (F := F) c)) ⊢ StA PT c 0 0 := by
  unfold StA
  rw [Finset.range_zero, Finset.Ico_self, bigSep_empty, bigSep_empty, ← Finset.range_eq_Ico, bigSep_congr (fun i _ => eq_of_bi (tokA_eq (F := F) c i)), bigSep_sep']
  iintro ⟨H1, H2, H3⟩
  isplitl [H1]; · iexact H1
  isplitl [H2 H3]
  · isplitl [H2]; · iexact H2
    iexact H3
  isplitr
  · iempintro
  iempintro

/-- And for the second. -/
theorem toStB (c : Dev nD) : iprop((∃ W, owes (c : Thread nD τ) (OB c 0) W) ∗ bigSep (Finset.range 60) (TokB0 (F := F) c) ∗ bigSep (Finset.range 60) (DstB (F := F) c) ∗ OwnO PT c)
    ⊢ iprop(StB PT c 0 ∗ Rest PT c) := by
  unfold StB
  rw [own_pieces, Finset.range_zero, bigSep_empty, ← Finset.range_eq_Ico, bigSep_congr (fun i _ => eq_of_bi (tokB_eq PT c i)), bigSep_sep', bigSep_sep']
  iintro ⟨H1, H2, H3, H4, H5⟩
  isplitl [H1 H2 H3 H4]
  · isplitl [H1]; · iexact H1
    isplitl [H2 H3 H4]
    · isplitl [H2 H4]
      · isplitl [H2]; · iexact H2
        iexact H4
      iexact H3
    iempintro
  iexact H5

/-! ## From one stretch to the next -/

/-- The credits of one cell. -/
def CR (c : Dev nD) (k : Fin 7) : sProp 𝕄 := iprop(bigSep (Finset.range 60) (fun _ => cred (tallyAt (kcell (c, k)) () N)))
/-- A cell before its waits, with its credits, -/
def WI (c : Dev nD) (k : Fin 7) : sProp 𝕄 := iprop(atPos ER (kcell (c, k)) 0 ∅ 0 ∗ CR (F := F) c k)
/-- and after, with what came. -/
def WR (c : Dev nD) (k : Fin 7) : sProp 𝕄 := iprop(atPos ER (kcell (c, k)) (0 + 1) ∅ 0 ∗ bigSep (Finset.range 60) (payN m PT c (some k)))

/-- Ready for the first of the sixty waits on a semaphore. -/
theorem toW (c : Dev nD) (k : Fin 7) (O : CellTallies nD τ sig Unit) : iprop((∃ W, owes (c : Thread nD τ) O W) ∗ WI (F := F) c k) ⊢ WSt m PT c k O 0 := by
  unfold WI CR WSt
  rw [← Finset.range_eq_Ico]
  iintro ⟨H1, H2, H3⟩
  isplitl [H1]; · iexact H1
  isplitl [H2]
  · iexists (∅ : Finset ℕ)
    isplitr
    · ipureintro; exact Finset.empty_subset _
    isplitl [H2]
    · rw [Nat.zero_mul]; iexact H2
    rw [bigSep_empty]; iempintro
  iexact H3

/-- After the last copy of the first exchange, ready to wait for what the others sent. -/
theorem toRA (c : Dev nD) : iprop(StA PT c 60 60 ∗ WI c 4) ⊢ iprop(WSt m PT c 4 (OB c 0) 0 ∗ CR c 3) := by
  unfold StA
  rw [OA_60]
  iintro ⟨⟨H1, -, H3, -⟩, H4⟩
  isplitl [H1 H4]
  · iapply (toW m PT c 4 (OB c 0))
    isplitl [H1]; · iexact H1
    iexact H4
  unfold CR
  iexact H3

/-- After the last copy of the second exchange, ready to wait for the first one's sends. -/
theorem toSA (c : Dev nD) : iprop(StB PT c 60 ∗ WI c 3) ⊢ iprop(WSt m PT c 3 0 0 ∗ CR c 5) := by
  unfold StB
  rw [OB_60]
  iintro ⟨⟨H1, -, H3⟩, H4⟩
  isplitl [H1 H4]
  · iapply (toW m PT c 3 0)
    isplitl [H1]; · iexact H1
    iexact H4
  unfold CR
  iexact H3

/-- After all waits on one semaphore, ready for those on the next. -/
theorem toNext (c : Dev nD) (k k' : Fin 7) : iprop(WEnd m PT c k 0 ∗ WI c k') ⊢ iprop(WSt m PT c k' 0 0 ∗ WR m PT c k) := by
  unfold WEnd WR
  iintro ⟨⟨H1, H2, H3⟩, H4⟩
  isplitl [H1 H4]
  · iapply (toW m PT c k' 0)
    isplitl [H1]; · iexact H1
    iexact H4
  isplitl [H2]; · iexact H2
  iexact H3

end Cert.KernelIdealProof

end
-- ==== Proof.KI.PartsM.lean ====
/-
The parts where one stretch of the body gives way to the next, and the reduction.
-/
module

public import proofs.«01_k».proof.Proof.KI.PartsS
public import proofs.«01_k».proof.Proof.KI.Join

@[expose] public section

set_option maxRecDepth 10000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (PT : Parts F) (K : Dev nD × Fin 7 → ℕ)
/-- Part 39. The last copies of the first exchange and the first wait for the others. -/
theorem part39 (c : Dev nD) (v2 : BitVec 32) {R : sProp 𝕄} {Q : PUnit → sProp 𝕄}
    (h : iprop(GS m PT K ∗ WSt m PT c 4 (OB c 0) 1 ∗ CR c 3 ∗ R) ⊢ Q ⟨⟩) :
    iprop(GS m PT K ∗ StA PT c 57 60 ∗ WI c 4 ∗ R) ⊢ WP c (app (k0_part39 (F := F)) c v2) Q := by
  unfold app
  rw [k0_part39_eq_skeleton]
  unfold k0_part39_skel
  refine WP_seq c (sendA_step m PT K c 57 60 (by decide) (by decide) _ (Fin.ext (k0_dev73_eq c)) ?_)
  refine WP_seq c (sendA_step m PT K c 58 60 (by decide) (by decide) _ (Fin.ext (k0_dev74_eq c)) ?_)
  refine WP_seq c (sendA_step m PT K c 59 60 (by decide) (by decide) _ (Fin.ext (k0_dev75_eq c)) ?_)
  refine csa (conv (toRA m PT c) (asc ?_))
  refine WP_seq c (wait_step m PT K c 4 rfl rfl 2 (OB c 0) (by decide) (above_OB c 0) 0 (by exact rfl) (by exact rfl) (by decide) ?_)
  exact WP_pure c _ h

/-- Part 79. The last copies of the second exchange and the first wait for the copies of the first to have left. -/
theorem part79 (c : Dev nD) (v2 : BitVec 32) (v2255 : BitVec 32) {R : sProp 𝕄} {Q : PUnit → sProp 𝕄}
    (h : iprop(GS m PT K ∗ WSt m PT c 3 0 1 ∗ CR c 5 ∗ R) ⊢ Q ⟨⟩) :
    iprop(GS m PT K ∗ StB PT c 57 ∗ WI c 3 ∗ R) ⊢ WP c (app (k0_part79 (F := F)) c v2 v2255) Q := by
  unfold app
  rw [k0_part79_eq_skeleton]
  unfold k0_part79_skel
  refine WP_seq c (sendB_step m PT K c 57 (by decide) _ (Fin.ext (k0_dev133_eq c)) ?_)
  refine WP_seq c (sendB_step m PT K c 58 (by decide) _ (Fin.ext (k0_dev134_eq c)) ?_)
  refine WP_seq c (sendB_step m PT K c 59 (by decide) _ (Fin.ext (k0_dev135_eq c)) ?_)
  refine csa (conv (toSA m PT c) (asc ?_))
  refine WP_seq c (wait_step m PT K c 3 rfl rfl 0 0 (by decide) (above_zero 0) 0 (by exact rfl) (by exact rfl) (by decide) ?_)
  exact WP_pure c _ h

/-- Part 90. From one cell's waits to the next's. -/
theorem part90 (c : Dev nD) (v2 : BitVec 32) {R : sProp 𝕄} {Q : PUnit → sProp 𝕄}
    (h : iprop(GS m PT K ∗ WSt m PT c 6 0 1 ∗ WR m PT c 3 ∗ R) ⊢ Q ⟨⟩) :
    iprop(GS m PT K ∗ WSt m PT c 3 0 56 ∗ WI c 6 ∗ R) ⊢ WP c (app (k0_part90 (F := F)) v2) Q := by
  unfold app
  rw [k0_part90_eq_skeleton]
  unfold k0_part90_skel
  refine WP_seq c (wait_step m PT K c 3 rfl rfl 0 0 (by decide) (above_zero 0) 56 (by exact rfl) (by exact rfl) (by decide) ?_)
  refine WP_seq c (wait_step m PT K c 3 rfl rfl 0 0 (by decide) (above_zero 0) 57 (by exact rfl) (by exact rfl) (by decide) ?_)
  refine WP_seq c (wait_step m PT K c 3 rfl rfl 0 0 (by decide) (above_zero 0) 58 (by exact rfl) (by exact rfl) (by decide) ?_)
  refine WP_seq c (wait_last m PT K c 3 rfl rfl 0 0 (by decide) (above_zero 0) (by exact rfl) (by exact rfl) ?_)
  refine csa (conv (toNext m PT c 3 6) (asc ?_))
  refine WP_seq c (wait_step m PT K c 6 rfl rfl 3 0 (by decide) (above_zero 3) 0 (by exact rfl) (by exact rfl) (by decide) ?_)
  exact WP_pure c _ h

/-- Part 105. From one cell's waits to the next's. -/
theorem part105 (c : Dev nD) (v2 : BitVec 32) {R : sProp 𝕄} {Q : PUnit → sProp 𝕄}
    (h : iprop(GS m PT K ∗ WSt m PT c 5 0 1 ∗ WR m PT c 6 ∗ R) ⊢ Q ⟨⟩) :
    iprop(GS m PT K ∗ WSt m PT c 6 0 57 ∗ WI c 5 ∗ R) ⊢ WP c (app (k0_part105 (F := F)) v2) Q := by
  unfold app
  rw [k0_part105_eq_skeleton]
  unfold k0_part105_skel
  refine WP_seq c (wait_step m PT K c 6 rfl rfl 3 0 (by decide) (above_zero 3) 57 (by exact rfl) (by exact rfl) (by decide) ?_)
  refine WP_seq c (wait_step m PT K c 6 rfl rfl 3 0 (by decide) (above_zero 3) 58 (by exact rfl) (by exact rfl) (by decide) ?_)
  refine WP_seq c (wait_last m PT K c 6 rfl rfl 3 0 (by decide) (above_zero 3) (by exact rfl) (by exact rfl) ?_)
  refine csa (conv (toNext m PT c 6 5) (asc ?_))
  refine WP_seq c (wait_step m PT K c 5 rfl rfl 0 0 (by decide) (above_zero 0) 0 (by exact rfl) (by exact rfl) (by decide) ?_)
  exact WP_pure c _ h

/-- What is left when the slivers have all come. -/
def OwB (c : Dev nD) : sProp 𝕄 := iprop(∃ W, owes (c : Thread nD τ) (OB c 0) W)
/-- The landing slots, all filled. -/
def Full4 (c : Dev nD) : sProp 𝕄 := iprop(((c : Thread nD τ).loc cc0_scratch4) ↦{fullShare} RS PT c)

/-- After the sixty waits of the first exchange all landing slots are filled. -/
theorem endRA (c : Dev nD) : iprop(WEnd m PT c 4 (OB c 0) ∗ bigSep Finset.univ (O4 PT c)) ⊢ iprop(Full4 PT c ∗ OwB c ∗ At1 c 4) := by
  unfold WEnd Full4 OwB At1
  iintro ⟨⟨H1, H2, H3⟩, H4⟩
  isplitl [H3 H4]
  · iapply (slots_join PT c)
    isplitl [H3]
    · ihave H3 := (show bigSep (Finset.range 60) (payN m PT c (some 4)) ⊢ bigSep (Finset.range 60) (raPay PT c) from Entails.of_eq (bigSep_congr fun _ _ => rfl)) $$ H3
      iexact H3
    iexact H4
  isplitl [H1]; · iexact H1
  iexact H2

/-- The own rows of one block of the result, before. -/
def S5 (c : Dev nD) (g : Fin 4) : sProp 𝕄 := iprop(∃ f : S1x1024x1024.Idx → Elt F .bf16, ((c : Thread nD τ).loc cc0_stg3_0) ↦[rowsO g c]{fullShare} f)
def O5 (c : Dev nD) (g : Fin 4) : sProp 𝕄 := iprop(((c : Thread nD τ).loc cc0_stg3_0) ↦[rowsO g c]{fullShare} OUT PT)

/-- The rows of the result the kernel stores a reduced block at are the device's own. -/
theorem k0_off5_set (c : Dev nD) (g : Fin 4) : (Rect.unit (s := S1x1024x1024) (k0_off5 c (BitVec.ofNat 32 (256 * g.val))) S1x16x1024.size (k0_off5_inb c g)).set = rowsO g c :=
  congrArg (fun r : Rect S1x1024x1024 => r.set) (Rect.unit_congr (k0_off5_eq c g) _ _)

/-- A load of the device's own rows of the result before they are stored. -/
theorem res_load (c : Dev nD) (g : Fin 4) {hl : M5.view.LoadsAt (Rect.unit (s := S1x1024x1024) (k0_off5 c (BitVec.ofNat 32 (256 * g.val))) S1x16x1024.size (k0_off5_inb c g)).toLoadRect}
    {R : sProp 𝕄} {Q : (S1x16x1024.Idx → Elt F .bf16) → sProp 𝕄} (h : ∀ v, iprop(GS m PT K ∗ S5 c g ∗ R) ⊢ Q v) :
    iprop(GS m PT K ∗ S5 c g ∗ R) ⊢ WP c (Prog.lift (.load M5 (Rect.unit (s := S1x1024x1024) (k0_off5 c (BitVec.ofNat 32 (256 * g.val))) S1x16x1024.size (k0_off5_inb c g)).toLoadRect hl)) Q := by
  iintro ⟨HP, Hx, HR⟩
  unfold S5
  icases Hx with ⟨%f, Hx⟩
  iapply (load_step (P := GS m PT K) (R := R) c (mm := M5) (S := rowsO g c) (f := f) (by rw [← k0_off5_set c g]; exact (Finset.map_refl (s := _)).le) ?_)
  · refine BIBase.Entails.trans ?_ (h _)
    unfold S5
    iintro ⟨HP, Hx, HR⟩
    isplitl [HP]; · iexact HP
    isplitl [Hx]; · iexists f; iexact Hx
    iexact HR
  isplitl [HP]; · iexact HP
  isplitl [Hx]; · iexact Hx
  iexact HR

/-- A store of the reduced rows leaves what the result is to hold there. -/
theorem res_write (c : Dev nD) (g : Fin 4) (f : S1x1024x1024.Idx → Elt F .bf16) (w : S1x16x1024.Idx → Elt F .bf16)
    (hw : ∀ (a : Fin 16) (b : Fin 1024), w (ix3 0 a b) = RED PT c (ix3 g a b)) (i : S1x1024x1024.Idx) (hi : i ∈ rowsO g c) :
    (M5.access (Rect.unit (s := S1x1024x1024) (k0_off5 c (BitVec.ofNat 32 (256 * g.val))) S1x16x1024.size (k0_off5_inb c g)) : View sig .tc .vmem S1x16x1024 .bf16).write (Elt F) f w Finset.univ i = OUT PT i := by
  have e := k0_off5_eq c g
  have hi' : i ∈ (M5.access (Rect.unit (s := S1x1024x1024) (k0_off5 c (BitVec.ofNat 32 (256 * g.val))) S1x16x1024.size (k0_off5_inb c g)) : View sig .tc .vmem S1x16x1024 .bf16).set := by
    rw [show (M5.access (Rect.unit (s := S1x1024x1024) (k0_off5 c (BitVec.ofNat 32 (256 * g.val))) S1x16x1024.size (k0_off5_inb c g)) : View sig .tc .vmem S1x16x1024 .bf16).set = _ from View.set_slice_whole _ _, k0_off5_set]; exact hi
  obtain ⟨x, -, rfl⟩ := Finset.mem_map.mp hi'
  rw [View.write_emb_of_mem _ _ (Finset.mem_univ _)]
  have hx0 : (x 0).val < 1 := (x 0).isLt
  have hx1 : (x 1).val < 16 := (x 1).isLt
  have hc : c.val < 16 := c.isLt
  have hg := g.isLt
  have e1 : k0_off5 c (BitVec.ofNat 32 (256 * g.val)) 1 = 256 * g.val + 16 * c.val := by rw [e]; rfl
  have e2 : k0_off5 c (BitVec.ofNat 32 (256 * g.val)) 2 = 0 := by rw [e]; rfl
  have k : x = ix3 (n0 := 1) (n1 := 16) (n2 := 1024) 0 (x 1) (x 2) := by
    rw [eq_ix3 x]; exact congrArg (fun a => ix3 a (x 1) (x 2)) (Fin.ext (by show (x 0).val = 0; omega))
  have hv : ∀ q, (RED PT c) (ix3 g (x 1) (x 2)) = q → w x = q := fun q hq => by rw [k]; exact (hw _ _).trans hq
  refine hv _ ?_
  have w1 : (((M5.access (Rect.unit (s := S1x1024x1024) (k0_off5 c (BitVec.ofNat 32 (256 * g.val))) S1x16x1024.size (k0_off5_inb c g)) : View sig .tc .vmem S1x16x1024 .bf16).emb x) 1).val = 256 * g.val + 16 * c.val + (x 1).val := by
    show k0_off5 c (BitVec.ofNat 32 (256 * g.val)) 1 + 1 * (x 1).val = _
    rw [e1]; omega
  have w2 : (((M5.access (Rect.unit (s := S1x1024x1024) (k0_off5 c (BitVec.ofNat 32 (256 * g.val))) S1x16x1024.size (k0_off5_inb c g)) : View sig .tc .vmem S1x16x1024 .bf16).emb x) 2) = x 2 := Fin.ext (by
    show k0_off5 c (BitVec.ofNat 32 (256 * g.val)) 2 + 1 * (x 2).val = _
    rw [e2]; omega)
  unfold OUT
  refine congr (congrArg (RED PT) (Fin.ext ?_)) (congr (congr (congrArg ix3 (Fin.ext ?_)) (Fin.ext ?_)) ?_)
  · show c.val = _ % 256 / 16
    rw [w1]; omega
  · show g.val = _ / 256
    rw [w1]; omega
  · show (x 1).val = _ % 16
    rw [w1]; omega
  · exact w2.symm

/-- The store of one block's reduced rows. -/
theorem res_store (c : Dev nD) (g : Fin 4) {w : S1x16x1024.Idx → Elt F .bf16}
    {hx : (M5.access (Rect.unit (s := S1x1024x1024) (k0_off5 c (BitVec.ofNat 32 (256 * g.val))) S1x16x1024.size (k0_off5_inb c g))).Stores Finset.univ}
    {hm : Finset.univ = (Finset.univ : Finset (Rect.unit (s := S1x1024x1024) (k0_off5 c (BitVec.ofNat 32 (256 * g.val))) S1x16x1024.size (k0_off5_inb c g)).shape.Idx) ∨ ∀ a, (Rect.unit (s := S1x1024x1024) (k0_off5 c (BitVec.ofNat 32 (256 * g.val))) S1x16x1024.size (k0_off5_inb c g)).stride a = 1}
    (hw : ∀ (a : Fin 16) (b : Fin 1024), w (ix3 0 a b) = RED PT c (ix3 g a b))
    {R : sProp 𝕄} {Q : PUnit → sProp 𝕄} (h : iprop(GS m PT K ∗ O5 PT c g ∗ R) ⊢ Q ⟨⟩) :
    iprop(GS m PT K ∗ S5 c g ∗ R) ⊢ WP c (Prog.lift (.store M5 (Rect.unit (s := S1x1024x1024) (k0_off5 c (BitVec.ofNat 32 (256 * g.val))) S1x16x1024.size (k0_off5_inb c g)) w Finset.univ hx hm)) Q := by
  iintro ⟨HP, Hx, HR⟩
  unfold S5
  icases Hx with ⟨%f, Hx⟩
  iapply (store_step (P := GS m PT K) (R := R) c (mm := M5) (r := Rect.unit (s := S1x1024x1024) (k0_off5 c (BitVec.ofNat 32 (256 * g.val))) S1x16x1024.size (k0_off5_inb c g)) (S := rowsO g c) (f := f) (by rw [← k0_off5_set c g]; exact (View.set_slice_whole _ _).le) ?_)
  · refine BIBase.Entails.trans ?_ h
    unfold O5
    iintro ⟨HP, Hx, HR⟩
    isplitl [HP]; · iexact HP
    isplitl [Hx]
    · ihave Hx := (Entails.of_eq (pointsTo_congr (res_write PT c g f w hw))) $$ Hx
      iexact Hx
    iexact HR
  isplitl [HP]; · iexact HP
  isplitl [Hx]; · iexact Hx
  iexact HR

/-- Block `g` of the reduced slivers, as it is stored. -/
theorem red_block (v : S4x16x1024.Idx → Elt F .bf16) (g : Fin 4) (off : Fin 3 → ℕ) (ho : off = ![g.val, 0, 0]) (h1 : S4x16x1024.Slices off S1x16x1024) (h2 : S1x16x1024.ShapeCasts S16x1024) (h3 : S16x1024.ShapeCasts S1x16x1024)
    (a : Fin 16) (b : Fin 1024) : shapeCast S1x16x1024 (shapeCast S16x1024 (extractStridedSlice S1x16x1024 off v h1) h2) h3 (ix3 0 a b) = v (ix3 g a b) := by
  subst ho
  rw [shapeCast_ab_1ab_apply, shapeCast_1ab_ab_apply]
  have e : ∀ i : S4x16x1024.Idx, (i 0).val = g.val → (i 1).val = a.val → (i 2).val = b.val → v i = v (ix3 g a b) := fun i h0 h1 h2 => by
    rw [eq_ix3 i]
    exact congrArg v (congr (congr (congrArg ix3 (Fin.ext h0)) (Fin.ext h1)) (Fin.ext h2))
  refine e _ ?_ ?_ ?_
  · show g.val + 0 = g.val; omega
  · show 0 + a.val = a.val; omega
  · show 0 + b.val = b.val; omega

/-- Part 56. The last waits for the others' slivers; all sixteen are read. -/
theorem part56 (c : Dev nD) (v2 : BitVec 32) {R : sProp 𝕄} {Q : (Σ' (v1633 : FVec F S4x16x1024 .bf16), FVec F S16x1024 .bf16) → sProp 𝕄}
    (h : iprop(GS m PT K ∗ Full4 PT c ∗ OwB c ∗ At1 c 4 ∗ R) ⊢ Q ⟨RED PT c, k0_pay73 (RS PT c)⟩) :
    iprop(GS m PT K ∗ WSt m PT c 4 (OB c 0) 57 ∗ bigSep Finset.univ (O4 PT c) ∗ R) ⊢ WP c (app (k0_part56 (F := F)) v2) Q := by
  unfold app
  rw [k0_part56_eq_skeleton]
  unfold k0_part56_skel
  refine WP_seq c (wait_step m PT K c 4 rfl rfl 2 (OB c 0) (by decide) (above_OB c 0) 57 (by exact rfl) (by exact rfl) (by decide) ?_)
  refine WP_seq c (wait_step m PT K c 4 rfl rfl 2 (OB c 0) (by decide) (above_OB c 0) 58 (by exact rfl) (by exact rfl) (by decide) ?_)
  refine WP_seq c (wait_last m PT K c 4 rfl rfl 2 (OB c 0) (by decide) (above_OB c 0) (by exact rfl) (by exact rfl) ?_)
  refine csa (conv (endRA m PT c) (asc (rot1 (asc (rot2 ?_)))))
  unfold Full4 at h ⊢
  refine WP_seq c (load_is c (mm := M10) (f := RS PT c) _ (Memref.readAt_unit_zero (Elt F) cc0_scratch4 (by decide) _ (RS PT c)) ?_)
  refine WP_pure c _ ?_
  exact h

/-- Part 57. The own rows of the result are stored. -/
theorem part57 (c : Dev nD) (v2 : BitVec 32) {R : sProp 𝕄} {Q : (Σ' (v1667 : BitVec 32), BitVec 32) → sProp 𝕄}
    (h : ∀ a, iprop(GS m PT K ∗ O5 PT c 3 ∗ O5 PT c 2 ∗ O5 PT c 1 ∗ O5 PT c 0 ∗ R) ⊢ Q a) :
    iprop(GS m PT K ∗ S5 c 0 ∗ S5 c 1 ∗ S5 c 2 ∗ S5 c 3 ∗ R) ⊢ WP c (app (k0_part57 (F := F)) c v2 (RED PT c) (k0_pay73 (RS PT c))) Q := by
  unfold app
  rw [k0_part57_eq_skeleton]
  unfold k0_part57_skel
  refine WP_seq c (res_load m PT K c 0 fun _ => ?_)
  refine WP_seq c (res_store m PT K c 0 ?_ ?_)
  · intro a b; exact red_block (RED PT c) 0 _ rfl slices_S4x16x1024_o0_0_0_S1x16x1024 _ _ a b
  refine rot1 ?_
  refine WP_seq c (res_load m PT K c 1 fun _ => ?_)
  refine WP_seq c (res_store m PT K c 1 ?_ ?_)
  · intro a b; exact red_block (RED PT c) 1 _ rfl slices_S4x16x1024_o1_0_0_S1x16x1024 _ _ a b
  refine rot2 ?_
  refine WP_seq c (res_load m PT K c 2 fun _ => ?_)
  refine WP_seq c (res_store m PT K c 2 ?_ ?_)
  · intro a b; exact red_block (RED PT c) 2 _ rfl slices_S4x16x1024_o2_0_0_S1x16x1024 _ _ a b
  refine rot3 ?_
  refine WP_seq c (res_load m PT K c 3 fun _ => ?_)
  refine WP_seq c (res_store m PT K c 3 ?_ ?_)
  · intro a b; exact red_block (RED PT c) 3 _ rfl slices_S4x16x1024_o3_0_0_S1x16x1024 _ _ a b
  exact WP_pure c _ (h _)

end Cert.KernelIdealProof

end
-- ==== Proof.KI.PartsA.lean ====
/-
The parts that do nothing but send in the first exchange.
-/
module

public import proofs.«01_k».proof.Proof.KI.App

@[expose] public section

set_option maxRecDepth 10000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (PT : Parts F) (K : Dev nD × Fin 7 → ℕ)

/-- Part 10. The copies of the first exchange in this stretch, one after the other. -/
theorem part10 (c : Dev nD) (v2 : BitVec 32) (v314 : BitVec 32) (c1_i32_174 : BitVec 32) {R : sProp 𝕄} {Q : (BitVec 32) → sProp 𝕄}
    (h : ∀ a, iprop(GS m PT K ∗ StA PT c 5 15 ∗ R) ⊢ Q a) :
    iprop(GS m PT K ∗ StA PT c 2 15 ∗ R) ⊢ WP c (app (k0_part10 (F := F)) c v2 v314 c1_i32_174) Q := by
  unfold app
  rw [k0_part10_eq_skeleton]
  unfold k0_part10_skel
  refine WP_seq c (sendA_step m PT K c 2 15 (by decide) (by decide) _ (Fin.ext (k0_dev18_eq c)) ?_)
  refine WP_seq c (sendA_step m PT K c 3 15 (by decide) (by decide) _ (Fin.ext (k0_dev19_eq c)) ?_)
  refine WP_seq c (sendA_step m PT K c 4 15 (by decide) (by decide) _ (Fin.ext (k0_dev20_eq c)) ?_)
  exact WP_pure c _ (h _)

/-- Part 11. The copies of the first exchange in this stretch, one after the other. -/
theorem part11 (c : Dev nD) (v2 : BitVec 32) (v341 : BitVec 32) {R : sProp 𝕄} {Q : (Σ' (v368 : BitVec 32), BitVec 32) → sProp 𝕄}
    (h : ∀ a, iprop(GS m PT K ∗ StA PT c 8 15 ∗ R) ⊢ Q a) :
    iprop(GS m PT K ∗ StA PT c 5 15 ∗ R) ⊢ WP c (app (k0_part11 (F := F)) c v2 v341) Q := by
  unfold app
  rw [k0_part11_eq_skeleton]
  unfold k0_part11_skel
  refine WP_seq c (sendA_step m PT K c 5 15 (by decide) (by decide) _ (Fin.ext (k0_dev21_eq c)) ?_)
  refine WP_seq c (sendA_step m PT K c 6 15 (by decide) (by decide) _ (Fin.ext (k0_dev22_eq c)) ?_)
  refine WP_seq c (sendA_step m PT K c 7 15 (by decide) (by decide) _ (Fin.ext (k0_dev23_eq c)) ?_)
  exact WP_pure c _ (h _)

/-- Part 12. The copies of the first exchange in this stretch, one after the other. -/
theorem part12 (c : Dev nD) (v2 : BitVec 32) (v368 : BitVec 32) (c16_i32_236 : BitVec 32) {R : sProp 𝕄} {Q : (BitVec 32) → sProp 𝕄}
    (h : ∀ a, iprop(GS m PT K ∗ StA PT c 11 15 ∗ R) ⊢ Q a) :
    iprop(GS m PT K ∗ StA PT c 8 15 ∗ R) ⊢ WP c (app (k0_part12 (F := F)) c v2 v368 c16_i32_236) Q := by
  unfold app
  rw [k0_part12_eq_skeleton]
  unfold k0_part12_skel
  refine WP_seq c (sendA_step m PT K c 8 15 (by decide) (by decide) _ (Fin.ext (k0_dev24_eq c)) ?_)
  refine WP_seq c (sendA_step m PT K c 9 15 (by decide) (by decide) _ (Fin.ext (k0_dev25_eq c)) ?_)
  refine WP_seq c (sendA_step m PT K c 10 15 (by decide) (by decide) _ (Fin.ext (k0_dev26_eq c)) ?_)
  exact WP_pure c _ (h _)

/-- Part 13. The copies of the first exchange in this stretch, one after the other. -/
theorem part13 (c : Dev nD) (v2 : BitVec 32) (v394 : BitVec 32) {R : sProp 𝕄} {Q : PUnit → sProp 𝕄}
    (h : iprop(GS m PT K ∗ StA PT c 13 15 ∗ R) ⊢ Q ⟨⟩) :
    iprop(GS m PT K ∗ StA PT c 11 15 ∗ R) ⊢ WP c (app (k0_part13 (F := F)) c v2 v394) Q := by
  unfold app
  rw [k0_part13_eq_skeleton]
  unfold k0_part13_skel
  refine WP_seq c (sendA_step m PT K c 11 15 (by decide) (by decide) _ (Fin.ext (k0_dev27_eq c)) ?_)
  refine WP_seq c (sendA_step m PT K c 12 15 (by decide) (by decide) _ (Fin.ext (k0_dev28_eq c)) ?_)
  exact WP_pure c _ h

/-- Part 18. The copies of the first exchange in this stretch, one after the other. -/
theorem part18 (c : Dev nD) (v2 : BitVec 32) (v585 : BitVec 32) (c16_i32_366 : BitVec 32) {R : sProp 𝕄} {Q : (BitVec 32) → sProp 𝕄}
    (h : ∀ a, iprop(GS m PT K ∗ StA PT c 19 30 ∗ R) ⊢ Q a) :
    iprop(GS m PT K ∗ StA PT c 16 30 ∗ R) ⊢ WP c (app (k0_part18 (F := F)) c v2 v585 c16_i32_366) Q := by
  unfold app
  rw [k0_part18_eq_skeleton]
  unfold k0_part18_skel
  refine WP_seq c (sendA_step m PT K c 16 30 (by decide) (by decide) _ (Fin.ext (k0_dev32_eq c)) ?_)
  refine WP_seq c (sendA_step m PT K c 17 30 (by decide) (by decide) _ (Fin.ext (k0_dev33_eq c)) ?_)
  refine WP_seq c (sendA_step m PT K c 18 30 (by decide) (by decide) _ (Fin.ext (k0_dev34_eq c)) ?_)
  exact WP_pure c _ (h _)

/-- Part 19. The copies of the first exchange in this stretch, one after the other. -/
theorem part19 (c : Dev nD) (v2 : BitVec 32) (v611 : BitVec 32) {R : sProp 𝕄} {Q : PUnit → sProp 𝕄}
    (h : iprop(GS m PT K ∗ StA PT c 21 30 ∗ R) ⊢ Q ⟨⟩) :
    iprop(GS m PT K ∗ StA PT c 19 30 ∗ R) ⊢ WP c (app (k0_part19 (F := F)) c v2 v611) Q := by
  unfold app
  rw [k0_part19_eq_skeleton]
  unfold k0_part19_skel
  refine WP_seq c (sendA_step m PT K c 19 30 (by decide) (by decide) _ (Fin.ext (k0_dev35_eq c)) ?_)
  refine WP_seq c (sendA_step m PT K c 20 30 (by decide) (by decide) _ (Fin.ext (k0_dev36_eq c)) ?_)
  exact WP_pure c _ h

/-- Part 20. The copies of the first exchange in this stretch, one after the other. -/
theorem part20 (c : Dev nD) (v2 : BitVec 32) {R : sProp 𝕄} {Q : PUnit → sProp 𝕄}
    (h : iprop(GS m PT K ∗ StA PT c 24 30 ∗ R) ⊢ Q ⟨⟩) :
    iprop(GS m PT K ∗ StA PT c 21 30 ∗ R) ⊢ WP c (app (k0_part20 (F := F)) c v2) Q := by
  unfold app
  rw [k0_part20_eq_skeleton]
  unfold k0_part20_skel
  refine WP_seq c (sendA_step m PT K c 21 30 (by decide) (by decide) _ (Fin.ext (k0_dev37_eq c)) ?_)
  refine WP_seq c (sendA_step m PT K c 22 30 (by decide) (by decide) _ (Fin.ext (k0_dev38_eq c)) ?_)
  refine WP_seq c (sendA_step m PT K c 23 30 (by decide) (by decide) _ (Fin.ext (k0_dev39_eq c)) ?_)
  exact WP_pure c _ h

/-- Part 21. The copies of the first exchange in this stretch, one after the other. -/
theorem part21 (c : Dev nD) (v2 : BitVec 32) {R : sProp 𝕄} {Q : PUnit → sProp 𝕄}
    (h : iprop(GS m PT K ∗ StA PT c 27 30 ∗ R) ⊢ Q ⟨⟩) :
    iprop(GS m PT K ∗ StA PT c 24 30 ∗ R) ⊢ WP c (app (k0_part21 (F := F)) c v2) Q := by
  unfold app
  rw [k0_part21_eq_skeleton]
  unfold k0_part21_skel
  refine WP_seq c (sendA_step m PT K c 24 30 (by decide) (by decide) _ (Fin.ext (k0_dev40_eq c)) ?_)
  refine WP_seq c (sendA_step m PT K c 25 30 (by decide) (by decide) _ (Fin.ext (k0_dev41_eq c)) ?_)
  refine WP_seq c (sendA_step m PT K c 26 30 (by decide) (by decide) _ (Fin.ext (k0_dev42_eq c)) ?_)
  exact WP_pure c _ h

/-- Part 27. The copies of the first exchange in this stretch, one after the other. -/
theorem part27 (c : Dev nD) (v2 : BitVec 32) {R : sProp 𝕄} {Q : PUnit → sProp 𝕄}
    (h : iprop(GS m PT K ∗ StA PT c 35 45 ∗ R) ⊢ Q ⟨⟩) :
    iprop(GS m PT K ∗ StA PT c 32 45 ∗ R) ⊢ WP c (app (k0_part27 (F := F)) c v2) Q := by
  unfold app
  rw [k0_part27_eq_skeleton]
  unfold k0_part27_skel
  refine WP_seq c (sendA_step m PT K c 32 45 (by decide) (by decide) _ (Fin.ext (k0_dev48_eq c)) ?_)
  refine WP_seq c (sendA_step m PT K c 33 45 (by decide) (by decide) _ (Fin.ext (k0_dev49_eq c)) ?_)
  refine WP_seq c (sendA_step m PT K c 34 45 (by decide) (by decide) _ (Fin.ext (k0_dev50_eq c)) ?_)
  exact WP_pure c _ h

/-- Part 28. The copies of the first exchange in this stretch, one after the other. -/
theorem part28 (c : Dev nD) (v2 : BitVec 32) {R : sProp 𝕄} {Q : (Σ' (v928 : BitVec 32), BitVec 32) → sProp 𝕄}
    (h : ∀ a, iprop(GS m PT K ∗ StA PT c 38 45 ∗ R) ⊢ Q a) :
    iprop(GS m PT K ∗ StA PT c 35 45 ∗ R) ⊢ WP c (app (k0_part28 (F := F)) c v2) Q := by
  unfold app
  rw [k0_part28_eq_skeleton]
  unfold k0_part28_skel
  refine WP_seq c (sendA_step m PT K c 35 45 (by decide) (by decide) _ (Fin.ext (k0_dev51_eq c)) ?_)
  refine WP_seq c (sendA_step m PT K c 36 45 (by decide) (by decide) _ (Fin.ext (k0_dev52_eq c)) ?_)
  refine WP_seq c (sendA_step m PT K c 37 45 (by decide) (by decide) _ (Fin.ext (k0_dev53_eq c)) ?_)
  exact WP_pure c _ (h _)

/-- Part 29. The copies of the first exchange in this stretch, one after the other. -/
theorem part29 (c : Dev nD) (v2 : BitVec 32) (v928 : BitVec 32) (c1_i32_654 : BitVec 32) {R : sProp 𝕄} {Q : (BitVec 32) → sProp 𝕄}
    (h : ∀ a, iprop(GS m PT K ∗ StA PT c 41 45 ∗ R) ⊢ Q a) :
    iprop(GS m PT K ∗ StA PT c 38 45 ∗ R) ⊢ WP c (app (k0_part29 (F := F)) c v2 v928 c1_i32_654) Q := by
  unfold app
  rw [k0_part29_eq_skeleton]
  unfold k0_part29_skel
  refine WP_seq c (sendA_step m PT K c 38 45 (by decide) (by decide) _ (Fin.ext (k0_dev54_eq c)) ?_)
  refine WP_seq c (sendA_step m PT K c 39 45 (by decide) (by decide) _ (Fin.ext (k0_dev55_eq c)) ?_)
  refine WP_seq c (sendA_step m PT K c 40 45 (by decide) (by decide) _ (Fin.ext (k0_dev56_eq c)) ?_)
  exact WP_pure c _ (h _)

/-- Part 30. The copies of the first exchange in this stretch, one after the other. -/
theorem part30 (c : Dev nD) (v2 : BitVec 32) (v955 : BitVec 32) {R : sProp 𝕄} {Q : (Σ' (v982 : BitVec 32), BitVec 32) → sProp 𝕄}
    (h : ∀ a, iprop(GS m PT K ∗ StA PT c 44 45 ∗ R) ⊢ Q a) :
    iprop(GS m PT K ∗ StA PT c 41 45 ∗ R) ⊢ WP c (app (k0_part30 (F := F)) c v2 v955) Q := by
  unfold app
  rw [k0_part30_eq_skeleton]
  unfold k0_part30_skel
  refine WP_seq c (sendA_step m PT K c 41 45 (by decide) (by decide) _ (Fin.ext (k0_dev57_eq c)) ?_)
  refine WP_seq c (sendA_step m PT K c 42 45 (by decide) (by decide) _ (Fin.ext (k0_dev58_eq c)) ?_)
  refine WP_seq c (sendA_step m PT K c 43 45 (by decide) (by decide) _ (Fin.ext (k0_dev59_eq c)) ?_)
  exact WP_pure c _ (h _)

/-- Part 35. The copies of the first exchange in this stretch, one after the other. -/
theorem part35 (c : Dev nD) (v2 : BitVec 32) (v1145 : BitVec 32) (c1_i32_784 : BitVec 32) {R : sProp 𝕄} {Q : (BitVec 32) → sProp 𝕄}
    (h : ∀ a, iprop(GS m PT K ∗ StA PT c 49 60 ∗ R) ⊢ Q a) :
    iprop(GS m PT K ∗ StA PT c 46 60 ∗ R) ⊢ WP c (app (k0_part35 (F := F)) c v2 v1145 c1_i32_784) Q := by
  unfold app
  rw [k0_part35_eq_skeleton]
  unfold k0_part35_skel
  refine WP_seq c (sendA_step m PT K c 46 60 (by decide) (by decide) _ (Fin.ext (k0_dev62_eq c)) ?_)
  refine WP_seq c (sendA_step m PT K c 47 60 (by decide) (by decide) _ (Fin.ext (k0_dev63_eq c)) ?_)
  refine WP_seq c (sendA_step m PT K c 48 60 (by decide) (by decide) _ (Fin.ext (k0_dev64_eq c)) ?_)
  exact WP_pure c _ (h _)

/-- Part 36. The copies of the first exchange in this stretch, one after the other. -/
theorem part36 (c : Dev nD) (v2 : BitVec 32) (v1172 : BitVec 32) {R : sProp 𝕄} {Q : (Σ' (v1199 : BitVec 32), BitVec 32) → sProp 𝕄}
    (h : ∀ a, iprop(GS m PT K ∗ StA PT c 52 60 ∗ R) ⊢ Q a) :
    iprop(GS m PT K ∗ StA PT c 49 60 ∗ R) ⊢ WP c (app (k0_part36 (F := F)) c v2 v1172) Q := by
  unfold app
  rw [k0_part36_eq_skeleton]
  unfold k0_part36_skel
  refine WP_seq c (sendA_step m PT K c 49 60 (by decide) (by decide) _ (Fin.ext (k0_dev65_eq c)) ?_)
  refine WP_seq c (sendA_step m PT K c 50 60 (by decide) (by decide) _ (Fin.ext (k0_dev66_eq c)) ?_)
  refine WP_seq c (sendA_step m PT K c 51 60 (by decide) (by decide) _ (Fin.ext (k0_dev67_eq c)) ?_)
  exact WP_pure c _ (h _)

/-- Part 37. The copies of the first exchange in this stretch, one after the other. -/
theorem part37 (c : Dev nD) (v2 : BitVec 32) (v1199 : BitVec 32) (c16_i32_846 : BitVec 32) {R : sProp 𝕄} {Q : (BitVec 32) → sProp 𝕄}
    (h : ∀ a, iprop(GS m PT K ∗ StA PT c 55 60 ∗ R) ⊢ Q a) :
    iprop(GS m PT K ∗ StA PT c 52 60 ∗ R) ⊢ WP c (app (k0_part37 (F := F)) c v2 v1199 c16_i32_846) Q := by
  unfold app
  rw [k0_part37_eq_skeleton]
  unfold k0_part37_skel
  refine WP_seq c (sendA_step m PT K c 52 60 (by decide) (by decide) _ (Fin.ext (k0_dev68_eq c)) ?_)
  refine WP_seq c (sendA_step m PT K c 53 60 (by decide) (by decide) _ (Fin.ext (k0_dev69_eq c)) ?_)
  refine WP_seq c (sendA_step m PT K c 54 60 (by decide) (by decide) _ (Fin.ext (k0_dev70_eq c)) ?_)
  exact WP_pure c _ (h _)

/-- Part 38. The copies of the first exchange in this stretch, one after the other. -/
theorem part38 (c : Dev nD) (v2 : BitVec 32) (v1225 : BitVec 32) {R : sProp 𝕄} {Q : PUnit → sProp 𝕄}
    (h : iprop(GS m PT K ∗ StA PT c 57 60 ∗ R) ⊢ Q ⟨⟩) :
    iprop(GS m PT K ∗ StA PT c 55 60 ∗ R) ⊢ WP c (app (k0_part38 (F := F)) c v2 v1225) Q := by
  unfold app
  rw [k0_part38_eq_skeleton]
  unfold k0_part38_skel
  refine WP_seq c (sendA_step m PT K c 55 60 (by decide) (by decide) _ (Fin.ext (k0_dev71_eq c)) ?_)
  refine WP_seq c (sendA_step m PT K c 56 60 (by decide) (by decide) _ (Fin.ext (k0_dev72_eq c)) ?_)
  exact WP_pure c _ h

end Cert.KernelIdealProof

end
-- ==== Proof.KI.PartsR.lean ====
/-
The waits for what lands in the first exchange.
-/
module

public import proofs.«01_k».proof.Proof.KI.App

@[expose] public section

set_option maxRecDepth 10000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (PT : Parts F) (K : Dev nD × Fin 7 → ℕ)

/-- Part 40. The waits in this stretch. -/
theorem part40 (c : Dev nD) (v2 : BitVec 32) {R : sProp 𝕄} {Q : PUnit → sProp 𝕄}
    (h : iprop(GS m PT K ∗ WSt m PT c 4 (OB c 0) 4 ∗ R) ⊢ Q ⟨⟩) :
    iprop(GS m PT K ∗ WSt m PT c 4 (OB c 0) 1 ∗ R) ⊢ WP c (app (k0_part40 (F := F)) v2) Q := by
  unfold app
  rw [k0_part40_eq_skeleton]
  unfold k0_part40_skel
  refine WP_seq c (wait_step m PT K c 4 rfl rfl 2 (OB c 0) (by decide) (above_OB c 0) 1 (by exact rfl) (by exact rfl) (by decide) ?_)
  refine WP_seq c (wait_step m PT K c 4 rfl rfl 2 (OB c 0) (by decide) (above_OB c 0) 2 (by exact rfl) (by exact rfl) (by decide) ?_)
  refine WP_seq c (wait_step m PT K c 4 rfl rfl 2 (OB c 0) (by decide) (above_OB c 0) 3 (by exact rfl) (by exact rfl) (by decide) ?_)
  exact WP_pure c _ h

/-- Part 41. The waits in this stretch. -/
theorem part41 (c : Dev nD) (v2 : BitVec 32) {R : sProp 𝕄} {Q : PUnit → sProp 𝕄}
    (h : iprop(GS m PT K ∗ WSt m PT c 4 (OB c 0) 8 ∗ R) ⊢ Q ⟨⟩) :
    iprop(GS m PT K ∗ WSt m PT c 4 (OB c 0) 4 ∗ R) ⊢ WP c (app (k0_part41 (F := F)) v2) Q := by
  unfold app
  rw [k0_part41_eq_skeleton]
  unfold k0_part41_skel
  refine WP_seq c (wait_step m PT K c 4 rfl rfl 2 (OB c 0) (by decide) (above_OB c 0) 4 (by exact rfl) (by exact rfl) (by decide) ?_)
  refine WP_seq c (wait_step m PT K c 4 rfl rfl 2 (OB c 0) (by decide) (above_OB c 0) 5 (by exact rfl) (by exact rfl) (by decide) ?_)
  refine WP_seq c (wait_step m PT K c 4 rfl rfl 2 (OB c 0) (by decide) (above_OB c 0) 6 (by exact rfl) (by exact rfl) (by decide) ?_)
  refine WP_seq c (wait_step m PT K c 4 rfl rfl 2 (OB c 0) (by decide) (above_OB c 0) 7 (by exact rfl) (by exact rfl) (by decide) ?_)
  exact WP_pure c _ h

/-- Part 42. The waits in this stretch. -/
theorem part42 (c : Dev nD) (v2 : BitVec 32) {R : sProp 𝕄} {Q : PUnit → sProp 𝕄}
    (h : iprop(GS m PT K ∗ WSt m PT c 4 (OB c 0) 11 ∗ R) ⊢ Q ⟨⟩) :
    iprop(GS m PT K ∗ WSt m PT c 4 (OB c 0) 8 ∗ R) ⊢ WP c (app (k0_part42 (F := F)) v2) Q := by
  unfold app
  rw [k0_part42_eq_skeleton]
  unfold k0_part42_skel
  refine WP_seq c (wait_step m PT K c 4 rfl rfl 2 (OB c 0) (by decide) (above_OB c 0) 8 (by exact rfl) (by exact rfl) (by decide) ?_)
  refine WP_seq c (wait_step m PT K c 4 rfl rfl 2 (OB c 0) (by decide) (above_OB c 0) 9 (by exact rfl) (by exact rfl) (by decide) ?_)
  refine WP_seq c (wait_step m PT K c 4 rfl rfl 2 (OB c 0) (by decide) (above_OB c 0) 10 (by exact rfl) (by exact rfl) (by decide) ?_)
  exact WP_pure c _ h

/-- Part 43. The waits in this stretch. -/
theorem part43 (c : Dev nD) (v2 : BitVec 32) {R : sProp 𝕄} {Q : PUnit → sProp 𝕄}
    (h : iprop(GS m PT K ∗ WSt m PT c 4 (OB c 0) 15 ∗ R) ⊢ Q ⟨⟩) :
    iprop(GS m PT K ∗ WSt m PT c 4 (OB c 0) 11 ∗ R) ⊢ WP c (app (k0_part43 (F := F)) v2) Q := by
  unfold app
  rw [k0_part43_eq_skeleton]
  unfold k0_part43_skel
  refine WP_seq c (wait_step m PT K c 4 rfl rfl 2 (OB c 0) (by decide) (above_OB c 0) 11 (by exact rfl) (by exact rfl) (by decide) ?_)
  refine WP_seq c (wait_step m PT K c 4 rfl rfl 2 (OB c 0) (by decide) (above_OB c 0) 12 (by exact rfl) (by exact rfl) (by decide) ?_)
  refine WP_seq c (wait_step m PT K c 4 rfl rfl 2 (OB c 0) (by decide) (above_OB c 0) 13 (by exact rfl) (by exact rfl) (by decide) ?_)
  refine WP_seq c (wait_step m PT K c 4 rfl rfl 2 (OB c 0) (by decide) (above_OB c 0) 14 (by exact rfl) (by exact rfl) (by decide) ?_)
  exact WP_pure c _ h

/-- Part 44. The waits in this stretch. -/
theorem part44 (c : Dev nD) (v2 : BitVec 32) {R : sProp 𝕄} {Q : PUnit → sProp 𝕄}
    (h : iprop(GS m PT K ∗ WSt m PT c 4 (OB c 0) 18 ∗ R) ⊢ Q ⟨⟩) :
    iprop(GS m PT K ∗ WSt m PT c 4 (OB c 0) 15 ∗ R) ⊢ WP c (app (k0_part44 (F := F)) v2) Q := by
  unfold app
  rw [k0_part44_eq_skeleton]
  unfold k0_part44_skel
  refine WP_seq c (wait_step m PT K c 4 rfl rfl 2 (OB c 0) (by decide) (above_OB c 0) 15 (by exact rfl) (by exact rfl) (by decide) ?_)
  refine WP_seq c (wait_step m PT K c 4 rfl rfl 2 (OB c 0) (by decide) (above_OB c 0) 16 (by exact rfl) (by exact rfl) (by decide) ?_)
  refine WP_seq c (wait_step m PT K c 4 rfl rfl 2 (OB c 0) (by decide) (above_OB c 0) 17 (by exact rfl) (by exact rfl) (by decide) ?_)
  exact WP_pure c _ h

/-- Part 45. The waits in this stretch. -/
theorem part45 (c : Dev nD) (v2 : BitVec 32) {R : sProp 𝕄} {Q : PUnit → sProp 𝕄}
    (h : iprop(GS m PT K ∗ WSt m PT c 4 (OB c 0) 22 ∗ R) ⊢ Q ⟨⟩) :
    iprop(GS m PT K ∗ WSt m PT c 4 (OB c 0) 18 ∗ R) ⊢ WP c (app (k0_part45 (F := F)) v2) Q := by
  unfold app
  rw [k0_part45_eq_skeleton]
  unfold k0_part45_skel
  refine WP_seq c (wait_step m PT K c 4 rfl rfl 2 (OB c 0) (by decide) (above_OB c 0) 18 (by exact rfl) (by exact rfl) (by decide) ?_)
  refine WP_seq c (wait_step m PT K c 4 rfl rfl 2 (OB c 0) (by decide) (above_OB c 0) 19 (by exact rfl) (by exact rfl) (by decide) ?_)
  refine WP_seq c (wait_step m PT K c 4 rfl rfl 2 (OB c 0) (by decide) (above_OB c 0) 20 (by exact rfl) (by exact rfl) (by decide) ?_)
  refine WP_seq c (wait_step m PT K c 4 rfl rfl 2 (OB c 0) (by decide) (above_OB c 0) 21 (by exact rfl) (by exact rfl) (by decide) ?_)
  exact WP_pure c _ h

/-- Part 46. The waits in this stretch. -/
theorem part46 (c : Dev nD) (v2 : BitVec 32) {R : sProp 𝕄} {Q : PUnit → sProp 𝕄}
    (h : iprop(GS m PT K ∗ WSt m PT c 4 (OB c 0) 25 ∗ R) ⊢ Q ⟨⟩) :
    iprop(GS m PT K ∗ WSt m PT c 4 (OB c 0) 22 ∗ R) ⊢ WP c (app (k0_part46 (F := F)) v2) Q := by
  unfold app
  rw [k0_part46_eq_skeleton]
  unfold k0_part46_skel
  refine WP_seq c (wait_step m PT K c 4 rfl rfl 2 (OB c 0) (by decide) (above_OB c 0) 22 (by exact rfl) (by exact rfl) (by decide) ?_)
  refine WP_seq c (wait_step m PT K c 4 rfl rfl 2 (OB c 0) (by decide) (above_OB c 0) 23 (by exact rfl) (by exact rfl) (by decide) ?_)
  refine WP_seq c (wait_step m PT K c 4 rfl rfl 2 (OB c 0) (by decide) (above_OB c 0) 24 (by exact rfl) (by exact rfl) (by decide) ?_)
  exact WP_pure c _ h

/-- Part 47. The waits in this stretch. -/
theorem part47 (c : Dev nD) (v2 : BitVec 32) {R : sProp 𝕄} {Q : PUnit → sProp 𝕄}
    (h : iprop(GS m PT K ∗ WSt m PT c 4 (OB c 0) 29 ∗ R) ⊢ Q ⟨⟩) :
    iprop(GS m PT K ∗ WSt m PT c 4 (OB c 0) 25 ∗ R) ⊢ WP c (app (k0_part47 (F := F)) v2) Q := by
  unfold app
  rw [k0_part47_eq_skeleton]
  unfold k0_part47_skel
  refine WP_seq c (wait_step m PT K c 4 rfl rfl 2 (OB c 0) (by decide) (above_OB c 0) 25 (by exact rfl) (by exact rfl) (by decide) ?_)
  refine WP_seq c (wait_step m PT K c 4 rfl rfl 2 (OB c 0) (by decide) (above_OB c 0) 26 (by exact rfl) (by exact rfl) (by decide) ?_)
  refine WP_seq c (wait_step m PT K c 4 rfl rfl 2 (OB c 0) (by decide) (above_OB c 0) 27 (by exact rfl) (by exact rfl) (by decide) ?_)
  refine WP_seq c (wait_step m PT K c 4 rfl rfl 2 (OB c 0) (by decide) (above_OB c 0) 28 (by exact rfl) (by exact rfl) (by decide) ?_)
  exact WP_pure c _ h

/-- Part 48. The waits in this stretch. -/
theorem part48 (c : Dev nD) (v2 : BitVec 32) {R : sProp 𝕄} {Q : PUnit → sProp 𝕄}
    (h : iprop(GS m PT K ∗ WSt m PT c 4 (OB c 0) 32 ∗ R) ⊢ Q ⟨⟩) :
    iprop(GS m PT K ∗ WSt m PT c 4 (OB c 0) 29 ∗ R) ⊢ WP c (app (k0_part48 (F := F)) v2) Q := by
  unfold app
  rw [k0_part48_eq_skeleton]
  unfold k0_part48_skel
  refine WP_seq c (wait_step m PT K c 4 rfl rfl 2 (OB c 0) (by decide) (above_OB c 0) 29 (by exact rfl) (by exact rfl) (by decide) ?_)
  refine WP_seq c (wait_step m PT K c 4 rfl rfl 2 (OB c 0) (by decide) (above_OB c 0) 30 (by exact rfl) (by exact rfl) (by decide) ?_)
  refine WP_seq c (wait_step m PT K c 4 rfl rfl 2 (OB c 0) (by decide) (above_OB c 0) 31 (by exact rfl) (by exact rfl) (by decide) ?_)
  exact WP_pure c _ h

/-- Part 49. The waits in this stretch. -/
theorem part49 (c : Dev nD) (v2 : BitVec 32) {R : sProp 𝕄} {Q : (BitVec 32) → sProp 𝕄}
    (h : ∀ a, iprop(GS m PT K ∗ WSt m PT c 4 (OB c 0) 36 ∗ R) ⊢ Q a) :
    iprop(GS m PT K ∗ WSt m PT c 4 (OB c 0) 32 ∗ R) ⊢ WP c (app (k0_part49 (F := F)) v2) Q := by
  unfold app
  rw [k0_part49_eq_skeleton]
  unfold k0_part49_skel
  refine WP_seq c (wait_step m PT K c 4 rfl rfl 2 (OB c 0) (by decide) (above_OB c 0) 32 (by exact rfl) (by exact rfl) (by decide) ?_)
  refine WP_seq c (wait_step m PT K c 4 rfl rfl 2 (OB c 0) (by decide) (above_OB c 0) 33 (by exact rfl) (by exact rfl) (by decide) ?_)
  refine WP_seq c (wait_step m PT K c 4 rfl rfl 2 (OB c 0) (by decide) (above_OB c 0) 34 (by exact rfl) (by exact rfl) (by decide) ?_)
  refine WP_seq c (wait_step m PT K c 4 rfl rfl 2 (OB c 0) (by decide) (above_OB c 0) 35 (by exact rfl) (by exact rfl) (by decide) ?_)
  exact WP_pure c _ (h _)

/-- Part 50. The waits in this stretch. -/
theorem part50 (c : Dev nD) (v2 : BitVec 32) (c1_i32_1296 : BitVec 32) {R : sProp 𝕄} {Q : PUnit → sProp 𝕄}
    (h : iprop(GS m PT K ∗ WSt m PT c 4 (OB c 0) 39 ∗ R) ⊢ Q ⟨⟩) :
    iprop(GS m PT K ∗ WSt m PT c 4 (OB c 0) 36 ∗ R) ⊢ WP c (app (k0_part50 (F := F)) v2 c1_i32_1296) Q := by
  unfold app
  rw [k0_part50_eq_skeleton]
  unfold k0_part50_skel
  refine WP_seq c (wait_step m PT K c 4 rfl rfl 2 (OB c 0) (by decide) (above_OB c 0) 36 (by exact rfl) (by exact rfl) (by decide) ?_)
  refine WP_seq c (wait_step m PT K c 4 rfl rfl 2 (OB c 0) (by decide) (above_OB c 0) 37 (by exact rfl) (by exact rfl) (by decide) ?_)
  refine WP_seq c (wait_step m PT K c 4 rfl rfl 2 (OB c 0) (by decide) (above_OB c 0) 38 (by exact rfl) (by exact rfl) (by decide) ?_)
  exact WP_pure c _ h

/-- Part 51. The waits in this stretch. -/
theorem part51 (c : Dev nD) (v2 : BitVec 32) {R : sProp 𝕄} {Q : (BitVec 32) → sProp 𝕄}
    (h : ∀ a, iprop(GS m PT K ∗ WSt m PT c 4 (OB c 0) 43 ∗ R) ⊢ Q a) :
    iprop(GS m PT K ∗ WSt m PT c 4 (OB c 0) 39 ∗ R) ⊢ WP c (app (k0_part51 (F := F)) v2) Q := by
  unfold app
  rw [k0_part51_eq_skeleton]
  unfold k0_part51_skel
  refine WP_seq c (wait_step m PT K c 4 rfl rfl 2 (OB c 0) (by decide) (above_OB c 0) 39 (by exact rfl) (by exact rfl) (by decide) ?_)
  refine WP_seq c (wait_step m PT K c 4 rfl rfl 2 (OB c 0) (by decide) (above_OB c 0) 40 (by exact rfl) (by exact rfl) (by decide) ?_)
  refine WP_seq c (wait_step m PT K c 4 rfl rfl 2 (OB c 0) (by decide) (above_OB c 0) 41 (by exact rfl) (by exact rfl) (by decide) ?_)
  refine WP_seq c (wait_step m PT K c 4 rfl rfl 2 (OB c 0) (by decide) (above_OB c 0) 42 (by exact rfl) (by exact rfl) (by decide) ?_)
  exact WP_pure c _ (h _)

/-- Part 52. The waits in this stretch. -/
theorem part52 (c : Dev nD) (v2 : BitVec 32) (v1528 : BitVec 32) {R : sProp 𝕄} {Q : PUnit → sProp 𝕄}
    (h : iprop(GS m PT K ∗ WSt m PT c 4 (OB c 0) 46 ∗ R) ⊢ Q ⟨⟩) :
    iprop(GS m PT K ∗ WSt m PT c 4 (OB c 0) 43 ∗ R) ⊢ WP c (app (k0_part52 (F := F)) v2 v1528) Q := by
  unfold app
  rw [k0_part52_eq_skeleton]
  unfold k0_part52_skel
  refine WP_seq c (wait_step m PT K c 4 rfl rfl 2 (OB c 0) (by decide) (above_OB c 0) 43 (by exact rfl) (by exact rfl) (by decide) ?_)
  refine WP_seq c (wait_step m PT K c 4 rfl rfl 2 (OB c 0) (by decide) (above_OB c 0) 44 (by exact rfl) (by exact rfl) (by decide) ?_)
  refine WP_seq c (wait_step m PT K c 4 rfl rfl 2 (OB c 0) (by decide) (above_OB c 0) 45 (by exact rfl) (by exact rfl) (by decide) ?_)
  exact WP_pure c _ h

/-- Part 53. The waits in this stretch. -/
theorem part53 (c : Dev nD) (v2 : BitVec 32) {R : sProp 𝕄} {Q : (Σ' (v1570 : BitVec 32), BitVec 32) → sProp 𝕄}
    (h : ∀ a, iprop(GS m PT K ∗ WSt m PT c 4 (OB c 0) 50 ∗ R) ⊢ Q a) :
    iprop(GS m PT K ∗ WSt m PT c 4 (OB c 0) 46 ∗ R) ⊢ WP c (app (k0_part53 (F := F)) v2) Q := by
  unfold app
  rw [k0_part53_eq_skeleton]
  unfold k0_part53_skel
  refine WP_seq c (wait_step m PT K c 4 rfl rfl 2 (OB c 0) (by decide) (above_OB c 0) 46 (by exact rfl) (by exact rfl) (by decide) ?_)
  refine WP_seq c (wait_step m PT K c 4 rfl rfl 2 (OB c 0) (by decide) (above_OB c 0) 47 (by exact rfl) (by exact rfl) (by decide) ?_)
  refine WP_seq c (wait_step m PT K c 4 rfl rfl 2 (OB c 0) (by decide) (above_OB c 0) 48 (by exact rfl) (by exact rfl) (by decide) ?_)
  refine WP_seq c (wait_step m PT K c 4 rfl rfl 2 (OB c 0) (by decide) (above_OB c 0) 49 (by exact rfl) (by exact rfl) (by decide) ?_)
  exact WP_pure c _ (h _)

/-- Part 54. The waits in this stretch. -/
theorem part54 (c : Dev nD) (v2 : BitVec 32) (v1570 : BitVec 32) (c0_i32_1437 : BitVec 32) {R : sProp 𝕄} {Q : PUnit → sProp 𝕄}
    (h : iprop(GS m PT K ∗ WSt m PT c 4 (OB c 0) 53 ∗ R) ⊢ Q ⟨⟩) :
    iprop(GS m PT K ∗ WSt m PT c 4 (OB c 0) 50 ∗ R) ⊢ WP c (app (k0_part54 (F := F)) v2 v1570 c0_i32_1437) Q := by
  unfold app
  rw [k0_part54_eq_skeleton]
  unfold k0_part54_skel
  refine WP_seq c (wait_step m PT K c 4 rfl rfl 2 (OB c 0) (by decide) (above_OB c 0) 50 (by exact rfl) (by exact rfl) (by decide) ?_)
  refine WP_seq c (wait_step m PT K c 4 rfl rfl 2 (OB c 0) (by decide) (above_OB c 0) 51 (by exact rfl) (by exact rfl) (by decide) ?_)
  refine WP_seq c (wait_step m PT K c 4 rfl rfl 2 (OB c 0) (by decide) (above_OB c 0) 52 (by exact rfl) (by exact rfl) (by decide) ?_)
  exact WP_pure c _ h

/-- Part 55. The waits in this stretch. -/
theorem part55 (c : Dev nD) (v2 : BitVec 32) {R : sProp 𝕄} {Q : PUnit → sProp 𝕄}
    (h : iprop(GS m PT K ∗ WSt m PT c 4 (OB c 0) 57 ∗ R) ⊢ Q ⟨⟩) :
    iprop(GS m PT K ∗ WSt m PT c 4 (OB c 0) 53 ∗ R) ⊢ WP c (app (k0_part55 (F := F)) v2) Q := by
  unfold app
  rw [k0_part55_eq_skeleton]
  unfold k0_part55_skel
  refine WP_seq c (wait_step m PT K c 4 rfl rfl 2 (OB c 0) (by decide) (above_OB c 0) 53 (by exact rfl) (by exact rfl) (by decide) ?_)
  refine WP_seq c (wait_step m PT K c 4 rfl rfl 2 (OB c 0) (by decide) (above_OB c 0) 54 (by exact rfl) (by exact rfl) (by decide) ?_)
  refine WP_seq c (wait_step m PT K c 4 rfl rfl 2 (OB c 0) (by decide) (above_OB c 0) 55 (by exact rfl) (by exact rfl) (by decide) ?_)
  refine WP_seq c (wait_step m PT K c 4 rfl rfl 2 (OB c 0) (by decide) (above_OB c 0) 56 (by exact rfl) (by exact rfl) (by decide) ?_)
  exact WP_pure c _ h

end Cert.KernelIdealProof

end
-- ==== Proof.KI.PartsB.lean ====
/-
The parts that do nothing but send in the second exchange.
-/
module

public import proofs.«01_k».proof.Proof.KI.App

@[expose] public section

set_option maxRecDepth 10000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (PT : Parts F) (K : Dev nD × Fin 7 → ℕ)

/-- Part 58. The copies of the second exchange in this stretch. -/
theorem part58 (c : Dev nD) (v2 : BitVec 32) (v1667 : BitVec 32) (v1672 : BitVec 32) {R : sProp 𝕄} {Q : PUnit → sProp 𝕄}
    (h : iprop(GS m PT K ∗ StB PT c 3 ∗ R) ⊢ Q ⟨⟩) :
    iprop(GS m PT K ∗ StB PT c 0 ∗ R) ⊢ WP c (app (k0_part58 (F := F)) c v2 v1667 v1672) Q := by
  unfold app
  rw [k0_part58_eq_skeleton]
  unfold k0_part58_skel
  refine WP_seq c (sendB_step m PT K c 0 (by decide) _ (Fin.ext (k0_dev76_eq c)) ?_)
  refine WP_seq c (sendB_step m PT K c 1 (by decide) _ (Fin.ext (k0_dev77_eq c)) ?_)
  refine WP_seq c (sendB_step m PT K c 2 (by decide) _ (Fin.ext (k0_dev78_eq c)) ?_)
  exact WP_pure c _ h

/-- Part 59. The copies of the second exchange in this stretch. -/
theorem part59 (c : Dev nD) (v2 : BitVec 32) (v1667 : BitVec 32) {R : sProp 𝕄} {Q : (Σ' (v1709 : BitVec 32), BitVec 32) → sProp 𝕄}
    (h : ∀ a, iprop(GS m PT K ∗ StB PT c 6 ∗ R) ⊢ Q a) :
    iprop(GS m PT K ∗ StB PT c 3 ∗ R) ⊢ WP c (app (k0_part59 (F := F)) c v2 v1667) Q := by
  unfold app
  rw [k0_part59_eq_skeleton]
  unfold k0_part59_skel
  refine WP_seq c (sendB_step m PT K c 3 (by decide) _ (Fin.ext (k0_dev79_eq c)) ?_)
  refine WP_seq c (sendB_step m PT K c 4 (by decide) _ (Fin.ext (k0_dev80_eq c)) ?_)
  refine WP_seq c (sendB_step m PT K c 5 (by decide) _ (Fin.ext (k0_dev81_eq c)) ?_)
  exact WP_pure c _ (h _)

/-- Part 60. The copies of the second exchange in this stretch. -/
theorem part60 (c : Dev nD) (v2 : BitVec 32) (v1709 : BitVec 32) (v1730 : BitVec 32) {R : sProp 𝕄} {Q : (BitVec 32) → sProp 𝕄}
    (h : ∀ a, iprop(GS m PT K ∗ StB PT c 8 ∗ R) ⊢ Q a) :
    iprop(GS m PT K ∗ StB PT c 6 ∗ R) ⊢ WP c (app (k0_part60 (F := F)) c v2 v1709 v1730) Q := by
  unfold app
  rw [k0_part60_eq_skeleton]
  unfold k0_part60_skel
  refine WP_seq c (sendB_step m PT K c 6 (by decide) _ (Fin.ext (k0_dev82_eq c)) ?_)
  refine WP_seq c (sendB_step m PT K c 7 (by decide) _ (Fin.ext (k0_dev83_eq c)) ?_)
  exact WP_pure c _ (h _)

/-- Part 61. The copies of the second exchange in this stretch. -/
theorem part61 (c : Dev nD) (v2 : BitVec 32) (v1751 : BitVec 32) {R : sProp 𝕄} {Q : (Σ' (v1786 : BitVec 32), BitVec 32) → sProp 𝕄}
    (h : ∀ a, iprop(GS m PT K ∗ StB PT c 11 ∗ R) ⊢ Q a) :
    iprop(GS m PT K ∗ StB PT c 8 ∗ R) ⊢ WP c (app (k0_part61 (F := F)) c v2 v1751) Q := by
  unfold app
  rw [k0_part61_eq_skeleton]
  unfold k0_part61_skel
  refine WP_seq c (sendB_step m PT K c 8 (by decide) _ (Fin.ext (k0_dev84_eq c)) ?_)
  refine WP_seq c (sendB_step m PT K c 9 (by decide) _ (Fin.ext (k0_dev85_eq c)) ?_)
  refine WP_seq c (sendB_step m PT K c 10 (by decide) _ (Fin.ext (k0_dev86_eq c)) ?_)
  exact WP_pure c _ (h _)

/-- Part 62. The copies of the second exchange in this stretch. -/
theorem part62 (c : Dev nD) (v2 : BitVec 32) (v1786 : BitVec 32) (c0_i32_1676 : BitVec 32) {R : sProp 𝕄} {Q : (Σ' (v1793 : BitVec 32), BitVec 32) → sProp 𝕄}
    (h : ∀ a, iprop(GS m PT K ∗ StB PT c 14 ∗ R) ⊢ Q a) :
    iprop(GS m PT K ∗ StB PT c 11 ∗ R) ⊢ WP c (app (k0_part62 (F := F)) c v2 v1786 c0_i32_1676) Q := by
  unfold app
  rw [k0_part62_eq_skeleton]
  unfold k0_part62_skel
  refine WP_seq c (sendB_step m PT K c 11 (by decide) _ (Fin.ext (k0_dev87_eq c)) ?_)
  refine WP_seq c (sendB_step m PT K c 12 (by decide) _ (Fin.ext (k0_dev88_eq c)) ?_)
  refine WP_seq c (sendB_step m PT K c 13 (by decide) _ (Fin.ext (k0_dev89_eq c)) ?_)
  exact WP_pure c _ (h _)

/-- Part 63. The copies of the second exchange in this stretch. -/
theorem part63 (c : Dev nD) (v2 : BitVec 32) (v1793 : BitVec 32) (v1816 : BitVec 32) {R : sProp 𝕄} {Q : (BitVec 32) → sProp 𝕄}
    (h : ∀ a, iprop(GS m PT K ∗ StB PT c 16 ∗ R) ⊢ Q a) :
    iprop(GS m PT K ∗ StB PT c 14 ∗ R) ⊢ WP c (app (k0_part63 (F := F)) c v2 v1793 v1816) Q := by
  unfold app
  rw [k0_part63_eq_skeleton]
  unfold k0_part63_skel
  refine WP_seq c (sendB_step m PT K c 14 (by decide) _ (Fin.ext (k0_dev90_eq c)) ?_)
  refine WP_seq c (sendB_step m PT K c 15 (by decide) _ (Fin.ext (k0_dev91_eq c)) ?_)
  exact WP_pure c _ (h _)

/-- Part 64. The copies of the second exchange in this stretch. -/
theorem part64 (c : Dev nD) (v2 : BitVec 32) (v1835 : BitVec 32) {R : sProp 𝕄} {Q : PUnit → sProp 𝕄}
    (h : iprop(GS m PT K ∗ StB PT c 19 ∗ R) ⊢ Q ⟨⟩) :
    iprop(GS m PT K ∗ StB PT c 16 ∗ R) ⊢ WP c (app (k0_part64 (F := F)) c v2 v1835) Q := by
  unfold app
  rw [k0_part64_eq_skeleton]
  unfold k0_part64_skel
  refine WP_seq c (sendB_step m PT K c 16 (by decide) _ (Fin.ext (k0_dev92_eq c)) ?_)
  refine WP_seq c (sendB_step m PT K c 17 (by decide) _ (Fin.ext (k0_dev93_eq c)) ?_)
  refine WP_seq c (sendB_step m PT K c 18 (by decide) _ (Fin.ext (k0_dev94_eq c)) ?_)
  exact WP_pure c _ h

/-- Part 65. The copies of the second exchange in this stretch. -/
theorem part65 (c : Dev nD) (v2 : BitVec 32) {R : sProp 𝕄} {Q : (BitVec 32) → sProp 𝕄}
    (h : ∀ a, iprop(GS m PT K ∗ StB PT c 22 ∗ R) ⊢ Q a) :
    iprop(GS m PT K ∗ StB PT c 19 ∗ R) ⊢ WP c (app (k0_part65 (F := F)) c v2) Q := by
  unfold app
  rw [k0_part65_eq_skeleton]
  unfold k0_part65_skel
  refine WP_seq c (sendB_step m PT K c 19 (by decide) _ (Fin.ext (k0_dev95_eq c)) ?_)
  refine WP_seq c (sendB_step m PT K c 20 (by decide) _ (Fin.ext (k0_dev96_eq c)) ?_)
  refine WP_seq c (sendB_step m PT K c 21 (by decide) _ (Fin.ext (k0_dev97_eq c)) ?_)
  exact WP_pure c _ (h _)

/-- Part 66. The copies of the second exchange in this stretch. -/
theorem part66 (c : Dev nD) (v2 : BitVec 32) (v1877 : BitVec 32) {R : sProp 𝕄} {Q : (Σ' (v1919 : BitVec 32) (v1930 : BitVec 32), BitVec 32) → sProp 𝕄}
    (h : ∀ a, iprop(GS m PT K ∗ StB PT c 25 ∗ R) ⊢ Q a) :
    iprop(GS m PT K ∗ StB PT c 22 ∗ R) ⊢ WP c (app (k0_part66 (F := F)) c v2 v1877) Q := by
  unfold app
  rw [k0_part66_eq_skeleton]
  unfold k0_part66_skel
  refine WP_seq c (sendB_step m PT K c 22 (by decide) _ (Fin.ext (k0_dev98_eq c)) ?_)
  refine WP_seq c (sendB_step m PT K c 23 (by decide) _ (Fin.ext (k0_dev99_eq c)) ?_)
  refine WP_seq c (sendB_step m PT K c 24 (by decide) _ (Fin.ext (k0_dev100_eq c)) ?_)
  exact WP_pure c _ (h _)

/-- Part 67. The copies of the second exchange in this stretch. -/
theorem part67 (c : Dev nD) (v2 : BitVec 32) (v1919 : BitVec 32) (v1930 : BitVec 32) (c256_i32_1818 : BitVec 32) {R : sProp 𝕄} {Q : PUnit → sProp 𝕄}
    (h : iprop(GS m PT K ∗ StB PT c 28 ∗ R) ⊢ Q ⟨⟩) :
    iprop(GS m PT K ∗ StB PT c 25 ∗ R) ⊢ WP c (app (k0_part67 (F := F)) c v2 v1919 v1930 c256_i32_1818) Q := by
  unfold app
  rw [k0_part67_eq_skeleton]
  unfold k0_part67_skel
  refine WP_seq c (sendB_step m PT K c 25 (by decide) _ (Fin.ext (k0_dev101_eq c)) ?_)
  refine WP_seq c (sendB_step m PT K c 26 (by decide) _ (Fin.ext (k0_dev102_eq c)) ?_)
  refine WP_seq c (sendB_step m PT K c 27 (by decide) _ (Fin.ext (k0_dev103_eq c)) ?_)
  exact WP_pure c _ h

/-- Part 68. The copies of the second exchange in this stretch. -/
theorem part68 (c : Dev nD) (v2 : BitVec 32) {R : sProp 𝕄} {Q : (BitVec 32) → sProp 𝕄}
    (h : ∀ a, iprop(GS m PT K ∗ StB PT c 30 ∗ R) ⊢ Q a) :
    iprop(GS m PT K ∗ StB PT c 28 ∗ R) ⊢ WP c (app (k0_part68 (F := F)) c v2) Q := by
  unfold app
  rw [k0_part68_eq_skeleton]
  unfold k0_part68_skel
  refine WP_seq c (sendB_step m PT K c 28 (by decide) _ (Fin.ext (k0_dev104_eq c)) ?_)
  refine WP_seq c (sendB_step m PT K c 29 (by decide) _ (Fin.ext (k0_dev105_eq c)) ?_)
  exact WP_pure c _ (h _)

/-- Part 69. The copies of the second exchange in this stretch. -/
theorem part69 (c : Dev nD) (v2 : BitVec 32) (v1961 : BitVec 32) {R : sProp 𝕄} {Q : (Σ' (v2003 : BitVec 32) (v2016 : BitVec 32), BitVec 32) → sProp 𝕄}
    (h : ∀ a, iprop(GS m PT K ∗ StB PT c 33 ∗ R) ⊢ Q a) :
    iprop(GS m PT K ∗ StB PT c 30 ∗ R) ⊢ WP c (app (k0_part69 (F := F)) c v2 v1961) Q := by
  unfold app
  rw [k0_part69_eq_skeleton]
  unfold k0_part69_skel
  refine WP_seq c (sendB_step m PT K c 30 (by decide) _ (Fin.ext (k0_dev106_eq c)) ?_)
  refine WP_seq c (sendB_step m PT K c 31 (by decide) _ (Fin.ext (k0_dev107_eq c)) ?_)
  refine WP_seq c (sendB_step m PT K c 32 (by decide) _ (Fin.ext (k0_dev108_eq c)) ?_)
  exact WP_pure c _ (h _)

/-- Part 70. The copies of the second exchange in this stretch. -/
theorem part70 (c : Dev nD) (v2 : BitVec 32) (v2003 : BitVec 32) (v2016 : BitVec 32) (c256_i32_1904 : BitVec 32) {R : sProp 𝕄} {Q : (BitVec 32) → sProp 𝕄}
    (h : ∀ a, iprop(GS m PT K ∗ StB PT c 36 ∗ R) ⊢ Q a) :
    iprop(GS m PT K ∗ StB PT c 33 ∗ R) ⊢ WP c (app (k0_part70 (F := F)) c v2 v2003 v2016 c256_i32_1904) Q := by
  unfold app
  rw [k0_part70_eq_skeleton]
  unfold k0_part70_skel
  refine WP_seq c (sendB_step m PT K c 33 (by decide) _ (Fin.ext (k0_dev109_eq c)) ?_)
  refine WP_seq c (sendB_step m PT K c 34 (by decide) _ (Fin.ext (k0_dev110_eq c)) ?_)
  refine WP_seq c (sendB_step m PT K c 35 (by decide) _ (Fin.ext (k0_dev111_eq c)) ?_)
  exact WP_pure c _ (h _)

/-- Part 71. The copies of the second exchange in this stretch. -/
theorem part71 (c : Dev nD) (v2 : BitVec 32) (v2045 : BitVec 32) {R : sProp 𝕄} {Q : PUnit → sProp 𝕄}
    (h : iprop(GS m PT K ∗ StB PT c 38 ∗ R) ⊢ Q ⟨⟩) :
    iprop(GS m PT K ∗ StB PT c 36 ∗ R) ⊢ WP c (app (k0_part71 (F := F)) c v2 v2045) Q := by
  unfold app
  rw [k0_part71_eq_skeleton]
  unfold k0_part71_skel
  refine WP_seq c (sendB_step m PT K c 36 (by decide) _ (Fin.ext (k0_dev112_eq c)) ?_)
  refine WP_seq c (sendB_step m PT K c 37 (by decide) _ (Fin.ext (k0_dev113_eq c)) ?_)
  exact WP_pure c _ h

/-- Part 72. The copies of the second exchange in this stretch. -/
theorem part72 (c : Dev nD) (v2 : BitVec 32) (v2045 : BitVec 32) {R : sProp 𝕄} {Q : (Σ' (v2087 : BitVec 32), BitVec 32) → sProp 𝕄}
    (h : ∀ a, iprop(GS m PT K ∗ StB PT c 41 ∗ R) ⊢ Q a) :
    iprop(GS m PT K ∗ StB PT c 38 ∗ R) ⊢ WP c (app (k0_part72 (F := F)) c v2 v2045) Q := by
  unfold app
  rw [k0_part72_eq_skeleton]
  unfold k0_part72_skel
  refine WP_seq c (sendB_step m PT K c 38 (by decide) _ (Fin.ext (k0_dev114_eq c)) ?_)
  refine WP_seq c (sendB_step m PT K c 39 (by decide) _ (Fin.ext (k0_dev115_eq c)) ?_)
  refine WP_seq c (sendB_step m PT K c 40 (by decide) _ (Fin.ext (k0_dev116_eq c)) ?_)
  exact WP_pure c _ (h _)

/-- Part 73. The copies of the second exchange in this stretch. -/
theorem part73 (c : Dev nD) (v2 : BitVec 32) (v2087 : BitVec 32) (c1_i32_1991 : BitVec 32) {R : sProp 𝕄} {Q : (BitVec 32) → sProp 𝕄}
    (h : ∀ a, iprop(GS m PT K ∗ StB PT c 44 ∗ R) ⊢ Q a) :
    iprop(GS m PT K ∗ StB PT c 41 ∗ R) ⊢ WP c (app (k0_part73 (F := F)) c v2 v2087 c1_i32_1991) Q := by
  unfold app
  rw [k0_part73_eq_skeleton]
  unfold k0_part73_skel
  refine WP_seq c (sendB_step m PT K c 41 (by decide) _ (Fin.ext (k0_dev117_eq c)) ?_)
  refine WP_seq c (sendB_step m PT K c 42 (by decide) _ (Fin.ext (k0_dev118_eq c)) ?_)
  refine WP_seq c (sendB_step m PT K c 43 (by decide) _ (Fin.ext (k0_dev119_eq c)) ?_)
  exact WP_pure c _ (h _)

/-- Part 74. The copies of the second exchange in this stretch. -/
theorem part74 (c : Dev nD) (v2 : BitVec 32) (v2129 : BitVec 32) {R : sProp 𝕄} {Q : (BitVec 32) → sProp 𝕄}
    (h : ∀ a, iprop(GS m PT K ∗ StB PT c 47 ∗ R) ⊢ Q a) :
    iprop(GS m PT K ∗ StB PT c 44 ∗ R) ⊢ WP c (app (k0_part74 (F := F)) c v2 v2129) Q := by
  unfold app
  rw [k0_part74_eq_skeleton]
  unfold k0_part74_skel
  refine WP_seq c (sendB_step m PT K c 44 (by decide) _ (Fin.ext (k0_dev120_eq c)) ?_)
  refine WP_seq c (sendB_step m PT K c 45 (by decide) _ (Fin.ext (k0_dev121_eq c)) ?_)
  refine WP_seq c (sendB_step m PT K c 46 (by decide) _ (Fin.ext (k0_dev122_eq c)) ?_)
  exact WP_pure c _ (h _)

/-- Part 75. The copies of the second exchange in this stretch. -/
theorem part75 (c : Dev nD) (v2 : BitVec 32) (v2129 : BitVec 32) (c16_i32_2047 : BitVec 32) {R : sProp 𝕄} {Q : (BitVec 32) → sProp 𝕄}
    (h : ∀ a, iprop(GS m PT K ∗ StB PT c 49 ∗ R) ⊢ Q a) :
    iprop(GS m PT K ∗ StB PT c 47 ∗ R) ⊢ WP c (app (k0_part75 (F := F)) c v2 v2129 c16_i32_2047) Q := by
  unfold app
  rw [k0_part75_eq_skeleton]
  unfold k0_part75_skel
  refine WP_seq c (sendB_step m PT K c 47 (by decide) _ (Fin.ext (k0_dev123_eq c)) ?_)
  refine WP_seq c (sendB_step m PT K c 48 (by decide) _ (Fin.ext (k0_dev124_eq c)) ?_)
  exact WP_pure c _ (h _)

/-- Part 76. The copies of the second exchange in this stretch. -/
theorem part76 (c : Dev nD) (v2 : BitVec 32) (v2171 : BitVec 32) {R : sProp 𝕄} {Q : (BitVec 32) → sProp 𝕄}
    (h : ∀ a, iprop(GS m PT K ∗ StB PT c 52 ∗ R) ⊢ Q a) :
    iprop(GS m PT K ∗ StB PT c 49 ∗ R) ⊢ WP c (app (k0_part76 (F := F)) c v2 v2171) Q := by
  unfold app
  rw [k0_part76_eq_skeleton]
  unfold k0_part76_skel
  refine WP_seq c (sendB_step m PT K c 49 (by decide) _ (Fin.ext (k0_dev125_eq c)) ?_)
  refine WP_seq c (sendB_step m PT K c 50 (by decide) _ (Fin.ext (k0_dev126_eq c)) ?_)
  refine WP_seq c (sendB_step m PT K c 51 (by decide) _ (Fin.ext (k0_dev127_eq c)) ?_)
  exact WP_pure c _ (h _)

/-- Part 77. The copies of the second exchange in this stretch. -/
theorem part77 (c : Dev nD) (v2 : BitVec 32) (v2213 : BitVec 32) {R : sProp 𝕄} {Q : (BitVec 32) → sProp 𝕄}
    (h : ∀ a, iprop(GS m PT K ∗ StB PT c 55 ∗ R) ⊢ Q a) :
    iprop(GS m PT K ∗ StB PT c 52 ∗ R) ⊢ WP c (app (k0_part77 (F := F)) c v2 v2213) Q := by
  unfold app
  rw [k0_part77_eq_skeleton]
  unfold k0_part77_skel
  refine WP_seq c (sendB_step m PT K c 52 (by decide) _ (Fin.ext (k0_dev128_eq c)) ?_)
  refine WP_seq c (sendB_step m PT K c 53 (by decide) _ (Fin.ext (k0_dev129_eq c)) ?_)
  refine WP_seq c (sendB_step m PT K c 54 (by decide) _ (Fin.ext (k0_dev130_eq c)) ?_)
  exact WP_pure c _ (h _)

/-- Part 78. The copies of the second exchange in this stretch. -/
theorem part78 (c : Dev nD) (v2 : BitVec 32) (v2213 : BitVec 32) (c16_i32_2133 : BitVec 32) {R : sProp 𝕄} {Q : (BitVec 32) → sProp 𝕄}
    (h : ∀ a, iprop(GS m PT K ∗ StB PT c 57 ∗ R) ⊢ Q a) :
    iprop(GS m PT K ∗ StB PT c 55 ∗ R) ⊢ WP c (app (k0_part78 (F := F)) c v2 v2213 c16_i32_2133) Q := by
  unfold app
  rw [k0_part78_eq_skeleton]
  unfold k0_part78_skel
  refine WP_seq c (sendB_step m PT K c 55 (by decide) _ (Fin.ext (k0_dev131_eq c)) ?_)
  refine WP_seq c (sendB_step m PT K c 56 (by decide) _ (Fin.ext (k0_dev132_eq c)) ?_)
  exact WP_pure c _ (h _)

end Cert.KernelIdealProof

end
-- ==== Proof.KI.BodyA.lean ====
/-
The first half of the body, part after part.
-/
module

public import proofs.«01_k».proof.Proof.KI.PartsM
public import proofs.«01_k».proof.Proof.KI.PartsA
public import proofs.«01_k».proof.Proof.KI.PartsR
public import proofs.«01_k».proof.Proof.KI.PartsB

@[expose] public section

set_option maxRecDepth 10000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (PT : Parts F) (K : Dev nD × Fin 7 → ℕ)

/-- The tokens of the device's sixty copies of the first exchange, -/
def TA (c : Dev nD) : sProp 𝕄 := iprop(bigSep (Finset.range 60) (TokA0 (F := F) c))
/-- and of the second; -/
def TB (c : Dev nD) : sProp 𝕄 := iprop(bigSep (Finset.range 60) (TokB0 (F := F) c))
/-- where those of the second land. -/
def DB (c : Dev nD) : sProp 𝕄 := iprop(bigSep (Finset.range 60) (DstB (F := F) c))

/-- After the wait at the barrier: the first exchange is ready at its first copy, and the second's landing places are held for later. -/
theorem openA (c : Dev nD) : iprop(Ow0 c ∗ Bar1 (F := F) c ∗ TA c) ⊢ iprop(StA PT c 0 0 ∗ At1 c 0 ∗ DB c) := by
  unfold Ow0 Bar1 TA At1 DB
  rw [bar_split]
  iintro ⟨H1, ⟨H2, H3, H4⟩, H5⟩
  isplitl [H1 H3 H5]
  · iapply (toStA PT c)
    isplitl [H1]; · iexact H1
    isplitl [H5]; · iexact H5
    iexact H3
  isplitl [H2]; · iexact H2
  iexact H4

/-- A family over four, written out. -/
theorem four (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) from by decide, bigSep_insert (by decide), bigSep_insert (by decide), bigSep_insert (by decide), bigSep_singleton]
  rfl

/-- Block by block, the own rows of the partial sums and the own slots gather into two families. -/
theorem ownAll (c : Dev nD) : iprop((Own3 PT c 0 ∗ O4 PT c 0) ∗ (Own3 PT c 1 ∗ O4 PT c 1) ∗ (Own3 PT c 2 ∗ O4 PT c 2) ∗ (Own3 PT c 3 ∗ O4 PT c 3))
    ⊢ iprop(bigSep Finset.univ (Own3 PT c) ∗ bigSep Finset.univ (O4 PT c)) := by
  rw [four, four]
  iintro ⟨⟨H0, G0⟩, ⟨H1, G1⟩, ⟨H2, G2⟩, ⟨H3, G3⟩⟩
  isplitl [H0 H1 H2 H3]
  · isplitl [H0]; · iexact H0
    isplitl [H1]; · iexact H1
    isplitl [H2]; · iexact H2
    iexact H3
  isplitl [G0]; · iexact G0
  isplitl [G1]; · iexact G1
  isplitl [G2]; · iexact G2
  iexact G3

/-- With every block of its own rows reduced, the device is ready for the first copy of the second exchange. -/
theorem openB (c : Dev nD) : iprop(OwB c ∗ TB (F := F) c ∗ DB c ∗ O5 PT c 0 ∗ O5 PT c 1 ∗ O5 PT c 2 ∗ O5 PT c 3) ⊢ iprop(StB PT c 0 ∗ Rest PT c) := by
  unfold OwB TB DB O5
  iintro ⟨H1, H2, H3, G0, G1, G2, G3⟩
  iapply (toStB PT c)
  isplitl [H1]; · iexact H1
  isplitl [H2]; · iexact H2
  isplitl [H3]; · iexact H3
  unfold OwnO
  rw [four]
  isplitl [G0]; · iexact G0
  isplitl [G1]; · iexact G1
  isplitl [G2]; · iexact G2
  iexact G3

/-- The first half of the body: everything computed and exchanged once, reduced, and the own rows of the result stored. -/
theorem part117 (c : Dev nD) (xb : S1x1024x1024.Idx → Elt F .f32) (kb vb : S1x1024x8x128.Idx → Elt F .f32)
    (h0 : ∀ (a : Fin 256) (b : Fin 1024), ch0 (k0_pay2 kb) (k0_pay3 vb) (k0_pay4 (WO m c)) biasB (qRow 0 (k0_pay1 xb (WQ m c))) (ix2 a b) = PT c (ix2 (n0 := 1024) (n1 := 1024) ⟨256 * ((0 : Fin 4) : ℕ) + a.val, by have := ((0 : Fin 4)).isLt; have := a.isLt; omega⟩ b)) (h1 : ∀ (a : Fin 256) (b : Fin 1024), ch1 (k0_pay2 kb) (k0_pay3 vb) (k0_pay4 (WO m c)) biasB (qRow 1 (k0_pay1 xb (WQ m c))) (ix2 a b) = PT c (ix2 (n0 := 1024) (n1 := 1024) ⟨256 * ((1 : Fin 4) : ℕ) + a.val, by have := ((1 : Fin 4)).isLt; have := a.isLt; omega⟩ b)) (h2 : ∀ (a : Fin 256) (b : Fin 1024), ch2 (k0_pay2 kb) (k0_pay3 vb) (k0_pay4 (WO m c)) biasB (qRow 2 (k0_pay1 xb (WQ m c))) (ix2 a b) = PT c (ix2 (n0 := 1024) (n1 := 1024) ⟨256 * ((2 : Fin 4) : ℕ) + a.val, by have := ((2 : Fin 4)).isLt; have := a.isLt; omega⟩ b)) (h3 : ∀ (a : Fin 256) (b : Fin 1024), ch3 (k0_pay2 kb) (k0_pay3 vb) (k0_pay4 (WO m c)) biasB (qRow 3 (k0_pay1 xb (WQ m c))) (ix2 a b) = PT c (ix2 (n0 := 1024) (n1 := 1024) ⟨256 * ((3 : Fin 4) : ℕ) + a.val, by have := ((3 : Fin 4)).isLt; have := a.isLt; omega⟩ b))
    {R : sProp 𝕄} {Q : (Σ' (d0 : Dev nD) (v2 : BitVec 32), BitVec 32) → sProp 𝕄}
    (h : ∀ a b, iprop(GS m PT K ∗ StB PT c 8 ∗ Rest PT c ∗ Full4 PT c ∗ At1 c 4 ∗ bigSep Finset.univ (Own3 PT c) ∗ CR c 3 ∗ QB c (k0_pay1 xb (WQ m c)) ∗ At1 c 0 ∗ At1 c 1 ∗ ld0Pay m c ∗ At1 c 2 ∗ ld1Pay m c ∗ X2 c kb ∗ X3 c vb ∗ X0 c xb ∗ R) ⊢ Q ⟨c, a, b⟩) :
    iprop(GS m PT K ∗ Ld0St m c ∗ Ld1St m c ∗ SigSt c 0 ∗ Bar0 c ∗ X0 c xb ∗ At0 c 1 ∗ At0 c 2 ∗ X8 c ∗ X2 c kb ∗ X3 c vb ∗ TA c ∗ G3 c 0 ∗ S4 c 0 ∗ G3 c 1 ∗ S4 c 1 ∗ G3 c 2 ∗ S4 c 2 ∗ G3 c 3 ∗ S4 c 3 ∗ WI c 4 ∗ TB c ∗ S5 c 0 ∗ S5 c 1 ∗ S5 c 2 ∗ S5 c 3 ∗ R) ⊢ WP c (app (k0_part117 (F := F))) Q := by
  unfold app
  rw [k0_part117_eq_skeleton]
  unfold k0_part117_skel
  refine WP_seq c (part1 m PT K c (fun a1_0 a1_1 => ?_))
  refine WP_seq c (part2 m PT K c _ _ (fun a => ?_))
  refine BIBase.Entails.trans (Q := iprop(GS m PT K ∗ SigSt c 9 ∗ Bar0 c ∗ X0 c xb ∗ Cr1 c 2 ∗ Cr1 c 1 ∗ At0 c 1 ∗ At0 c 2 ∗ X8 c ∗ X2 c kb ∗ X3 c vb ∗ TA c ∗ G3 c 0 ∗ S4 c 0 ∗ G3 c 1 ∗ S4 c 1 ∗ G3 c 2 ∗ S4 c 2 ∗ G3 c 3 ∗ S4 c 3 ∗ WI c 4 ∗ TB c ∗ S5 c 0 ∗ S5 c 1 ∗ S5 c 2 ∗ S5 c 3 ∗ R)) ?_ ?_
  · iintro ⟨HG, H0, H1, H2, H3, H4, H5, H6, H7, H8, H9, H10, H11, H12, H13, H14, H15, H16, H17, H18, H19, H20, H21, H22, H23, H24, HR⟩
    isplitl [HG]; · iexact HG
    isplitl [H0]; · iexact H0
    isplitl [H3]; · iexact H3
    isplitl [H4]; · iexact H4
    isplitl [H1]; · iexact H1
    isplitl [H2]; · iexact H2
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact HR
  refine WP_seq c (part3 m PT K c _ _ xb (?_))
  refine BIBase.Entails.trans (Q := iprop(GS m PT K ∗ Ow0 c ∗ Cr1 c 1 ∗ At0 c 1 ∗ Cr1 c 2 ∗ At0 c 2 ∗ X8 c ∗ X2 c kb ∗ X3 c vb ∗ X0 c xb ∗ Bar1 c ∗ TA c ∗ G3 c 0 ∗ S4 c 0 ∗ G3 c 1 ∗ S4 c 1 ∗ G3 c 2 ∗ S4 c 2 ∗ G3 c 3 ∗ S4 c 3 ∗ WI c 4 ∗ TB c ∗ S5 c 0 ∗ S5 c 1 ∗ S5 c 2 ∗ S5 c 3 ∗ R)) ?_ ?_
  · iintro ⟨HG, H0, H1, H2, H3, H4, H5, H6, H7, H8, H9, H10, H11, H12, H13, H14, H15, H16, H17, H18, H19, H20, H21, H22, H23, H24, HR⟩
    isplitl [HG]; · iexact HG
    isplitl [H1]; · iexact H1
    isplitl [H4]; · iexact H4
    isplitl [H5]; · iexact H5
    isplitl [H3]; · iexact H3
    isplitl [H6]; · iexact H6
    isplitl [H7]; · iexact H7
    isplitl [H8]; · iexact H8
    isplitl [H9]; · iexact H9
    isplitl [H0]; · iexact H0
    isplitl [H2]; · iexact H2
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact HR
  refine WP_seq c (part4 m PT K c _ kb vb (?_))
  refine BIBase.Entails.trans (Q := iprop(GS m PT K ∗ StA PT c 0 0 ∗ At1 c 0 ∗ DB c ∗ At1 c 1 ∗ ld0Pay m c ∗ At1 c 2 ∗ ld1Pay m c ∗ QB c (k0_pay1 xb (WQ m c)) ∗ X2 c kb ∗ X3 c vb ∗ X0 c xb ∗ G3 c 0 ∗ S4 c 0 ∗ G3 c 1 ∗ S4 c 1 ∗ G3 c 2 ∗ S4 c 2 ∗ G3 c 3 ∗ S4 c 3 ∗ WI c 4 ∗ TB c ∗ S5 c 0 ∗ S5 c 1 ∗ S5 c 2 ∗ S5 c 3 ∗ R)) ?_ ?_
  · iintro ⟨HG, H0, H1, H2, H3, H4, H5, H6, H7, H8, H9, H10, H11, H12, H13, H14, H15, H16, H17, H18, H19, H20, H21, H22, H23, H24, HR⟩
    ihave HX := (openA PT c) $$ [H0 H9 H10]
    · isplitl [H0]; · iexact H0
      isplitl [H9]; · iexact H9
      iexact H10
    icases HX with ⟨HX0, HX1, HX2⟩
    isplitl [HG]; · iexact HG
    isplitl [HX0]; · iexact HX0
    isplitl [HX1]; · iexact HX1
    isplitl [HX2]; · iexact HX2
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact HR
  refine WP_seq c (part5 c _ _ _ _ _ ?_)
  refine BIBase.Entails.trans (Q := iprop(GS m PT K ∗ QB c (k0_pay1 xb (WQ m c)) ∗ StA PT c 0 0 ∗ At1 c 0 ∗ DB c ∗ At1 c 1 ∗ ld0Pay m c ∗ At1 c 2 ∗ ld1Pay m c ∗ X2 c kb ∗ X3 c vb ∗ X0 c xb ∗ G3 c 0 ∗ S4 c 0 ∗ G3 c 1 ∗ S4 c 1 ∗ G3 c 2 ∗ S4 c 2 ∗ G3 c 3 ∗ S4 c 3 ∗ WI c 4 ∗ TB c ∗ S5 c 0 ∗ S5 c 1 ∗ S5 c 2 ∗ S5 c 3 ∗ R)) ?_ ?_
  · iintro ⟨HG, H0, H1, H2, H3, H4, H5, H6, H7, H8, H9, H10, H11, H12, H13, H14, H15, H16, H17, H18, H19, H20, H21, H22, H23, H24, HR⟩
    isplitl [HG]; · iexact HG
    isplitl [H7]; · iexact H7
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact HR
  refine WP_seq c (part6 m PT K c _ _ _ _ (?_))
  refine WP_seq c (part7 c _ _ _ _ _ _ ?_)
  refine BIBase.Entails.trans (Q := iprop(GS m PT K ∗ G3 c 0 ∗ QB c (k0_pay1 xb (WQ m c)) ∗ StA PT c 0 0 ∗ At1 c 0 ∗ DB c ∗ At1 c 1 ∗ ld0Pay m c ∗ At1 c 2 ∗ ld1Pay m c ∗ X2 c kb ∗ X3 c vb ∗ X0 c xb ∗ S4 c 0 ∗ G3 c 1 ∗ S4 c 1 ∗ G3 c 2 ∗ S4 c 2 ∗ G3 c 3 ∗ S4 c 3 ∗ WI c 4 ∗ TB c ∗ S5 c 0 ∗ S5 c 1 ∗ S5 c 2 ∗ S5 c 3 ∗ R)) ?_ ?_
  · iintro ⟨HG, H0, H1, H2, H3, H4, H5, H6, H7, H8, H9, H10, H11, H12, H13, H14, H15, H16, H17, H18, H19, H20, H21, H22, H23, H24, HR⟩
    isplitl [HG]; · iexact HG
    isplitl [H11]; · iexact H11
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact HR
  refine WP_seq c (part8 m PT K c _ _ _ _ _ _ _ _ _ _ _ _ _ h0 (fun v hv => ?_))
  refine BIBase.Entails.trans (Q := iprop(GS m PT K ∗ S4 c 0 ∗ P3 PT c 0 ∗ StA PT c 0 0 ∗ QB c (k0_pay1 xb (WQ m c)) ∗ At1 c 0 ∗ DB c ∗ At1 c 1 ∗ ld0Pay m c ∗ At1 c 2 ∗ ld1Pay m c ∗ X2 c kb ∗ X3 c vb ∗ X0 c xb ∗ G3 c 1 ∗ S4 c 1 ∗ G3 c 2 ∗ S4 c 2 ∗ G3 c 3 ∗ S4 c 3 ∗ WI c 4 ∗ TB c ∗ S5 c 0 ∗ S5 c 1 ∗ S5 c 2 ∗ S5 c 3 ∗ R)) ?_ ?_
  · iintro ⟨HG, H0, H1, H2, H3, H4, H5, H6, H7, H8, H9, H10, H11, H12, H13, H14, H15, H16, H17, H18, H19, H20, H21, H22, H23, H24, HR⟩
    isplitl [HG]; · iexact HG
    isplitl [H12]; · iexact H12
    isplitl [H0]; · iexact H0
    isplitl [H2]; · iexact H2
    isplitl [H1]; · iexact H1
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact HR
  refine WP_seq c (part9 m PT K c _ _ hv (fun a => ?_))
  obtain ⟨a9_0, a9_1⟩ := a
  refine WP_seq c (part10 m PT K c _ _ _ (fun a => ?_))
  refine WP_seq c (part11 m PT K c _ _ (fun a => ?_))
  obtain ⟨a11_0, a11_1⟩ := a
  refine WP_seq c (part12 m PT K c _ _ _ (fun a => ?_))
  refine WP_seq c (part13 m PT K c _ _ (?_))
  refine BIBase.Entails.trans (Q := iprop(GS m PT K ∗ StA PT c 13 15 ∗ QB c (k0_pay1 xb (WQ m c)) ∗ (Own3 PT c 0 ∗ O4 PT c 0) ∗ At1 c 0 ∗ DB c ∗ At1 c 1 ∗ ld0Pay m c ∗ At1 c 2 ∗ ld1Pay m c ∗ X2 c kb ∗ X3 c vb ∗ X0 c xb ∗ G3 c 1 ∗ S4 c 1 ∗ G3 c 2 ∗ S4 c 2 ∗ G3 c 3 ∗ S4 c 3 ∗ WI c 4 ∗ TB c ∗ S5 c 0 ∗ S5 c 1 ∗ S5 c 2 ∗ S5 c 3 ∗ R)) ?_ ?_
  · iintro ⟨HG, H0, H1, H2, H3, H4, H5, H6, H7, H8, H9, H10, H11, H12, H13, H14, H15, H16, H17, H18, H19, H20, H21, H22, H23, HR⟩
    isplitl [HG]; · iexact HG
    isplitl [H0]; · iexact H0
    isplitl [H2]; · iexact H2
    isplitl [H1]; · iexact H1
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact HR
  refine WP_seq c (part14 m PT K c _ _ _ _ _ (?_))
  refine WP_seq c (part15 c _ _ _ _ _ _ _ ?_)
  refine WP_seq c (part16 c _ _ _ _ _ _ _ ?_)
  refine BIBase.Entails.trans (Q := iprop(GS m PT K ∗ G3 c 1 ∗ S4 c 1 ∗ StA PT c 15 15 ∗ QB c (k0_pay1 xb (WQ m c)) ∗ (Own3 PT c 0 ∗ O4 PT c 0) ∗ At1 c 0 ∗ DB c ∗ At1 c 1 ∗ ld0Pay m c ∗ At1 c 2 ∗ ld1Pay m c ∗ X2 c kb ∗ X3 c vb ∗ X0 c xb ∗ G3 c 2 ∗ S4 c 2 ∗ G3 c 3 ∗ S4 c 3 ∗ WI c 4 ∗ TB c ∗ S5 c 0 ∗ S5 c 1 ∗ S5 c 2 ∗ S5 c 3 ∗ R)) ?_ ?_
  · iintro ⟨HG, H0, H1, H2, H3, H4, H5, H6, H7, H8, H9, H10, H11, H12, H13, H14, H15, H16, H17, H18, H19, H20, H21, H22, H23, HR⟩
    isplitl [HG]; · iexact HG
    isplitl [H12]; · iexact H12
    isplitl [H13]; · iexact H13
    isplitl [H1]; · iexact H1
    isplitl [H0]; · iexact H0
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact HR
  refine WP_seq c (part17 m PT K c _ _ _ _ _ _ _ _ _ _ _ _ _ h1 (fun a => ?_))
  obtain ⟨a17_0, a17_1⟩ := a
  refine WP_seq c (part18 m PT K c _ _ _ (fun a => ?_))
  refine WP_seq c (part19 m PT K c _ _ (?_))
  refine WP_seq c (part20 m PT K c _ (?_))
  refine WP_seq c (part21 m PT K c _ (?_))
  refine BIBase.Entails.trans (Q := iprop(GS m PT K ∗ StA PT c 27 30 ∗ QB c (k0_pay1 xb (WQ m c)) ∗ (Own3 PT c 1 ∗ O4 PT c 1) ∗ (Own3 PT c 0 ∗ O4 PT c 0) ∗ At1 c 0 ∗ DB c ∗ At1 c 1 ∗ ld0Pay m c ∗ At1 c 2 ∗ ld1Pay m c ∗ X2 c kb ∗ X3 c vb ∗ X0 c xb ∗ G3 c 2 ∗ S4 c 2 ∗ G3 c 3 ∗ S4 c 3 ∗ WI c 4 ∗ TB c ∗ S5 c 0 ∗ S5 c 1 ∗ S5 c 2 ∗ S5 c 3 ∗ R)) ?_ ?_
  · iintro ⟨HG, H0, H1, H2, H3, H4, H5, H6, H7, H8, H9, H10, H11, H12, H13, H14, H15, H16, H17, H18, H19, H20, H21, H22, HR⟩
    isplitl [HG]; · iexact HG
    isplitl [H0]; · iexact H0
    isplitl [H2]; · iexact H2
    isplitl [H1]; · iexact H1
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact HR
  refine WP_seq c (part22 m PT K c _ _ _ _ (?_))
  refine WP_seq c (part23 c _ _ _ _ _ ?_)
  refine WP_seq c (part24 c _ _ _ _ _ ?_)
  refine BIBase.Entails.trans (Q := iprop(GS m PT K ∗ G3 c 2 ∗ S4 c 2 ∗ QB c (k0_pay1 xb (WQ m c)) ∗ StA PT c 30 30 ∗ (Own3 PT c 1 ∗ O4 PT c 1) ∗ (Own3 PT c 0 ∗ O4 PT c 0) ∗ At1 c 0 ∗ DB c ∗ At1 c 1 ∗ ld0Pay m c ∗ At1 c 2 ∗ ld1Pay m c ∗ X2 c kb ∗ X3 c vb ∗ X0 c xb ∗ G3 c 3 ∗ S4 c 3 ∗ WI c 4 ∗ TB c ∗ S5 c 0 ∗ S5 c 1 ∗ S5 c 2 ∗ S5 c 3 ∗ R)) ?_ ?_
  · iintro ⟨HG, H0, H1, H2, H3, H4, H5, H6, H7, H8, H9, H10, H11, H12, H13, H14, H15, H16, H17, H18, H19, H20, H21, H22, HR⟩
    isplitl [HG]; · iexact HG
    isplitl [H13]; · iexact H13
    isplitl [H14]; · iexact H14
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact HR
  refine WP_seq c (part25 m PT K c _ _ _ _ _ _ _ _ _ _ _ _ _ h2 (fun w hw => ?_))
  refine BIBase.Entails.trans (Q := iprop(GS m PT K ∗ S4 c 2 ∗ P3 PT c 2 ∗ StA PT c 30 30 ∗ QB c (k0_pay1 xb (WQ m c)) ∗ (Own3 PT c 1 ∗ O4 PT c 1) ∗ (Own3 PT c 0 ∗ O4 PT c 0) ∗ At1 c 0 ∗ DB c ∗ At1 c 1 ∗ ld0Pay m c ∗ At1 c 2 ∗ ld1Pay m c ∗ X2 c kb ∗ X3 c vb ∗ X0 c xb ∗ G3 c 3 ∗ S4 c 3 ∗ WI c 4 ∗ TB c ∗ S5 c 0 ∗ S5 c 1 ∗ S5 c 2 ∗ S5 c 3 ∗ R)) ?_ ?_
  · iintro ⟨HG, H0, H1, H2, H3, H4, H5, H6, H7, H8, H9, H10, H11, H12, H13, H14, H15, H16, H17, H18, H19, H20, H21, H22, HR⟩
    isplitl [HG]; · iexact HG
    isplitl [H0]; · iexact H0
    isplitl [H1]; · iexact H1
    isplitl [H3]; · iexact H3
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact HR
  refine WP_seq c (part26 m PT K c _ _ hw (?_))
  refine WP_seq c (part27 m PT K c _ (?_))
  refine WP_seq c (part28 m PT K c _ (fun a => ?_))
  obtain ⟨a28_0, a28_1⟩ := a
  refine WP_seq c (part29 m PT K c _ _ _ (fun a => ?_))
  refine WP_seq c (part30 m PT K c _ _ (fun a => ?_))
  obtain ⟨a30_0, a30_1⟩ := a
  refine BIBase.Entails.trans (Q := iprop(GS m PT K ∗ StA PT c 44 45 ∗ QB c (k0_pay1 xb (WQ m c)) ∗ (Own3 PT c 2 ∗ O4 PT c 2) ∗ (Own3 PT c 1 ∗ O4 PT c 1) ∗ (Own3 PT c 0 ∗ O4 PT c 0) ∗ At1 c 0 ∗ DB c ∗ At1 c 1 ∗ ld0Pay m c ∗ At1 c 2 ∗ ld1Pay m c ∗ X2 c kb ∗ X3 c vb ∗ X0 c xb ∗ G3 c 3 ∗ S4 c 3 ∗ WI c 4 ∗ TB c ∗ S5 c 0 ∗ S5 c 1 ∗ S5 c 2 ∗ S5 c 3 ∗ R)) ?_ ?_
  · iintro ⟨HG, H0, H1, H2, H3, H4, H5, H6, H7, H8, H9, H10, H11, H12, H13, H14, H15, H16, H17, H18, H19, H20, H21, HR⟩
    isplitl [HG]; · iexact HG
    isplitl [H0]; · iexact H0
    isplitl [H2]; · iexact H2
    isplitl [H1]; · iexact H1
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact HR
  refine WP_seq c (part31 m PT K c _ _ _ _ _ _ (?_))
  refine WP_seq c (part32 c _ _ _ _ _ _ ?_)
  refine WP_seq c (part33 c _ _ _ _ _ _ ?_)
  refine BIBase.Entails.trans (Q := iprop(GS m PT K ∗ G3 c 3 ∗ S4 c 3 ∗ StA PT c 45 45 ∗ QB c (k0_pay1 xb (WQ m c)) ∗ (Own3 PT c 2 ∗ O4 PT c 2) ∗ (Own3 PT c 1 ∗ O4 PT c 1) ∗ (Own3 PT c 0 ∗ O4 PT c 0) ∗ At1 c 0 ∗ DB c ∗ At1 c 1 ∗ ld0Pay m c ∗ At1 c 2 ∗ ld1Pay m c ∗ X2 c kb ∗ X3 c vb ∗ X0 c xb ∗ WI c 4 ∗ TB c ∗ S5 c 0 ∗ S5 c 1 ∗ S5 c 2 ∗ S5 c 3 ∗ R)) ?_ ?_
  · iintro ⟨HG, H0, H1, H2, H3, H4, H5, H6, H7, H8, H9, H10, H11, H12, H13, H14, H15, H16, H17, H18, H19, H20, H21, HR⟩
    isplitl [HG]; · iexact HG
    isplitl [H14]; · iexact H14
    isplitl [H15]; · iexact H15
    isplitl [H1]; · iexact H1
    isplitl [H0]; · iexact H0
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H16]; · iexact H16
    isplitl [H17]; · iexact H17
    isplitl [H18]; · iexact H18
    isplitl [H19]; · iexact H19
    isplitl [H20]; · iexact H20
    isplitl [H21]; · iexact H21
    iexact HR
  refine WP_seq c (part34 m PT K c _ _ _ _ _ _ _ _ _ _ _ h3 (fun a => ?_))
  obtain ⟨a34_0, a34_1⟩ := a
  refine WP_seq c (part35 m PT K c _ _ _ (fun a => ?_))
  refine WP_seq c (part36 m PT K c _ _ (fun a => ?_))
  obtain ⟨a36_0, a36_1⟩ := a
  refine WP_seq c (part37 m PT K c _ _ _ (fun a => ?_))
  refine WP_seq c (part38 m PT K c _ _ (?_))
  refine BIBase.Entails.trans (Q := iprop(GS m PT K ∗ StA PT c 57 60 ∗ WI c 4 ∗ (Own3 PT c 3 ∗ O4 PT c 3) ∗ QB c (k0_pay1 xb (WQ m c)) ∗ (Own3 PT c 2 ∗ O4 PT c 2) ∗ (Own3 PT c 1 ∗ O4 PT c 1) ∗ (Own3 PT c 0 ∗ O4 PT c 0) ∗ At1 c 0 ∗ DB c ∗ At1 c 1 ∗ ld0Pay m c ∗ At1 c 2 ∗ ld1Pay m c ∗ X2 c kb ∗ X3 c vb ∗ X0 c xb ∗ TB c ∗ S5 c 0 ∗ S5 c 1 ∗ S5 c 2 ∗ S5 c 3 ∗ R)) ?_ ?_
  · iintro ⟨HG, H0, H1, H2, H3, H4, H5, H6, H7, H8, H9, H10, H11, H12, H13, H14, H15, H16, H17, H18, H19, H20, HR⟩
    isplitl [HG]; · iexact HG
    isplitl [H0]; · iexact H0
    isplitl [H15]; · iexact H15
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H16]; · iexact H16
    isplitl [H17]; · iexact H17
    isplitl [H18]; · iexact H18
    isplitl [H19]; · iexact H19
    isplitl [H20]; · iexact H20
    iexact HR
  refine WP_seq c (part39 m PT K c _ (?_))
  refine WP_seq c (part40 m PT K c _ (?_))
  refine WP_seq c (part41 m PT K c _ (?_))
  refine WP_seq c (part42 m PT K c _ (?_))
  refine WP_seq c (part43 m PT K c _ (?_))
  refine WP_seq c (part44 m PT K c _ (?_))
  refine WP_seq c (part45 m PT K c _ (?_))
  refine WP_seq c (part46 m PT K c _ (?_))
  refine WP_seq c (part47 m PT K c _ (?_))
  refine WP_seq c (part48 m PT K c _ (?_))
  refine WP_seq c (part49 m PT K c _ (fun a => ?_))
  refine WP_seq c (part50 m PT K c _ _ (?_))
  refine WP_seq c (part51 m PT K c _ (fun a => ?_))
  refine WP_seq c (part52 m PT K c _ _ (?_))
  refine WP_seq c (part53 m PT K c _ (fun a => ?_))
  obtain ⟨a53_0, a53_1⟩ := a
  refine WP_seq c (part54 m PT K c _ _ _ (?_))
  refine WP_seq c (part55 m PT K c _ (?_))
  refine BIBase.Entails.trans (Q := iprop(GS m PT K ∗ bigSep Finset.univ (Own3 PT c) ∗ bigSep Finset.univ (O4 PT c) ∗ WSt m PT c 4 (OB c 0) 57 ∗ CR c 3 ∗ QB c (k0_pay1 xb (WQ m c)) ∗ At1 c 0 ∗ DB c ∗ At1 c 1 ∗ ld0Pay m c ∗ At1 c 2 ∗ ld1Pay m c ∗ X2 c kb ∗ X3 c vb ∗ X0 c xb ∗ TB c ∗ S5 c 0 ∗ S5 c 1 ∗ S5 c 2 ∗ S5 c 3 ∗ R)) ?_ ?_
  · iintro ⟨HG, H0, H1, H2, H3, H4, H5, H6, H7, H8, H9, H10, H11, H12, H13, H14, H15, H16, H17, H18, H19, H20, HR⟩
    ihave HX := (ownAll PT c) $$ [H6 H5 H4 H2]
    · isplitl [H6]; · iexact H6
      isplitl [H5]; · iexact H5
      isplitl [H4]; · iexact H4
      iexact H2
    icases HX with ⟨HX0, HX1⟩
    isplitl [HG]; · iexact HG
    isplitl [HX0]; · iexact HX0
    isplitl [HX1]; · iexact HX1
    isplitl [H0]; · iexact H0
    isplitl [H1]; · iexact H1
    isplitl [H3]; · iexact H3
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact HR
  refine BIBase.Entails.trans (Q := iprop(GS m PT K ∗ WSt m PT c 4 (OB c 0) 57 ∗ bigSep Finset.univ (O4 PT c) ∗ bigSep Finset.univ (Own3 PT c) ∗ CR c 3 ∗ QB c (k0_pay1 xb (WQ m c)) ∗ At1 c 0 ∗ DB c ∗ At1 c 1 ∗ ld0Pay m c ∗ At1 c 2 ∗ ld1Pay m c ∗ X2 c kb ∗ X3 c vb ∗ X0 c xb ∗ TB c ∗ S5 c 0 ∗ S5 c 1 ∗ S5 c 2 ∗ S5 c 3 ∗ R)) ?_ ?_
  · iintro ⟨HG, H0, H1, H2, H3, H4, H5, H6, H7, H8, H9, H10, H11, H12, H13, H14, H15, H16, H17, H18, HR⟩
    isplitl [HG]; · iexact HG
    isplitl [H2]; · iexact H2
    isplitl [H1]; · iexact H1
    isplitl [H0]; · iexact H0
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact HR
  refine WP_seq c (part56 m PT K c _ (?_))
  refine BIBase.Entails.trans (Q := iprop(GS m PT K ∗ S5 c 0 ∗ S5 c 1 ∗ S5 c 2 ∗ S5 c 3 ∗ Full4 PT c ∗ OwB c ∗ At1 c 4 ∗ bigSep Finset.univ (Own3 PT c) ∗ CR c 3 ∗ QB c (k0_pay1 xb (WQ m c)) ∗ At1 c 0 ∗ DB c ∗ At1 c 1 ∗ ld0Pay m c ∗ At1 c 2 ∗ ld1Pay m c ∗ X2 c kb ∗ X3 c vb ∗ X0 c xb ∗ TB c ∗ R)) ?_ ?_
  · iintro ⟨HG, H0, H1, H2, H3, H4, H5, H6, H7, H8, H9, H10, H11, H12, H13, H14, H15, H16, H17, H18, H19, HR⟩
    isplitl [HG]; · iexact HG
    isplitl [H16]; · iexact H16
    isplitl [H17]; · iexact H17
    isplitl [H18]; · iexact H18
    isplitl [H19]; · iexact H19
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  refine WP_seq c (part57 m PT K c _ (fun a => ?_))
  obtain ⟨a57_0, a57_1⟩ := a
  refine BIBase.Entails.trans (Q := iprop(GS m PT K ∗ StB PT c 0 ∗ Rest PT c ∗ Full4 PT c ∗ At1 c 4 ∗ bigSep Finset.univ (Own3 PT c) ∗ CR c 3 ∗ QB c (k0_pay1 xb (WQ m c)) ∗ At1 c 0 ∗ At1 c 1 ∗ ld0Pay m c ∗ At1 c 2 ∗ ld1Pay m c ∗ X2 c kb ∗ X3 c vb ∗ X0 c xb ∗ R)) ?_ ?_
  · iintro ⟨HG, H0, H1, H2, H3, H4, H5, H6, H7, H8, H9, H10, H11, H12, H13, H14, H15, H16, H17, H18, H19, HR⟩
    ihave HX := (openB PT c) $$ [H5 H19 H11 H3 H2 H1 H0]
    · isplitl [H5]; · iexact H5
      isplitl [H19]; · iexact H19
      isplitl [H11]; · iexact H11
      isplitl [H3]; · iexact H3
      isplitl [H2]; · iexact H2
      isplitl [H1]; · iexact H1
      iexact H0
    icases HX with ⟨HX0, HX1⟩
    isplitl [HG]; · iexact HG
    isplitl [HX0]; · iexact HX0
    isplitl [HX1]; · iexact HX1
    isplitl [H4]; · iexact H4
    isplitl [H6]; · iexact H6
    isplitl [H7]; · iexact H7
    isplitl [H8]; · iexact H8
    isplitl [H9]; · iexact H9
    isplitl [H10]; · iexact H10
    isplitl [H12]; · iexact H12
    isplitl [H13]; · iexact H13
    isplitl [H14]; · iexact H14
    isplitl [H15]; · iexact H15
    isplitl [H16]; · iexact H16
    isplitl [H17]; · iexact H17
    isplitl [H18]; · iexact H18
    iexact HR
  refine WP_seq c (part58 m PT K c _ _ _ (?_))
  refine WP_seq c (part59 m PT K c _ _ (fun a => ?_))
  obtain ⟨a59_0, a59_1⟩ := a
  refine WP_seq c (part60 m PT K c _ _ _ (fun a => ?_))
  exact WP_pure c _ (h _ _)

end Cert.KernelIdealProof

end
-- ==== Proof.KI.PartsW.lean ====
/-
The waits after the second exchange, for the copies of the first to have been read.
-/
module

public import proofs.«01_k».proof.Proof.KI.App

@[expose] public section

set_option maxRecDepth 10000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (PT : Parts F) (K : Dev nD × Fin 7 → ℕ)

/-- Part 80. The waits in this stretch. -/
theorem part80 (c : Dev nD) {R : sProp 𝕄} {Q : PUnit → sProp 𝕄}
    (h : iprop(GS m PT K ∗ WSt m PT c 3 0 6 ∗ R) ⊢ Q ⟨⟩) :
    iprop(GS m PT K ∗ WSt m PT c 3 0 1 ∗ R) ⊢ WP c (app (k0_part80 (F := F))) Q := by
  unfold app
  rw [k0_part80_eq_skeleton]
  unfold k0_part80_skel
  refine WP_seq c (wait_step m PT K c 3 rfl rfl 0 0 (by decide) (above_zero 0) 1 (by exact rfl) (by exact rfl) (by decide) ?_)
  refine WP_seq c (wait_step m PT K c 3 rfl rfl 0 0 (by decide) (above_zero 0) 2 (by exact rfl) (by exact rfl) (by decide) ?_)
  refine WP_seq c (wait_step m PT K c 3 rfl rfl 0 0 (by decide) (above_zero 0) 3 (by exact rfl) (by exact rfl) (by decide) ?_)
  refine WP_seq c (wait_step m PT K c 3 rfl rfl 0 0 (by decide) (above_zero 0) 4 (by exact rfl) (by exact rfl) (by decide) ?_)
  refine WP_seq c (wait_step m PT K c 3 rfl rfl 0 0 (by decide) (above_zero 0) 5 (by exact rfl) (by exact rfl) (by decide) ?_)
  exact WP_pure c _ h

/-- Part 81. The waits in this stretch. -/
theorem part81 (c : Dev nD) {R : sProp 𝕄} {Q : PUnit → sProp 𝕄}
    (h : iprop(GS m PT K ∗ WSt m PT c 3 0 12 ∗ R) ⊢ Q ⟨⟩) :
    iprop(GS m PT K ∗ WSt m PT c 3 0 6 ∗ R) ⊢ WP c (app (k0_part81 (F := F))) Q := by
  unfold app
  rw [k0_part81_eq_skeleton]
  unfold k0_part81_skel
  refine WP_seq c (wait_step m PT K c 3 rfl rfl 0 0 (by decide) (above_zero 0) 6 (by exact rfl) (by exact rfl) (by decide) ?_)
  refine WP_seq c (wait_step m PT K c 3 rfl rfl 0 0 (by decide) (above_zero 0) 7 (by exact rfl) (by exact rfl) (by decide) ?_)
  refine WP_seq c (wait_step m PT K c 3 rfl rfl 0 0 (by decide) (above_zero 0) 8 (by exact rfl) (by exact rfl) (by decide) ?_)
  refine WP_seq c (wait_step m PT K c 3 rfl rfl 0 0 (by decide) (above_zero 0) 9 (by exact rfl) (by exact rfl) (by decide) ?_)
  refine WP_seq c (wait_step m PT K c 3 rfl rfl 0 0 (by decide) (above_zero 0) 10 (by exact rfl) (by exact rfl) (by decide) ?_)
  refine WP_seq c (wait_step m PT K c 3 rfl rfl 0 0 (by decide) (above_zero 0) 11 (by exact rfl) (by exact rfl) (by decide) ?_)
  exact WP_pure c _ h

/-- Part 82. The waits in this stretch. -/
theorem part82 (c : Dev nD) {R : sProp 𝕄} {Q : PUnit → sProp 𝕄}
    (h : iprop(GS m PT K ∗ WSt m PT c 3 0 17 ∗ R) ⊢ Q ⟨⟩) :
    iprop(GS m PT K ∗ WSt m PT c 3 0 12 ∗ R) ⊢ WP c (app (k0_part82 (F := F))) Q := by
  unfold app
  rw [k0_part82_eq_skeleton]
  unfold k0_part82_skel
  refine WP_seq c (wait_step m PT K c 3 rfl rfl 0 0 (by decide) (above_zero 0) 12 (by exact rfl) (by exact rfl) (by decide) ?_)
  refine WP_seq c (wait_step m PT K c 3 rfl rfl 0 0 (by decide) (above_zero 0) 13 (by exact rfl) (by exact rfl) (by decide) ?_)
  refine WP_seq c (wait_step m PT K c 3 rfl rfl 0 0 (by decide) (above_zero 0) 14 (by exact rfl) (by exact rfl) (by decide) ?_)
  refine WP_seq c (wait_step m PT K c 3 rfl rfl 0 0 (by decide) (above_zero 0) 15 (by exact rfl) (by exact rfl) (by decide) ?_)
  refine WP_seq c (wait_step m PT K c 3 rfl rfl 0 0 (by decide) (above_zero 0) 16 (by exact rfl) (by exact rfl) (by decide) ?_)
  exact WP_pure c _ h

/-- Part 83. The waits in this stretch. -/
theorem part83 (c : Dev nD) {R : sProp 𝕄} {Q : PUnit → sProp 𝕄}
    (h : iprop(GS m PT K ∗ WSt m PT c 3 0 23 ∗ R) ⊢ Q ⟨⟩) :
    iprop(GS m PT K ∗ WSt m PT c 3 0 17 ∗ R) ⊢ WP c (app (k0_part83 (F := F))) Q := by
  unfold app
  rw [k0_part83_eq_skeleton]
  unfold k0_part83_skel
  refine WP_seq c (wait_step m PT K c 3 rfl rfl 0 0 (by decide) (above_zero 0) 17 (by exact rfl) (by exact rfl) (by decide) ?_)
  refine WP_seq c (wait_step m PT K c 3 rfl rfl 0 0 (by decide) (above_zero 0) 18 (by exact rfl) (by exact rfl) (by decide) ?_)
  refine WP_seq c (wait_step m PT K c 3 rfl rfl 0 0 (by decide) (above_zero 0) 19 (by exact rfl) (by exact rfl) (by decide) ?_)
  refine WP_seq c (wait_step m PT K c 3 rfl rfl 0 0 (by decide) (above_zero 0) 20 (by exact rfl) (by exact rfl) (by decide) ?_)
  refine WP_seq c (wait_step m PT K c 3 rfl rfl 0 0 (by decide) (above_zero 0) 21 (by exact rfl) (by exact rfl) (by decide) ?_)
  refine WP_seq c (wait_step m PT K c 3 rfl rfl 0 0 (by decide) (above_zero 0) 22 (by exact rfl) (by exact rfl) (by decide) ?_)
  exact WP_pure c _ h

/-- Part 84. The waits in this stretch. -/
theorem part84 (c : Dev nD) {R : sProp 𝕄} {Q : PUnit → sProp 𝕄}
    (h : iprop(GS m PT K ∗ WSt m PT c 3 0 28 ∗ R) ⊢ Q ⟨⟩) :
    iprop(GS m PT K ∗ WSt m PT c 3 0 23 ∗ R) ⊢ WP c (app (k0_part84 (F := F))) Q := by
  unfold app
  rw [k0_part84_eq_skeleton]
  unfold k0_part84_skel
  refine WP_seq c (wait_step m PT K c 3 rfl rfl 0 0 (by decide) (above_zero 0) 23 (by exact rfl) (by exact rfl) (by decide) ?_)
  refine WP_seq c (wait_step m PT K c 3 rfl rfl 0 0 (by decide) (above_zero 0) 24 (by exact rfl) (by exact rfl) (by decide) ?_)
  refine WP_seq c (wait_step m PT K c 3 rfl rfl 0 0 (by decide) (above_zero 0) 25 (by exact rfl) (by exact rfl) (by decide) ?_)
  refine WP_seq c (wait_step m PT K c 3 rfl rfl 0 0 (by decide) (above_zero 0) 26 (by exact rfl) (by exact rfl) (by decide) ?_)
  refine WP_seq c (wait_step m PT K c 3 rfl rfl 0 0 (by decide) (above_zero 0) 27 (by exact rfl) (by exact rfl) (by decide) ?_)
  exact WP_pure c _ h

/-- Part 85. The waits in this stretch. -/
theorem part85 (c : Dev nD) {R : sProp 𝕄} {Q : PUnit → sProp 𝕄}
    (h : iprop(GS m PT K ∗ WSt m PT c 3 0 34 ∗ R) ⊢ Q ⟨⟩) :
    iprop(GS m PT K ∗ WSt m PT c 3 0 28 ∗ R) ⊢ WP c (app (k0_part85 (F := F))) Q := by
  unfold app
  rw [k0_part85_eq_skeleton]
  unfold k0_part85_skel
  refine WP_seq c (wait_step m PT K c 3 rfl rfl 0 0 (by decide) (above_zero 0) 28 (by exact rfl) (by exact rfl) (by decide) ?_)
  refine WP_seq c (wait_step m PT K c 3 rfl rfl 0 0 (by decide) (above_zero 0) 29 (by exact rfl) (by exact rfl) (by decide) ?_)
  refine WP_seq c (wait_step m PT K c 3 rfl rfl 0 0 (by decide) (above_zero 0) 30 (by exact rfl) (by exact rfl) (by decide) ?_)
  refine WP_seq c (wait_step m PT K c 3 rfl rfl 0 0 (by decide) (above_zero 0) 31 (by exact rfl) (by exact rfl) (by decide) ?_)
  refine WP_seq c (wait_step m PT K c 3 rfl rfl 0 0 (by decide) (above_zero 0) 32 (by exact rfl) (by exact rfl) (by decide) ?_)
  refine WP_seq c (wait_step m PT K c 3 rfl rfl 0 0 (by decide) (above_zero 0) 33 (by exact rfl) (by exact rfl) (by decide) ?_)
  exact WP_pure c _ h

/-- Part 86. The waits in this stretch. -/
theorem part86 (c : Dev nD) {R : sProp 𝕄} {Q : PUnit → sProp 𝕄}
    (h : iprop(GS m PT K ∗ WSt m PT c 3 0 39 ∗ R) ⊢ Q ⟨⟩) :
    iprop(GS m PT K ∗ WSt m PT c 3 0 34 ∗ R) ⊢ WP c (app (k0_part86 (F := F))) Q := by
  unfold app
  rw [k0_part86_eq_skeleton]
  unfold k0_part86_skel
  refine WP_seq c (wait_step m PT K c 3 rfl rfl 0 0 (by decide) (above_zero 0) 34 (by exact rfl) (by exact rfl) (by decide) ?_)
  refine WP_seq c (wait_step m PT K c 3 rfl rfl 0 0 (by decide) (above_zero 0) 35 (by exact rfl) (by exact rfl) (by decide) ?_)
  refine WP_seq c (wait_step m PT K c 3 rfl rfl 0 0 (by decide) (above_zero 0) 36 (by exact rfl) (by exact rfl) (by decide) ?_)
  refine WP_seq c (wait_step m PT K c 3 rfl rfl 0 0 (by decide) (above_zero 0) 37 (by exact rfl) (by exact rfl) (by decide) ?_)
  refine WP_seq c (wait_step m PT K c 3 rfl rfl 0 0 (by decide) (above_zero 0) 38 (by exact rfl) (by exact rfl) (by decide) ?_)
  exact WP_pure c _ h

/-- Part 87. The waits in this stretch. -/
theorem part87 (c : Dev nD) {R : sProp 𝕄} {Q : PUnit → sProp 𝕄}
    (h : iprop(GS m PT K ∗ WSt m PT c 3 0 45 ∗ R) ⊢ Q ⟨⟩) :
    iprop(GS m PT K ∗ WSt m PT c 3 0 39 ∗ R) ⊢ WP c (app (k0_part87 (F := F))) Q := by
  unfold app
  rw [k0_part87_eq_skeleton]
  unfold k0_part87_skel
  refine WP_seq c (wait_step m PT K c 3 rfl rfl 0 0 (by decide) (above_zero 0) 39 (by exact rfl) (by exact rfl) (by decide) ?_)
  refine WP_seq c (wait_step m PT K c 3 rfl rfl 0 0 (by decide) (above_zero 0) 40 (by exact rfl) (by exact rfl) (by decide) ?_)
  refine WP_seq c (wait_step m PT K c 3 rfl rfl 0 0 (by decide) (above_zero 0) 41 (by exact rfl) (by exact rfl) (by decide) ?_)
  refine WP_seq c (wait_step m PT K c 3 rfl rfl 0 0 (by decide) (above_zero 0) 42 (by exact rfl) (by exact rfl) (by decide) ?_)
  refine WP_seq c (wait_step m PT K c 3 rfl rfl 0 0 (by decide) (above_zero 0) 43 (by exact rfl) (by exact rfl) (by decide) ?_)
  refine WP_seq c (wait_step m PT K c 3 rfl rfl 0 0 (by decide) (above_zero 0) 44 (by exact rfl) (by exact rfl) (by decide) ?_)
  exact WP_pure c _ h

/-- Part 88. The waits in this stretch. -/
theorem part88 (c : Dev nD) {R : sProp 𝕄} {Q : PUnit → sProp 𝕄}
    (h : iprop(GS m PT K ∗ WSt m PT c 3 0 50 ∗ R) ⊢ Q ⟨⟩) :
    iprop(GS m PT K ∗ WSt m PT c 3 0 45 ∗ R) ⊢ WP c (app (k0_part88 (F := F))) Q := by
  unfold app
  rw [k0_part88_eq_skeleton]
  unfold k0_part88_skel
  refine WP_seq c (wait_step m PT K c 3 rfl rfl 0 0 (by decide) (above_zero 0) 45 (by exact rfl) (by exact rfl) (by decide) ?_)
  refine WP_seq c (wait_step m PT K c 3 rfl rfl 0 0 (by decide) (above_zero 0) 46 (by exact rfl) (by exact rfl) (by decide) ?_)
  refine WP_seq c (wait_step m PT K c 3 rfl rfl 0 0 (by decide) (above_zero 0) 47 (by exact rfl) (by exact rfl) (by decide) ?_)
  refine WP_seq c (wait_step m PT K c 3 rfl rfl 0 0 (by decide) (above_zero 0) 48 (by exact rfl) (by exact rfl) (by decide) ?_)
  refine WP_seq c (wait_step m PT K c 3 rfl rfl 0 0 (by decide) (above_zero 0) 49 (by exact rfl) (by exact rfl) (by decide) ?_)
  exact WP_pure c _ h

/-- Part 89. The waits in this stretch. -/
theorem part89 (c : Dev nD) {R : sProp 𝕄} {Q : PUnit → sProp 𝕄}
    (h : iprop(GS m PT K ∗ WSt m PT c 3 0 56 ∗ R) ⊢ Q ⟨⟩) :
    iprop(GS m PT K ∗ WSt m PT c 3 0 50 ∗ R) ⊢ WP c (app (k0_part89 (F := F))) Q := by
  unfold app
  rw [k0_part89_eq_skeleton]
  unfold k0_part89_skel
  refine WP_seq c (wait_step m PT K c 3 rfl rfl 0 0 (by decide) (above_zero 0) 50 (by exact rfl) (by exact rfl) (by decide) ?_)
  refine WP_seq c (wait_step m PT K c 3 rfl rfl 0 0 (by decide) (above_zero 0) 51 (by exact rfl) (by exact rfl) (by decide) ?_)
  refine WP_seq c (wait_step m PT K c 3 rfl rfl 0 0 (by decide) (above_zero 0) 52 (by exact rfl) (by exact rfl) (by decide) ?_)
  refine WP_seq c (wait_step m PT K c 3 rfl rfl 0 0 (by decide) (above_zero 0) 53 (by exact rfl) (by exact rfl) (by decide) ?_)
  refine WP_seq c (wait_step m PT K c 3 rfl rfl 0 0 (by decide) (above_zero 0) 54 (by exact rfl) (by exact rfl) (by decide) ?_)
  refine WP_seq c (wait_step m PT K c 3 rfl rfl 0 0 (by decide) (above_zero 0) 55 (by exact rfl) (by exact rfl) (by decide) ?_)
  exact WP_pure c _ h

end Cert.KernelIdealProof

end
-- ==== Proof.KI.PartsX.lean ====
/-
The waits for what lands in the second exchange.
-/
module

public import proofs.«01_k».proof.Proof.KI.App

@[expose] public section

set_option maxRecDepth 10000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (PT : Parts F) (K : Dev nD × Fin 7 → ℕ)

/-- Part 91. The waits in this stretch. -/
theorem part91 (c : Dev nD) (v2 : BitVec 32) {R : sProp 𝕄} {Q : PUnit → sProp 𝕄}
    (h : iprop(GS m PT K ∗ WSt m PT c 6 0 5 ∗ R) ⊢ Q ⟨⟩) :
    iprop(GS m PT K ∗ WSt m PT c 6 0 1 ∗ R) ⊢ WP c (app (k0_part91 (F := F)) v2) Q := by
  unfold app
  rw [k0_part91_eq_skeleton]
  unfold k0_part91_skel
  refine WP_seq c (wait_step m PT K c 6 rfl rfl 3 0 (by decide) (above_zero 3) 1 (by exact rfl) (by exact rfl) (by decide) ?_)
  refine WP_seq c (wait_step m PT K c 6 rfl rfl 3 0 (by decide) (above_zero 3) 2 (by exact rfl) (by exact rfl) (by decide) ?_)
  refine WP_seq c (wait_step m PT K c 6 rfl rfl 3 0 (by decide) (above_zero 3) 3 (by exact rfl) (by exact rfl) (by decide) ?_)
  refine WP_seq c (wait_step m PT K c 6 rfl rfl 3 0 (by decide) (above_zero 3) 4 (by exact rfl) (by exact rfl) (by decide) ?_)
  exact WP_pure c _ h

/-- Part 92. The waits in this stretch. -/
theorem part92 (c : Dev nD) (v2 : BitVec 32) {R : sProp 𝕄} {Q : PUnit → sProp 𝕄}
    (h : iprop(GS m PT K ∗ WSt m PT c 6 0 9 ∗ R) ⊢ Q ⟨⟩) :
    iprop(GS m PT K ∗ WSt m PT c 6 0 5 ∗ R) ⊢ WP c (app (k0_part92 (F := F)) v2) Q := by
  unfold app
  rw [k0_part92_eq_skeleton]
  unfold k0_part92_skel
  refine WP_seq c (wait_step m PT K c 6 rfl rfl 3 0 (by decide) (above_zero 3) 5 (by exact rfl) (by exact rfl) (by decide) ?_)
  refine WP_seq c (wait_step m PT K c 6 rfl rfl 3 0 (by decide) (above_zero 3) 6 (by exact rfl) (by exact rfl) (by decide) ?_)
  refine WP_seq c (wait_step m PT K c 6 rfl rfl 3 0 (by decide) (above_zero 3) 7 (by exact rfl) (by exact rfl) (by decide) ?_)
  refine WP_seq c (wait_step m PT K c 6 rfl rfl 3 0 (by decide) (above_zero 3) 8 (by exact rfl) (by exact rfl) (by decide) ?_)
  exact WP_pure c _ h

/-- Part 93. The waits in this stretch. -/
theorem part93 (c : Dev nD) (v2 : BitVec 32) {R : sProp 𝕄} {Q : PUnit → sProp 𝕄}
    (h : iprop(GS m PT K ∗ WSt m PT c 6 0 13 ∗ R) ⊢ Q ⟨⟩) :
    iprop(GS m PT K ∗ WSt m PT c 6 0 9 ∗ R) ⊢ WP c (app (k0_part93 (F := F)) v2) Q := by
  unfold app
  rw [k0_part93_eq_skeleton]
  unfold k0_part93_skel
  refine WP_seq c (wait_step m PT K c 6 rfl rfl 3 0 (by decide) (above_zero 3) 9 (by exact rfl) (by exact rfl) (by decide) ?_)
  refine WP_seq c (wait_step m PT K c 6 rfl rfl 3 0 (by decide) (above_zero 3) 10 (by exact rfl) (by exact rfl) (by decide) ?_)
  refine WP_seq c (wait_step m PT K c 6 rfl rfl 3 0 (by decide) (above_zero 3) 11 (by exact rfl) (by exact rfl) (by decide) ?_)
  refine WP_seq c (wait_step m PT K c 6 rfl rfl 3 0 (by decide) (above_zero 3) 12 (by exact rfl) (by exact rfl) (by decide) ?_)
  exact WP_pure c _ h

/-- Part 94. The waits in this stretch. -/
theorem part94 (c : Dev nD) (v2 : BitVec 32) {R : sProp 𝕄} {Q : PUnit → sProp 𝕄}
    (h : iprop(GS m PT K ∗ WSt m PT c 6 0 17 ∗ R) ⊢ Q ⟨⟩) :
    iprop(GS m PT K ∗ WSt m PT c 6 0 13 ∗ R) ⊢ WP c (app (k0_part94 (F := F)) v2) Q := by
  unfold app
  rw [k0_part94_eq_skeleton]
  unfold k0_part94_skel
  refine WP_seq c (wait_step m PT K c 6 rfl rfl 3 0 (by decide) (above_zero 3) 13 (by exact rfl) (by exact rfl) (by decide) ?_)
  refine WP_seq c (wait_step m PT K c 6 rfl rfl 3 0 (by decide) (above_zero 3) 14 (by exact rfl) (by exact rfl) (by decide) ?_)
  refine WP_seq c (wait_step m PT K c 6 rfl rfl 3 0 (by decide) (above_zero 3) 15 (by exact rfl) (by exact rfl) (by decide) ?_)
  refine WP_seq c (wait_step m PT K c 6 rfl rfl 3 0 (by decide) (above_zero 3) 16 (by exact rfl) (by exact rfl) (by decide) ?_)
  exact WP_pure c _ h

/-- Part 95. The waits in this stretch. -/
theorem part95 (c : Dev nD) (v2 : BitVec 32) {R : sProp 𝕄} {Q : PUnit → sProp 𝕄}
    (h : iprop(GS m PT K ∗ WSt m PT c 6 0 21 ∗ R) ⊢ Q ⟨⟩) :
    iprop(GS m PT K ∗ WSt m PT c 6 0 17 ∗ R) ⊢ WP c (app (k0_part95 (F := F)) v2) Q := by
  unfold app
  rw [k0_part95_eq_skeleton]
  unfold k0_part95_skel
  refine WP_seq c (wait_step m PT K c 6 rfl rfl 3 0 (by decide) (above_zero 3) 17 (by exact rfl) (by exact rfl) (by decide) ?_)
  refine WP_seq c (wait_step m PT K c 6 rfl rfl 3 0 (by decide) (above_zero 3) 18 (by exact rfl) (by exact rfl) (by decide) ?_)
  refine WP_seq c (wait_step m PT K c 6 rfl rfl 3 0 (by decide) (above_zero 3) 19 (by exact rfl) (by exact rfl) (by decide) ?_)
  refine WP_seq c (wait_step m PT K c 6 rfl rfl 3 0 (by decide) (above_zero 3) 20 (by exact rfl) (by exact rfl) (by decide) ?_)
  exact WP_pure c _ h

/-- Part 96. The waits in this stretch. -/
theorem part96 (c : Dev nD) (v2 : BitVec 32) {R : sProp 𝕄} {Q : PUnit → sProp 𝕄}
    (h : iprop(GS m PT K ∗ WSt m PT c 6 0 25 ∗ R) ⊢ Q ⟨⟩) :
    iprop(GS m PT K ∗ WSt m PT c 6 0 21 ∗ R) ⊢ WP c (app (k0_part96 (F := F)) v2) Q := by
  unfold app
  rw [k0_part96_eq_skeleton]
  unfold k0_part96_skel
  refine WP_seq c (wait_step m PT K c 6 rfl rfl 3 0 (by decide) (above_zero 3) 21 (by exact rfl) (by exact rfl) (by decide) ?_)
  refine WP_seq c (wait_step m PT K c 6 rfl rfl 3 0 (by decide) (above_zero 3) 22 (by exact rfl) (by exact rfl) (by decide) ?_)
  refine WP_seq c (wait_step m PT K c 6 rfl rfl 3 0 (by decide) (above_zero 3) 23 (by exact rfl) (by exact rfl) (by decide) ?_)
  refine WP_seq c (wait_step m PT K c 6 rfl rfl 3 0 (by decide) (above_zero 3) 24 (by exact rfl) (by exact rfl) (by decide) ?_)
  exact WP_pure c _ h

/-- Part 97. The waits in this stretch. -/
theorem part97 (c : Dev nD) (v2 : BitVec 32) {R : sProp 𝕄} {Q : PUnit → sProp 𝕄}
    (h : iprop(GS m PT K ∗ WSt m PT c 6 0 29 ∗ R) ⊢ Q ⟨⟩) :
    iprop(GS m PT K ∗ WSt m PT c 6 0 25 ∗ R) ⊢ WP c (app (k0_part97 (F := F)) v2) Q := by
  unfold app
  rw [k0_part97_eq_skeleton]
  unfold k0_part97_skel
  refine WP_seq c (wait_step m PT K c 6 rfl rfl 3 0 (by decide) (above_zero 3) 25 (by exact rfl) (by exact rfl) (by decide) ?_)
  refine WP_seq c (wait_step m PT K c 6 rfl rfl 3 0 (by decide) (above_zero 3) 26 (by exact rfl) (by exact rfl) (by decide) ?_)
  refine WP_seq c (wait_step m PT K c 6 rfl rfl 3 0 (by decide) (above_zero 3) 27 (by exact rfl) (by exact rfl) (by decide) ?_)
  refine WP_seq c (wait_step m PT K c 6 rfl rfl 3 0 (by decide) (above_zero 3) 28 (by exact rfl) (by exact rfl) (by decide) ?_)
  exact WP_pure c _ h

/-- Part 98. The waits in this stretch. -/
theorem part98 (c : Dev nD) (v2 : BitVec 32) {R : sProp 𝕄} {Q : PUnit → sProp 𝕄}
    (h : iprop(GS m PT K ∗ WSt m PT c 6 0 33 ∗ R) ⊢ Q ⟨⟩) :
    iprop(GS m PT K ∗ WSt m PT c 6 0 29 ∗ R) ⊢ WP c (app (k0_part98 (F := F)) v2) Q := by
  unfold app
  rw [k0_part98_eq_skeleton]
  unfold k0_part98_skel
  refine WP_seq c (wait_step m PT K c 6 rfl rfl 3 0 (by decide) (above_zero 3) 29 (by exact rfl) (by exact rfl) (by decide) ?_)
  refine WP_seq c (wait_step m PT K c 6 rfl rfl 3 0 (by decide) (above_zero 3) 30 (by exact rfl) (by exact rfl) (by decide) ?_)
  refine WP_seq c (wait_step m PT K c 6 rfl rfl 3 0 (by decide) (above_zero 3) 31 (by exact rfl) (by exact rfl) (by decide) ?_)
  refine WP_seq c (wait_step m PT K c 6 rfl rfl 3 0 (by decide) (above_zero 3) 32 (by exact rfl) (by exact rfl) (by decide) ?_)
  exact WP_pure c _ h

/-- Part 99. The waits in this stretch. -/
theorem part99 (c : Dev nD) (v2 : BitVec 32) {R : sProp 𝕄} {Q : PUnit → sProp 𝕄}
    (h : iprop(GS m PT K ∗ WSt m PT c 6 0 37 ∗ R) ⊢ Q ⟨⟩) :
    iprop(GS m PT K ∗ WSt m PT c 6 0 33 ∗ R) ⊢ WP c (app (k0_part99 (F := F)) v2) Q := by
  unfold app
  rw [k0_part99_eq_skeleton]
  unfold k0_part99_skel
  refine WP_seq c (wait_step m PT K c 6 rfl rfl 3 0 (by decide) (above_zero 3) 33 (by exact rfl) (by exact rfl) (by decide) ?_)
  refine WP_seq c (wait_step m PT K c 6 rfl rfl 3 0 (by decide) (above_zero 3) 34 (by exact rfl) (by exact rfl) (by decide) ?_)
  refine WP_seq c (wait_step m PT K c 6 rfl rfl 3 0 (by decide) (above_zero 3) 35 (by exact rfl) (by exact rfl) (by decide) ?_)
  refine WP_seq c (wait_step m PT K c 6 rfl rfl 3 0 (by decide) (above_zero 3) 36 (by exact rfl) (by exact rfl) (by decide) ?_)
  exact WP_pure c _ h

/-- Part 100. The waits in this stretch. -/
theorem part100 (c : Dev nD) (v2 : BitVec 32) {R : sProp 𝕄} {Q : PUnit → sProp 𝕄}
    (h : iprop(GS m PT K ∗ WSt m PT c 6 0 41 ∗ R) ⊢ Q ⟨⟩) :
    iprop(GS m PT K ∗ WSt m PT c 6 0 37 ∗ R) ⊢ WP c (app (k0_part100 (F := F)) v2) Q := by
  unfold app
  rw [k0_part100_eq_skeleton]
  unfold k0_part100_skel
  refine WP_seq c (wait_step m PT K c 6 rfl rfl 3 0 (by decide) (above_zero 3) 37 (by exact rfl) (by exact rfl) (by decide) ?_)
  refine WP_seq c (wait_step m PT K c 6 rfl rfl 3 0 (by decide) (above_zero 3) 38 (by exact rfl) (by exact rfl) (by decide) ?_)
  refine WP_seq c (wait_step m PT K c 6 rfl rfl 3 0 (by decide) (above_zero 3) 39 (by exact rfl) (by exact rfl) (by decide) ?_)
  refine WP_seq c (wait_step m PT K c 6 rfl rfl 3 0 (by decide) (above_zero 3) 40 (by exact rfl) (by exact rfl) (by decide) ?_)
  exact WP_pure c _ h

/-- Part 101. The waits in this stretch. -/
theorem part101 (c : Dev nD) (v2 : BitVec 32) {R : sProp 𝕄} {Q : PUnit → sProp 𝕄}
    (h : iprop(GS m PT K ∗ WSt m PT c 6 0 45 ∗ R) ⊢ Q ⟨⟩) :
    iprop(GS m PT K ∗ WSt m PT c 6 0 41 ∗ R) ⊢ WP c (app (k0_part101 (F := F)) v2) Q := by
  unfold app
  rw [k0_part101_eq_skeleton]
  unfold k0_part101_skel
  refine WP_seq c (wait_step m PT K c 6 rfl rfl 3 0 (by decide) (above_zero 3) 41 (by exact rfl) (by exact rfl) (by decide) ?_)
  refine WP_seq c (wait_step m PT K c 6 rfl rfl 3 0 (by decide) (above_zero 3) 42 (by exact rfl) (by exact rfl) (by decide) ?_)
  refine WP_seq c (wait_step m PT K c 6 rfl rfl 3 0 (by decide) (above_zero 3) 43 (by exact rfl) (by exact rfl) (by decide) ?_)
  refine WP_seq c (wait_step m PT K c 6 rfl rfl 3 0 (by decide) (above_zero 3) 44 (by exact rfl) (by exact rfl) (by decide) ?_)
  exact WP_pure c _ h

/-- Part 102. The waits in this stretch. -/
theorem part102 (c : Dev nD) (v2 : BitVec 32) {R : sProp 𝕄} {Q : PUnit → sProp 𝕄}
    (h : iprop(GS m PT K ∗ WSt m PT c 6 0 49 ∗ R) ⊢ Q ⟨⟩) :
    iprop(GS m PT K ∗ WSt m PT c 6 0 45 ∗ R) ⊢ WP c (app (k0_part102 (F := F)) v2) Q := by
  unfold app
  rw [k0_part102_eq_skeleton]
  unfold k0_part102_skel
  refine WP_seq c (wait_step m PT K c 6 rfl rfl 3 0 (by decide) (above_zero 3) 45 (by exact rfl) (by exact rfl) (by decide) ?_)
  refine WP_seq c (wait_step m PT K c 6 rfl rfl 3 0 (by decide) (above_zero 3) 46 (by exact rfl) (by exact rfl) (by decide) ?_)
  refine WP_seq c (wait_step m PT K c 6 rfl rfl 3 0 (by decide) (above_zero 3) 47 (by exact rfl) (by exact rfl) (by decide) ?_)
  refine WP_seq c (wait_step m PT K c 6 rfl rfl 3 0 (by decide) (above_zero 3) 48 (by exact rfl) (by exact rfl) (by decide) ?_)
  exact WP_pure c _ h

/-- Part 103. The waits in this stretch. -/
theorem part103 (c : Dev nD) (v2 : BitVec 32) {R : sProp 𝕄} {Q : PUnit → sProp 𝕄}
    (h : iprop(GS m PT K ∗ WSt m PT c 6 0 53 ∗ R) ⊢ Q ⟨⟩) :
    iprop(GS m PT K ∗ WSt m PT c 6 0 49 ∗ R) ⊢ WP c (app (k0_part103 (F := F)) v2) Q := by
  unfold app
  rw [k0_part103_eq_skeleton]
  unfold k0_part103_skel
  refine WP_seq c (wait_step m PT K c 6 rfl rfl 3 0 (by decide) (above_zero 3) 49 (by exact rfl) (by exact rfl) (by decide) ?_)
  refine WP_seq c (wait_step m PT K c 6 rfl rfl 3 0 (by decide) (above_zero 3) 50 (by exact rfl) (by exact rfl) (by decide) ?_)
  refine WP_seq c (wait_step m PT K c 6 rfl rfl 3 0 (by decide) (above_zero 3) 51 (by exact rfl) (by exact rfl) (by decide) ?_)
  refine WP_seq c (wait_step m PT K c 6 rfl rfl 3 0 (by decide) (above_zero 3) 52 (by exact rfl) (by exact rfl) (by decide) ?_)
  exact WP_pure c _ h

/-- Part 104. The waits in this stretch. -/
theorem part104 (c : Dev nD) (v2 : BitVec 32) {R : sProp 𝕄} {Q : PUnit → sProp 𝕄}
    (h : iprop(GS m PT K ∗ WSt m PT c 6 0 57 ∗ R) ⊢ Q ⟨⟩) :
    iprop(GS m PT K ∗ WSt m PT c 6 0 53 ∗ R) ⊢ WP c (app (k0_part104 (F := F)) v2) Q := by
  unfold app
  rw [k0_part104_eq_skeleton]
  unfold k0_part104_skel
  refine WP_seq c (wait_step m PT K c 6 rfl rfl 3 0 (by decide) (above_zero 3) 53 (by exact rfl) (by exact rfl) (by decide) ?_)
  refine WP_seq c (wait_step m PT K c 6 rfl rfl 3 0 (by decide) (above_zero 3) 54 (by exact rfl) (by exact rfl) (by decide) ?_)
  refine WP_seq c (wait_step m PT K c 6 rfl rfl 3 0 (by decide) (above_zero 3) 55 (by exact rfl) (by exact rfl) (by decide) ?_)
  refine WP_seq c (wait_step m PT K c 6 rfl rfl 3 0 (by decide) (above_zero 3) 56 (by exact rfl) (by exact rfl) (by decide) ?_)
  exact WP_pure c _ h

end Cert.KernelIdealProof

end
-- ==== Proof.KI.PartsY.lean ====
/-
The waits for the copies of the second exchange to have been read.
-/
module

public import proofs.«01_k».proof.Proof.KI.App

@[expose] public section

set_option maxRecDepth 10000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (PT : Parts F) (K : Dev nD × Fin 7 → ℕ)

/-- Part 106. The waits in this stretch. -/
theorem part106 (c : Dev nD) {R : sProp 𝕄} {Q : PUnit → sProp 𝕄}
    (h : iprop(GS m PT K ∗ WSt m PT c 5 0 6 ∗ R) ⊢ Q ⟨⟩) :
    iprop(GS m PT K ∗ WSt m PT c 5 0 1 ∗ R) ⊢ WP c (app (k0_part106 (F := F))) Q := by
  unfold app
  rw [k0_part106_eq_skeleton]
  unfold k0_part106_skel
  refine WP_seq c (wait_step m PT K c 5 rfl rfl 0 0 (by decide) (above_zero 0) 1 (by exact rfl) (by exact rfl) (by decide) ?_)
  refine WP_seq c (wait_step m PT K c 5 rfl rfl 0 0 (by decide) (above_zero 0) 2 (by exact rfl) (by exact rfl) (by decide) ?_)
  refine WP_seq c (wait_step m PT K c 5 rfl rfl 0 0 (by decide) (above_zero 0) 3 (by exact rfl) (by exact rfl) (by decide) ?_)
  refine WP_seq c (wait_step m PT K c 5 rfl rfl 0 0 (by decide) (above_zero 0) 4 (by exact rfl) (by exact rfl) (by decide) ?_)
  refine WP_seq c (wait_step m PT K c 5 rfl rfl 0 0 (by decide) (above_zero 0) 5 (by exact rfl) (by exact rfl) (by decide) ?_)
  exact WP_pure c _ h

/-- Part 107. The waits in this stretch. -/
theorem part107 (c : Dev nD) {R : sProp 𝕄} {Q : PUnit → sProp 𝕄}
    (h : iprop(GS m PT K ∗ WSt m PT c 5 0 11 ∗ R) ⊢ Q ⟨⟩) :
    iprop(GS m PT K ∗ WSt m PT c 5 0 6 ∗ R) ⊢ WP c (app (k0_part107 (F := F))) Q := by
  unfold app
  rw [k0_part107_eq_skeleton]
  unfold k0_part107_skel
  refine WP_seq c (wait_step m PT K c 5 rfl rfl 0 0 (by decide) (above_zero 0) 6 (by exact rfl) (by exact rfl) (by decide) ?_)
  refine WP_seq c (wait_step m PT K c 5 rfl rfl 0 0 (by decide) (above_zero 0) 7 (by exact rfl) (by exact rfl) (by decide) ?_)
  refine WP_seq c (wait_step m PT K c 5 rfl rfl 0 0 (by decide) (above_zero 0) 8 (by exact rfl) (by exact rfl) (by decide) ?_)
  refine WP_seq c (wait_step m PT K c 5 rfl rfl 0 0 (by decide) (above_zero 0) 9 (by exact rfl) (by exact rfl) (by decide) ?_)
  refine WP_seq c (wait_step m PT K c 5 rfl rfl 0 0 (by decide) (above_zero 0) 10 (by exact rfl) (by exact rfl) (by decide) ?_)
  exact WP_pure c _ h

/-- Part 108. The waits in this stretch. -/
theorem part108 (c : Dev nD) {R : sProp 𝕄} {Q : PUnit → sProp 𝕄}
    (h : iprop(GS m PT K ∗ WSt m PT c 5 0 16 ∗ R) ⊢ Q ⟨⟩) :
    iprop(GS m PT K ∗ WSt m PT c 5 0 11 ∗ R) ⊢ WP c (app (k0_part108 (F := F))) Q := by
  unfold app
  rw [k0_part108_eq_skeleton]
  unfold k0_part108_skel
  refine WP_seq c (wait_step m PT K c 5 rfl rfl 0 0 (by decide) (above_zero 0) 11 (by exact rfl) (by exact rfl) (by decide) ?_)
  refine WP_seq c (wait_step m PT K c 5 rfl rfl 0 0 (by decide) (above_zero 0) 12 (by exact rfl) (by exact rfl) (by decide) ?_)
  refine WP_seq c (wait_step m PT K c 5 rfl rfl 0 0 (by decide) (above_zero 0) 13 (by exact rfl) (by exact rfl) (by decide) ?_)
  refine WP_seq c (wait_step m PT K c 5 rfl rfl 0 0 (by decide) (above_zero 0) 14 (by exact rfl) (by exact rfl) (by decide) ?_)
  refine WP_seq c (wait_step m PT K c 5 rfl rfl 0 0 (by decide) (above_zero 0) 15 (by exact rfl) (by exact rfl) (by decide) ?_)
  exact WP_pure c _ h

/-- Part 109. The waits in this stretch. -/
theorem part109 (c : Dev nD) {R : sProp 𝕄} {Q : PUnit → sProp 𝕄}
    (h : iprop(GS m PT K ∗ WSt m PT c 5 0 21 ∗ R) ⊢ Q ⟨⟩) :
    iprop(GS m PT K ∗ WSt m PT c 5 0 16 ∗ R) ⊢ WP c (app (k0_part109 (F := F))) Q := by
  unfold app
  rw [k0_part109_eq_skeleton]
  unfold k0_part109_skel
  refine WP_seq c (wait_step m PT K c 5 rfl rfl 0 0 (by decide) (above_zero 0) 16 (by exact rfl) (by exact rfl) (by decide) ?_)
  refine WP_seq c (wait_step m PT K c 5 rfl rfl 0 0 (by decide) (above_zero 0) 17 (by exact rfl) (by exact rfl) (by decide) ?_)
  refine WP_seq c (wait_step m PT K c 5 rfl rfl 0 0 (by decide) (above_zero 0) 18 (by exact rfl) (by exact rfl) (by decide) ?_)
  refine WP_seq c (wait_step m PT K c 5 rfl rfl 0 0 (by decide) (above_zero 0) 19 (by exact rfl) (by exact rfl) (by decide) ?_)
  refine WP_seq c (wait_step m PT K c 5 rfl rfl 0 0 (by decide) (above_zero 0) 20 (by exact rfl) (by exact rfl) (by decide) ?_)
  exact WP_pure c _ h

/-- Part 110. The waits in this stretch. -/
theorem part110 (c : Dev nD) {R : sProp 𝕄} {Q : PUnit → sProp 𝕄}
    (h : iprop(GS m PT K ∗ WSt m PT c 5 0 26 ∗ R) ⊢ Q ⟨⟩) :
    iprop(GS m PT K ∗ WSt m PT c 5 0 21 ∗ R) ⊢ WP c (app (k0_part110 (F := F))) Q := by
  unfold app
  rw [k0_part110_eq_skeleton]
  unfold k0_part110_skel
  refine WP_seq c (wait_step m PT K c 5 rfl rfl 0 0 (by decide) (above_zero 0) 21 (by exact rfl) (by exact rfl) (by decide) ?_)
  refine WP_seq c (wait_step m PT K c 5 rfl rfl 0 0 (by decide) (above_zero 0) 22 (by exact rfl) (by exact rfl) (by decide) ?_)
  refine WP_seq c (wait_step m PT K c 5 rfl rfl 0 0 (by decide) (above_zero 0) 23 (by exact rfl) (by exact rfl) (by decide) ?_)
  refine WP_seq c (wait_step m PT K c 5 rfl rfl 0 0 (by decide) (above_zero 0) 24 (by exact rfl) (by exact rfl) (by decide) ?_)
  refine WP_seq c (wait_step m PT K c 5 rfl rfl 0 0 (by decide) (above_zero 0) 25 (by exact rfl) (by exact rfl) (by decide) ?_)
  exact WP_pure c _ h

/-- Part 111. The waits in this stretch. -/
theorem part111 (c : Dev nD) {R : sProp 𝕄} {Q : PUnit → sProp 𝕄}
    (h : iprop(GS m PT K ∗ WSt m PT c 5 0 31 ∗ R) ⊢ Q ⟨⟩) :
    iprop(GS m PT K ∗ WSt m PT c 5 0 26 ∗ R) ⊢ WP c (app (k0_part111 (F := F))) Q := by
  unfold app
  rw [k0_part111_eq_skeleton]
  unfold k0_part111_skel
  refine WP_seq c (wait_step m PT K c 5 rfl rfl 0 0 (by decide) (above_zero 0) 26 (by exact rfl) (by exact rfl) (by decide) ?_)
  refine WP_seq c (wait_step m PT K c 5 rfl rfl 0 0 (by decide) (above_zero 0) 27 (by exact rfl) (by exact rfl) (by decide) ?_)
  refine WP_seq c (wait_step m PT K c 5 rfl rfl 0 0 (by decide) (above_zero 0) 28 (by exact rfl) (by exact rfl) (by decide) ?_)
  refine WP_seq c (wait_step m PT K c 5 rfl rfl 0 0 (by decide) (above_zero 0) 29 (by exact rfl) (by exact rfl) (by decide) ?_)
  refine WP_seq c (wait_step m PT K c 5 rfl rfl 0 0 (by decide) (above_zero 0) 30 (by exact rfl) (by exact rfl) (by decide) ?_)
  exact WP_pure c _ h

/-- Part 112. The waits in this stretch. -/
theorem part112 (c : Dev nD) {R : sProp 𝕄} {Q : PUnit → sProp 𝕄}
    (h : iprop(GS m PT K ∗ WSt m PT c 5 0 36 ∗ R) ⊢ Q ⟨⟩) :
    iprop(GS m PT K ∗ WSt m PT c 5 0 31 ∗ R) ⊢ WP c (app (k0_part112 (F := F))) Q := by
  unfold app
  rw [k0_part112_eq_skeleton]
  unfold k0_part112_skel
  refine WP_seq c (wait_step m PT K c 5 rfl rfl 0 0 (by decide) (above_zero 0) 31 (by exact rfl) (by exact rfl) (by decide) ?_)
  refine WP_seq c (wait_step m PT K c 5 rfl rfl 0 0 (by decide) (above_zero 0) 32 (by exact rfl) (by exact rfl) (by decide) ?_)
  refine WP_seq c (wait_step m PT K c 5 rfl rfl 0 0 (by decide) (above_zero 0) 33 (by exact rfl) (by exact rfl) (by decide) ?_)
  refine WP_seq c (wait_step m PT K c 5 rfl rfl 0 0 (by decide) (above_zero 0) 34 (by exact rfl) (by exact rfl) (by decide) ?_)
  refine WP_seq c (wait_step m PT K c 5 rfl rfl 0 0 (by decide) (above_zero 0) 35 (by exact rfl) (by exact rfl) (by decide) ?_)
  exact WP_pure c _ h

/-- Part 113. The waits in this stretch. -/
theorem part113 (c : Dev nD) {R : sProp 𝕄} {Q : PUnit → sProp 𝕄}
    (h : iprop(GS m PT K ∗ WSt m PT c 5 0 41 ∗ R) ⊢ Q ⟨⟩) :
    iprop(GS m PT K ∗ WSt m PT c 5 0 36 ∗ R) ⊢ WP c (app (k0_part113 (F := F))) Q := by
  unfold app
  rw [k0_part113_eq_skeleton]
  unfold k0_part113_skel
  refine WP_seq c (wait_step m PT K c 5 rfl rfl 0 0 (by decide) (above_zero 0) 36 (by exact rfl) (by exact rfl) (by decide) ?_)
  refine WP_seq c (wait_step m PT K c 5 rfl rfl 0 0 (by decide) (above_zero 0) 37 (by exact rfl) (by exact rfl) (by decide) ?_)
  refine WP_seq c (wait_step m PT K c 5 rfl rfl 0 0 (by decide) (above_zero 0) 38 (by exact rfl) (by exact rfl) (by decide) ?_)
  refine WP_seq c (wait_step m PT K c 5 rfl rfl 0 0 (by decide) (above_zero 0) 39 (by exact rfl) (by exact rfl) (by decide) ?_)
  refine WP_seq c (wait_step m PT K c 5 rfl rfl 0 0 (by decide) (above_zero 0) 40 (by exact rfl) (by exact rfl) (by decide) ?_)
  exact WP_pure c _ h

/-- Part 114. The waits in this stretch. -/
theorem part114 (c : Dev nD) {R : sProp 𝕄} {Q : PUnit → sProp 𝕄}
    (h : iprop(GS m PT K ∗ WSt m PT c 5 0 46 ∗ R) ⊢ Q ⟨⟩) :
    iprop(GS m PT K ∗ WSt m PT c 5 0 41 ∗ R) ⊢ WP c (app (k0_part114 (F := F))) Q := by
  unfold app
  rw [k0_part114_eq_skeleton]
  unfold k0_part114_skel
  refine WP_seq c (wait_step m PT K c 5 rfl rfl 0 0 (by decide) (above_zero 0) 41 (by exact rfl) (by exact rfl) (by decide) ?_)
  refine WP_seq c (wait_step m PT K c 5 rfl rfl 0 0 (by decide) (above_zero 0) 42 (by exact rfl) (by exact rfl) (by decide) ?_)
  refine WP_seq c (wait_step m PT K c 5 rfl rfl 0 0 (by decide) (above_zero 0) 43 (by exact rfl) (by exact rfl) (by decide) ?_)
  refine WP_seq c (wait_step m PT K c 5 rfl rfl 0 0 (by decide) (above_zero 0) 44 (by exact rfl) (by exact rfl) (by decide) ?_)
  refine WP_seq c (wait_step m PT K c 5 rfl rfl 0 0 (by decide) (above_zero 0) 45 (by exact rfl) (by exact rfl) (by decide) ?_)
  exact WP_pure c _ h

/-- Part 115. The waits in this stretch. -/
theorem part115 (c : Dev nD) {R : sProp 𝕄} {Q : PUnit → sProp 𝕄}
    (h : iprop(GS m PT K ∗ WSt m PT c 5 0 51 ∗ R) ⊢ Q ⟨⟩) :
    iprop(GS m PT K ∗ WSt m PT c 5 0 46 ∗ R) ⊢ WP c (app (k0_part115 (F := F))) Q := by
  unfold app
  rw [k0_part115_eq_skeleton]
  unfold k0_part115_skel
  refine WP_seq c (wait_step m PT K c 5 rfl rfl 0 0 (by decide) (above_zero 0) 46 (by exact rfl) (by exact rfl) (by decide) ?_)
  refine WP_seq c (wait_step m PT K c 5 rfl rfl 0 0 (by decide) (above_zero 0) 47 (by exact rfl) (by exact rfl) (by decide) ?_)
  refine WP_seq c (wait_step m PT K c 5 rfl rfl 0 0 (by decide) (above_zero 0) 48 (by exact rfl) (by exact rfl) (by decide) ?_)
  refine WP_seq c (wait_step m PT K c 5 rfl rfl 0 0 (by decide) (above_zero 0) 49 (by exact rfl) (by exact rfl) (by decide) ?_)
  refine WP_seq c (wait_step m PT K c 5 rfl rfl 0 0 (by decide) (above_zero 0) 50 (by exact rfl) (by exact rfl) (by decide) ?_)
  exact WP_pure c _ h

/-- Part 116. The waits in this stretch. -/
theorem part116 (c : Dev nD) {R : sProp 𝕄} {Q : PUnit → sProp 𝕄}
    (h : iprop(GS m PT K ∗ WSt m PT c 5 0 56 ∗ R) ⊢ Q ⟨⟩) :
    iprop(GS m PT K ∗ WSt m PT c 5 0 51 ∗ R) ⊢ WP c (app (k0_part116 (F := F))) Q := by
  unfold app
  rw [k0_part116_eq_skeleton]
  unfold k0_part116_skel
  refine WP_seq c (wait_step m PT K c 5 rfl rfl 0 0 (by decide) (above_zero 0) 51 (by exact rfl) (by exact rfl) (by decide) ?_)
  refine WP_seq c (wait_step m PT K c 5 rfl rfl 0 0 (by decide) (above_zero 0) 52 (by exact rfl) (by exact rfl) (by decide) ?_)
  refine WP_seq c (wait_step m PT K c 5 rfl rfl 0 0 (by decide) (above_zero 0) 53 (by exact rfl) (by exact rfl) (by decide) ?_)
  refine WP_seq c (wait_step m PT K c 5 rfl rfl 0 0 (by decide) (above_zero 0) 54 (by exact rfl) (by exact rfl) (by decide) ?_)
  refine WP_seq c (wait_step m PT K c 5 rfl rfl 0 0 (by decide) (above_zero 0) 55 (by exact rfl) (by exact rfl) (by decide) ?_)
  exact WP_pure c _ h

end Cert.KernelIdealProof

end
-- ==== Proof.KI.BodyB.lean ====
/-
The second half of the body, and the whole.
-/
module

public import proofs.«01_k».proof.Proof.KI.BodyA
public import proofs.«01_k».proof.Proof.KI.PartsW
public import proofs.«01_k».proof.Proof.KI.PartsX
public import proofs.«01_k».proof.Proof.KI.PartsY

@[expose] public section

set_option maxRecDepth 10000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (PT : Parts F) (K : Dev nD × Fin 7 → ℕ)

/-- A cell's place and its credits are what the first of its waits needs. -/
theorem toWI (c : Dev nD) (k : Fin 7) : iprop(At0 c k ∗ CR c k) ⊢ WI (F := F) c k := by
  unfold At0 WI
  exact Entails.rfl

/-- The second half of the body: the reduced rows sent to everybody, and every copy waited for. -/
theorem part118 (c : Dev nD) (v2 v1751 : BitVec 32) (xb : S1x1024x1024.Idx → Elt F .f32) (kb vb : S1x1024x8x128.Idx → Elt F .f32)
    {R : sProp 𝕄} {Q : PUnit → sProp 𝕄}
    (h : iprop(GS m PT K ∗ WSt m PT c 5 0 56 ∗ WR m PT c 6 ∗ WR m PT c 3 ∗ Rest PT c ∗ Full4 PT c ∗ At1 c 4 ∗ bigSep Finset.univ (Own3 PT c) ∗ QB c (k0_pay1 xb (WQ m c)) ∗ At1 c 0 ∗ At1 c 1 ∗ ld0Pay m c ∗ At1 c 2 ∗ ld1Pay m c ∗ X2 c kb ∗ X3 c vb ∗ X0 c xb ∗ R) ⊢ Q ⟨⟩) :
    iprop(GS m PT K ∗ StB PT c 8 ∗ Rest PT c ∗ Full4 PT c ∗ At1 c 4 ∗ bigSep Finset.univ (Own3 PT c) ∗ CR c 3 ∗ QB c (k0_pay1 xb (WQ m c)) ∗ At1 c 0 ∗ At1 c 1 ∗ ld0Pay m c ∗ At1 c 2 ∗ ld1Pay m c ∗ X2 c kb ∗ X3 c vb ∗ X0 c xb ∗ WI c 6 ∗ At0 c 3 ∗ At0 c 5 ∗ R) ⊢ WP c (app (k0_part118 (F := F)) c v2 v1751) Q := by
  unfold app
  rw [k0_part118_eq_skeleton]
  unfold k0_part118_skel
  refine WP_seq c (part61 m PT K c _ _ (fun a => ?_))
  obtain ⟨a61_0, a61_1⟩ := a
  refine WP_seq c (part62 m PT K c _ _ _ (fun a => ?_))
  obtain ⟨a62_0, a62_1⟩ := a
  refine WP_seq c (part63 m PT K c _ _ _ (fun a => ?_))
  refine WP_seq c (part64 m PT K c _ _ (?_))
  refine WP_seq c (part65 m PT K c _ (fun a => ?_))
  refine WP_seq c (part66 m PT K c _ _ (fun a => ?_))
  obtain ⟨a66_0, a66_1, a66_2⟩ := a
  refine WP_seq c (part67 m PT K c _ _ _ _ (?_))
  refine WP_seq c (part68 m PT K c _ (fun a => ?_))
  refine WP_seq c (part69 m PT K c _ _ (fun a => ?_))
  obtain ⟨a69_0, a69_1, a69_2⟩ := a
  refine WP_seq c (part70 m PT K c _ _ _ _ (fun a => ?_))
  refine WP_seq c (part71 m PT K c _ _ (?_))
  refine WP_seq c (part72 m PT K c _ _ (fun a => ?_))
  obtain ⟨a72_0, a72_1⟩ := a
  refine WP_seq c (part73 m PT K c _ _ _ (fun a => ?_))
  refine WP_seq c (part74 m PT K c _ _ (fun a => ?_))
  refine WP_seq c (part75 m PT K c _ _ _ (fun a => ?_))
  refine WP_seq c (part76 m PT K c _ _ (fun a => ?_))
  refine WP_seq c (part77 m PT K c _ _ (fun a => ?_))
  refine WP_seq c (part78 m PT K c _ _ _ (fun a => ?_))
  refine BIBase.Entails.trans (Q := iprop(GS m PT K ∗ WI c 3 ∗ StB PT c 57 ∗ Rest PT c ∗ Full4 PT c ∗ At1 c 4 ∗ bigSep Finset.univ (Own3 PT c) ∗ QB c (k0_pay1 xb (WQ m c)) ∗ At1 c 0 ∗ At1 c 1 ∗ ld0Pay m c ∗ At1 c 2 ∗ ld1Pay m c ∗ X2 c kb ∗ X3 c vb ∗ X0 c xb ∗ WI c 6 ∗ At0 c 5 ∗ R)) ?_ ?_
  · iintro ⟨HG, H0, H1, H2, H3, H4, H5, H6, H7, H8, H9, H10, H11, H12, H13, H14, H15, H16, H17, HR⟩
    ihave HX := (toWI c 3) $$ [H16 H5]
    · isplitl [H16]; · iexact H16
      iexact H5
    isplitl [HG]; · iexact HG
    isplitl [HX]; · iexact HX
    isplitl [H0]; · iexact H0
    isplitl [H1]; · iexact H1
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H17]; · iexact H17
    iexact HR
  refine BIBase.Entails.trans (Q := iprop(GS m PT K ∗ StB PT c 57 ∗ WI c 3 ∗ Rest PT c ∗ Full4 PT c ∗ At1 c 4 ∗ bigSep Finset.univ (Own3 PT c) ∗ QB c (k0_pay1 xb (WQ m c)) ∗ At1 c 0 ∗ At1 c 1 ∗ ld0Pay m c ∗ At1 c 2 ∗ ld1Pay m c ∗ X2 c kb ∗ X3 c vb ∗ X0 c xb ∗ WI c 6 ∗ At0 c 5 ∗ R)) ?_ ?_
  · iintro ⟨HG, H0, H1, H2, H3, H4, H5, H6, H7, H8, H9, H10, H11, H12, H13, H14, H15, H16, HR⟩
    isplitl [HG]; · iexact HG
    isplitl [H1]; · iexact H1
    isplitl [H0]; · iexact H0
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact HR
  refine WP_seq c (part79 m PT K c _ _ (?_))
  refine WP_seq c (part80 m PT K c (?_))
  refine WP_seq c (part81 m PT K c (?_))
  refine WP_seq c (part82 m PT K c (?_))
  refine WP_seq c (part83 m PT K c (?_))
  refine WP_seq c (part84 m PT K c (?_))
  refine WP_seq c (part85 m PT K c (?_))
  refine WP_seq c (part86 m PT K c (?_))
  refine WP_seq c (part87 m PT K c (?_))
  refine WP_seq c (part88 m PT K c (?_))
  refine WP_seq c (part89 m PT K c (?_))
  refine BIBase.Entails.trans (Q := iprop(GS m PT K ∗ WSt m PT c 3 0 56 ∗ WI c 6 ∗ CR c 5 ∗ Rest PT c ∗ Full4 PT c ∗ At1 c 4 ∗ bigSep Finset.univ (Own3 PT c) ∗ QB c (k0_pay1 xb (WQ m c)) ∗ At1 c 0 ∗ At1 c 1 ∗ ld0Pay m c ∗ At1 c 2 ∗ ld1Pay m c ∗ X2 c kb ∗ X3 c vb ∗ X0 c xb ∗ At0 c 5 ∗ R)) ?_ ?_
  · iintro ⟨HG, H0, H1, H2, H3, H4, H5, H6, H7, H8, H9, H10, H11, H12, H13, H14, H15, H16, HR⟩
    isplitl [HG]; · iexact HG
    isplitl [H0]; · iexact H0
    isplitl [H15]; · iexact H15
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H16]; · iexact H16
    iexact HR
  refine WP_seq c (part90 m PT K c _ (?_))
  refine WP_seq c (part91 m PT K c _ (?_))
  refine WP_seq c (part92 m PT K c _ (?_))
  refine WP_seq c (part93 m PT K c _ (?_))
  refine WP_seq c (part94 m PT K c _ (?_))
  refine WP_seq c (part95 m PT K c _ (?_))
  refine WP_seq c (part96 m PT K c _ (?_))
  refine WP_seq c (part97 m PT K c _ (?_))
  refine WP_seq c (part98 m PT K c _ (?_))
  refine WP_seq c (part99 m PT K c _ (?_))
  refine WP_seq c (part100 m PT K c _ (?_))
  refine WP_seq c (part101 m PT K c _ (?_))
  refine WP_seq c (part102 m PT K c _ (?_))
  refine WP_seq c (part103 m PT K c _ (?_))
  refine WP_seq c (part104 m PT K c _ (?_))
  refine BIBase.Entails.trans (Q := iprop(GS m PT K ∗ WI c 5 ∗ WSt m PT c 6 0 57 ∗ WR m PT c 3 ∗ Rest PT c ∗ Full4 PT c ∗ At1 c 4 ∗ bigSep Finset.univ (Own3 PT c) ∗ QB c (k0_pay1 xb (WQ m c)) ∗ At1 c 0 ∗ At1 c 1 ∗ ld0Pay m c ∗ At1 c 2 ∗ ld1Pay m c ∗ X2 c kb ∗ X3 c vb ∗ X0 c xb ∗ R)) ?_ ?_
  · iintro ⟨HG, H0, H1, H2, H3, H4, H5, H6, H7, H8, H9, H10, H11, H12, H13, H14, H15, H16, HR⟩
    ihave HX := (toWI c 5) $$ [H16 H2]
    · isplitl [H16]; · iexact H16
      iexact H2
    isplitl [HG]; · iexact HG
    isplitl [HX]; · iexact HX
    isplitl [H0]; · iexact H0
    isplitl [H1]; · iexact H1
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  refine BIBase.Entails.trans (Q := iprop(GS m PT K ∗ WSt m PT c 6 0 57 ∗ WI c 5 ∗ WR m PT c 3 ∗ Rest PT c ∗ Full4 PT c ∗ At1 c 4 ∗ bigSep Finset.univ (Own3 PT c) ∗ QB c (k0_pay1 xb (WQ m c)) ∗ At1 c 0 ∗ At1 c 1 ∗ ld0Pay m c ∗ At1 c 2 ∗ ld1Pay m c ∗ X2 c kb ∗ X3 c vb ∗ X0 c xb ∗ R)) ?_ ?_
  · iintro ⟨HG, H0, H1, H2, H3, H4, H5, H6, H7, H8, H9, H10, H11, H12, H13, H14, H15, HR⟩
    isplitl [HG]; · iexact HG
    isplitl [H1]; · iexact H1
    isplitl [H0]; · iexact H0
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  refine WP_seq c (part105 m PT K c _ (?_))
  refine WP_seq c (part106 m PT K c (?_))
  refine WP_seq c (part107 m PT K c (?_))
  refine WP_seq c (part108 m PT K c (?_))
  refine WP_seq c (part109 m PT K c (?_))
  refine WP_seq c (part110 m PT K c (?_))
  refine WP_seq c (part111 m PT K c (?_))
  refine WP_seq c (part112 m PT K c (?_))
  refine WP_seq c (part113 m PT K c (?_))
  refine WP_seq c (part114 m PT K c (?_))
  refine WP_seq c (part115 m PT K c (?_))
  refine WP_seq c (part116 m PT K c (?_))
  exact WP_pure c _ h

/-- The end of a program, one last update of the ghost state allowed. -/
theorem WP_pureF (c : Dev nD) {α : Type} (a : α) {Q : α → sProp 𝕄} {P : sProp 𝕄} (h : P ⊢ |={Set.univ}=> Q a) : P ⊢ WP c (pure a) Q := by
  refine h.trans ?_
  show _ ⊢ wp frame _ Set.univ (Prog.ret a) Q
  rw [wp_ret]

set_option maxRecDepth 65536 in
/-- The whole body. -/
theorem body_all (c : Dev nD) (xb : S1x1024x1024.Idx → Elt F .f32) (kb vb : S1x1024x8x128.Idx → Elt F .f32)
    (h0 : ∀ (a : Fin 256) (b : Fin 1024), ch0 (k0_pay2 kb) (k0_pay3 vb) (k0_pay4 (WO m c)) biasB (qRow 0 (k0_pay1 xb (WQ m c))) (ix2 a b) = PT c (ix2 (n0 := 1024) (n1 := 1024) ⟨256 * ((0 : Fin 4) : ℕ) + a.val, by have := ((0 : Fin 4)).isLt; have := a.isLt; omega⟩ b)) (h1 : ∀ (a : Fin 256) (b : Fin 1024), ch1 (k0_pay2 kb) (k0_pay3 vb) (k0_pay4 (WO m c)) biasB (qRow 1 (k0_pay1 xb (WQ m c))) (ix2 a b) = PT c (ix2 (n0 := 1024) (n1 := 1024) ⟨256 * ((1 : Fin 4) : ℕ) + a.val, by have := ((1 : Fin 4)).isLt; have := a.isLt; omega⟩ b)) (h2 : ∀ (a : Fin 256) (b : Fin 1024), ch2 (k0_pay2 kb) (k0_pay3 vb) (k0_pay4 (WO m c)) biasB (qRow 2 (k0_pay1 xb (WQ m c))) (ix2 a b) = PT c (ix2 (n0 := 1024) (n1 := 1024) ⟨256 * ((2 : Fin 4) : ℕ) + a.val, by have := ((2 : Fin 4)).isLt; have := a.isLt; omega⟩ b)) (h3 : ∀ (a : Fin 256) (b : Fin 1024), ch3 (k0_pay2 kb) (k0_pay3 vb) (k0_pay4 (WO m c)) biasB (qRow 3 (k0_pay1 xb (WQ m c))) (ix2 a b) = PT c (ix2 (n0 := 1024) (n1 := 1024) ⟨256 * ((3 : Fin 4) : ℕ) + a.val, by have := ((3 : Fin 4)).isLt; have := a.isLt; omega⟩ b))
    {R : sProp 𝕄} {Q : PUnit → sProp 𝕄}
    (h : iprop(GS m PT K ∗ WEnd m PT c 5 0 ∗ WR m PT c 6 ∗ WR m PT c 3 ∗ Rest PT c ∗ Full4 PT c ∗ At1 c 4 ∗ bigSep Finset.univ (Own3 PT c) ∗ QB c (k0_pay1 xb (WQ m c)) ∗ At1 c 0 ∗ At1 c 1 ∗ ld0Pay m c ∗ At1 c 2 ∗ ld1Pay m c ∗ X2 c kb ∗ X3 c vb ∗ X0 c xb ∗ R) ⊢ |={Set.univ}=> Q ⟨⟩) :
    iprop(GS m PT K ∗ Ld0St m c ∗ Ld1St m c ∗ SigSt c 0 ∗ Bar0 c ∗ X0 c xb ∗ At0 c 1 ∗ At0 c 2 ∗ X8 c ∗ X2 c kb ∗ X3 c vb ∗ TA c ∗ G3 c 0 ∗ S4 c 0 ∗ G3 c 1 ∗ S4 c 1 ∗ G3 c 2 ∗ S4 c 2 ∗ G3 c 3 ∗ S4 c 3 ∗ WI c 4 ∗ TB c ∗ S5 c 0 ∗ S5 c 1 ∗ S5 c 2 ∗ S5 c 3 ∗ WI c 6 ∗ At0 c 3 ∗ At0 c 5 ∗ R) ⊢ WP c (app (cc0_body (F := F))) Q := by
  unfold app
  rw [cc0_body_eq_skeleton]
  unfold cc0_body_skel
  refine WP_seq c (part117 m PT K c xb kb vb h0 h1 h2 h3 (R := iprop(WI c 6 ∗ At0 c 3 ∗ At0 c 5 ∗ R)) (fun a b => ?_))
  refine WP_seq c (part118 m PT K c _ _ xb kb vb ?_)
  refine WP_seq c (wait_step m PT K c 5 rfl rfl 0 0 (by decide) (above_zero 0) 56 (by exact rfl) (by exact rfl) (by decide) ?_)
  refine WP_seq c (wait_step m PT K c 5 rfl rfl 0 0 (by decide) (above_zero 0) 57 (by exact rfl) (by exact rfl) (by decide) ?_)
  refine WP_seq c (wait_step m PT K c 5 rfl rfl 0 0 (by decide) (above_zero 0) 58 (by exact rfl) (by exact rfl) (by decide) ?_)
  refine WP_seq c (wait_last m PT K c 5 rfl rfl 0 0 (by decide) (above_zero 0) (by exact rfl) (by exact rfl) ?_)
  exact WP_pureF c _ h

end Cert.KernelIdealProof

end
-- ==== Proof.KI.Close.lean ====
/-
What the body starts from and what it ends with.
-/
module

public import proofs.«01_k».proof.Proof.KI.BodyB

@[expose] public section

set_option maxRecDepth 10000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (PT : Parts F) (K : Dev nD × Fin 7 → ℕ)

/-! ## The scratch buffers and the two weights, at the start and at the end -/

/-- The weights, whole. -/
def A1 (c : Dev nD) : sProp 𝕄 := iprop(((c : Thread nD τ).loc main_arg1) ↦{fullShare} m ((c : Thread nD τ).loc main_arg1))
def A4 (c : Dev nD) : sProp 𝕄 := iprop(((c : Thread nD τ).loc main_arg4) ↦{fullShare} m ((c : Thread nD τ).loc main_arg4))
/-- What of them the device does not copy. -/
def A1r (c : Dev nD) : sProp 𝕄 := iprop(((c : Thread nD τ).loc main_arg1) ↦[Finset.univ \ (wqV c).view.set]{fullShare} m ((c : Thread nD τ).loc main_arg1))
def A4r (c : Dev nD) : sProp 𝕄 := iprop(((c : Thread nD τ).loc main_arg4) ↦[Finset.univ \ (woV c).view.set]{fullShare} m ((c : Thread nD τ).loc main_arg4))

def Scr0 (c : Dev nD) : sProp 𝕄 := iprop(∃ f : S1024x1024.Idx → Elt F .f32, ((c : Thread nD τ).loc cc0_scratch0) ↦{fullShare} f)
def Scr1 (c : Dev nD) : sProp 𝕄 := iprop(∃ f : S1024x1024.Idx → Elt F .f32, ((c : Thread nD τ).loc cc0_scratch1) ↦{fullShare} f)
def Scr3 (c : Dev nD) : sProp 𝕄 := iprop(∃ f : S1024x1024.Idx → Elt F .bf16, ((c : Thread nD τ).loc cc0_scratch3) ↦{fullShare} f)
def Scr4 (c : Dev nD) : sProp 𝕄 := iprop(∃ f : S16x4x16x1024.Idx → Elt F .bf16, ((c : Thread nD τ).loc cc0_scratch4) ↦{fullShare} f)
/-- The result's staging buffer, before and after. -/
def X5 (c : Dev nD) : sProp 𝕄 := iprop(∃ f : S1x1024x1024.Idx → Elt F .bf16, ((c : Thread nD τ).loc cc0_stg3_0) ↦{fullShare} f)
def Res (c : Dev nD) : sProp 𝕄 := iprop(((c : Thread nD τ).loc cc0_stg3_0) ↦{fullShare} OUT PT)

/-- The first weight is the columns this device copies and the rest. -/
theorem A1_split (c : Dev nD) : A1 m c ⊣⊢ iprop((((c : Thread nD τ).loc main_arg1) ↦[(wqV c).view.set]{fullShare} m ((c : Thread nD τ).loc main_arg1)) ∗ A1r m c) :=
  pointsTo_split_subset (Finset.subset_univ _)
/-- The second weight is the rows this device copies and the rest. -/
theorem A4_split (c : Dev nD) : A4 m c ⊣⊢ iprop((((c : Thread nD τ).loc main_arg4) ↦[(woV c).view.set]{fullShare} m ((c : Thread nD τ).loc main_arg4)) ∗ A4r m c) :=
  pointsTo_split_subset (Finset.subset_univ _)

/-- The four groups of rows of the partial sums. -/
theorem scr3_split (c : Dev nD) (f : S1024x1024.Idx → Elt F .bf16) :
    (iprop(((c : Thread nD τ).loc cc0_scratch3) ↦{fullShare} f) : sProp 𝕄)
      = bigSep Finset.univ fun g : Fin 4 => iprop(((c : Thread nD τ).loc cc0_scratch3) ↦[rowsG g]{fullShare} f) := by
  have e : (Finset.univ : Finset (Idx ((c : Thread nD τ).loc cc0_scratch3))) = (Finset.univ : Finset (Fin 4)).biUnion rowsG := by
    ext i
    simp only [Finset.mem_univ, Finset.mem_biUnion, true_and, true_iff]
    have hi : (i 0).val < 1024 := (i 0).isLt
    refine ⟨⟨(i 0).val / 256, by omega⟩, mem_rowsG.mpr ?_⟩
    show 256 * ((i 0).val / 256) ≤ (i 0).val ∧ (i 0).val < 256 * ((i 0).val / 256) + 256
    omega
  rw [e, pointsTo_biUnion _ _ (fun x _ y _ h => by
    rw [Finset.disjoint_left]
    intro i hi hi'
    have h1 := mem_rowsG.mp hi
    have h2 := mem_rowsG.mp hi'
    exact h (Fin.ext (by omega)))]

/-- The scratch for the partial sums, opened into its four groups of rows. -/
theorem scr3_open (c : Dev nD) : Scr3 (F := F) c ⊢ iprop(G3 c 0 ∗ G3 c 1 ∗ G3 c 2 ∗ G3 c 3) := by
  unfold Scr3 G3
  iintro ⟨%f, H⟩
  ihave H := (Entails.of_eq (scr3_split c f)) $$ H
  ihave H := (Entails.of_eq (four (fun g : Fin 4 => iprop(((c : Thread nD τ).loc cc0_scratch3) ↦[rowsG g]{fullShare} f)))) $$ H
  icases H with ⟨H0, H1, H2, H3⟩
  isplitl [H0]; · iexists f; iexact H0
  isplitl [H1]; · iexists f; iexact H1
  isplitl [H2]; · iexists f; iexact H2
  iexists f; iexact H3

/-- The own rows and those that came back: all the partial sums. -/
theorem scr3_close (c : Dev nD) : iprop(bigSep Finset.univ (Own3 PT c) ∗ bigSep (Finset.range 60) (saPay PT c)) ⊢ Scr3 c := by
  unfold Scr3
  have e : iprop(bigSep Finset.univ (Own3 PT c) ∗ bigSep (Finset.range 60) (saPay PT c)) = (iprop(((c : Thread nD τ).loc cc0_scratch3) ↦{fullShare} PT c) : sProp 𝕄) := by
    rw [scr3_split c (PT c)]
    refine Eq.trans ?_ (bigSep_congr (s := Finset.univ) fun g _ => P3_split PT c g).symm
    rw [bigSep_sep', show Finset.range 60 = Finset.range (4 * 15) from rfl, bigSep_blocks 4 15,
      ← bigSep_fin 4 (fun g => bigSep (Finset.range 15) fun r => saPay PT c (15 * g.val + r)) _ (fun _ => rfl)]
    refine congrArg (fun X : sProp 𝕄 => iprop(bigSep Finset.univ (Own3 PT c) ∗ X)) (bigSep_congr fun g _ => (bigSep_shift _ _ _).symm)
  rw [e]
  iintro H
  iexists (PT c)
  iexact H

/-! ## The signals' tokens -/

/-- The tokens of the fifteen signals a device sends. -/
def SigT (c : Dev nD) : sProp 𝕄 := iprop(bigSep (Finset.range 15) fun i => dutyTok ER (kcell (pl c (i + 1), 0)) 0 (14 - i))

/-- One signal hands over the four slots and the four slivers its receiver writes. -/
theorem pay_one (c : Dev nD) (f4 : S16x4x16x1024.Idx → Elt F .bf16) (f5 : S1x1024x1024.Idx → Elt F .bf16) (r : ℕ) (hr : r < 15) :
    iprop((bigSep Finset.univ fun g : Fin 4 => iprop(((c : Thread nD τ).loc cc0_scratch4) ↦[slotR (jS (14 - r)) g]{fullShare} f4))
        ∗ bigSep Finset.univ fun g : Fin 4 => iprop(((c : Thread nD τ).loc cc0_stg3_0) ↦[rowsO g (pl c (r + 1))]{fullShare} f5))
      ⊢ barPay (F := F) (pl c (r + 1)) (14 - r) := by
  unfold barPay
  rw [show pl (pl c (r + 1)) (14 - r + 1) = c from pl_back c _ _ (by omega)]
  refine BIClass.sep_mono (bigSep_mono fun g _ => ?_) (bigSep_mono fun g _ => ?_)
  · exact show (iprop(((c : Thread nD τ).loc cc0_scratch4) ↦[slotR (jS (14 - r)) g]{fullShare} f4) : sProp 𝕄) ⊢ iprop(∃ f, ((c : Thread nD τ).loc cc0_scratch4) ↦[slotR (jS (14 - r)) g]{fullShare} f) by
      iintro H; iexists f4; iexact H
  · exact show (iprop(((c : Thread nD τ).loc cc0_stg3_0) ↦[rowsO g (pl c (r + 1))]{fullShare} f5) : sProp 𝕄) ⊢ iprop(∃ f, ((c : Thread nD τ).loc cc0_stg3_0) ↦[rowsO g (pl c (r + 1))]{fullShare} f) by
      iintro H; iexists f5; iexact H

/-- The landing slots and the slivers of the result, taken together, are what the fifteen signals hand over. -/
theorem pay_all (c : Dev nD) (f4 : S16x4x16x1024.Idx → Elt F .bf16) (f5 : S1x1024x1024.Idx → Elt F .bf16) :
    iprop(bigSep (Finset.range 15) fun r => iprop((bigSep Finset.univ fun g : Fin 4 => iprop(((c : Thread nD τ).loc cc0_scratch4) ↦[slotR (jS (14 - r)) g]{fullShare} f4))
        ∗ bigSep Finset.univ fun g : Fin 4 => iprop(((c : Thread nD τ).loc cc0_stg3_0) ↦[rowsO g (pl c (r + 1))]{fullShare} f5)))
      ⊢ iprop(bigSep (Finset.range 15) fun r => barPay (F := F) (pl c (r + 1)) (14 - r)) :=
  bigSep_mono (s := Finset.range 15) fun r hr => pay_one c f4 f5 r (Finset.mem_range.mp hr)

/-- With its dues, its tokens, its slots and its slivers a device is ready for the first signal. -/
theorem sig_enter (c : Dev nD) (f4 : S16x4x16x1024.Idx → Elt F .bf16) (f5 : S1x1024x1024.Idx → Elt F .bf16) :
    iprop((∃ W, owes (c : Thread nD τ) (OS c 0) W) ∗ SigT c
        ∗ (bigSep (Finset.range 15) fun r => bigSep Finset.univ fun g : Fin 4 => iprop(((c : Thread nD τ).loc cc0_scratch4) ↦[slotR (jS (14 - r)) g]{fullShare} f4))
        ∗ (bigSep (Finset.range 15) fun r => bigSep Finset.univ fun g : Fin 4 => iprop(((c : Thread nD τ).loc cc0_stg3_0) ↦[rowsO g (pl c (r + 1))]{fullShare} f5)))
      ⊢ SigSt c 0 := by
  unfold SigSt SigT
  rw [← Finset.range_eq_Ico, bigSep_sep', ← bigSep_sep' (Finset.range 15) (fun r => bigSep Finset.univ fun g : Fin 4 => iprop(((c : Thread nD τ).loc cc0_scratch4) ↦[slotR (jS (14 - r)) g]{fullShare} f4))]
  iintro ⟨H1, H2, H3⟩
  isplitl [H1]; · iexact H1
  isplitl [H2]; · iexact H2
  iapply (pay_all c f4 f5)
  iexact H3

/-- The landing buffer and the result's buffer, opened: what the signals hand over, and the device's own slots and own rows. -/
theorem sig_open (c : Dev nD) : iprop((∃ W, owes (c : Thread nD τ) (OS c 0) W) ∗ SigT c ∗ Scr4 c ∗ X5 (F := F) c)
    ⊢ iprop(SigSt c 0 ∗ (S4 c 0 ∗ S4 c 1 ∗ S4 c 2 ∗ S4 c 3) ∗ (S5 c 0 ∗ S5 c 1 ∗ S5 c 2 ∗ S5 c 3)) := by
  unfold Scr4 X5
  iintro ⟨H1, H2, ⟨%f4, H3⟩, ⟨%f5, H4⟩⟩
  ihave H3 := (Entails.of_eq (slots_split c f4)) $$ H3
  icases H3 with ⟨H3, H3'⟩
  ihave H4 := (Entails.of_eq (rows_split c f5)) $$ H4
  icases H4 with ⟨H4, H4'⟩
  isplitl [H1 H2 H3' H4']
  · iapply (sig_enter c f4 f5)
    isplitl [H1]; · iexact H1
    isplitl [H2]; · iexact H2
    isplitl [H3']; · iexact H3'
    iexact H4'
  ihave H3 := (Entails.of_eq (four (fun g : Fin 4 => iprop(((c : Thread nD τ).loc cc0_scratch4) ↦[slotR 0 g]{fullShare} f4)))) $$ H3
  ihave H4 := (Entails.of_eq (four (fun g : Fin 4 => iprop(((c : Thread nD τ).loc cc0_stg3_0) ↦[rowsO g c]{fullShare} f5)))) $$ H4
  icases H3 with ⟨G0, G1, G2, G3⟩
  icases H4 with ⟨R0, R1, R2, R3⟩
  unfold S4 S5
  isplitl [G0 G1 G2 G3]
  · isplitl [G0]; · iexists f4; iexact G0
    isplitl [G1]; · iexists f4; iexact G1
    isplitl [G2]; · iexists f4; iexact G2
    iexists f4; iexact G3
  isplitl [R0]; · iexists f5; iexact R0
  isplitl [R1]; · iexists f5; iexact R1
  isplitl [R2]; · iexists f5; iexact R2
  iexists f5; iexact R3

/-! ## In at one end of the body and out at the other -/

/-- A device's positions and the tokens it pays with. -/
def Lin (c : Dev nD) : sProp 𝕄 :=
  iprop((At0 c 0 ∗ At0 c 1 ∗ At0 c 2 ∗ At0 c 3 ∗ At0 c 4 ∗ At0 c 5 ∗ At0 c 6)
    ∗ SigT c ∗ dutyTok ER (kcell (c, 1)) 0 0 ∗ dutyTok ER (kcell (c, 2)) 0 0 ∗ TA c ∗ TB (F := F) c)

/-- The credits the launch gives it. -/
def Crd (c : Dev nD) : sProp 𝕄 := iprop(cred (tallyAt (kcell (c, 0)) () 15) ∗ CR c 4 ∗ CR (F := F) c 6)

/-- Its five scratch buffers. -/
def Scr (c : Dev nD) : sProp 𝕄 := iprop(Scr0 c ∗ Scr1 c ∗ X8 c ∗ Scr3 c ∗ Scr4 (F := F) c)

/-- Its seven counters, at zero. -/
def Zero (c : Dev nD) : sProp 𝕄 :=
  iprop(semVal (kcell (c, 0)) 0 ∗ semVal (kcell (c, 1)) 0 ∗ semVal (kcell (c, 2)) 0 ∗ semVal (kcell (c, 3)) 0 ∗ semVal (kcell (c, 4)) 0 ∗ semVal (kcell (c, 5)) 0 ∗ semVal (kcell (c, 6)) 0)

/-- A cell whose only round is over gives back its counter, at zero. -/
theorem close_k (c : Dev nD) (k : Fin 7) : iprop(GS m PT K ∗ At1 c k) ⊢ |={Set.univ}=> (semVal (kcell (c, k)) 0 : sProp 𝕄) := by
  unfold At1
  iintro ⟨#HG, H⟩
  imod (Rounds.cell_close ER (xRd m PT) (Set.mem_univ (K (c, k))) (fun h => h) (R := 0 + 1) (duties_later m PT (kcell (c, k)))) $$ [H] with Hz
  · isplitr; · iapply (gs_inv m PT K (c, k)); iexact HG
    iexact H
  imodintro
  iexact Hz

/-- All seven counters of a device are back at zero. -/
theorem close_all (c : Dev nD) : iprop(GS m PT K ∗ At1 c 0 ∗ At1 c 1 ∗ At1 c 2 ∗ At1 c 3 ∗ At1 c 4 ∗ At1 c 5 ∗ At1 c 6) ⊢ |={Set.univ}=> Zero (F := F) c := by
  unfold Zero
  iintro ⟨#HG, H0, H1, H2, H3, H4, H5, H6⟩
  imod (close_k m PT K c 0) $$ [H0] with H0
  · isplitr; · iexact HG
    iexact H0
  imod (close_k m PT K c 1) $$ [H1] with H1
  · isplitr; · iexact HG
    iexact H1
  imod (close_k m PT K c 2) $$ [H2] with H2
  · isplitr; · iexact HG
    iexact H2
  imod (close_k m PT K c 3) $$ [H3] with H3
  · isplitr; · iexact HG
    iexact H3
  imod (close_k m PT K c 4) $$ [H4] with H4
  · isplitr; · iexact HG
    iexact H4
  imod (close_k m PT K c 5) $$ [H5] with H5
  · isplitr; · iexact HG
    iexact H5
  imod (close_k m PT K c 6) $$ [H6] with H6
  · isplitr; · iexact HG
    iexact H6
  imodintro
  isplitl [H0]; · iexact H0
  isplitl [H1]; · iexact H1
  isplitl [H2]; · iexact H2
  isplitl [H3]; · iexact H3
  isplitl [H4]; · iexact H4
  isplitl [H5]; · iexact H5
  iexact H6

/-- What the body starts from, cut up as it needs it. -/
theorem enter (c : Dev nD) (xb : S1x1024x1024.Idx → Elt F .f32) (kb vb : S1x1024x8x128.Idx → Elt F .f32) :
    iprop(GS m PT K ∗ Lin c ∗ Crd c ∗ A1 m c ∗ A4 m c ∗ Scr c ∗ (∃ W, owes (c : Thread nD τ) (OS c 0) W) ∗ X0 c xb ∗ X2 c kb ∗ X3 c vb ∗ X5 c)
      ⊢ iprop(GS m PT K ∗ Ld0St m c ∗ Ld1St m c ∗ SigSt c 0 ∗ Bar0 c ∗ X0 c xb ∗ At0 c 1 ∗ At0 c 2 ∗ X8 c ∗ X2 c kb ∗ X3 c vb ∗ TA c ∗ G3 c 0 ∗ S4 c 0 ∗ G3 c 1 ∗ S4 c 1 ∗ G3 c 2 ∗ S4 c 2 ∗ G3 c 3 ∗ S4 c 3 ∗ WI c 4 ∗ TB c ∗ S5 c 0 ∗ S5 c 1 ∗ S5 c 2 ∗ S5 c 3 ∗ WI c 6 ∗ At0 c 3 ∗ At0 c 5 ∗ (A1r m c ∗ A4r m c)) := by
  unfold Lin Crd Scr
  iintro ⟨HG, ⟨⟨T0, T1, T2, T3, T4, T5, T6⟩, HS, D1, D2, HTA, HTB⟩, ⟨C0, C4, C6⟩, HA1, HA4, ⟨U0, U1, U2, U3, U4⟩, HO, Y0, Y2, Y3, Y5⟩
  ihave HS := (sig_open (F := F) c) $$ [HO HS U4 Y5]
  · isplitl [HO]; · iexact HO
    isplitl [HS]; · iexact HS
    isplitl [U4]; · iexact U4
    iexact Y5
  icases HS with ⟨HS, ⟨S40, S41, S42, S43⟩, ⟨S50, S51, S52, S53⟩⟩
  ihave U3 := (scr3_open (F := F) c) $$ U3
  icases U3 with ⟨G0, G1, G2, G3⟩
  ihave HA1 := (A1_split m c).1 $$ HA1
  ihave HA4 := (A4_split m c).1 $$ HA4
  icases HA1 with ⟨HA1, HA1r⟩
  icases HA4 with ⟨HA4, HA4r⟩
  isplitl [HG]; · iexact HG
  isplitl [U0 HA1 D1]
  · unfold Ld0St Scr0
    isplitl [U0]; · iexact U0
    isplitl [HA1]; · iexact HA1
    iexact D1
  isplitl [U1 HA4 D2]
  · unfold Ld1St Scr1
    isplitl [U1]; · iexact U1
    isplitl [HA4]; · iexact HA4
    iexact D2
  isplitl [HS]; · iexact HS
  isplitl [C0 T0]
  · unfold Bar0 At0
    isplitl [C0]; · iexact C0
    iexact T0
  isplitl [Y0]; · iexact Y0
  isplitl [T1]; · iexact T1
  isplitl [T2]; · iexact T2
  isplitl [U2]; · iexact U2
  isplitl [Y2]; · iexact Y2
  isplitl [Y3]; · iexact Y3
  isplitl [HTA]; · iexact HTA
  isplitl [G0]; · iexact G0
  isplitl [S40]; · iexact S40
  isplitl [G1]; · iexact G1
  isplitl [S41]; · iexact S41
  isplitl [G2]; · iexact G2
  isplitl [S42]; · iexact S42
  isplitl [G3]; · iexact G3
  isplitl [S43]; · iexact S43
  isplitl [T4 C4]
  · iapply (toWI (F := F) c 4)
    isplitl [T4]; · iexact T4
    iexact C4
  isplitl [HTB]; · iexact HTB
  isplitl [S50]; · iexact S50
  isplitl [S51]; · iexact S51
  isplitl [S52]; · iexact S52
  isplitl [S53]; · iexact S53
  isplitl [T6 C6]
  · iapply (toWI (F := F) c 6)
    isplitl [T6]; · iexact T6
    iexact C6
  isplitl [T3]; · iexact T3
  isplitl [T5]; · iexact T5
  isplitl [HA1r]; · iexact HA1r
  iexact HA4r

/-- What it ends with, put together again, the counters back at zero. -/
theorem leave (c : Dev nD) (xb : S1x1024x1024.Idx → Elt F .f32) (kb vb : S1x1024x8x128.Idx → Elt F .f32) :
    iprop(GS m PT K ∗ WEnd m PT c 5 0 ∗ WR m PT c 6 ∗ WR m PT c 3 ∗ Rest PT c ∗ Full4 PT c ∗ At1 c 4 ∗ bigSep Finset.univ (Own3 PT c) ∗ QB c (k0_pay1 xb (WQ m c)) ∗ At1 c 0 ∗ At1 c 1 ∗ ld0Pay m c ∗ At1 c 2 ∗ ld1Pay m c ∗ X2 c kb ∗ X3 c vb ∗ X0 c xb ∗ (A1r m c ∗ A4r m c))
      ⊢ |={Set.univ}=> iprop((Scr c ∗ Zero c ∗ A1 m c ∗ A4 m c) ∗ (∃ W, owes (c : Thread nD τ) 0 W) ∗ X0 c xb ∗ X2 c kb ∗ X3 c vb ∗ Res PT c) := by
  unfold WEnd WR ld0Pay ld1Pay
  iintro ⟨HG, ⟨HO, T5, P5⟩, ⟨T6, P6⟩, ⟨T3, P3⟩, HRest, U4, T4, HOwn, U2, T0, T1, ⟨U0, HA1⟩, T2, ⟨U1, HA4⟩, Y2, Y3, Y0, ⟨HA1r, HA4r⟩⟩
  imod (close_all m PT K c) $$ [HG T0 T1 T2 T3 T4 T5 T6] with HZ
  · unfold At1
    isplitl [HG]; · iexact HG
    isplitl [T0]; · iexact T0
    isplitl [T1]; · iexact T1
    isplitl [T2]; · iexact T2
    isplitl [T3]; · iexact T3
    isplitl [T4]; · iexact T4
    isplitl [T5]; · iexact T5
    iexact T6
  imodintro
  isplitr [HO Y0 Y2 Y3 P5 P6 HRest]
  · unfold Scr Scr0 Scr1 X8 QB Full4 Scr4
    isplitl [U0 U1 U2 U4 HOwn P3]
    · isplitl [U0]; · iexists _; iexact U0
      isplitl [U1]; · iexists _; iexact U1
      isplitl [U2]; · iexists _; iexact U2
      isplitl [HOwn P3]
      · iapply (scr3_close PT c)
        isplitl [HOwn]; · iexact HOwn
        iexact P3
      iexists _; iexact U4
    isplitl [HZ]; · iexact HZ
    isplitl [HA1 HA1r]
    · iapply (A1_split m c).2
      isplitl [HA1]; · iexact HA1
      iexact HA1r
    iapply (A4_split m c).2
    isplitl [HA4]; · iexact HA4
    iexact HA4r
  isplitl [HO]; · iexact HO
  isplitl [Y0]; · iexact Y0
  isplitl [Y2]; · iexact Y2
  isplitl [Y3]; · iexact Y3
  unfold Res
  iapply (rows_join PT c)
  isplitl [P6]; · iexact P6
  isplitl [P5]; · iexact P5
  iexact HRest

/-- The body from one end to the other. -/
theorem body_run (c : Dev nD) (xb : S1x1024x1024.Idx → Elt F .f32) (kb vb : S1x1024x8x128.Idx → Elt F .f32)
    (hPT : PT c = partOf xb (WQ m c) kb vb (WO m c)) {Q : PUnit → sProp 𝕄}
    (h : iprop((Scr c ∗ Zero c ∗ A1 m c ∗ A4 m c) ∗ (∃ W, owes (c : Thread nD τ) 0 W) ∗ X0 c xb ∗ X2 c kb ∗ X3 c vb ∗ Res PT c) ⊢ Q ⟨⟩) :
    iprop(GS m PT K ∗ Lin c ∗ Crd c ∗ A1 m c ∗ A4 m c ∗ Scr c ∗ (∃ W, owes (c : Thread nD τ) (OS c 0) W) ∗ X0 c xb ∗ X2 c kb ∗ X3 c vb ∗ X5 c)
      ⊢ WP c (app (cc0_body (F := F))) Q := by
  refine (enter m PT K c xb kb vb).trans (body_all m PT K c xb kb vb ?_ ?_ ?_ ?_ ((leave m PT K c xb kb vb).trans (fupd_mono h)))
  · intro a b; rw [hPT]; exact (partOf_block xb (WQ m c) kb vb (WO m c) 0 a b _).symm
  · intro a b; rw [hPT]; exact (partOf_block xb (WQ m c) kb vb (WO m c) 1 a b _).symm
  · intro a b; rw [hPT]; exact (partOf_block xb (WQ m c) kb vb (WO m c) 2 a b _).symm
  · intro a b; rw [hPT]; exact (partOf_block xb (WQ m c) kb vb (WO m c) 3 a b _).symm

end Cert.KernelIdealProof

end
-- ==== Proof.KI.Ghost.lean ====
/-
What the launch deals: the cells, the tokens, the credits.
-/
module

public import proofs.«01_k».proof.Proof.KI.Close

@[expose] public section

set_option maxRecDepth 10000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (PT : Parts F) (K : Dev nD × Fin 7 → ℕ)

/-! ## Numbering around -/

/-- `k` places on and `15 k` more is the same device, -/
theorem pl_15 (c : Dev nD) (k : ℕ) : pl (pl c k) (15 * k) = c := by
  rw [pl_pl]; exact Fin.ext (by simp only [pl_val]; have : c.val < 16 := c.isLt; omega)
/-- in either order. -/
theorem pl_15' (c : Dev nD) (k : ℕ) : pl (pl c (15 * k)) k = c := by
  rw [pl_pl]; exact Fin.ext (by simp only [pl_val]; have : c.val < 16 := c.isLt; omega)

/-- Counting `k` places on, as a renumbering of the devices. -/
def turn (k : ℕ) : Dev nD ≃ Dev nD := ⟨fun c => pl c k, fun c => pl c (15 * k), fun c => pl_15 c k, fun c => pl_15' c k⟩

/-- A family over devices and numbers may be gathered in either order. -/
theorem swap (n : ℕ) (Φ : Dev nD → ℕ → sProp 𝕄) :
    (bigSep Finset.univ fun c : Dev nD => bigSep (Finset.range n) (Φ c)) = bigSep (Finset.range n) fun i => bigSep Finset.univ fun c : Dev nD => Φ c i := by
  rw [← bigSep_fin n (fun i => bigSep Finset.univ fun c : Dev nD => Φ c i.val) _ (fun _ => rfl), ← bigSep_univ_comm]
  exact bigSep_congr fun c _ => (bigSep_fin n (fun i => Φ c i.val) _ (fun _ => rfl)).symm

/-- A family over devices and numbers, member `i` counted `s i` places on. -/
theorem around (n : ℕ) (s : ℕ → ℕ) (Φ : Dev nD → ℕ → sProp 𝕄) :
    (bigSep Finset.univ fun c : Dev nD => bigSep (Finset.range n) (Φ c)) = bigSep Finset.univ fun c : Dev nD => bigSep (Finset.range n) fun i => Φ (pl c (s i)) i := by
  rw [swap, swap n (fun c i => Φ (pl c (s i)) i)]
  exact bigSep_congr fun i _ => bigSep_univ_equiv (turn (s i)) (fun c => Φ c i)

/-! ## The cells and the tokens of the launch -/

/-- Distinct devices or distinct semaphores are distinct cells. -/
theorem kcell_injective : Function.Injective (kcell : Dev nD × Fin 7 → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

def xCells : Finset (GSem nD τ sig) := Finset.univ.map ⟨kcell, kcell_injective⟩

/-- Sixty tokens a cell: as many as the busiest needs. -/
def tokAt (x : (Dev nD × Fin 7) × Fin 60) : GSem nD τ sig × ℕ × ℕ := (kcell x.1, 0, x.2.val)
/-- Distinct triples of device, semaphore and number are distinct tokens. -/
theorem tokAt_injective : Function.Injective tokAt := by
  rintro ⟨a, d⟩ ⟨a', d'⟩ h
  have h1 : a = a' := kcell_injective (congrArg (fun x : GSem nD τ sig × ℕ × ℕ => x.1) h)
  have h2 : d = d' := Fin.ext (congrArg (fun x : GSem nD τ sig × ℕ × ℕ => x.2.2) h)
  rw [h1, h2]
def xToks : Finset (GSem nD τ sig × ℕ × ℕ) := Finset.univ.map ⟨tokAt, tokAt_injective⟩

def u₀ : UU := (initOf (Pipeline.cells cfgs cellOf_inj) (Pipeline.launchToks cfgs cellOf_inj), initOf xCells xToks)

/-- The tokens of device `c`'s own cells. -/
def toks (c : Dev nD) : sProp 𝕄 := iprop(bigSep Finset.univ fun k : Fin 7 => bigSep (Finset.range 60) fun d => dutyTok ER (kcell (c, k)) 0 d)

/-- What the launch deals device `c`. -/
def G (c : Dev nD) : sProp 𝕄 :=
  iprop((bigSep Finset.univ fun k : Fin 7 => roundState ER (xRd m PT) (kcell (c, k)) 0)
    ∗ (bigSep Finset.univ fun k : Fin 7 => iprop(atPos ER (kcell (c, k)) 0 ∅ 0 ∗ reached ER (kcell (c, k)) 0)) ∗ toks c)

/-- What the step that all devices take together makes of it. -/
def G' (c : Dev nD) : sProp 𝕄 := iprop(∃ K, records m PT K ∗ Lin c)

/-- A family over seven, written out. -/
theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The protocol's initial resource deals every device its share. -/
theorem fund_x : BI.own (ER (initOf xCells xToks)) ⊢ (|==> bigSep Finset.univ (G m PT) : sProp 𝕄) := by
  have hX (Φ : GSem nD τ sig → sProp 𝕄) : bigSep xCells Φ = bigSep Finset.univ fun c : Dev nD => bigSep Finset.univ fun k : Fin 7 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod, bigSep_univ_prod]
    refine bigSep_congr fun c _ => ?_
    unfold toks
    exact bigSep_congr fun k _ => bigSep_fin 60 _ _ (fun _ => rfl)
  iintro HX
  imod (Rounds.fund ER (xRd m PT) xCells xToks) $$ HX with ⟨Hst, Hr, Hat, Htok⟩
  imodintro
  ihave Hst' := (Entails.of_eq (hX fun g => roundState ER (xRd m PT) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The counters of the kernel's own semaphores, written out. -/
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0) := by
  rw [Pipeline.ownSems0_eq_of_list c osem [0, 1, 2, 3, 4, 5] (by decide) (by decide)]; rfl
/-- The one counter the launch does not scope is the barrier's. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

/-- Together they are the seven counters, at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, seven]
  iintro ⟨HS, HB⟩
  isplitl [HB]; · iexact HB
  iexact HS

/-- From the counters at zero and what the launch deals it, a device sets up the invariants of its seven cells. -/
theorem core_alloc (c : Dev nD) :
    iprop(Pipeline.ownSems0 (Ix := Unit) (Name := ℕ) (U := UU) (Lvl := ℕ) (Val := Elt F) (τ := τ) osem c ∗ unscopedSems0 c ∗ G m PT c)
      ⊢ |={Set.univ}=> iprop((bigSep Finset.univ fun k => iprop(∃ κ : ℕ, cellInv ER (xRd m PT) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (xRd m PT) (kcell (c, k)) 0)
      ⊢ (|={Set.univ}=> bigSep Finset.univ fun k => iprop(∃ κ : ℕ, cellInv ER (xRd m PT) κ (kcell (c, k))) : sProp 𝕄) from by
        rw [← bigSep_sep']
        exact (bigSep_mono fun k _ => (Rounds.body_intro ER (xRd m PT) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens a device pays with. -/
def payToks (c : Dev nD) : sProp 𝕄 := iprop(SigT c ∗ dutyTok ER (kcell (c, 1)) 0 0 ∗ dutyTok ER (kcell (c, 2)) 0 0 ∗ TA c ∗ TB (F := F) c)

/-- The tokens of its own cells a device keeps or gives away. -/
def ownToks (c : Dev nD) : sProp 𝕄 :=
  iprop((bigSep (Finset.range 15) fun d => dutyTok ER (kcell (c, 0)) 0 (14 - d)) ∗ dutyTok ER (kcell (c, 1)) 0 0 ∗ dutyTok ER (kcell (c, 2)) 0 0
    ∗ (bigSep (Finset.range 60) fun d => dutyTok ER (kcell (c, 3)) 0 d) ∗ (bigSep (Finset.range 60) fun d => dutyTok ER (kcell (c, 4)) 0 d)
    ∗ (bigSep (Finset.range 60) fun d => dutyTok ER (kcell (c, 5)) 0 d) ∗ bigSep (Finset.range 60) fun d => dutyTok ER (kcell (c, 6)) 0 d)

/-- Of sixty the first fifteen, -/
theorem first_of (Φ : ℕ → sProp 𝕄) : iprop(bigSep (Finset.range 60) Φ) ⊢ iprop(bigSep (Finset.range 15) Φ) := bigSep_subset (by decide)
/-- and of sixty the first. -/
theorem zeroth_of (Φ : ℕ → sProp 𝕄) : iprop(bigSep (Finset.range 60) Φ) ⊢ iprop(Φ 0) := bigSep_elim (by decide)

/-- Of the sixty tokens of each cell, those that the protocol uses. -/
theorem toks_own (c : Dev nD) : toks (F := F) c ⊢ ownToks c := by
  unfold toks ownToks
  rw [seven, ← range_rev (fun d => (dutyTok ER (kcell (c, 0)) 0 d : sProp 𝕄))]
  iintro ⟨H0, H1, H2, H3, H4, H5, H6⟩
  isplitl [H0]
  · iapply (first_of (F := F) (fun d => dutyTok ER (kcell (c, 0)) 0 d))
    iexact H0
  isplitl [H1]
  · iapply (zeroth_of (F := F) (fun d => dutyTok ER (kcell (c, 1)) 0 d))
    iexact H1
  isplitl [H2]
  · iapply (zeroth_of (F := F) (fun d => dutyTok ER (kcell (c, 2)) 0 d))
    iexact H2
  isplitl [H3]; · iexact H3
  isplitl [H4]; · iexact H4
  isplitl [H5]; · iexact H5
  iexact H6

/-- The tokens dealt to the devices that pay with them. -/
theorem own_pay : (bigSep Finset.univ fun c : Dev nD => (ownToks c : sProp 𝕄)) = bigSep Finset.univ fun c : Dev nD => payToks c := by
  unfold ownToks payToks SigT TA TB TokA0 TokB0
  have hA (c : Dev nD) := bigSep_sep' (Finset.range 60) (fun i => (dutyTok ER (kcell (c, 3)) 0 i : sProp 𝕄)) (fun i => dutyTok ER (kcell (pA c i, 4)) 0 i)
  have hB (c : Dev nD) := bigSep_sep' (Finset.range 60) (fun i => (dutyTok ER (kcell (c, 5)) 0 i : sProp 𝕄)) (fun i => dutyTok ER (kcell (pB c i, 6)) 0 i)
  rw [bigSep_sep', bigSep_sep', bigSep_sep', bigSep_sep', bigSep_sep', bigSep_sep', bigSep_sep', bigSep_sep', bigSep_sep', bigSep_sep',
    bigSep_congr (s := Finset.univ) (fun (c : Dev nD) _ => hA c), bigSep_congr (s := Finset.univ) (fun (c : Dev nD) _ => hB c), bigSep_sep', bigSep_sep',
    around 15 (fun i => i + 1) (fun c d => (dutyTok ER (kcell (c, 0)) 0 (14 - d) : sProp 𝕄)),
    around 60 (fun i => i % 15 + 1) (fun c d => (dutyTok ER (kcell (c, 4)) 0 d : sProp 𝕄)),
    around 60 (fun i => i / 4 % 15 + 1) (fun c d => (dutyTok ER (kcell (c, 6)) 0 d : sProp 𝕄))]
  refine eq_of_bi ⟨?_, ?_⟩
  · iintro ⟨H0, H1, H2, H3, H4, H5, H6⟩
    isplitl [H0]; · iexact H0
    isplitl [H1]; · iexact H1
    isplitl [H2]; · iexact H2
    isplitl [H3 H4]
    · isplitl [H3]; · iexact H3
      iexact H4
    isplitl [H5]; · iexact H5
    iexact H6
  · iintro ⟨H0, H1, H2, ⟨H3, H4⟩, H5, H6⟩
    isplitl [H0]; · iexact H0
    isplitl [H1]; · iexact H1
    isplitl [H2]; · iexact H2
    isplitl [H3]; · iexact H3
    isplitl [H4]; · iexact H4
    isplitl [H5]; · iexact H5
    iexact H6

/-- Over all devices, the tokens of the cells are the tokens the devices pay with. -/
theorem toks_pay : (bigSep Finset.univ fun c : Dev nD => (toks c : sProp 𝕄)) ⊢ bigSep Finset.univ fun c : Dev nD => payToks c :=
  (bigSep_mono fun c _ => toks_own c).trans (Entails.of_eq own_pay)

/-- The places of a device's cells and the tokens it pays with are what it owns alone. -/
theorem lin_intro (c : Dev nD) : iprop((bigSep Finset.univ fun k : Fin 7 => atPos ER (kcell (c, k)) 0 ∅ 0) ∗ payToks (F := F) c) ⊢ Lin c := by
  unfold payToks Lin At0
  rw [seven]

/-- Knowledge that may be copied is available at every member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- With the invariants of all cells this is what a device starts from. -/
theorem lin_with (c : Dev nD) : iprop(records m PT K ∗ ((bigSep Finset.univ fun k : Fin 7 => atPos ER (kcell (c, k)) 0 ∅ 0) ∗ payToks (F := F) c)) ⊢ G' m PT c := by
  unfold G'
  iintro ⟨H1, H2⟩
  iexists K
  isplitl [H1]; · iexact H1
  iapply (lin_intro c)
  iexact H2

/-- All devices together: from every device's invariants, places and tokens to what each starts from. -/
theorem regroup :
    (bigSep Finset.univ fun c : Dev nD => iprop((bigSep Finset.univ fun k => iprop(∃ κ : ℕ, cellInv ER (xRd m PT) κ (kcell (c, k))))
          ∗ (bigSep Finset.univ fun k => iprop(atPos ER (kcell (c, k)) 0 ∅ 0 ∗ reached ER (kcell (c, k)) 0)) ∗ toks c) : sProp 𝕄)
      ⊢ bigSep Finset.univ (G' m PT) := by
  rw [bigSep_sep', bigSep_sep', ← bigSep_univ_prod (fun ck : Dev nD × Fin 7 => iprop(∃ κ : ℕ, cellInv ER (xRd m PT) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (xRd m PT) κ (kcell ck) : sProp 𝕄))) $$ HI
  icases HK with ⟨%K, #HI⟩
  ihave Htk := (toks_pay (F := F)) $$ Htok
  iapply (with_persistent (R := records m PT K) fun c _ => lin_with m PT K c)
  isplitr
  · unfold records
    iapply (Entails.of_eq (bigSep_sep' Finset.univ (fun ck : Dev nD × Fin 7 => (cellInv ER (xRd m PT) (K ck) (kcell ck) : sProp 𝕄)) (fun ck => reached ER (kcell ck) 0)).symm)
    isplitl; · iexact HI
    iexact HR
  · iapply (Entails.of_eq (bigSep_sep' Finset.univ (fun c : Dev nD => bigSep Finset.univ fun k : Fin 7 => (atPos ER (kcell (c, k)) 0 ∅ 0 : sProp 𝕄)) payToks).symm)
    isplitl [Hat]; · iexact Hat
    iexact Htk

/-- The step all devices take together before the first instruction. -/
theorem glob : (bigSep Finset.univ fun c => iprop(Pipeline.ownSems0 (Ix := Unit) (Name := ℕ) (U := UU) (Lvl := ℕ) (Val := Elt F) (τ := τ) osem c ∗ unscopedSems0 c ∗ G m PT c) : sProp 𝕄)
    ⊢ |={Set.univ}=> bigSep Finset.univ (G' m PT) :=
  ((bigSep_mono fun c _ => core_alloc m PT c).trans (bigSep_fupd _ _)).trans (BI.fupd_mono (regroup m PT))

/-! ## The credits of the launch -/

/-- What all devices owe one cell by a family of payments counted around. -/
theorem owed_sum (M : ℕ) (s : ℕ → ℕ) (k k' : Fin 7) (n : ℕ) (c : Dev nD) :
    (∑ d : Dev nD, (∑ i ∈ Finset.Ico 0 M, (tallyAt (kcell (pl d (s i), k)) () n : CellTallies nD τ sig Unit)) (kcell (c, k')) ()) = if k = k' then M * n else 0 := by
  have h1 (d : Dev nD) : (∑ i ∈ Finset.Ico 0 M, (tallyAt (kcell (pl d (s i), k)) () n : CellTallies nD τ sig Unit)) (kcell (c, k')) ()
      = ∑ i ∈ Finset.Ico 0 M, (tallyAt (kcell (pl d (s i), k)) () n : CellTallies nD τ sig Unit) (kcell (c, k')) () := by
    rw [Finset.sum_apply, Finsupp.finsetSum_apply]
  have h2 (i : ℕ) (d : Dev nD) : (tallyAt (kcell (pl d (s i), k)) () n : CellTallies nD τ sig Unit) (kcell (c, k')) () = if d = pl c (15 * s i) then (if k = k' then n else 0) else 0 := by
    rw [tallyAt_apply]
    by_cases hd : d = pl c (15 * s i)
    · subst hd
      rw [pl_15', if_pos rfl]
      by_cases hk : k = k'
      · subst hk; rw [if_pos ⟨rfl, rfl⟩, if_pos rfl]
      · rw [if_neg hk, if_neg fun h => hk (congrArg Prod.snd (kcell_injective h.1)).symm]
    · rw [if_neg hd, if_neg fun h => hd ?_]
      have h3 : c = pl d (s i) := congrArg Prod.fst (kcell_injective h.1)
      rw [h3, pl_15]
  rw [Finset.sum_congr rfl fun d _ => h1 d, Finset.sum_comm, Finset.sum_congr rfl fun i _ => (Finset.sum_congr rfl fun d _ => h2 i d).trans (Finset.sum_ite_eq' Finset.univ (pl c (15 * s i)) fun _ => (if k = k' then n else 0)),
    Finset.sum_congr rfl fun i _ => if_pos (Finset.mem_univ _), Finset.sum_const, Nat.card_Ico, smul_eq_mul, Nat.sub_zero]
  split <;> simp

/-- What all devices together owe to one cell at the start: fifteen signals to the barrier, sixty copies to either receive cell, nothing to the others. -/
theorem owed_all (c : Dev nD) (k : Fin 7) :
    (∑ d : Dev nD, OS d 0 (kcell (c, k)) ()) = ((if (6 : Fin 7) = k then 60 * N else 0) + (if (4 : Fin 7) = k then 60 * N else 0)) + (if (0 : Fin 7) = k then 15 * 1 else 0) := by
  rw [← owed_sum 60 (fun i => i / 4 % 15 + 1) 6 k N c, ← owed_sum 60 (fun i => i % 15 + 1) 4 k N c, ← owed_sum 15 (fun i => i + 1) 0 k 1 c, ← Finset.sum_add_distrib, ← Finset.sum_add_distrib]
  refine Finset.sum_congr rfl fun d _ => ?_
  unfold OS OA OB
  rw [Pi.add_apply, Finsupp.add_apply, Pi.add_apply, Finsupp.add_apply]

/-- What every device owes at the start. -/
abbrev O₀ (c : Dev nD) : CellTallies nD τ sig Unit := OS c 0

/-- The credit the launch gives for a cell is what all devices owe to it. -/
theorem launch_k (c : Dev nD) (k : Fin 7) (n : ℕ) (h : (∑ d : Dev nD, OS d 0 (kcell (c, k)) ()) = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, h]

/-- The credit of `n` copies, copy by copy. -/
theorem cred_copies (c : Dev nD) (k : Fin 7) (n : ℕ) : (cred (tallyAt (kcell (c, k)) () (n * N)) : sProp 𝕄) ⊢ bigSep (Finset.range n) fun _ => cred (tallyAt (kcell (c, k)) () N) := by
  have e : (tallyAt (kcell (c, k)) () (n * N) : CellTallies nD τ sig Unit) = ∑ _i ∈ Finset.range n, tallyAt (kcell (c, k)) () N := by
    rw [Finset.sum_const, Finset.card_range]
    unfold tallyAt
    refine funext fun g => ?_
    rw [Pi.smul_apply]
    by_cases hg : g = kcell (c, k)
    · subst hg
      simp [tallyOn]
    · simp [tallyOn, hg]
  rw [e, Pipeline.cred_finsetSum]

/-- Of a family, three distinct members. -/
theorem three_of {I : Type} [Fintype I] [DecidableEq I] (a b d : I) (h1 : b ≠ a) (h2 : d ≠ a) (h3 : d ≠ b) (Φ : I → sProp 𝕄) :
    iprop(bigSep Finset.univ Φ) ⊢ iprop(Φ a ∗ Φ b ∗ Φ d) := by
  rw [bigSep_univ_at Φ a, bigSep_erase (s := Finset.univ.erase a) (i := b) (Finset.mem_erase.mpr ⟨h1, Finset.mem_univ _⟩)]
  exact BIClass.sep_mono Entails.rfl (BIClass.sep_mono Entails.rfl (bigSep_elim (Finset.mem_erase.mpr ⟨h3, Finset.mem_erase.mpr ⟨h2, Finset.mem_univ _⟩⟩)))

/-- The launch's credit of a device: fifteen signals and two times sixty copies. -/
theorem creds (c : Dev nD) : (Pipeline.launchCred O₀ c : sProp 𝕄) ⊢ Crd c := by
  unfold Pipeline.launchCred Crd CR
  refine (three_of (csem 0) (csem 4) (csem 6) (by decide) (by decide) (by decide) _).trans ?_
  iintro ⟨H0, H4, H6⟩
  isplitl [H0]
  · iapply (Entails.of_eq (congrArg (fun T => (cred T : sProp 𝕄)) (launch_k c 0 15 ((owed_all c 0).trans (by simp)))))
    iexact H0
  isplitl [H4]
  · iapply (cred_copies c 4 60)
    iapply (Entails.of_eq (congrArg (fun T => (cred T : sProp 𝕄)) (launch_k c 4 (60 * N) ((owed_all c 4).trans (by simp)))))
    iexact H4
  iapply (cred_copies c 6 60)
  iapply (Entails.of_eq (congrArg (fun T => (cred T : sProp 𝕄)) (launch_k c 6 (60 * N) ((owed_all c 6).trans (by simp)))))
  iexact H6

end Cert.KernelIdealProof

end
-- ==== Proof.KI.Launch.lean ====
/-
The launch, and the run of the whole program.
-/
module

public import proofs.«01_k».proof.Proof.KI.Ghost
public import proofs.«01_k».proof.Proof.Gen.KernelIdeal.Frame
public import Idealize.ShloMosaic.Lib.Pipeline.CollectiveSegs
public import Idealize.ShloMosaic.Lib.Pipeline.ValueKit.Geometry

@[expose] public section

set_option maxRecDepth 10000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What the devices are given -/

/-- Device `c`'s blocks of the three staged operands, as its windows read them. -/
def XB (c : Dev nD) : S1x1024x1024.Idx → Elt F .f32 := iblk m c 0 t0_0
def KB (c : Dev nD) : S1x1024x8x128.Idx → Elt F .f32 := iblk m c 1 t0_0
def VB (c : Dev nD) : S1x1024x8x128.Idx → Elt F .f32 := iblk m c 2 t0_0

/-- What every device adds to the result. -/
def PTm : Parts F := fun c => partOf (XB m c) (WQ m c) (KB m c) (VB m c) (WO m c)

/-- What the body starts from, but for its scratch buffers. -/
def start (c : Dev nD) : sProp 𝕄 := iprop(G' m (PTm m) c ∗ Crd c ∗ levAts L lv ∗ A1 m c ∗ A4 m c)
def Φ₀ (c : Dev nD) : sProp 𝕄 := iprop(start m c ∗ Scr c)
/-- What it leaves. -/
def Φ₁ (c : Dev nD) : sProp 𝕄 := iprop(Scr c ∗ Zero c ∗ A1 m c ∗ A4 m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => XB m c
    | ⟨1, _⟩ => KB m c
    | ⟨2, _⟩ => VB m c
    | ⟨3, _⟩ => OUT (PTm m)
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost (c : Dev nD) : sProp 𝕄 :=
  iprop(Φ₁ m c ∗ (dats m ρ 0 c).owesAt () t0_0.succ ∗ stg c cc0_stg0_0 (XB m c) ∗ stg c cc0_stg1_0 (KB m c) ∗ stg c cc0_stg2_0 (VB m c) ∗ stg c cc0_stg3_0 (OUT (PTm m)))

/-- Before the body the first window holds the device's activations, -/
theorem before_0 (c : Dev nD) (d) : (dats m ρ 0 c).before (0 : Fin 4) t0_0 d = XB m c := by
  unfold Dat.before; rw [if_pos (fetch0_0 t0_0)]; rfl
/-- the second its keys, -/
theorem before_1 (c : Dev nD) (d) : (dats m ρ 0 c).before (1 : Fin 4) t0_0 d = KB m c := by
  unfold Dat.before; rw [if_pos (fetch0_1 t0_0)]; rfl
/-- and the third its values. -/
theorem before_2 (c : Dev nD) (d) : (dats m ρ 0 c).before (2 : Fin 4) t0_0 d = VB m c := by
  unfold Dat.before; rw [if_pos (fetch0_2 t0_0)]; rfl

/-- So the body finds the activations, -/
theorem X0_of (c : Dev nD) : iprop(∃ d, stg c cc0_stg0_0 ((dats m ρ 0 c).before (0 : Fin 4) t0_0 d)) ⊢ X0 c (XB m c) := by
  iintro ⟨%d, %f, %h, H⟩
  rw [before_0] at h; subst h; unfold X0; iexact H
/-- the keys -/
theorem X2_of (c : Dev nD) : iprop(∃ d, stg c cc0_stg1_0 ((dats m ρ 0 c).before (1 : Fin 4) t0_0 d)) ⊢ X2 c (KB m c) := by
  iintro ⟨%d, %f, %h, H⟩
  rw [before_1] at h; subst h; unfold X2; iexact H
/-- and the values in their staging buffers, -/
theorem X3_of (c : Dev nD) : iprop(∃ d, stg c cc0_stg2_0 ((dats m ρ 0 c).before (2 : Fin 4) t0_0 d)) ⊢ X3 c (VB m c) := by
  iintro ⟨%d, %f, %h, H⟩
  rw [before_2] at h; subst h; unfold X3; iexact H
/-- and anything at all in the result's. -/
theorem X5_of (c : Dev nD) : iprop(∃ d, stg c cc0_stg3_0 ((dats m ρ 0 c).before (3 : Fin 4) t0_0 d)) ⊢ X5 c := by
  iintro ⟨%d, %f, %h, H⟩
  unfold X5; iexists f; iexact H

/-- What the launch has a device owe is what the protocol says it owes before the first signal. -/
theorem owes_in (c : Dev nD) : (dats m ρ 0 c).owesAt () t0_0.castSucc ⊢ iprop(∃ W, owes (c : Thread nD τ) (OS c 0) W) := by
  unfold Dat.owesAt Pipeline.owesWithin
  iintro ⟨%W, %h, H⟩
  iexists W; iexact H
/-- After the body it owes nothing, as the launch asks. -/
theorem owes_out (c : Dev nD) : iprop(∃ W, owes (c : Thread nD τ) 0 W) ⊢ (dats m ρ 0 c).owesAt () t0_0.succ := by
  unfold Dat.owesAt Pipeline.owesWithin
  iintro ⟨%W, H⟩
  iexists W
  isplitr; · ipureintro; exact fun _ _ => Or.inl trivial
  iexact H

/-- A whole buffer held is a staging buffer held. -/
theorem stg_of (c : Dev nD) (b : Ref sig .tc) (X : b.ty.Contents (Elt F)) : iprop(((c : Thread nD τ).loc b) ↦{fullShare} X) ⊢ (stg c b X : sProp 𝕄) := by
  iintro H; iexists _; isplitr; · (ipureintro; rfl)
  iexact H

/-- What the body leaves is what the launch asks for. -/
theorem post_of (c : Dev nD) :
    iprop((Scr c ∗ Zero c ∗ A1 m c ∗ A4 m c) ∗ (∃ W, owes (c : Thread nD τ) 0 W) ∗ X0 c (XB m c) ∗ X2 c (KB m c) ∗ X3 c (VB m c) ∗ Res (PTm m) c) ⊢ bodyPost m ρ c := by
  unfold bodyPost Φ₁
  iintro ⟨HP, HO, H0, H1, H2, H3⟩
  isplitl [HP]; · iexact HP
  isplitl [HO]
  · iapply (owes_out m ρ c); iexact HO
  isplitl [H0]
  · iapply (stg_of c cc0_stg0_0 (XB m c)); unfold X0; iexact H0
  isplitl [H1]
  · iapply (stg_of c cc0_stg1_0 (KB m c)); unfold X2; iexact H1
  isplitl [H2]
  · iapply (stg_of c cc0_stg2_0 (VB m c)); unfold X3; iexact H2
  iapply (stg_of c cc0_stg3_0 (OUT (PTm m))); unfold Res; iexact H3

/-- The body, from what the launch gives to what the launch asks for. -/
theorem pre_run (c : Dev nD) : bodyPre m ρ c ⊢ WP c (app (cc0_body (F := F))) (fun _ => bodyPost m ρ c) := by
  unfold bodyPre Φ₀ start G'
  iintro ⟨⟨⟨⟨%K, Hr, Hl⟩, Hc, Hv, Ha, Hb⟩, Hs⟩, Ho, H0, H1, H2, H3⟩
  ihave Ho := (owes_in m ρ c) $$ Ho
  ihave H0 := (X0_of m ρ c) $$ H0
  ihave H1 := (X2_of m ρ c) $$ H1
  ihave H2 := (X3_of m ρ c) $$ H2
  ihave H3 := (X5_of m ρ c) $$ H3
  iapply (body_run m (PTm m) K c (XB m c) (KB m c) (VB m c) rfl (post_of m ρ c))
  unfold GS
  isplitl [Hr Hv]
  · isplitl [Hr]; · iexact Hr
    iexact Hv
  isplitl [Hl]; · iexact Hl
  isplitl [Hc]; · iexact Hc
  isplitl [Ha]; · iexact Ha
  isplitl [Hb]; · iexact Hb
  isplitl [Hs]; · iexact Hs
  isplitl [Ho]; · iexact Ho
  isplitl [H0]; · iexact H0
  isplitl [H1]; · iexact H1
  isplitl [H2]; · iexact H2
  iexact H3

/-- A family over the windows, written out. -/
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ
/-- The grid has one point. -/
theorem fin_N (t : Fin cfg0.N) : t = t0_0 := fin_N0 t

set_option maxRecDepth 65536 in
/-- The body meets what the launch asks of it. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ WP c (app (cc0_body (F := F))) (fun _ => bodyPost m ρ c)
  exact pre_run m ρ c

/-! ## The launch -/

/-- The kernel's own semaphores are as the launch theorem wants them. -/
theorem ownSemFacts : Pipeline.OwnSemFacts cfg0.spec osem := by decide

/-- Every window's array is held whole. -/
theorem share_eq (c : Dev nD) (w : Fin cfg0.W) : (dats m ρ 0 c).share w = fullShare := by unfold Dat.share; split <;> rfl

/-- From what the launch leaves a device and what the common step made, what the body starts from, -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m (PTm m) c)
      ⊢ |={Set.univ}=> iprop(start m c ∗ emp) := by
  rw [Pipeline.unscopedRestP_none, unscopedRest0_eq]
  iintro ⟨⟨H1, H4⟩, Hlev, Hcr, -, HG⟩
  ihave Hc := (creds (F := F) c) $$ Hcr
  imodintro
  unfold start A1 A4
  isplitl
  · isplitl [HG]; · iexact HG
    isplitl [Hc]; · iexact Hc
    isplitl [Hlev]; · iexact Hlev
    isplitl [H1]; · iexact H1
    iexact H4
  · iempintro

/-- together with its scratch buffers. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scr Scr0 Scr1 X8 Scr3 Scr4
  iintro ⟨Hs, -, H0, H1, H2, H3, H4⟩
  isplitl [Hs]; · iexact Hs
  isplitl [H0]; · iexact H0
  isplitl [H1]; · iexact H1
  isplitl [H2]; · iexact H2
  isplitl [H3]; · iexact H3
  iexact H4

/-- What a device hands over at the end. -/
def Y (c : Dev nD) : sProp 𝕄 := iprop(unscopedSems0 c ∗ A1 m c ∗ A4 m c)

/-- What the body leaves contains the scratch buffers and the counters the launch takes back. -/
theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ Y Zero Scr Scr0 Scr1 X8 Scr3 Scr4
  rw [unscopedSems0_eq]
  iintro ⟨⟨H0, H1, H2, H3, H4⟩, ⟨HB, HS⟩, HA, HW⟩
  isplitl [HB HA HW]
  · isplitl [HB]; · iexact HB
    isplitl [HA]; · iexact HA
    iexact HW
  isplitl [HS]; · iexact HS
  isplitl [H0]; · iexact H0
  isplitl [H1]; · iexact H1
  isplitl [H2]; · iexact H2
  isplitl [H3]; · iexact H3
  iexact H4

/-- The waits of the launch's own copies are allowed. -/
theorem waits (c : Dev nD) : (levAts L lv : sProp 𝕄) ⊢ Pipeline.cellsWaits cfgs (dats m ρ) () 0 c :=
  Pipeline.cellsWaits_intro cfgs (dats m ρ) () 0 c fun w s t =>
    mayWait_of c _ 0 _ (by fin_cases w <;> fin_cases s <;> decide) (by
      rcases t with ⟨_ | _, ht⟩
      · exact above_OS c 0
      · exact above_zero 0)

/-- What is read off the end of the run besides the windows' arrays. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1) ∧ s.mem ((c : Thread nD τ).loc main_arg4) = m ((c : Thread nD τ).loc main_arg4)

/-- A whole buffer held is what memory holds. -/
theorem read_whole (ℓ : Loc nD τ sig) (f : Buf (Elt F) ℓ) (s' : Phys nD τ sig (Elt F)) : iprop((ℓ ↦{fullShare} f) ∗ SI s') ⊢ (iprop(⌜s'.mem.mem ℓ = f⌝ ∗ SI s') : sProp 𝕄) := by
  have h := pointsTo_read_all (Ix := Unit) (Name := ℕ) (U := UU) (Lvl := ℕ) ({()} : Finset Unit) (fun _ => ℓ) (fun _ => f) s'
  rw [bigSep_singleton] at h
  refine h.trans ?_
  iintro ⟨%h, H⟩
  isplitr
  · ipureintro; exact h () (Finset.mem_singleton_self _)
  iexact H

/-- What is read off the end: the counters at zero and the two weights as they were. -/
theorem read_end (c : Dev nD) (s' : Phys nD τ sig (Elt F)) : iprop(Y m c ∗ emp ∗ SI s') ⊢ |={Set.univ}=> (iprop(⌜QY m c s'.mem⌝ ∗ SI s') : sProp 𝕄) := by
  unfold Y A1 A4
  iintro ⟨⟨Hu, H1, H4⟩, -, HSI⟩
  ihave H := (read_whole ((c : Thread nD τ).loc main_arg1) (m ((c : Thread nD τ).loc main_arg1)) s') $$ [H1 HSI]
  · isplitl [H1] <;> iassumption
  icases H with ⟨%h1, HSI⟩
  ihave H := (read_whole ((c : Thread nD τ).loc main_arg4) (m ((c : Thread nD τ).loc main_arg4)) s') $$ [H4 HSI]
  · isplitl [H4] <;> iassumption
  icases H with ⟨%h4, HSI⟩
  imod (Pipeline.unscopedSems0_read (X := unscopedSems0 c) (c := c) fupd_intro s') $$ [Hu HSI] with ⟨%h, HSI⟩
  · isplitl [Hu] <;> iassumption
  imodintro
  isplitr
  · ipureintro; exact ⟨h, h1, h4⟩
  iexact HSI

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w) ∧ QY m c r.2

/-- The two parts of what the launch deals. -/
theorem deal : (ownU u₀ : sProp 𝕄) ⊢ |={Set.univ}=> iprop(BI.own (EP (initOf (Pipeline.cells cfgs cellOf_inj) (Pipeline.launchToks cfgs cellOf_inj))) ∗ bigSep Finset.univ (G m (PTm m))) := by
  unfold u₀
  iintro Hu
  ihave H := (ownU_pair _ _) $$ Hu
  icases H with ⟨HP, HX⟩
  imod (fund_x m (PTm m)) $$ HX with HG
  imodintro
  isplitl [HP] <;> iassumption

set_option maxRecDepth 65536 in
/-- Every weakly fair execution ends, at every device the windows' arrays as the body leaves them, the other
    operands as they were, and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m (PTm m)) (G' := G' m (PTm m)) (u₀ := u₀)
    (hu₀ := deal m)
    (hglob := glob m (PTm m))
    (hA := fun _ _ => rfl) (hpf := fun _ k => k.elim0)
    (X := start m) (Y := Y m) (Z := fun _ => iprop(emp))
    (hX := start_intro m ρ) (hin := phi0_intro m ρ) (hout := phi1_exit m ρ)
    (QY := QY m)
    (hY := read_end m)
    (hQ := fun _ h hs => ⟨fun c => ⟨(h c).1, (h c).2.2⟩, sem_eq_zero hs fun c => (h c).2.2.1⟩)

/-- The result array after the run holds the sum over the devices. -/
theorem final_out (c : Dev nD) : finalA m ρ c (3 : Fin 4) = OUT (PTm m) :=
  (dats m ρ 0 c).arrAt_eq_of_after_last (3 : Fin cfg0.W) t0_0 (by decide +kernel) (OUT (PTm m)) (fun j => rfl)

/-- The activations the body reads are the whole first operand, -/
theorem XB_eq (c : Dev nD) : XB m c = m ((c : Thread nD τ).loc main_arg0) := by
  unfold XB iblk
  exact Memref.read_access_unit_zero (Elt F) main_arg0 (off := fun a => win0_0.index t0_0 a * main_arg0.ty.shape.size a) (funext fun a => by fin_cases a <;> decide) (fun a => by fin_cases a <;> decide) (m ((c : Thread nD τ).loc main_arg0))
/-- the keys the whole third, -/
theorem KB_eq (c : Dev nD) : KB m c = m ((c : Thread nD τ).loc main_arg2) := by
  unfold KB iblk
  exact Memref.read_access_unit_zero (Elt F) main_arg2 (off := fun a => win0_1.index t0_0 a * main_arg2.ty.shape.size a) (funext fun a => by fin_cases a <;> decide) (fun a => by fin_cases a <;> decide) (m ((c : Thread nD τ).loc main_arg2))
/-- and the values the whole fourth. -/
theorem VB_eq (c : Dev nD) : VB m c = m ((c : Thread nD τ).loc main_arg3) := by
  unfold VB iblk
  exact Memref.read_access_unit_zero (Elt F) main_arg3 (off := fun a => win0_2.index t0_0 a * main_arg3.ty.shape.size a) (funext fun a => by fin_cases a <;> decide) (fun a => by fin_cases a <;> decide) (m ((c : Thread nD τ).loc main_arg3))

/-- Every weakly fair execution ends, every counter at zero, every operand as it was and every device's result the sum
    over the devices. -/
theorem run_end : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v1) = OUT (PTm m)) ∧ r.2.sem = fun _ => 0) :=
  (θ_run defs _ _).mono (fun _ h => ⟨fun c =>
    ⟨⟨((h.1 c).1 (0 : Fin 4)).trans ((dats (F := F) m ρ 0 c).arrAt_in (0 : Fin 4) rfl _), (h.1 c).2.2.1,
      ((h.1 c).1 (1 : Fin 4)).trans ((dats (F := F) m ρ 0 c).arrAt_in (1 : Fin 4) rfl _),
      ((h.1 c).1 (2 : Fin 4)).trans ((dats (F := F) m ρ 0 c).arrAt_in (2 : Fin 4) rfl _), (h.1 c).2.2.2⟩,
      ((h.1 c).1 (3 : Fin 4)).trans (final_out m ρ c)⟩, h.2⟩) (run_main m ρ)

/-- Every weakly fair execution ends, every counter at zero and every operand as it was. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => (h.1 c).1, h.2⟩) (run_end m ρ)

end Cert.KernelIdealProof

end
-- ==== Proof.Same.lean ====
/-
The kernel as first printed: the run of the idealized program, with its one named constant read as the literal it names.
-/
module

public import proofs.«01_k».proof.Defs
public import proofs.«01_k».proof.Proof.Gen.Kernel
public import proofs.«01_k».proof.Proof.KI.Launch

@[expose] public section

noncomputable section

namespace Cert.Proof

open Idealize.ShloMosaic Idealize.SL.Sem Idealize.ShloMosaic.TcCoe

/-- Every named constant the literal it stands for. -/
abbrev lit {F : FTy → Type} [FloatOps F] : Named F := ⟨fun _ _ {φ} bits => Scalar.ofBits φ bits⟩

set_option maxRecDepth 100000 in
set_option maxHeartbeats 4000000 in
/-- The two body tables agree: only the one constant is written differently. -/
theorem defs₀_eq : Cert.Kernel.defs₀ (F := Bits) = (letI : Named Bits := lit; Cert.KernelIdeal.defs₀ (F := Bits)) := by
  letI : Named Bits := lit
  refine congrArg Defs.onTc (funext fun l => funext fun a => ?_)
  obtain ⟨l, hl⟩ := l
  match l, hl, a with
  | 0, hl, (t, s) => rfl
  | n + 1, hl, _ => exact absurd hl (Nat.not_lt.2 (Nat.le_add_left _ _))

set_option maxRecDepth 100000 in
set_option maxHeartbeats 4000000 in
/-- The kernel's functions are the idealized kernel's, with the named constant at its written value. -/
theorem defs_eq : Cert.Kernel.defs (F := Bits) = (letI : Named Bits := lit; Cert.KernelIdeal.defs (F := Bits)) :=
  congrArg (fun D => Pipeline.defs (Cert.Kernel.pcfgs (F := Bits)) D) defs₀_eq

set_option maxRecDepth 100000 in
set_option maxHeartbeats 4000000 in
/-- The kernel runs: every operand as it was, every counter at zero. -/
theorem frame_kernel : Cert.quiescent_Kernel (hKernel := Cert.Kernel.Gen.facts) := fun m g _ => by
  rw [defs_eq]
  exact @Cert.KernelIdealProof.run_frame Bits _ lit m g

end Cert.Proof

end
-- ==== Proof.V.Math.lean ====
/-
Arithmetic of the extended reals: which values are real, and a softmax with and without its maximum subtracted.
-/
module

public import Idealize.ShloMosaic.PureOps.Ideal
public import Idealize.ShloMosaic.PureOps.Ideal.Laws
public import Idealize.ShloMosaic.Lib.IdealHost

@[expose] public section

noncomputable section

namespace Cert.Val

open Idealize.ShloMosaic

/-- Neither infinity. -/
def IsReal (x : EReal) : Prop := ∃ r : ℝ, x = (r : EReal)

/-- A product of real values is real, -/
theorem isReal_mul {x y : EReal} (hx : IsReal x) (hy : IsReal y) : IsReal (x * y) := by
  obtain ⟨a, rfl⟩ := hx; obtain ⟨b, rfl⟩ := hy; exact ⟨a * b, (EReal.coe_mul a b).symm⟩

/-- a sum of two is, -/
theorem isReal_add {x y : EReal} (hx : IsReal x) (hy : IsReal y) : IsReal (x + y) := by
  obtain ⟨a, rfl⟩ := hx; obtain ⟨b, rfl⟩ := hy; exact ⟨a + b, (EReal.coe_add a b).symm⟩

/-- and a finite sum is. -/
theorem isReal_sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact isReal_add (h a) ih

/-- What is below plus infinity in absolute value is real. -/
theorem isReal_of_abs_lt {x : EReal} (h : Max.max x (-x) < ⊤) : IsReal x := by
  induction x using EReal.rec with
  | bot => simp at h
  | coe r => exact ⟨r, rfl⟩
  | top => simp at h

/-- The coercion of a finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a sum, whatever the summands. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- A sum over a prefix of the indices is the sum over all, where the others' summands are zero. -/
theorem sum_prefix {k n : ℕ} (h : k ≤ n) (F : Fin n → EReal) (hz : ∀ j : Fin n, k ≤ j.val → F j = 0) :
    ∑ j : Fin k, F (Fin.castLE h j) = ∑ j : Fin n, F j := by
  have e1 : ∑ j : Fin k, F (Fin.castLE h j) = ∑ j ∈ Finset.range k, (if hj : j < n then F ⟨j, hj⟩ else 0) := by
    rw [Finset.sum_range]
    exact Finset.sum_congr rfl fun j _ => by rw [dif_pos (lt_of_lt_of_le j.isLt h)]; rfl
  have e2 : ∑ j : Fin n, F j = ∑ j ∈ Finset.range n, (if hj : j < n then F ⟨j, hj⟩ else 0) := by
    rw [Finset.sum_range]
    exact Finset.sum_congr rfl fun j _ => by rw [dif_pos j.isLt]
  rw [e1, e2]
  refine Finset.sum_subset (Finset.range_subset_range.mpr h) fun j hj hk => ?_
  rw [dif_pos (Finset.mem_range.mp hj)]
  exact hz _ (Nat.le_of_not_lt fun hlt => hk (Finset.mem_range.mpr hlt))

/-- The weight of a key before it is divided by the sum: the exponential of its score where the mask keeps it, else zero. -/
def wt (keep : Prop) [Decidable keep] (r : EReal) : EReal := if keep then Ideal.exp r else 0

/-- The weight at a real score is a real number. -/
theorem wt_real (keep : Prop) [Decidable keep] (r : ℝ) : wt keep (r : EReal) = ((if keep then Real.exp r else 0 : ℝ) : EReal) := by
  unfold wt; split
  · exact Ideal.exp_coe _
  · exact EReal.coe_zero.symm

/-- The kernel's weight: the mask is added to the score. -/
theorem exp_add_mask (keep : Prop) [Decidable keep] (r : EReal) : Ideal.exp (r + if keep then 0 else ⊥) = wt keep r := by
  unfold wt; split
  · rw [add_zero]
  · rw [EReal.add_bot]; exact Ideal.exp_bot

/-- The reference's weight: the masked score, less a real number. -/
theorem exp_mask_sub (keep : Prop) [Decidable keep] (r mx : ℝ) :
    Ideal.exp ((if keep then (r : EReal) else ⊥) - (mx : EReal)) = ((if keep then Real.exp r else 0 : ℝ) : EReal) * ((Real.exp (-mx) : ℝ) : EReal) := by
  split
  · rw [← EReal.coe_sub, ← EReal.coe_mul, ← Real.exp_add]; exact Ideal.exp_coe _
  · rw [EReal.bot_sub, EReal.coe_zero, zero_mul]; exact Ideal.exp_bot

/-- A softmax average, with any real number subtracted from the scores, is the average with nothing subtracted and the
    quotient taken last. -/
theorem softmax_avg {n : ℕ} (keep : Fin n → Prop) [DecidablePred keep] (r : Fin n → EReal) (hr : ∀ j, IsReal (r j)) (j0 : Fin n) (h0 : keep j0)
    (mx : EReal) (hmx : IsReal mx) (v : Fin n → EReal) :
    ∑ j, Ideal.div (Ideal.exp ((if keep j then r j else ⊥) - mx)) (0 + ∑ k, Ideal.exp ((if keep k then r k else ⊥) - mx)) * v j
      = (∑ j, wt (keep j) (r j) * v j) * Ideal.div 1 (∑ j, wt (keep j) (r j)) := by
  obtain ⟨M, rfl⟩ := hmx
  choose f hf using hr
  obtain rfl : r = fun j => (f j : EReal) := funext hf
  set e : Fin n → ℝ := fun j => if keep j then Real.exp (f j) else 0 with he
  have e_nonneg : ∀ j, 0 ≤ e j := fun j => by
    simp only [he]; split
    · exact (Real.exp_pos _).le
    · exact le_rfl
  have S_pos : 0 < ∑ j, e j := Finset.sum_pos' (fun j _ => e_nonneg j) ⟨j0, Finset.mem_univ _, by simp only [he, if_pos h0]; exact Real.exp_pos _⟩
  have w1 : ∀ j, wt (keep j) ((f j : ℝ) : EReal) = (e j : EReal) := fun j => wt_real _ _
  have w2 : ∀ j, Ideal.exp ((if keep j then ((f j : ℝ) : EReal) else ⊥) - (M : EReal)) = ((e j * Real.exp (-M) : ℝ) : EReal) := fun j => by
    rw [exp_mask_sub, ← EReal.coe_mul]
  simp only [w1, w2]
  rw [zero_add, ← coe_sum, ← coe_sum, ← Finset.sum_mul]
  have hM := Real.exp_pos (-M)
  rw [Ideal.div_coe S_pos.ne', one_mul, sum_mul_real _ _ _ (one_div_nonneg.mpr S_pos.le)]
  refine Finset.sum_congr rfl fun j _ => ?_
  have hq : e j * Real.exp (-M) * (1 / ((∑ k, e k) * Real.exp (-M))) = e j * (1 / ∑ k, e k) := by field_simp
  rw [Ideal.div_coe (mul_pos S_pos hM).ne', ← EReal.coe_mul, hq, EReal.coe_mul, mul_right_comm]

end Cert.Val

end
-- ==== Proof.V.Heads.lean ====
/-
The heads of one device and one block of rows, read element by element.
-/
module

public import proofs.«01_k».proof.Proof.KI.Vals
public import proofs.«01_k».proof.Proof.V.Math
public import Idealize.ShloMosaic.Lib.Pointwise

@[expose] public section

set_option maxRecDepth 16384

noncomputable section

namespace Cert.Val

open Cert.KernelIdeal Cert.KernelIdeal.Gen
open Idealize.ShloMosaic

/-- Each head's 128 columns of the queries lie in them. -/
theorem slQ (h : Fin 8) : S256x1024.Slices ![0, 128 * h.val] S256x128 := by revert h; decide

/-- The heads side by side, times the second weight. -/
def finish (wv : FVec Ideal S1024x1024 .bf16) (H : Fin 8 → FVec Ideal S256x128 .f32) : FVec Ideal S256x1024 .bf16 :=
  shapeCast S256x1024 (truncf .bf16 (matmul dot_S256x1024_S1024x1024_S256x1024_1_0_0_1_n_n none
    (truncf .bf16 (concatenate S256x1024 1 [⟨S256x128, H 0⟩, ⟨S256x128, H 1⟩, ⟨S256x128, H 2⟩, ⟨S256x128, H 3⟩, ⟨S256x128, H 4⟩, ⟨S256x128, H 5⟩, ⟨S256x128, H 6⟩, ⟨S256x128, H 7⟩]
      concatenates_S256x128_S256x128_S256x128_S256x128_S256x128_S256x128_S256x128_S256x128_S256x1024_d1) bitsLt_bf16_f32)
    wv (constant S256x1024 .f32 0x00000000#32)) bitsLt_bf16_f32) shapeCasts_S256x1024_S256x1024

/-- Column `128 k + x` is column `x` of head `k`. -/
theorem pick (H : Fin 8 → FVec Ideal S256x128 .f32) (a : Fin 256) (e : Fin 1024) (k : Fin 8) (x : ℕ) (hx : x < 128) (he : e.val = 128 * k.val + x) :
    H k (ix2 a ⟨x, hx⟩) = H ⟨e.val / 128, by omega⟩ (ix2 a ⟨e.val % 128, by omega⟩) := by
  have h1 : (⟨e.val / 128, by omega⟩ : Fin 8) = k := Fin.ext (by show e.val / 128 = k.val; omega)
  have h2 : (⟨e.val % 128, by omega⟩ : Fin 128) = ⟨x, hx⟩ := Fin.ext (by show e.val % 128 = x; omega)
  rw [h1, h2]

/-- The finished heads at one element. -/
theorem finish_apply (wv : FVec Ideal S1024x1024 .bf16) (H : Fin 8 → FVec Ideal S256x128 .f32) (a : Fin 256) (n : Fin 1024) :
    finish wv H (ix2 a n) = ∑ e : Fin 1024, H ⟨e.val / 128, by omega⟩ (ix2 a ⟨e.val % 128, by omega⟩) * wv (ix2 e n) := by
  unfold finish
  pointwise
  refine Finset.sum_congr rfl fun e _ => ?_
  refine congrArg (· * wv (ix2 e n)) ?_
  have he := e.isLt
  split_ifs <;> first
    | exact pick H a e 0 _ (by assumption) (by show e.val = 128 * 0 + _; omega)
    | exact pick H a e 1 _ (by assumption) (by show e.val = 128 * 1 + _; omega)
    | exact pick H a e 2 _ (by assumption) (by show e.val = 128 * 2 + _; omega)
    | exact pick H a e 3 _ (by assumption) (by show e.val = 128 * 3 + _; omega)
    | exact pick H a e 4 _ (by assumption) (by show e.val = 128 * 4 + _; omega)
    | exact pick H a e 5 _ (by assumption) (by show e.val = 128 * 5 + _; omega)
    | exact pick H a e 6 _ (by assumption) (by show e.val = 128 * 6 + _; omega)
    | exact pick H a e 7 _ (by omega) (by show e.val = 128 * 7 + _; omega)

/-! ## Block 0 of rows: the first 256 keys -/

/-- Each head's keys lie in them. -/
theorem slK0 (h : Fin 8) : S1024x8x128.Slices ![0, h.val, 0] S256x1x128 := by revert h; decide

/-- The weights of head `h`. -/
def ex0 (h : Fin 8) (kv : FVec Ideal S1024x8x128 .bf16) (B : FVec Ideal S256x256 .f32) (q : FVec Ideal S256x1024 .bf16) : FVec Ideal S256x256 .f32 :=
  exp (addf (matmul dot_S256x128_S256x128_S256x256_1_1_0_0_n_n none (extractStridedSlice S256x128 ![0, 128 * h.val] q (slQ h))
    (shapeCast S256x128 (extractStridedSlice S256x1x128 ![0, h.val, 0] kv (slK0 h)) shapeCasts_S256x1x128_S256x128) (constant S256x256 .f32 0x00000000#32)) B)

/-- Head `h`. -/
def hd0 (h : Fin 8) (kv vv : FVec Ideal S1024x8x128 .bf16) (B : FVec Ideal S256x256 .f32) (q : FVec Ideal S256x1024 .bf16) : FVec Ideal S256x128 .f32 :=
  mulf (matmul dot_S256x256_S256x128_S256x128_1_0_0_1_n_n none (truncf .bf16 (ex0 h kv B q) bitsLt_bf16_f32)
      (shapeCast S256x128 (extractStridedSlice S256x1x128 ![0, h.val, 0] vv (slK0 h)) shapeCasts_S256x1x128_S256x128) (constant S256x128 .f32 0x00000000#32))
    (broadcastTo S256x128 (divf (broadcast S256x1 (Scalar.ofBits .f32 0x3F800000#32))
      (shapeCast S256x1 (multiReduction .add [1] S256 (ex0 h kv B q) 0x00000000#32 reduces_S256x256_S256 (.inl rfl) rfl) shapeCasts_S256_S256x1)) broadcasts_S256x1_S256x128)

/-- A weight at one element. -/
theorem ex0_apply (h : Fin 8) (kv : FVec Ideal S1024x8x128 .bf16) (B : FVec Ideal S256x256 .f32) (q : FVec Ideal S256x1024 .bf16) (a : Fin 256) (j : Fin 256) :
    ex0 h kv B q (ix2 a j) = Ideal.exp ((∑ d : Fin 128, q (ix2 a ⟨128 * h.val + d.val, by omega⟩) * kv (ix3 ⟨j.val, by omega⟩ h d)) + B (ix2 a j)) := by
  unfold ex0
  pointwise
  done

/-- Head `h` at one element. -/
theorem hd0_apply (h : Fin 8) (kv vv : FVec Ideal S1024x8x128 .bf16) (B : FVec Ideal S256x256 .f32) (q : FVec Ideal S256x1024 .bf16) (a : Fin 256) (d : Fin 128) :
    hd0 h kv vv B q (ix2 a d) = (∑ j : Fin 256, ex0 h kv B q (ix2 a j) * vv (ix3 ⟨j.val, by omega⟩ h d)) * Ideal.div 1 (∑ j : Fin 256, ex0 h kv B q (ix2 a j)) := by
  unfold hd0
  generalize ex0 h kv B q = E
  pointwise
  done

/-- Block 0's partial sums are its heads, finished. -/
theorem ch0_eq (kv vv : FVec Ideal S1024x8x128 .bf16) (wv : FVec Ideal S1024x1024 .bf16) (B : FVec Ideal S256x256 .f32) (q : FVec Ideal S256x1024 .bf16) :
    Cert.KernelIdealProof.ch0 kv vv wv B q = finish wv fun h => hd0 h kv vv B q := rfl

/-! ## Block 1 of rows: the first 512 keys -/

/-- Each head's keys lie in them. -/
theorem slK1 (h : Fin 8) : S1024x8x128.Slices ![0, h.val, 0] S512x1x128 := by revert h; decide

/-- The weights of head `h`. -/
def ex1 (h : Fin 8) (kv : FVec Ideal S1024x8x128 .bf16) (B : FVec Ideal S256x512 .f32) (q : FVec Ideal S256x1024 .bf16) : FVec Ideal S256x512 .f32 :=
  exp (addf (matmul dot_S256x128_S512x128_S256x512_1_1_0_0_n_n none (extractStridedSlice S256x128 ![0, 128 * h.val] q (slQ h))
    (shapeCast S512x128 (extractStridedSlice S512x1x128 ![0, h.val, 0] kv (slK1 h)) shapeCasts_S512x1x128_S512x128) (constant S256x512 .f32 0x00000000#32)) B)

/-- Head `h`. -/
def hd1 (h : Fin 8) (kv vv : FVec Ideal S1024x8x128 .bf16) (B : FVec Ideal S256x512 .f32) (q : FVec Ideal S256x1024 .bf16) : FVec Ideal S256x128 .f32 :=
  mulf (matmul dot_S256x512_S512x128_S256x128_1_0_0_1_n_n none (truncf .bf16 (ex1 h kv B q) bitsLt_bf16_f32)
      (shapeCast S512x128 (extractStridedSlice S512x1x128 ![0, h.val, 0] vv (slK1 h)) shapeCasts_S512x1x128_S512x128) (constant S256x128 .f32 0x00000000#32))
    (broadcastTo S256x128 (divf (broadcast S256x1 (Scalar.ofBits .f32 0x3F800000#32))
      (shapeCast S256x1 (multiReduction .add [1] S256 (ex1 h kv B q) 0x00000000#32 reduces_S256x512_S256 (.inl rfl) rfl) shapeCasts_S256_S256x1)) broadcasts_S256x1_S256x128)

/-- A weight at one element. -/
theorem ex1_apply (h : Fin 8) (kv : FVec Ideal S1024x8x128 .bf16) (B : FVec Ideal S256x512 .f32) (q : FVec Ideal S256x1024 .bf16) (a : Fin 256) (j : Fin 512) :
    ex1 h kv B q (ix2 a j) = Ideal.exp ((∑ d : Fin 128, q (ix2 a ⟨128 * h.val + d.val, by omega⟩) * kv (ix3 ⟨j.val, by omega⟩ h d)) + B (ix2 a j)) := by
  unfold ex1
  pointwise
  done

/-- Head `h` at one element. -/
theorem hd1_apply (h : Fin 8) (kv vv : FVec Ideal S1024x8x128 .bf16) (B : FVec Ideal S256x512 .f32) (q : FVec Ideal S256x1024 .bf16) (a : Fin 256) (d : Fin 128) :
    hd1 h kv vv B q (ix2 a d) = (∑ j : Fin 512, ex1 h kv B q (ix2 a j) * vv (ix3 ⟨j.val, by omega⟩ h d)) * Ideal.div 1 (∑ j : Fin 512, ex1 h kv B q (ix2 a j)) := by
  unfold hd1
  generalize ex1 h kv B q = E
  pointwise
  done

/-- Block 1's partial sums are its heads, finished. -/
theorem ch1_eq (kv vv : FVec Ideal S1024x8x128 .bf16) (wv : FVec Ideal S1024x1024 .bf16) (B : FVec Ideal S256x256 .f32) (q : FVec Ideal S256x1024 .bf16) :
    Cert.KernelIdealProof.ch1 kv vv wv B q = finish wv fun h => hd1 h kv vv (k0_pay22 B) q := rfl

/-! ## Block 2 of rows: the first 768 keys -/

/-- Each head's keys lie in them. -/
theorem slK2 (h : Fin 8) : S1024x8x128.Slices ![0, h.val, 0] S768x1x128 := by revert h; decide

/-- The weights of head `h`. -/
def ex2 (h : Fin 8) (kv : FVec Ideal S1024x8x128 .bf16) (B : FVec Ideal S256x768 .f32) (q : FVec Ideal S256x1024 .bf16) : FVec Ideal S256x768 .f32 :=
  exp (addf (matmul dot_S256x128_S768x128_S256x768_1_1_0_0_n_n none (extractStridedSlice S256x128 ![0, 128 * h.val] q (slQ h))
    (shapeCast S768x128 (extractStridedSlice S768x1x128 ![0, h.val, 0] kv (slK2 h)) shapeCasts_S768x1x128_S768x128) (constant S256x768 .f32 0x00000000#32)) B)

/-- Head `h`. -/
def hd2 (h : Fin 8) (kv vv : FVec Ideal S1024x8x128 .bf16) (B : FVec Ideal S256x768 .f32) (q : FVec Ideal S256x1024 .bf16) : FVec Ideal S256x128 .f32 :=
  mulf (matmul dot_S256x768_S768x128_S256x128_1_0_0_1_n_n none (truncf .bf16 (ex2 h kv B q) bitsLt_bf16_f32)
      (shapeCast S768x128 (extractStridedSlice S768x1x128 ![0, h.val, 0] vv (slK2 h)) shapeCasts_S768x1x128_S768x128) (constant S256x128 .f32 0x00000000#32))
    (broadcastTo S256x128 (divf (broadcast S256x1 (Scalar.ofBits .f32 0x3F800000#32))
      (shapeCast S256x1 (multiReduction .add [1] S256 (ex2 h kv B q) 0x00000000#32 reduces_S256x768_S256 (.inl rfl) rfl) shapeCasts_S256_S256x1)) broadcasts_S256x1_S256x128)

/-- A weight at one element. -/
theorem ex2_apply (h : Fin 8) (kv : FVec Ideal S1024x8x128 .bf16) (B : FVec Ideal S256x768 .f32) (q : FVec Ideal S256x1024 .bf16) (a : Fin 256) (j : Fin 768) :
    ex2 h kv B q (ix2 a j) = Ideal.exp ((∑ d : Fin 128, q (ix2 a ⟨128 * h.val + d.val, by omega⟩) * kv (ix3 ⟨j.val, by omega⟩ h d)) + B (ix2 a j)) := by
  unfold ex2
  pointwise
  done

/-- Head `h` at one element. -/
theorem hd2_apply (h : Fin 8) (kv vv : FVec Ideal S1024x8x128 .bf16) (B : FVec Ideal S256x768 .f32) (q : FVec Ideal S256x1024 .bf16) (a : Fin 256) (d : Fin 128) :
    hd2 h kv vv B q (ix2 a d) = (∑ j : Fin 768, ex2 h kv B q (ix2 a j) * vv (ix3 ⟨j.val, by omega⟩ h d)) * Ideal.div 1 (∑ j : Fin 768, ex2 h kv B q (ix2 a j)) := by
  unfold hd2
  generalize ex2 h kv B q = E
  pointwise
  done

/-- Block 2's partial sums are its heads, finished. -/
theorem ch2_eq (kv vv : FVec Ideal S1024x8x128 .bf16) (wv : FVec Ideal S1024x1024 .bf16) (B : FVec Ideal S256x256 .f32) (q : FVec Ideal S256x1024 .bf16) :
    Cert.KernelIdealProof.ch2 kv vv wv B q = finish wv fun h => hd2 h kv vv (k0_pay41 B) q := rfl

/-! ## Block 3 of rows: the first 1024 keys -/

/-- Each head's keys lie in them. -/
theorem slK3 (h : Fin 8) : S1024x8x128.Slices ![0, h.val, 0] S1024x1x128 := by revert h; decide

/-- The weights of head `h`. -/
def ex3 (h : Fin 8) (kv : FVec Ideal S1024x8x128 .bf16) (B : FVec Ideal S256x1024 .f32) (q : FVec Ideal S256x1024 .bf16) : FVec Ideal S256x1024 .f32 :=
  exp (addf (matmul dot_S256x128_S1024x128_S256x1024_1_1_0_0_n_n none (extractStridedSlice S256x128 ![0, 128 * h.val] q (slQ h))
    (shapeCast S1024x128 (extractStridedSlice S1024x1x128 ![0, h.val, 0] kv (slK3 h)) shapeCasts_S1024x1x128_S1024x128) (constant S256x1024 .f32 0x00000000#32)) B)

/-- Head `h`. -/
def hd3 (h : Fin 8) (kv vv : FVec Ideal S1024x8x128 .bf16) (B : FVec Ideal S256x1024 .f32) (q : FVec Ideal S256x1024 .bf16) : FVec Ideal S256x128 .f32 :=
  mulf (matmul dot_S256x1024_S1024x128_S256x128_1_0_0_1_n_n none (truncf .bf16 (ex3 h kv B q) bitsLt_bf16_f32)
      (shapeCast S1024x128 (extractStridedSlice S1024x1x128 ![0, h.val, 0] vv (slK3 h)) shapeCasts_S1024x1x128_S1024x128) (constant S256x128 .f32 0x00000000#32))
    (broadcastTo S256x128 (divf (broadcast S256x1 (Scalar.ofBits .f32 0x3F800000#32))
      (shapeCast S256x1 (multiReduction .add [1] S256 (ex3 h kv B q) 0x00000000#32 reduces_S256x1024_S256 (.inl rfl) rfl) shapeCasts_S256_S256x1)) broadcasts_S256x1_S256x128)

/-- A weight at one element. -/
theorem ex3_apply (h : Fin 8) (kv : FVec Ideal S1024x8x128 .bf16) (B : FVec Ideal S256x1024 .f32) (q : FVec Ideal S256x1024 .bf16) (a : Fin 256) (j : Fin 1024) :
    ex3 h kv B q (ix2 a j) = Ideal.exp ((∑ d : Fin 128, q (ix2 a ⟨128 * h.val + d.val, by omega⟩) * kv (ix3 ⟨j.val, by omega⟩ h d)) + B (ix2 a j)) := by
  unfold ex3
  pointwise
  done

/-- Head `h` at one element. -/
theorem hd3_apply (h : Fin 8) (kv vv : FVec Ideal S1024x8x128 .bf16) (B : FVec Ideal S256x1024 .f32) (q : FVec Ideal S256x1024 .bf16) (a : Fin 256) (d : Fin 128) :
    hd3 h kv vv B q (ix2 a d) = (∑ j : Fin 1024, ex3 h kv B q (ix2 a j) * vv (ix3 ⟨j.val, by omega⟩ h d)) * Ideal.div 1 (∑ j : Fin 1024, ex3 h kv B q (ix2 a j)) := by
  unfold hd3
  generalize ex3 h kv B q = E
  pointwise
  done

/-- Block 3's partial sums are its heads, finished. -/
theorem ch3_eq (kv vv : FVec Ideal S1024x8x128 .bf16) (wv : FVec Ideal S1024x1024 .bf16) (B : FVec Ideal S256x256 .f32) (q : FVec Ideal S256x1024 .bf16) :
    Cert.KernelIdealProof.ch3 kv vv wv B q = finish wv fun h => hd3 h kv vv (k0_pay53 B) q := rfl

end Cert.Val

end
-- ==== Proof.V.Bias.lean ====
/-
The mask the kernel adds, element by element.
-/
module

public import proofs.«01_k».proof.Proof.KI.Vals
public import proofs.«01_k».proof.Proof.V.Math
public import Idealize.ShloMosaic.Lib.Pointwise

@[expose] public section

set_option maxRecDepth 16384

noncomputable section

namespace Cert.Val

open Cert.KernelIdeal Cert.KernelIdeal.Gen
open Idealize.ShloMosaic

/-- The added mask of two blocks of rows, -/
theorem pay22_apply (B : FVec Ideal S256x256 .f32) (a : Fin 256) (j : Fin 512) :
    k0_pay22 B (ix2 a j) = if h : j.val < 256 then 0 else B (ix2 a ⟨j.val - 256, by omega⟩) := by
  unfold k0_pay22
  pointwise
  done
/-- of three, -/
theorem pay41_apply (B : FVec Ideal S256x256 .f32) (a : Fin 256) (j : Fin 768) :
    k0_pay41 B (ix2 a j) = if h : j.val < 512 then 0 else B (ix2 a ⟨j.val - 512, by omega⟩) := by
  unfold k0_pay41
  pointwise
  done
/-- and of four. -/
theorem pay53_apply (B : FVec Ideal S256x256 .f32) (a : Fin 256) (j : Fin 1024) :
    k0_pay53 B (ix2 a j) = if h : j.val < 768 then 0 else B (ix2 a ⟨j.val - 768, by omega⟩) := by
  unfold k0_pay53
  pointwise
  done

/-- The kernel's floor division by the block length, on words. -/
def fdw (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

/-- It divides. -/
theorem fdw_ofNat : ∀ a : Fin 256, fdw (BitVec.ofNat 32 a.val) = BitVec.ofNat 32 (a.val / 64) := by decide +kernel

/-- The order of two small words. -/
theorem sle_small : ∀ x y : Fin 16, IntOp.cmpi CmpIPredicate.sle (BitVec.ofNat 32 x.val) (BitVec.ofNat 32 y.val) = if x.val ≤ y.val then 1#1 else 0#1 := by decide +kernel

/-- The mask on the blocks of the diagonal: zero up to the query's own block, and minus infinity after it. -/
theorem biasB_apply (a j : Fin 256) :
    Cert.KernelIdealProof.biasB (F := Ideal) (ix2 a j) = if j.val / 64 ≤ a.val / 64 then 0 else ⊥ := by
  unfold Cert.KernelIdealProof.biasB k0_pay8 k0_pay5 k0_pay6 k0_pay7
  pointwise
  show Scalar.select (IntOp.cmpi CmpIPredicate.sle (fdw (BitVec.ofNat 32 j.val)) (fdw (BitVec.ofNat 32 a.val))) (0 : EReal) ⊥ = _
  rw [fdw_ofNat, fdw_ofNat]
  have h := sle_small ⟨j.val / 64, by omega⟩ ⟨a.val / 64, by omega⟩
  dsimp only at h
  rw [h]
  split_ifs <;> rfl

end Cert.Val

end
-- ==== Proof.V.Part.lean ====
/-
A device's partial sums in closed form: attention head by head, times the second weight.
-/
module

public import proofs.«01_k».proof.Proof.V.Heads
public import proofs.«01_k».proof.Proof.V.Bias
public import Idealize.ShloMosaic.Lib.IdealHost

@[expose] public section

set_option maxRecDepth 16384

noncomputable section

namespace Cert.Val

open Cert.KernelIdeal Cert.KernelIdeal.Gen
open Idealize.ShloMosaic
open Cert.KernelIdealProof (biasB qRow chG partOf)

/-- The scale of the scores. -/
def SC : EReal := Ideal.ofBits .f32 0x3DB504F3#32

/-- It is a nonnegative real. -/
theorem SC_real : ∃ r : ℝ, 0 ≤ r ∧ SC = (r : EReal) := by
  refine ⟨(11863283 : ℝ) / 134217728, by norm_num, ?_⟩
  simp [SC, Ideal.ofBits, Ideal.ieee]
  refine (EReal.coe_mul _ _).symm.trans ?_
  norm_num

/-- Scaling the queries scales the scores. -/
theorem sum_scale (u w : Fin 128 → EReal) : ∑ d, u d * SC * w d = (∑ d, u d * w d) * SC := by
  obtain ⟨r, h0, hr⟩ := SC_real
  rw [hr, sum_mul_real _ _ r h0]
  exact Finset.sum_congr rfl fun d _ => mul_right_comm _ _ _

/-- The score of a query with a key. -/
def sco (qi : Fin 128 → EReal) (k : Fin 1024 → Fin 128 → EReal) (j : Fin 1024) : EReal := (∑ d, qi d * k j d) * SC

/-- The weight of a key for query `i`: none after the query's own block. -/
def att1 (i : Fin 1024) (qi : Fin 128 → EReal) (k : Fin 1024 → Fin 128 → EReal) (j : Fin 1024) : EReal := wt (j.val / 64 ≤ i.val / 64) (sco qi k j)

/-- One element of one head: the weighted values over the sum of the weights. -/
def att (i : Fin 1024) (qi : Fin 128 → EReal) (k : Fin 1024 → Fin 128 → EReal) (v : Fin 1024 → EReal) : EReal :=
  (∑ j, att1 i qi k j * v j) * Ideal.div 1 (∑ j, att1 i qi k j)

/-- The keys after the query's block may be left out. -/
theorem att_of_prefix {k : ℕ} (hk : k ≤ 1024) (i : Fin 1024) (qi : Fin 128 → EReal) (K : Fin 1024 → Fin 128 → EReal) (v : Fin 1024 → EReal)
    (hi : ∀ j : Fin 1024, k ≤ j.val → ¬ (j.val / 64 ≤ i.val / 64)) (E W : Fin k → EReal) (hE : ∀ j, E j = att1 i qi K (Fin.castLE hk j)) (hW : ∀ j, W j = v (Fin.castLE hk j)) :
    (∑ j, E j * W j) * Ideal.div 1 (∑ j, E j) = att i qi K v := by
  have hz : ∀ j : Fin 1024, k ≤ j.val → att1 i qi K j = 0 := fun j hj => by unfold att1 wt; rw [if_neg (hi j hj)]
  have e1 : ∑ j, E j = ∑ j, att1 i qi K j := by
    rw [← sum_prefix hk _ hz]; exact Finset.sum_congr rfl fun j _ => hE j
  have e2 : ∑ j, E j * W j = ∑ j, att1 i qi K j * v j := by
    rw [← sum_prefix hk (fun j => att1 i qi K j * v j) (fun j hj => by show att1 i qi K j * v j = 0; rw [hz j hj, zero_mul])]
    exact Finset.sum_congr rfl fun j _ => by rw [hE, hW]
  rw [e1, e2]; rfl

/-! ## Block 0 of rows -/

/-- The added mask. -/
theorem bias0 (a : Fin 256) (j : Fin 256) : (biasB (F := Ideal)) (ix2 a j) = if j.val / 64 ≤ (256 * 0 + a.val) / 64 then 0 else ⊥ := by
  rw [biasB_apply]
  exact if_congr (by rw [show (256 * 0 + a.val) = a.val by omega]) rfl rfl

/-- A weight. -/
theorem ex0_att (h : Fin 8) (kv : FVec Ideal S1024x8x128 .bf16) (Q : FVec Ideal S1024x1024 .bf16) (Qv : Fin 1024 → Fin 1024 → EReal)
    (hQ : ∀ i e, Q (ix2 i e) = Qv i e * SC) (a : Fin 256) (j : Fin 256) :
    ex0 h kv biasB (qRow (F := Ideal) 0 Q) (ix2 a j) =
      att1 ⟨256 * 0 + a.val, by omega⟩ (fun d => Qv ⟨256 * 0 + a.val, by omega⟩ ⟨128 * h.val + d.val, by omega⟩) (fun j d => kv (ix3 j h d)) (Fin.castLE (by omega) j) := by
  rw [ex0_apply, bias0, exp_add_mask]
  unfold att1 sco
  rw [← sum_scale]
  refine congrArg (wt _) (Finset.sum_congr rfl fun d _ => ?_)
  rw [← hQ]
  rfl

/-- A head. -/
theorem hd0_att (h : Fin 8) (kv vv : FVec Ideal S1024x8x128 .bf16) (Q : FVec Ideal S1024x1024 .bf16) (Qv : Fin 1024 → Fin 1024 → EReal)
    (hQ : ∀ i e, Q (ix2 i e) = Qv i e * SC) (a : Fin 256) (d : Fin 128) :
    hd0 h kv vv biasB (qRow (F := Ideal) 0 Q) (ix2 a d) =
      att ⟨256 * 0 + a.val, by omega⟩ (fun d => Qv ⟨256 * 0 + a.val, by omega⟩ ⟨128 * h.val + d.val, by omega⟩) (fun j d => kv (ix3 j h d)) (fun j => vv (ix3 j h d)) := by
  rw [hd0_apply]
  exact att_of_prefix (k := 256) (by omega) _ _ _ _ (fun j hj => by show ¬ (j.val / 64 ≤ (256 * 0 + a.val) / 64); omega) _ _
    (fun j => ex0_att h kv Q Qv hQ a j) (fun j => rfl)

/-! ## Block 1 of rows -/

/-- The added mask. -/
theorem bias1 (a : Fin 256) (j : Fin 512) : (k0_pay22 (biasB (F := Ideal))) (ix2 a j) = if j.val / 64 ≤ (256 * 1 + a.val) / 64 then 0 else ⊥ := by
  rw [pay22_apply]
  have ha := a.isLt
  split
  · rw [if_pos (by omega)]
  · rw [biasB_apply]
    exact if_congr (by show (j.val - 256) / 64 ≤ a.val / 64 ↔ _; omega) rfl rfl

/-- A weight. -/
theorem ex1_att (h : Fin 8) (kv : FVec Ideal S1024x8x128 .bf16) (Q : FVec Ideal S1024x1024 .bf16) (Qv : Fin 1024 → Fin 1024 → EReal)
    (hQ : ∀ i e, Q (ix2 i e) = Qv i e * SC) (a : Fin 256) (j : Fin 512) :
    ex1 h kv (k0_pay22 biasB) (qRow (F := Ideal) 1 Q) (ix2 a j) =
      att1 ⟨256 * 1 + a.val, by omega⟩ (fun d => Qv ⟨256 * 1 + a.val, by omega⟩ ⟨128 * h.val + d.val, by omega⟩) (fun j d => kv (ix3 j h d)) (Fin.castLE (by omega) j) := by
  rw [ex1_apply, bias1, exp_add_mask]
  unfold att1 sco
  rw [← sum_scale]
  refine congrArg (wt _) (Finset.sum_congr rfl fun d _ => ?_)
  rw [← hQ]
  rfl

/-- A head. -/
theorem hd1_att (h : Fin 8) (kv vv : FVec Ideal S1024x8x128 .bf16) (Q : FVec Ideal S1024x1024 .bf16) (Qv : Fin 1024 → Fin 1024 → EReal)
    (hQ : ∀ i e, Q (ix2 i e) = Qv i e * SC) (a : Fin 256) (d : Fin 128) :
    hd1 h kv vv (k0_pay22 biasB) (qRow (F := Ideal) 1 Q) (ix2 a d) =
      att ⟨256 * 1 + a.val, by omega⟩ (fun d => Qv ⟨256 * 1 + a.val, by omega⟩ ⟨128 * h.val + d.val, by omega⟩) (fun j d => kv (ix3 j h d)) (fun j => vv (ix3 j h d)) := by
  rw [hd1_apply]
  exact att_of_prefix (k := 512) (by omega) _ _ _ _ (fun j hj => by show ¬ (j.val / 64 ≤ (256 * 1 + a.val) / 64); omega) _ _
    (fun j => ex1_att h kv Q Qv hQ a j) (fun j => rfl)

/-! ## Block 2 of rows -/

/-- The added mask. -/
theorem bias2 (a : Fin 256) (j : Fin 768) : (k0_pay41 (biasB (F := Ideal))) (ix2 a j) = if j.val / 64 ≤ (256 * 2 + a.val) / 64 then 0 else ⊥ := by
  rw [pay41_apply]
  have ha := a.isLt
  split
  · rw [if_pos (by omega)]
  · rw [biasB_apply]
    exact if_congr (by show (j.val - 512) / 64 ≤ a.val / 64 ↔ _; omega) rfl rfl

/-- A weight. -/
theorem ex2_att (h : Fin 8) (kv : FVec Ideal S1024x8x128 .bf16) (Q : FVec Ideal S1024x1024 .bf16) (Qv : Fin 1024 → Fin 1024 → EReal)
    (hQ : ∀ i e, Q (ix2 i e) = Qv i e * SC) (a : Fin 256) (j : Fin 768) :
    ex2 h kv (k0_pay41 biasB) (qRow (F := Ideal) 2 Q) (ix2 a j) =
      att1 ⟨256 * 2 + a.val, by omega⟩ (fun d => Qv ⟨256 * 2 + a.val, by omega⟩ ⟨128 * h.val + d.val, by omega⟩) (fun j d => kv (ix3 j h d)) (Fin.castLE (by omega) j) := by
  rw [ex2_apply, bias2, exp_add_mask]
  unfold att1 sco
  rw [← sum_scale]
  refine congrArg (wt _) (Finset.sum_congr rfl fun d _ => ?_)
  rw [← hQ]
  rfl

/-- A head. -/
theorem hd2_att (h : Fin 8) (kv vv : FVec Ideal S1024x8x128 .bf16) (Q : FVec Ideal S1024x1024 .bf16) (Qv : Fin 1024 → Fin 1024 → EReal)
    (hQ : ∀ i e, Q (ix2 i e) = Qv i e * SC) (a : Fin 256) (d : Fin 128) :
    hd2 h kv vv (k0_pay41 biasB) (qRow (F := Ideal) 2 Q) (ix2 a d) =
      att ⟨256 * 2 + a.val, by omega⟩ (fun d => Qv ⟨256 * 2 + a.val, by omega⟩ ⟨128 * h.val + d.val, by omega⟩) (fun j d => kv (ix3 j h d)) (fun j => vv (ix3 j h d)) := by
  rw [hd2_apply]
  exact att_of_prefix (k := 768) (by omega) _ _ _ _ (fun j hj => by show ¬ (j.val / 64 ≤ (256 * 2 + a.val) / 64); omega) _ _
    (fun j => ex2_att h kv Q Qv hQ a j) (fun j => rfl)

/-! ## Block 3 of rows -/

/-- The added mask. -/
theorem bias3 (a : Fin 256) (j : Fin 1024) : (k0_pay53 (biasB (F := Ideal))) (ix2 a j) = if j.val / 64 ≤ (256 * 3 + a.val) / 64 then 0 else ⊥ := by
  rw [pay53_apply]
  have ha := a.isLt
  split
  · rw [if_pos (by omega)]
  · rw [biasB_apply]
    exact if_congr (by show (j.val - 768) / 64 ≤ a.val / 64 ↔ _; omega) rfl rfl

/-- A weight. -/
theorem ex3_att (h : Fin 8) (kv : FVec Ideal S1024x8x128 .bf16) (Q : FVec Ideal S1024x1024 .bf16) (Qv : Fin 1024 → Fin 1024 → EReal)
    (hQ : ∀ i e, Q (ix2 i e) = Qv i e * SC) (a : Fin 256) (j : Fin 1024) :
    ex3 h kv (k0_pay53 biasB) (qRow (F := Ideal) 3 Q) (ix2 a j) =
      att1 ⟨256 * 3 + a.val, by omega⟩ (fun d => Qv ⟨256 * 3 + a.val, by omega⟩ ⟨128 * h.val + d.val, by omega⟩) (fun j d => kv (ix3 j h d)) (Fin.castLE (by omega) j) := by
  rw [ex3_apply, bias3, exp_add_mask]
  unfold att1 sco
  rw [← sum_scale]
  refine congrArg (wt _) (Finset.sum_congr rfl fun d _ => ?_)
  rw [← hQ]
  rfl

/-- A head. -/
theorem hd3_att (h : Fin 8) (kv vv : FVec Ideal S1024x8x128 .bf16) (Q : FVec Ideal S1024x1024 .bf16) (Qv : Fin 1024 → Fin 1024 → EReal)
    (hQ : ∀ i e, Q (ix2 i e) = Qv i e * SC) (a : Fin 256) (d : Fin 128) :
    hd3 h kv vv (k0_pay53 biasB) (qRow (F := Ideal) 3 Q) (ix2 a d) =
      att ⟨256 * 3 + a.val, by omega⟩ (fun d => Qv ⟨256 * 3 + a.val, by omega⟩ ⟨128 * h.val + d.val, by omega⟩) (fun j d => kv (ix3 j h d)) (fun j => vv (ix3 j h d)) := by
  rw [hd3_apply]
  exact att_of_prefix (k := 1024) (by omega) _ _ _ _ (fun j hj => by show ¬ (j.val / 64 ≤ (256 * 3 + a.val) / 64); omega) _ _
    (fun j => ex3_att h kv Q Qv hQ a j) (fun j => rfl)

/-! ## All the rows -/

/-- Block 0's case. -/
theorem chG0_eq (kv vv : FVec Ideal S1024x8x128 .bf16) (wv : FVec Ideal S1024x1024 .bf16) (Q : FVec Ideal S1024x1024 .bf16) :
    chG (F := Ideal) kv vv wv 0 Q = Cert.KernelIdealProof.ch0 (F := Ideal) kv vv wv biasB (qRow (F := Ideal) 0 Q) := rfl
/-- Block 1's case. -/
theorem chG1_eq (kv vv : FVec Ideal S1024x8x128 .bf16) (wv : FVec Ideal S1024x1024 .bf16) (Q : FVec Ideal S1024x1024 .bf16) :
    chG (F := Ideal) kv vv wv 1 Q = Cert.KernelIdealProof.ch1 (F := Ideal) kv vv wv biasB (qRow (F := Ideal) 1 Q) := rfl
/-- Block 2's case. -/
theorem chG2_eq (kv vv : FVec Ideal S1024x8x128 .bf16) (wv : FVec Ideal S1024x1024 .bf16) (Q : FVec Ideal S1024x1024 .bf16) :
    chG (F := Ideal) kv vv wv 2 Q = Cert.KernelIdealProof.ch2 (F := Ideal) kv vv wv biasB (qRow (F := Ideal) 2 Q) := rfl
/-- Block 3's case. -/
theorem chG3_eq (kv vv : FVec Ideal S1024x8x128 .bf16) (wv : FVec Ideal S1024x1024 .bf16) (Q : FVec Ideal S1024x1024 .bf16) :
    chG (F := Ideal) kv vv wv 3 Q = Cert.KernelIdealProof.ch3 (F := Ideal) kv vv wv biasB (qRow (F := Ideal) 3 Q) := rfl

/-- The partial sums of block `g` at one element. -/
theorem chG_apply (g : Fin 4) (kv vv : FVec Ideal S1024x8x128 .bf16) (wv : FVec Ideal S1024x1024 .bf16) (Q : FVec Ideal S1024x1024 .bf16) (Qv : Fin 1024 → Fin 1024 → EReal)
    (hQ : ∀ i e, Q (ix2 i e) = Qv i e * SC) (a : Fin 256) (n : Fin 1024) :
    chG (F := Ideal) kv vv wv g Q (ix2 a n) = ∑ e : Fin 1024,
      att ⟨256 * g.val + a.val, by omega⟩ (fun d => Qv ⟨256 * g.val + a.val, by omega⟩ ⟨128 * (e.val / 128) + d.val, by omega⟩)
        (fun j d => kv (ix3 j ⟨e.val / 128, by omega⟩ d)) (fun j => vv (ix3 j ⟨e.val / 128, by omega⟩ ⟨e.val % 128, by omega⟩)) * wv (ix2 e n) := by
  match g with
  | 0 => rw [chG0_eq, ch0_eq, finish_apply]; exact Finset.sum_congr rfl fun e _ => congrArg (· * wv (ix2 e n)) (hd0_att _ kv vv Q Qv hQ a _)
  | 1 => rw [chG1_eq, ch1_eq, finish_apply]; exact Finset.sum_congr rfl fun e _ => congrArg (· * wv (ix2 e n)) (hd1_att _ kv vv Q Qv hQ a _)
  | 2 => rw [chG2_eq, ch2_eq, finish_apply]; exact Finset.sum_congr rfl fun e _ => congrArg (· * wv (ix2 e n)) (hd2_att _ kv vv Q Qv hQ a _)
  | 3 => rw [chG3_eq, ch3_eq, finish_apply]; exact Finset.sum_congr rfl fun e _ => congrArg (· * wv (ix2 e n)) (hd3_att _ kv vv Q Qv hQ a _)

/-- The scaled queries. -/
theorem pay1_apply (xb : FVec Ideal S1x1024x1024 .f32) (wq : FVec Ideal S1024x1024 .f32) (i e : Fin 1024) :
    k0_pay1 (F := Ideal) xb wq (ix2 i e) = (∑ t : Fin 1024, xb (ix3 0 i t) * wq (ix2 t e)) * SC := by
  unfold k0_pay1
  pointwise
  rfl

/-- The keys with their device axis dropped, -/
theorem pay2_apply (kb : FVec Ideal S1x1024x8x128 .f32) (j : Fin 1024) (h : Fin 8) (d : Fin 128) : k0_pay2 (F := Ideal) kb (ix3 j h d) = kb (ix4 0 j h d) := by
  unfold k0_pay2
  pointwise
  done
/-- and the values. -/
theorem pay3_apply (kb : FVec Ideal S1x1024x8x128 .f32) (j : Fin 1024) (h : Fin 8) (d : Fin 128) : k0_pay3 (F := Ideal) kb (ix3 j h d) = kb (ix4 0 j h d) := by
  unfold k0_pay3
  pointwise
  done

/-- A device's partial sums at one element. -/
theorem partOf_apply (xb : FVec Ideal S1x1024x1024 .f32) (wq : FVec Ideal S1024x1024 .f32) (kb vb : FVec Ideal S1x1024x8x128 .f32) (wo : FVec Ideal S1024x1024 .f32) (i n : Fin 1024) :
    partOf (F := Ideal) xb wq kb vb wo (ix2 i n) = ∑ e : Fin 1024,
      att i (fun d => ∑ t : Fin 1024, xb (ix3 0 i t) * wq (ix2 t ⟨128 * (e.val / 128) + d.val, by omega⟩))
        (fun j d => kb (ix4 0 j ⟨e.val / 128, by omega⟩ d)) (fun j => vb (ix4 0 j ⟨e.val / 128, by omega⟩ ⟨e.val % 128, by omega⟩)) * wo (ix2 e n) := by
  have hi : (⟨256 * (i.val / 256) + i.val % 256, by omega⟩ : Fin 1024) = i := Fin.ext (by show 256 * (i.val / 256) + i.val % 256 = i.val; omega)
  have h := chG_apply ⟨i.val / 256, by omega⟩ (k0_pay2 (F := Ideal) kb) (k0_pay3 (F := Ideal) vb) (k0_pay4 (F := Ideal) wo) (k0_pay1 (F := Ideal) xb wq) (fun i e => ∑ t : Fin 1024, xb (ix3 0 i t) * wq (ix2 t e))
    (pay1_apply xb wq) ⟨i.val % 256, by omega⟩ n
  dsimp only at h
  simp only [hi, pay2_apply, pay3_apply] at h
  exact h

end Cert.Val

end
-- ==== Proof.V.Ker.lean ====
/-
The kernel's result, element by element: the sum of the devices' partial sums.
-/
module

public import proofs.«01_k».proof.Proof.KI.Launch
public import proofs.«01_k».proof.Proof.V.Part

@[expose] public section

set_option maxRecDepth 16384

noncomputable section

namespace Cert.Val

open Cert.KernelIdeal Cert.KernelIdeal.Gen
open Idealize.ShloMosaic Idealize.ShloMosaic.TcCoe
open Cert.KernelIdealProof (OUT RED RS PTm partOf pl WQ WO XB KB VB XB_eq KB_eq VB_eq Parts)

/-- The sixteen shifts of a device are the sixteen devices. -/
theorem sum_pl (p : Dev nD) (f : Dev nD → EReal) : ∑ j : Fin 16, f (pl p j.val) = ∑ c : Dev nD, f c := by
  have hinj : Function.Injective (fun j : Fin 16 => pl p j.val) := by
    intro a b h
    have h' : (p.val + a.val) % 16 = (p.val + b.val) % 16 := congrArg Fin.val h
    have hp : p.val < 16 := p.isLt
    exact Fin.ext (by omega)
  exact Function.Bijective.sum_comp (Finite.injective_iff_bijective.1 hinj : Function.Bijective (fun j : Fin 16 => (pl p j.val : Fin 16))) f

/-- What a device reduces: the sum of the slots. -/
theorem pay72_apply (r : FVec Ideal S16x4x16x1024 .bf16) (g : Fin 4) (b : Fin 16) (n : Fin 1024) :
    k0_pay72 (F := Ideal) r (ix3 g b n) = ∑ j : Fin 16, r (ix4 j g b n) := by
  unfold k0_pay72
  pointwise
  done

/-- The result is the sum over the devices of the partial sums. -/
theorem OUT_apply (PT : Parts Ideal) (i n : Fin 1024) : OUT (F := Ideal) PT (ix3 0 i n) = ∑ c : Dev nD, PT c (ix2 i n) := by
  have hi : (⟨256 * (i.val / 256) + 16 * (i.val % 256 / 16) + i.val % 16, by omega⟩ : Fin 1024) = i :=
    Fin.ext (by show 256 * (i.val / 256) + 16 * (i.val % 256 / 16) + i.val % 16 = i.val; omega)
  refine (pay72_apply (RS (F := Ideal) PT ⟨i.val % 256 / 16, by show _ < 16; omega⟩) ⟨i.val / 256, by omega⟩ ⟨i.val % 16, by omega⟩ n).trans ?_
  refine Eq.trans ?_ (sum_pl ⟨i.val % 256 / 16, by show _ < 16; omega⟩ fun c => PT c (ix2 i n))
  refine Finset.sum_congr rfl fun j _ => ?_
  show PT _ (ix2 (⟨256 * (i.val / 256) + 16 * (i.val % 256 / 16) + i.val % 16, _⟩ : Fin 1024) n) = _
  rw [hi]
  rfl

variable (m : (ℓ : Loc nD τ sig) → Buf (Elt Ideal) ℓ)

/-- A device's columns of the first weight, -/
theorem WQ_apply (c : Dev nD) (t e : Fin 1024) : WQ (F := Ideal) m c (ix2 t e) = m ((c : Thread nD τ).loc main_arg1) (ix2 t (⟨1024 * c.val + e.val, by have : c.val < 16 := c.isLt; omega⟩ : Fin 16384)) := by
  refine congrArg (m ((c : Thread nD τ).loc main_arg1)) (funext fun a => Fin.ext ?_)
  have h := congrFun (k0_off1_eq c) a
  fin_cases a
  · show k0_off1 c 0 + 1 * t.val = t.val
    have h : k0_off1 c 0 = 0 := h
    omega
  · show k0_off1 c 1 + 1 * e.val = 1024 * c.val + e.val
    have h : k0_off1 c 1 = 1024 * c.val := h
    omega
/-- and its rows of the second. -/
theorem WO_apply (c : Dev nD) (e n : Fin 1024) : WO (F := Ideal) m c (ix2 e n) = m ((c : Thread nD τ).loc main_arg4) (ix2 (⟨1024 * c.val + e.val, by have : c.val < 16 := c.isLt; omega⟩ : Fin 16384) n) := by
  refine congrArg (m ((c : Thread nD τ).loc main_arg4)) (funext fun a => Fin.ext ?_)
  have h := congrFun (k0_off2_eq c) a
  fin_cases a
  · show k0_off2 c 0 + 1 * e.val = 1024 * c.val + e.val
    have h : k0_off2 c 0 = 1024 * c.val := h
    omega
  · show k0_off2 c 1 + 1 * n.val = n.val
    have h : k0_off2 c 1 = 0 := h
    omega

/-- The columns of all the devices are the columns. -/
theorem sum_devs (G : Fin 16384 → EReal) : ∑ c : Dev nD, ∑ e : Fin 1024, G ⟨1024 * c.val + e.val, by have : c.val < 16 := c.isLt; omega⟩ = ∑ e : Fin 16384, G e := by
  refine (Fintype.sum_prod_type' (fun (c : Fin 16) (e : Fin 1024) => G ⟨1024 * c.val + e.val, by omega⟩)).symm.trans ?_
  refine Fintype.sum_equiv (finProdFinEquiv : Fin 16 × Fin 1024 ≃ Fin (16 * 1024)) _ _ fun x => congrArg G (Fin.ext ?_)
  show 1024 * x.1.val + x.2.val = x.2.val + 1024 * x.1.val
  omega

/-- Block `c` of the keys or the values, at one element. -/
theorem block_at (c : Dev nD) (k : (⟨4, ![1, 1024, 128, 128]⟩ : Shape).Idx → EReal) (j : Fin 1024) (h : Fin 8) (d : Fin 128) :
    Layout.block ⟨4, ![1, 1024, 8, 128]⟩ ⟨4, ![1, 1024, 128, 128]⟩ 2 16 c k (by decide) (ix4 0 j h d) = k (ix4 0 j (⟨8 * c.val + h.val, by have : c.val < 16 := c.isLt; omega⟩ : Fin 128) d) := by
  rw [Layout.block_apply]
  refine congrArg k (funext fun a => Fin.ext ?_)
  rw [Layout.Tiles.idx_val]
  fin_cases a
  · rfl
  · rfl
  · show c.val * 8 + h.val = 8 * c.val + h.val
    omega
  · rfl

/-- The kernel's result at one element, from the whole arrays. -/
theorem ker_apply (x : FVec Ideal S1x1024x1024 .f32) (wq : FVec Ideal S1024x16384 .f32) (k v : (⟨4, ![1, 1024, 128, 128]⟩ : Shape).Idx → EReal) (wo : FVec Ideal S16384x1024 .f32)
    (hx : ∀ c : Dev nD, m ((c : Thread nD τ).loc main_arg0) = x) (hw : ∀ c : Dev nD, m ((c : Thread nD τ).loc main_arg1) = wq)
    (hk : ∀ c : Dev nD, m ((c : Thread nD τ).loc main_arg2) = Layout.block ⟨4, ![1, 1024, 8, 128]⟩ ⟨4, ![1, 1024, 128, 128]⟩ 2 16 c k)
    (hv : ∀ c : Dev nD, m ((c : Thread nD τ).loc main_arg3) = Layout.block ⟨4, ![1, 1024, 8, 128]⟩ ⟨4, ![1, 1024, 128, 128]⟩ 2 16 c v)
    (ho : ∀ c : Dev nD, m ((c : Thread nD τ).loc main_arg4) = wo) (i n : Fin 1024) :
    OUT (F := Ideal) (PTm (F := Ideal) m) (ix3 0 i n) =
    ∑ e : Fin 16384, att i (fun d => ∑ t : Fin 1024, x (ix3 0 i t) * wq (ix2 t (⟨128 * (e.val / 128) + d.val, by omega⟩ : Fin 16384))) (fun j d => k (ix4 0 j (⟨e.val / 128, by omega⟩ : Fin 128) d))
      (fun j => v (ix4 0 j (⟨e.val / 128, by omega⟩ : Fin 128) (⟨e.val % 128, by omega⟩ : Fin 128))) * wo (ix2 e n) := by
  rw [OUT_apply, ← sum_devs]
  refine Finset.sum_congr rfl fun c _ => ?_
  have hc : c.val < 16 := c.isLt
  refine (partOf_apply (XB (F := Ideal) m c) (WQ (F := Ideal) m c) (KB (F := Ideal) m c) (VB (F := Ideal) m c) (WO (F := Ideal) m c) i n).trans ?_
  refine Finset.sum_congr rfl fun e _ => ?_
  have e1 : ∀ d : Fin 128, (⟨1024 * c.val + (128 * (e.val / 128) + d.val), by omega⟩ : Fin 16384) = ⟨128 * ((1024 * c.val + e.val) / 128) + d.val, by omega⟩ := fun d =>
    Fin.ext (by show 1024 * c.val + (128 * (e.val / 128) + d.val) = 128 * ((1024 * c.val + e.val) / 128) + d.val; omega)
  have e2 : (⟨8 * c.val + e.val / 128, by omega⟩ : Fin 128) = ⟨(1024 * c.val + e.val) / 128, by omega⟩ := Fin.ext (by show 8 * c.val + e.val / 128 = (1024 * c.val + e.val) / 128; omega)
  have e3 : (⟨e.val % 128, by omega⟩ : Fin 128) = ⟨(1024 * c.val + e.val) % 128, by omega⟩ := Fin.ext (by show e.val % 128 = (1024 * c.val + e.val) % 128; omega)
  simp only [WQ_apply, WO_apply, XB_eq, KB_eq, VB_eq, hx, hw, hk, hv, ho]
  simp only [block_at, e1, e2, e3]

end Cert.Val

end
-- ==== Proof.V.Ref.lean ====
/-
The reference, stage by stage, element by element.
-/
module

public import proofs.«01_k».proof.Proof.Gen.ReferenceIdeal.Read
public import proofs.«01_k».proof.Proof.V.Part
public import Idealize.ShloMosaic.Lib.Routing.OpsOrder

@[expose] public section

set_option maxRecDepth 16384

noncomputable section

namespace Cert.Val

open Cert.ReferenceIdeal Cert.ReferenceIdeal.Gen Cert.ReferenceIdeal.Read
open Idealize.ShloMosaic

/-! ## The mask -/

/-- The reference's floor division by the block length, on words. -/
def fdh (w : BitVec 32) : BitVec 32 :=
  Scalar.select
    (IntOp.andi
      (IntOp.cmpi CmpIPredicate.ne (if w = 0 then (0 : BitVec 32) else if w.msb = true then -1 else 1) (if (64#32 : BitVec 32) = 0 then (0 : BitVec 32) else if (64#32 : BitVec 32).msb = true then -1 else 1))
      (IntOp.cmpi CmpIPredicate.ne (IntOp.remsi ArithUnit.host w 64#32) 0#32))
    (IntOp.subi (IntOp.divsi ArithUnit.host w 64#32) 1#32)
    (IntOp.divsi ArithUnit.host w 64#32)

/-- It divides. -/
theorem fdh_ofNat : ∀ a : Fin 1024, fdh (BitVec.ofNat 32 a.val) = BitVec.ofNat 32 (a.val / 64) := by decide +kernel

/-- The block of a query, -/
theorem r3 (a : Fin 1024) : val_main_v3 (F := Ideal) (ix1 a) = BitVec.ofNat 32 (a.val / 64) := by
  unfold val_main_v3 val_main_call0_v13 val_main_call0_v12 val_main_call0_v11 val_main_call0_v10 val_main_call0_v9 val_main_call0_v8 val_main_call0_v7 val_main_call0_v6 val_main_call0_v5 val_main_call0_v4 val_main_call0_v3 val_main_call0_v2 val_main_call0_v1 val_main_call0_v0 val_main_call0_c val_main_call0_c_0 val_main_c val_main_v2
  pointwise
  rw [show id (constantI S_ 32 64#32) ix0 = 64#32 from rfl]
  exact fdh_ofNat a

/-- and of a key. -/
theorem r6 (a : Fin 1024) : val_main_v6 (F := Ideal) (ix1 a) = BitVec.ofNat 32 (a.val / 64) := by
  unfold val_main_v6 val_main_call1_v13 val_main_call1_v12 val_main_call1_v11 val_main_call1_v10 val_main_call1_v9 val_main_call1_v8 val_main_call1_v7 val_main_call1_v6 val_main_call1_v5 val_main_call1_v4 val_main_call1_v3 val_main_call1_v2 val_main_call1_v1 val_main_call1_v0 val_main_call1_c val_main_call1_c_0 val_main_c_0 val_main_v5
  pointwise
  rw [show id (constantI S_ 32 64#32) ix0 = 64#32 from rfl]
  exact fdh_ofNat a

/-- The mask as a word: the keys up to the query's own block. -/
theorem r10 (a j : Fin 1024) : val_main_v10 (F := Ideal) (ix2 a j) = if j.val / 64 ≤ a.val / 64 then 1#1 else 0#1 := by
  have h := sle_small ⟨j.val / 64, by omega⟩ ⟨a.val / 64, by omega⟩
  dsimp only at h
  rw [← h, ← r3 a, ← r6 j]
  unfold val_main_v10 val_main_v9 val_main_v8 val_main_v7 val_main_v4
  generalize val_main_v6 (F := Ideal) = y6
  generalize val_main_v3 (F := Ideal) = y3
  pointwise
  done

/-- Every query keeps a key: its own. -/
theorem r21 (i : Fin 1024) : val_main_v21 (F := Ideal) (ix1 i) = 1#1 := by
  have h := r10 i i
  rw [if_pos le_rfl] at h
  revert h
  unfold val_main_v21 val_main_c_3
  generalize val_main_v10 (F := Ideal) = y
  intro h
  pointwise
  exact (Routing.fold_ori Finset.univ fun x => y (ix2 i x)).2 ⟨i, Finset.mem_univ _, h⟩

/-! ## The scores -/

variable (x : FVec Ideal S1x1024x1024 .f32) (wq : FVec Ideal S1024x16384 .f32) (k v : FVec Ideal S1x1024x128x128 .f32) (wo : FVec Ideal S16384x1024 .f32)

/-- The queries, all heads side by side. -/
def QQ (i : Fin 1024) (e : Fin 16384) : EReal := ∑ t : Fin 1024, x (ix3 0 i t) * wq (ix2 t e)

/-- The queries, head by head. -/
theorem r1 (i : Fin 1024) (H d : Fin 128) : val_main_v1 (F := Ideal) x wq (ix4 0 i H d) = QQ x wq i ⟨128 * H.val + d.val, by omega⟩ := by
  unfold val_main_v1 val_main_v0 QQ
  pointwise
  have e : (⟨H.val * 128 + d.val, by omega⟩ : Fin 16384) = ⟨128 * H.val + d.val, by omega⟩ := Fin.ext (by show H.val * 128 + d.val = 128 * H.val + d.val; omega)
  rw [e]

/-- The scaled scores. -/
theorem r13 (H : Fin 128) (i j : Fin 1024) : val_main_v13 (F := Ideal) x wq k (ix4 0 H i j) =
    sco (fun d => QQ x wq i ⟨128 * H.val + d.val, by omega⟩) (fun j d => k (ix4 0 j H d)) j := by
  unfold val_main_v13 val_main_v12 val_main_v11 val_main_cst sco
  simp only [← r1]
  generalize val_main_v1 (F := Ideal) x wq = y
  pointwise
  rfl

/-- The word of minus infinity. -/
theorem ofBits_negInf : Ideal.ofBits .f32 0xFF800000#32 = ⊥ := by simp [Ideal.ofBits, Ideal.ieee]

/-- The masked scores. -/
theorem r15 (H : Fin 128) (i j : Fin 1024) : val_main_v15 (F := Ideal) x wq k (ix4 0 H i j) =
    if j.val / 64 ≤ i.val / 64 then sco (fun d => QQ x wq i ⟨128 * H.val + d.val, by omega⟩) (fun j d => k (ix4 0 j H d)) j else ⊥ := by
  have e : ∀ t : EReal, (if j.val / 64 ≤ i.val / 64 then t else ⊥) = Scalar.select (val_main_v10 (F := Ideal) (ix2 i j)) t ⊥ := by
    intro t; rw [r10]; split_ifs <;> rfl
  rw [e, ← r13]
  unfold val_main_v15 val_main_call2_v2 val_main_call2_v1 val_main_call2_v0 val_main_v14 val_main_cst_1
  generalize val_main_v13 (F := Ideal) x wq k = y
  generalize val_main_v10 (F := Ideal) = z
  pointwise
  rw [← ofBits_negInf]
  rfl

/-- The weights, from the row's largest score. -/
theorem r20 (H : Fin 128) (i j : Fin 1024) : val_main_v20 (F := Ideal) x wq k (ix4 0 H i j) =
    Ideal.exp (val_main_v15 (F := Ideal) x wq k (ix4 0 H i j) - val_main_v16 (F := Ideal) x wq k (ix3 0 H i)) := by
  unfold val_main_v20 val_main_v19 val_main_v18 val_main_v17
  generalize val_main_v15 (F := Ideal) x wq k = y
  generalize val_main_v16 (F := Ideal) x wq k = z
  pointwise
  done

/-- The largest of some values that are each real or minus infinity is real or minus infinity, and minus infinity only if they all are. -/
theorem fold_max_real {ι : Type} [DecidableEq ι] (s : Finset ι) (f : ι → EReal) (hf : ∀ x, f x = ⊥ ∨ IsReal (f x)) :
    (Finset.fold max ⊥ f s = ⊥ ∧ ∀ x ∈ s, f x = ⊥) ∨ IsReal (Finset.fold max ⊥ f s) := by
  induction s using Finset.induction_on with
  | empty => exact .inl ⟨Finset.fold_empty, fun x hx => absurd hx (Finset.notMem_empty _)⟩
  | insert a s ha ih =>
    rw [Finset.fold_insert ha]
    rcases hf a with h | h
    · rw [h, max_eq_right bot_le]
      rcases ih with ⟨h1, h2⟩ | h1
      · exact .inl ⟨h1, fun x hx => (Finset.mem_insert.1 hx).elim (fun e => e ▸ h) (h2 x)⟩
      · exact .inr h1
    · refine .inr ?_
      rcases ih with ⟨h1, _⟩ | h1
      · rw [h1, max_eq_left bot_le]; exact h
      · rcases max_choice (f a) (Finset.fold max ⊥ f s) with e | e <;> rw [e] <;> assumption

/-- The largest score of a query is real. -/
theorem r16 (H : Fin 128) (i : Fin 1024) (hr : ∀ j, IsReal (sco (fun d => QQ x wq i ⟨128 * H.val + d.val, by omega⟩) (fun j d => k (ix4 0 j H d)) j)) :
    IsReal (val_main_v16 (F := Ideal) x wq k (ix3 0 H i)) := by
  have h := r15 x wq k H i
  revert h
  unfold val_main_v16 val_main_cst_2
  generalize val_main_v15 (F := Ideal) x wq k = y
  intro h
  pointwise
  rw [ofBits_negInf]
  have hf : ∀ j, y (ix4 0 H i j) = ⊥ ∨ IsReal (y (ix4 0 H i j)) := by
    intro j; rw [h j]; split_ifs
    · exact .inr (hr j)
    · exact .inl rfl
  rcases fold_max_real Finset.univ (fun j => y (ix4 0 H i j)) hf with ⟨_, h2⟩ | h1
  · exfalso
    have h3 : y (ix4 0 H i i) = ⊥ := h2 i (Finset.mem_univ _)
    rw [h i, if_pos le_rfl] at h3
    obtain ⟨r, hr⟩ := hr i
    rw [hr] at h3
    exact EReal.coe_ne_bot r h3
  · exact h1

/-- The normalized weights. -/
theorem r29 (H : Fin 128) (i j : Fin 1024) : val_main_v29 (F := Ideal) x wq k (ix4 0 H i j) =
    Ideal.div (val_main_v20 (F := Ideal) x wq k (ix4 0 H i j)) (0 + ∑ j : Fin 1024, val_main_v20 (F := Ideal) x wq k (ix4 0 H i j)) := by
  have h := r21 i
  revert h
  unfold val_main_v29 val_main_call4_v2 val_main_call4_v1 val_main_call4_v0 val_main_cst_6 val_main_v28 val_main_v27 val_main_v26 val_main_v25
    val_main_call3_v2 val_main_call3_v1 val_main_call3_v0 val_main_cst_5 val_main_v24 val_main_v23 val_main_v22 val_main_cst_4
  generalize val_main_v20 (F := Ideal) x wq k = y
  generalize val_main_v21 (F := Ideal) = z
  intro h
  pointwise
  rw [h]
  rfl

/-- The result, from the normalized weights. -/
theorem r34 (i n : Fin 1024) : val_main_v34 (F := Ideal) x wq k v wo (ix3 0 i n) =
    ∑ e : Fin 16384, (∑ j : Fin 1024, v (ix4 0 j ⟨e.val / 128, by omega⟩ ⟨e.val % 128, by omega⟩) * val_main_v29 (F := Ideal) x wq k (ix4 0 ⟨e.val / 128, by omega⟩ i j)) * wo (ix2 e n) := by
  unfold val_main_v34 val_main_v33 val_main_v32 val_main_v31 val_main_v30
  generalize val_main_v29 (F := Ideal) x wq k = y
  pointwise
  done

/-- The reference's result at one element. -/
theorem ref_apply (hx : ∀ i, IsReal (x i)) (hw : ∀ i, IsReal (wq i)) (hk : ∀ i, IsReal (k i)) (i n : Fin 1024) :
    val_main_v34 (F := Ideal) x wq k v wo (ix3 0 i n) =
    ∑ e : Fin 16384, att i (fun d => QQ x wq i ⟨128 * (e.val / 128) + d.val, by omega⟩) (fun j d => k (ix4 0 j ⟨e.val / 128, by omega⟩ d))
      (fun j => v (ix4 0 j ⟨e.val / 128, by omega⟩ ⟨e.val % 128, by omega⟩)) * wo (ix2 e n) := by
  rw [r34]
  refine Finset.sum_congr rfl fun e _ => congrArg (· * wo (ix2 e n)) ?_
  have hr : ∀ j, IsReal (sco (fun d => QQ x wq i ⟨128 * (e.val / 128) + d.val, by omega⟩) (fun j d => k (ix4 0 j ⟨e.val / 128, by omega⟩ d)) j) := by
    intro j
    refine isReal_mul (isReal_sum _ _ fun d => isReal_mul (isReal_sum _ _ fun t => isReal_mul (hx _) (hw _)) (hk _)) ?_
    obtain ⟨r, _, h⟩ := SC_real
    exact ⟨r, h⟩
  have hmx := r16 x wq k ⟨e.val / 128, by omega⟩ i hr
  refine Eq.trans ?_ (softmax_avg (fun j : Fin 1024 => j.val / 64 ≤ i.val / 64) _ hr i le_rfl _ hmx (fun j => v (ix4 0 j ⟨e.val / 128, by omega⟩ ⟨e.val % 128, by omega⟩)))
  refine Finset.sum_congr rfl fun j _ => ?_
  rw [mul_comm, r29]
  simp only [r20, r15]

end Cert.Val

end
-- ==== Proof.V.Join.lean ====
/-
The kernel's result is the reference's.
-/
module

public import proofs.«01_k».proof.Defs
public import proofs.«01_k».proof.Proof.V.Ker
public import proofs.«01_k».proof.Proof.V.Ref

@[expose] public section

set_option maxRecDepth 16384

noncomputable section

namespace Cert.Val

open Idealize.ShloMosaic Idealize.ShloMosaic.TcCoe Idealize.SL.Sem

/-- The shape relations of the precondition, at one device's shapes, -/
theorem preFacts : Cert.Pre_finite_inputs_KernelIdeal.Facts := ⟨by decide, by decide, by decide⟩
/-- and at the whole arrays'. -/
theorem preFactsRef : Cert.Pre_finite_inputs_ReferenceIdeal.Facts := ⟨by decide, by decide, by decide⟩

/-- The word of plus infinity. -/
theorem ofBits_posInf : Ideal.ofBits .f32 0x7F800000#32 = ⊤ := by simp [Ideal.ofBits, Ideal.ieee]

/-- An entry the comparison calls finite is a real. -/
theorem isReal_of_lt {S : Shape} (y : FVec Ideal S .f32) (hb : (⟨0, ![]⟩ : Shape).BroadcastsInDim S (![] : Fin 0 → Fin S.rank))
    (h : cmpf .olt (Host.absf y) (broadcastInDim S ![] hb (constant ⟨0, ![]⟩ .f32 0x7F800000#32)) = fun _ => 1#1) (i : S.Idx) : IsReal (y i) := by
  have h1 : Ideal.cmp .olt (Max.max (y i) (-(y i))) (Ideal.ofBits .f32 0x7F800000#32) = 1#1 := congrFun h i
  rw [ofBits_posInf] at h1
  refine isReal_of_abs_lt ?_
  by_contra hn
  simp [Ideal.cmp, hn] at h1

/-- An index of a rank three array with a leading axis of length one. -/
theorem eq_ix3_zero (j : (⟨3, ![1, 1024, 1024]⟩ : Shape).Idx) : j = ix3 0 (j 1) (j 2) := by
  funext a
  fin_cases a
  · exact Fin.ext (by show (j 0).val = 0; have : (j 0).val < 1 := (j 0).isLt; omega)
  · rfl
  · rfl

/-- Where every entry of a device's activations, first weight and keys is finite, the idealized kernel ends with the reference's result on every device. -/
theorem algebraic : Cert.algebraic_KernelIdeal_ReferenceIdeal_pre_finite_inputs_KernelIdeal (hKernelIdeal := Cert.KernelIdeal.Gen.facts)
    (hReferenceIdeal := Cert.ReferenceIdeal.Gen.facts) (hPre_finite_inputs_KernelIdeal := preFacts) := by
  intro m g m' g' hpre hm
  have hx : ∀ i, IsReal (m' (((0 : Dev Cert.ReferenceIdeal.nD).tc : Thread Cert.ReferenceIdeal.nD Cert.ReferenceIdeal.τ).loc Cert.ReferenceIdeal.main_arg0) i) := by
    intro i
    have h := (hpre 0).1
    rw [(hm 0).1] at h
    exact isReal_of_lt _ _ h i
  have hw : ∀ i, IsReal (m' (((0 : Dev Cert.ReferenceIdeal.nD).tc : Thread Cert.ReferenceIdeal.nD Cert.ReferenceIdeal.τ).loc Cert.ReferenceIdeal.main_arg1) i) := by
    intro i
    have h := (hpre 0).2.1
    rw [(hm 0).2.1] at h
    exact isReal_of_lt _ _ h i
  have hk : ∀ i, IsReal (m' (((0 : Dev Cert.ReferenceIdeal.nD).tc : Thread Cert.ReferenceIdeal.nD Cert.ReferenceIdeal.τ).loc Cert.ReferenceIdeal.main_arg2) i) := by
    intro i
    have h0 : (i 0).val < 1 := (i 0).isLt
    have h2 : (i 2).val < 128 := (i 2).isLt
    have h := (hpre ⟨(i 2).val / 8, by show _ < 16; omega⟩).2.2
    rw [(hm ⟨(i 2).val / 8, by show _ < 16; omega⟩).2.2.1] at h
    have hr := isReal_of_lt _ _ h (ix4 0 (i 1) ⟨(i 2).val % 8, by omega⟩ (i 3))
    have e : i = ix4 0 (i 1) (⟨8 * ((i 2).val / 8) + (i 2).val % 8, by omega⟩ : Fin 128) (i 3) := by
      funext a
      fin_cases a
      · exact Fin.ext (by show (i 0).val = 0; omega)
      · rfl
      · exact Fin.ext (by show (i 2).val = 8 * ((i 2).val / 8) + (i 2).val % 8; omega)
      · rfl
    rw [e]
    exact (congrArg IsReal (block_at (⟨(i 2).val / 8, by show _ < 16; omega⟩ : Dev Cert.KernelIdeal.nD) _ (i 1) ⟨(i 2).val % 8, by omega⟩ (i 3))).mp hr
  refine ⟨Cert.ReferenceIdeal.Value.res_main_v34 m' 0, ?_, ?_⟩
  · refine (θ_run Cert.KernelIdeal.defs _ _).mono (fun r h c => ⟨((h.1 c).2).trans ?_, (h.1 c).1⟩) (Cert.KernelIdealProof.run_end (F := Ideal) m g)
    rw [Cert.ReferenceIdeal.Read.val_main_v34_eq]
    funext j
    rw [eq_ix3_zero j]
    exact (ker_apply m _ _ _ _ _ (fun c => (hm c).1) (fun c => (hm c).2.1) (fun c => (hm c).2.2.1) (fun c => (hm c).2.2.2.1) (fun c => (hm c).2.2.2.2) (j 1) (j 2)).trans
      (ref_apply _ _ _ _ _ hx hw hk (j 1) (j 2)).symm
  · exact (θ_run Cert.ReferenceIdeal.defs _ _).mono (fun r h => h 0) (Cert.ReferenceIdeal.Value.run (F := Ideal) m' g')

end Cert.Val

end
-- ==== Proof.lean ====
/- The claims of this certificate, put together from the modules under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Same
public import proofs.«01_k».proof.Proof.V.Join

@[expose] public section

noncomputable section

namespace Cert.Proof

open Idealize.ShloMosaic Idealize.SL.Sem

/-- The idealized kernel runs, leaves its arguments as they were and every semaphore at zero. -/
theorem frame_kernelIdeal : Cert.quiescent_KernelIdeal (hKernelIdeal := Cert.KernelIdeal.Gen.facts) :=
  fun m g _ => Cert.KernelIdealProof.run_frame m g

/-- The reference runs, leaves its arguments as they were and every semaphore at zero (it has none). -/
theorem frame_referenceIdeal : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩)
    (Cert.ReferenceIdeal.Value.run (F := Ideal) m g)

/-- The named constant stands for minus infinity. -/
theorem preserves_kernel : Cert.preserves_Kernel_KernelIdeal :=
  IdealRules.named_const.statement Cert.KernelIdeal.κ "mask" .f32 0xCE6E6B28#32 ⊥ rfl

/-- Everything claimed. -/
theorem claim : Cert.Claim :=
  ⟨Cert.Kernel.Gen.facts, Cert.KernelIdeal.Gen.facts, Cert.ReferenceIdeal.Gen.facts, Cert.Val.preFacts, Cert.Val.preFactsRef, frame_kernel,
    frame_kernelIdeal, fun m g _ => frame_kernelIdeal m g trivial, frame_referenceIdeal, fun m g _ => frame_referenceIdeal m g trivial,
    preserves_kernel, Cert.Val.algebraic⟩

end Cert.Proof

end
